-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_items : Cert.Pre_items.Facts] (m : (ℓ : Loc Cert.Kernel6.nD Cert.Kernel6.τ Cert.Kernel6.sig) → Buf (Elt Bits) ℓ) : Prop :=
  ∀ c : Dev Cert.Kernel6.nD,
    (Cert.Pre_items.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7))) = (fun _ => 1#1)

def Pre_Kernel6Ideal [hPre_items : Cert.Pre_items.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_items.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_items [hPre_items : Cert.Pre_items.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_items.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 [hPre_items_down : Cert.Pre_items_down.Facts] (m : (ℓ : Loc Cert.Kernel7.nD Cert.Kernel7.τ Cert.Kernel7.sig) → Buf (Elt Bits) ℓ) : Prop :=
  ∀ c : Dev Cert.Kernel7.nD,
    (Cert.Pre_items_down.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5))) = (fun _ => 1#1)

def Pre_Kernel7Ideal [hPre_items_down : Cert.Pre_items_down.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_items_down.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_items_down [hPre_items_down : Cert.Pre_items_down.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_items_down.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] [hPre_items : Cert.Pre_items.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] [hPre_items : Cert.Pre_items.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_items [hReference6Ideal : Cert.Reference6Ideal.Facts] [hPre_items : Cert.Pre_items.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_items m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] [hPre_items_down : Cert.Pre_items_down.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] [hPre_items_down : Cert.Pre_items_down.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_items_down [hReference7Ideal : Cert.Reference7Ideal.Facts] [hPre_items_down : Cert.Pre_items_down.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_items_down m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_on_live_rows [hKernel6Ideal : Cert.Kernel6Ideal.Facts] [hReference6Ideal : Cert.Reference6Ideal.Facts] [hPre_items : Cert.Pre_items.Facts] [hOn_live_rows : Cert.On_live_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![131072, 1024]⟩ : Shape).Idx, (Cert.On_live_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) i = 1#1 → r.2.mem ((c.tc : Thread Cert.Kernel6Ideal.nD Cert.Kernel6Ideal.τ).loc Cert.Kernel6Ideal.main_v4) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![131072, 1024]⟩ : Shape).Idx, (Cert.On_live_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) i = 1#1 → r.2.mem ((c.tc : Thread Cert.Reference6Ideal.nD Cert.Reference6Ideal.τ).loc Cert.Reference6Ideal.main_v23) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_on_live_rows_down [hKernel7Ideal : Cert.Kernel7Ideal.Facts] [hReference7Ideal : Cert.Reference7Ideal.Facts] [hPre_items_down : Cert.Pre_items_down.Facts] [hOn_live_rows_down : Cert.On_live_rows_down.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          (∀ i : (⟨2, ![131072, 4096]⟩ : Shape).Idx, (Cert.On_live_rows_down.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) i = 1#1 → r.2.mem ((c.tc : Thread Cert.Kernel7Ideal.nD Cert.Kernel7Ideal.τ).loc Cert.Kernel7Ideal.main_v5) i = v0 c i)
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          (∀ i : (⟨2, ![131072, 4096]⟩ : Shape).Idx, (Cert.On_live_rows_down.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) i = 1#1 → r.2.mem ((c.tc : Thread Cert.Reference7Ideal.nD Cert.Reference7Ideal.τ).loc Cert.Reference7Ideal.main_v6) i = v0 c i)
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_gains : Cert.Pre_finite_gains.Facts) (hPre_items : Cert.Pre_items.Facts) (hPre_items_down : Cert.Pre_items_down.Facts) (hOn_live_rows : Cert.On_live_rows.Facts) (hOn_live_rows_down : Cert.On_live_rows_down.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_items := hPre_items)
    ∧ quiescent_Kernel6Ideal (hKernel6Ideal := hKernel6Ideal) (hPre_items := hPre_items)
    ∧ quiescent_Reference6Ideal (hReference6Ideal := hReference6Ideal)
    ∧ quiescent_Reference6Ideal_pre_items (hReference6Ideal := hReference6Ideal) (hPre_items := hPre_items)
    ∧ quiescent_Kernel7 (hKernel7 := hKernel7) (hPre_items_down := hPre_items_down)
    ∧ quiescent_Kernel7Ideal (hKernel7Ideal := hKernel7Ideal) (hPre_items_down := hPre_items_down)
    ∧ quiescent_Reference7Ideal (hReference7Ideal := hReference7Ideal)
    ∧ quiescent_Reference7Ideal_pre_items_down (hReference7Ideal := hReference7Ideal) (hPre_items_down := hPre_items_down)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_live_rows (hKernel6Ideal := hKernel6Ideal) (hReference6Ideal := hReference6Ideal) (hPre_items := hPre_items) (hOn_live_rows := hOn_live_rows)
    ∧ preserves_Kernel7_Kernel7Ideal
    ∧ algebraic_Kernel7Ideal_Reference7Ideal_on_live_rows_down (hKernel7Ideal := hKernel7Ideal) (hReference7Ideal := hReference7Ideal) (hPre_items_down := hPre_items_down) (hOn_live_rows_down := hOn_live_rows_down)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== On_live_rows.lean ====
abbrev S6144x4096 : Shape := ⟨2, ![6144, 4096]⟩
abbrev S65536 : Shape := ⟨1, ![65536]⟩
abbrev S2x64x4096x1024 : Shape := ⟨4, ![2, 64, 4096, 1024]⟩
abbrev S128 : Shape := ⟨1, ![128]⟩
abbrev S1 : Shape := ⟨1, ![1]⟩
abbrev S1024 : Shape := ⟨1, ![1024]⟩
abbrev S1x1024x1 : Shape := ⟨3, ![1, 1024, 1]⟩
abbrev S128x1x1 : Shape := ⟨3, ![128, 1, 1]⟩
abbrev S_ : Shape := ⟨0, ![]⟩
abbrev S128x1024x1 : Shape := ⟨3, ![128, 1024, 1]⟩
abbrev S128x1024x1024 : Shape := ⟨3, ![128, 1024, 1024]⟩
abbrev S131072x1024 : Shape := ⟨2, ![131072, 1024]⟩

class Facts : Prop where
  bcast_S1024_S1x1024x1_1 : S1024.BroadcastsInDim S1x1024x1 (![1] : Fin 1 → Fin S1x1024x1.rank)
  bcast_S128_S128x1x1_0 : S128.BroadcastsInDim S128x1x1 (![0] : Fin 1 → Fin S128x1x1.rank)
  bcast_S_S128x1x1 : S_.BroadcastsInDim S128x1x1 (![] : Fin 0 → Fin S128x1x1.rank)
  bcast_S1x1024x1_S128x1024x1_0_1_2 : S1x1024x1.BroadcastsInDim S128x1024x1 (![0, 1, 2] : Fin 3 → Fin S128x1024x1.rank)
  bcast_S128x1x1_S128x1024x1_0_1_2 : S128x1x1.BroadcastsInDim S128x1024x1 (![0, 1, 2] : Fin 3 → Fin S128x1024x1.rank)
  bcast_S128x1024x1_S128x1024x1024_0_1_2 : S128x1024x1.BroadcastsInDim S128x1024x1024 (![0, 1, 2] : Fin 3 → Fin S128x1024x1024.rank)
  shapeCasts_S128x1024x1024_S131072x1024 : S128x1024x1024.ShapeCasts S131072x1024

variable [Facts]

def fn {F : FTy → Type} [FloatOps F] (main_arg0 : FVec F S6144x4096 .f32) (main_arg1 : IVec S65536 32) (main_arg2 : FVec F S2x64x4096x1024 .f32) (main_arg3 : FVec F S2x64x4096x1024 .f32) (main_arg4 : IVec S128 32) (main_arg5 : IVec S128 32) (main_arg6 : IVec S128 32) (main_arg7 : IVec S1 32) : IVec S131072x1024 1 :=
  let main_v0 : IVec S1024 32 := iotaInDim S1024 32 0
  let main_v1 : IVec S1x1024x1 32 := broadcastInDim S1x1024x1 ![1] bcast_S1024_S1x1024x1_1 main_v0
  let main_v2 : IVec S128x1x1 32 := broadcastInDim S128x1x1 ![0] bcast_S128_S128x1x1_0 main_arg6
  let main_c : IVec S_ 32 := constantI S_ 32 256#32
  let main_v3 : IVec S128x1x1 32 := broadcastInDim S128x1x1 ![] bcast_S_S128x1x1 main_c
  let main_v4 : IVec S128x1x1 32 := muli main_v2 main_v3
  let main_v5 : IVec S128x1024x1 32 := broadcastInDim S128x1024x1 ![0, 1, 2] bcast_S1x1024x1_S128x1024x1_0_1_2 main_v1
  let main_v6 : IVec S128x1024x1 32 := broadcastInDim S128x1024x1 ![0, 1, 2] bcast_S128x1x1_S128x1024x1_0_1_2 main_v4
  let main_v7 : IVec S128x1024x1 1 := cmpi .slt main_v5 main_v6
  let main_v8 : IVec S128x1024x1024 1 := broadcastInDim S128x1024x1024 ![0, 1, 2] bcast_S128x1024x1_S128x1024x1024_0_1_2 main_v7
  let main_v9 : IVec S131072x1024 1 := shapeCast S131072x1024 main_v8 shapeCasts_S128x1024x1024_S131072x1024
  main_v9
-- ==== On_live_rows_down.lean ====
abbrev S131072x1024 : Shape := ⟨2, ![131072, 1024]⟩
abbrev S2x64x1024x4096 : Shape := ⟨4, ![2, 64, 1024, 4096]⟩
abbrev S128 : Shape := ⟨1, ![128]⟩
abbrev S1 : Shape := ⟨1, ![1]⟩
abbrev S1024 : Shape := ⟨1, ![1024]⟩
abbrev S1x1024x1 : Shape := ⟨3, ![1, 1024, 1]⟩
abbrev S128x1x1 : Shape := ⟨3, ![128, 1, 1]⟩
abbrev S_ : Shape := ⟨0, ![]⟩
abbrev S128x1024x1 : Shape := ⟨3, ![128, 1024, 1]⟩
abbrev S128x1024x4096 : Shape := ⟨3, ![128, 1024, 4096]⟩
abbrev S131072x4096 : Shape := ⟨2, ![131072, 4096]⟩

class Facts : Prop where
  bcast_S1024_S1x1024x1_1 : S1024.BroadcastsInDim S1x1024x1 (![1] : Fin 1 → Fin S1x1024x1.rank)
  bcast_S128_S128x1x1_0 : S128.BroadcastsInDim S128x1x1 (![0] : Fin 1 → Fin S128x1x1.rank)
  bcast_S_S128x1x1 : S_.BroadcastsInDim S128x1x1 (![] : Fin 0 → Fin S128x1x1.rank)
  bcast_S1x1024x1_S128x1024x1_0_1_2 : S1x1024x1.BroadcastsInDim S128x1024x1 (![0, 1, 2] : Fin 3 → Fin S128x1024x1.rank)
  bcast_S128x1x1_S128x1024x1_0_1_2 : S128x1x1.BroadcastsInDim S128x1024x1 (![0, 1, 2] : Fin 3 → Fin S128x1024x1.rank)
  bcast_S128x1024x1_S128x1024x4096_0_1_2 : S128x1024x1.BroadcastsInDim S128x1024x4096 (![0, 1, 2] : Fin 3 → Fin S128x1024x4096.rank)
  shapeCasts_S128x1024x4096_S131072x4096 : S128x1024x4096.ShapeCasts S131072x4096

variable [Facts]

def fn {F : FTy → Type} [FloatOps F] (main_arg0 : FVec F S131072x1024 .f32) (main_arg1 : FVec F S2x64x1024x4096 .f32) (main_arg2 : IVec S128 32) (main_arg3 : IVec S128 32) (main_arg4 : IVec S128 32) (main_arg5 : IVec S1 32) : IVec S131072x4096 1 :=
  let main_v0 : IVec S1024 32 := iotaInDim S1024 32 0
  let main_v1 : IVec S1x1024x1 32 := broadcastInDim S1x1024x1 ![1] bcast_S1024_S1x1024x1_1 main_v0
  let main_v2 : IVec S128x1x1 32 := broadcastInDim S128x1x1 ![0] bcast_S128_S128x1x1_0 main_arg4
  let main_c : IVec S_ 32 := constantI S_ 32 256#32
  let main_v3 : IVec S128x1x1 32 := broadcastInDim S128x1x1 ![] bcast_S_S128x1x1 main_c
  let main_v4 : IVec S128x1x1 32 := muli main_v2 main_v3
  let main_v5 : IVec S128x1024x1 32 := broadcastInDim S128x1024x1 ![0, 1, 2] bcast_S1x1024x1_S128x1024x1_0_1_2 main_v1
  let main_v6 : IVec S128x1024x1 32 := broadcastInDim S128x1024x1 ![0, 1, 2] bcast_S128x1x1_S128x1024x1_0_1_2 main_v4
  let main_v7 : IVec S128x1024x1 1 := cmpi .slt main_v5 main_v6
  let main_v8 : IVec S128x1024x4096 1 := broadcastInDim S128x1024x4096 ![0, 1, 2] bcast_S128x1024x1_S128x1024x4096_0_1_2 main_v7
  let main_v9 : IVec S131072x4096 1 := shapeCast S131072x4096 main_v8 shapeCasts_S128x1024x4096_S131072x4096
  main_v9
-- ==== Pre_finite_gains.lean ====
abbrev S6144x6144 : Shape := ⟨2, ![6144, 6144]⟩
abbrev S1x128 : Shape := ⟨2, ![1, 128]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S6144x6144 .f32) (main_arg1 : FVec F S1x128 .f32) (main_arg2 : FVec F S1x128 .f32) : IVec S1x128 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg2
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S1x128 1 := andi main_v2 main_v5
  main_v6
-- ==== Pre_items.lean ====
abbrev S6144x4096 : Shape := ⟨2, ![6144, 4096]⟩
abbrev S65536 : Shape := ⟨1, ![65536]⟩
abbrev S2x64x4096x1024 : Shape := ⟨4, ![2, 64, 4096, 1024]⟩
abbrev S128 : Shape := ⟨1, ![128]⟩
abbrev S1 : Shape := ⟨1, ![1]⟩
abbrev S_ : Shape := ⟨0, ![]⟩

class Facts : Prop where
  shapeCasts_S1_S_ : S1.ShapeCasts S_
  bcast_S_S128 : S_.BroadcastsInDim S128 (![] : Fin 0 → Fin S128.rank)

variable [Facts]

def fn_where {F : FTy → Type} [FloatOps F] (arg0 : IVec S128 1) (arg1 : IVec S128 1) (arg2 : IVec S128 1) : IVec S128 1 :=
  let v0 : IVec S128 1 := select arg0 arg1 arg2
  v0

def fn_part1 {F : FTy → Type} [FloatOps F] (main_arg5 : IVec S128 32) (main_arg6 : IVec S128 32) (main_arg7 : IVec S1 32) (main_v3 : IVec S128 1) (main_v14 : IVec S128 1) (main_v16 : IVec S128 32) (main_v17 : IVec S128 32) : IVec S128 1 :=
  let main_v18 : IVec S128 32 := subi main_v17 main_v16
  let main_v19 : IVec S128 1 := cmpi .sle main_arg5 main_v18
  let main_v20 : IVec S128 1 := andi main_v14 main_v19
  let main_c_5 : IVec S_ 32 := constantI S_ 32 1#32
  let main_v21 : IVec S128 32 := broadcastInDim S128 ![] bcast_S_S128 main_c_5
  let main_v22 : IVec S128 1 := cmpi .sge main_arg6 main_v21
  let main_c_6 : IVec S_ 32 := constantI S_ 32 0#32
  let main_v23 : IVec S128 32 := broadcastInDim S128 ![] bcast_S_S128 main_c_6
  let main_v24 : IVec S128 1 := cmpi .eq main_arg6 main_v23
  let main_v25 : IVec S128 1 := fn_where (F := F) main_v3 main_v22 main_v24
  let main_v26 : IVec S128 1 := andi main_v20 main_v25
  let main_v27 : IVec S_ 32 := shapeCast S_ main_arg7 shapeCasts_S1_S_
  let main_c_7 : IVec S_ 32 := constantI S_ 32 0#32
  let main_v28 : IVec S_ 1 := cmpi .sge main_v27 main_c_7
  let main_v29 : IVec S128 1 := broadcastInDim S128 ![] bcast_S_S128 main_v28
  let main_v30 : IVec S128 1 := andi main_v26 main_v29
  let main_v31 : IVec S_ 32 := shapeCast S_ main_arg7 shapeCasts_S1_S_
  let main_c_8 : IVec S_ 32 := constantI S_ 32 128#32
  let main_v32 : IVec S_ 1 := cmpi .slt main_v31 main_c_8
  let main_v33 : IVec S128 1 := broadcastInDim S128 ![] bcast_S_S128 main_v32
  let main_v34 : IVec S128 1 := andi main_v30 main_v33
  main_v34

def fn {F : FTy → Type} [FloatOps F] (main_arg0 : FVec F S6144x4096 .f32) (main_arg1 : IVec S65536 32) (main_arg2 : FVec F S2x64x4096x1024 .f32) (main_arg3 : FVec F S2x64x4096x1024 .f32) (main_arg4 : IVec S128 32) (main_arg5 : IVec S128 32) (main_arg6 : IVec S128 32) (main_arg7 : IVec S1 32) : IVec S128 1 :=
  let main_v0 : IVec S128 32 := iotaInDim S128 32 0
  let main_v1 : IVec S_ 32 := shapeCast S_ main_arg7 shapeCasts_S1_S_
  let main_v2 : IVec S128 32 := broadcastInDim S128 ![] bcast_S_S128 main_v1
  let main_v3 : IVec S128 1 := cmpi .sle main_v0 main_v2
  let main_c : IVec S_ 32 := constantI S_ 32 0#32
  let main_v4 : IVec S128 32 := broadcastInDim S128 ![] bcast_S_S128 main_c
  let main_v5 : IVec S128 1 := cmpi .sge main_arg4 main_v4
  let main_c_0 : IVec S_ 32 := constantI S_ 32 64#32
  let main_v6 : IVec S128 32 := broadcastInDim S128 ![] bcast_S_S128 main_c_0
  let main_v7 : IVec S128 1 := cmpi .slt main_arg4 main_v6
  let main_v8 : IVec S128 1 := andi main_v5 main_v7
  let main_c_1 : IVec S_ 32 := constantI S_ 32 0#32
  let main_v9 : IVec S128 32 := broadcastInDim S128 ![] bcast_S_S128 main_c_1
  let main_v10 : IVec S128 1 := cmpi .sge main_arg5 main_v9
  let main_v11 : IVec S128 1 := andi main_v8 main_v10
  let main_c_2 : IVec S_ 32 := constantI S_ 32 4#32
  let main_v12 : IVec S128 32 := broadcastInDim S128 ![] bcast_S_S128 main_c_2
  let main_v13 : IVec S128 1 := cmpi .sle main_arg6 main_v12
  let main_v14 : IVec S128 1 := andi main_v11 main_v13
  let main_c_3 : IVec S_ 32 := constantI S_ 32 1#32
  let main_v15 : IVec S128 32 := broadcastInDim S128 ![] bcast_S_S128 main_c_3
  let main_v16 : IVec S128 32 := maxsi main_arg6 main_v15
  let main_c_4 : IVec S_ 32 := constantI S_ 32 256#32
  let main_v17 : IVec S128 32 := broadcastInDim S128 ![] bcast_S_S128 main_c_4
  fn_part1 (F := F) main_arg5 main_arg6 main_arg7 main_v3 main_v14 main_v16 main_v17
-- ==== Pre_items_down.lean ====
abbrev S131072x1024 : Shape := ⟨2, ![131072, 1024]⟩
abbrev S2x64x1024x4096 : Shape := ⟨4, ![2, 64, 1024, 4096]⟩
abbrev S128 : Shape := ⟨1, ![128]⟩
abbrev S1 : Shape := ⟨1, ![1]⟩
abbrev S_ : Shape := ⟨0, ![]⟩

class Facts : Prop where
  shapeCasts_S1_S_ : S1.ShapeCasts S_
  bcast_S_S128 : S_.BroadcastsInDim S128 (![] : Fin 0 → Fin S128.rank)

variable [Facts]

def fn_where {F : FTy → Type} [FloatOps F] (arg0 : IVec S128 1) (arg1 : IVec S128 1) (arg2 : IVec S128 1) : IVec S128 1 :=
  let v0 : IVec S128 1 := select arg0 arg1 arg2
  v0

def fn_part1 {F : FTy → Type} [FloatOps F] (main_arg5 : IVec S1 32) (main_v17 : IVec S128 1) (main_v18 : IVec S_ 32) : IVec S128 1 :=
  let main_c_4 : IVec S_ 32 := constantI S_ 32 0#32
  let main_v19 : IVec S_ 1 := cmpi .sge main_v18 main_c_4
  let main_v20 : IVec S128 1 := broadcastInDim S128 ![] bcast_S_S128 main_v19
  let main_v21 : IVec S128 1 := andi main_v17 main_v20
  let main_v22 : IVec S_ 32 := shapeCast S_ main_arg5 shapeCasts_S1_S_
  let main_c_5 : IVec S_ 32 := constantI S_ 32 128#32
  let main_v23 : IVec S_ 1 := cmpi .slt main_v22 main_c_5
  let main_v24 : IVec S128 1 := broadcastInDim S128 ![] bcast_S_S128 main_v23
  let main_v25 : IVec S128 1 := andi main_v21 main_v24
  main_v25

def fn {F : FTy → Type} [FloatOps F] (main_arg0 : FVec F S131072x1024 .f32) (main_arg1 : FVec F S2x64x1024x4096 .f32) (main_arg2 : IVec S128 32) (main_arg3 : IVec S128 32) (main_arg4 : IVec S128 32) (main_arg5 : IVec S1 32) : IVec S128 1 :=
  let main_v0 : IVec S128 32 := iotaInDim S128 32 0
  let main_v1 : IVec S_ 32 := shapeCast S_ main_arg5 shapeCasts_S1_S_
  let main_v2 : IVec S128 32 := broadcastInDim S128 ![] bcast_S_S128 main_v1
  let main_v3 : IVec S128 1 := cmpi .sle main_v0 main_v2
  let main_c : IVec S_ 32 := constantI S_ 32 0#32
  let main_v4 : IVec S128 32 := broadcastInDim S128 ![] bcast_S_S128 main_c
  let main_v5 : IVec S128 1 := cmpi .sge main_arg2 main_v4
  let main_c_0 : IVec S_ 32 := constantI S_ 32 64#32
  let main_v6 : IVec S128 32 := broadcastInDim S128 ![] bcast_S_S128 main_c_0
  let main_v7 : IVec S128 1 := cmpi .slt main_arg2 main_v6
  let main_v8 : IVec S128 1 := andi main_v5 main_v7
  let main_c_1 : IVec S_ 32 := constantI S_ 32 4#32
  let main_v9 : IVec S128 32 := broadcastInDim S128 ![] bcast_S_S128 main_c_1
  let main_v10 : IVec S128 1 := cmpi .sle main_arg4 main_v9
  let main_v11 : IVec S128 1 := andi main_v8 main_v10
  let main_c_2 : IVec S_ 32 := constantI S_ 32 1#32
  let main_v12 : IVec S128 32 := broadcastInDim S128 ![] bcast_S_S128 main_c_2
  let main_v13 : IVec S128 1 := cmpi .sge main_arg4 main_v12
  let main_c_3 : IVec S_ 32 := constantI S_ 32 0#32
  let main_v14 : IVec S128 32 := broadcastInDim S128 ![] bcast_S_S128 main_c_3
  let main_v15 : IVec S128 1 := cmpi .eq main_arg4 main_v14
  let main_v16 : IVec S128 1 := fn_where (F := F) main_v3 main_v13 main_v15
  let main_v17 : IVec S128 1 := andi main_v11 main_v16
  let main_v18 : IVec S_ 32 := shapeCast S_ main_arg5 shapeCasts_S1_S_
  fn_part1 (F := F) main_arg5 main_v17 main_v18
-- ==== Kernel.lean ====
abbrev S6144x6144 : Shape := ⟨2, ![6144, 6144]⟩
abbrev S1x128 : Shape := ⟨2, ![1, 128]⟩
abbrev S128 : Shape := ⟨1, ![128]⟩
abbrev S4096x4096 : Shape := ⟨2, ![4096, 4096]⟩
abbrev S4096x1024 : Shape := ⟨2, ![4096, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 10
  | .vmem => 14
  | .smem => 0
  | _ => 0

abbrev bufTy : (tb : Table) → Fin (tcTables nBuf tb) → BufTy
  | .hbm, ⟨0, _⟩ => ⟨S6144x6144, .f32⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S4096x4096, .bf16⟩
  | .hbm, ⟨8, _⟩ => ⟨S4096x1024, .f32⟩
  | .hbm, ⟨9, _⟩ => ⟨S4096x1024, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S6144x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S6144x6144 : Shape := ⟨2, ![6144, 6144]⟩
abbrev S1x128 : Shape := ⟨2, ![1, 128]⟩
abbrev S4096x6144 : Shape := ⟨2, ![4096, 6144]⟩
abbrev S16x256x6144 : Shape := ⟨3, ![16, 256, 6144]⟩
abbrev S16x256x4096 : Shape := ⟨3, ![16, 256, 4096]⟩
abbrev S16x256x1024 : Shape := ⟨3, ![16, 256, 1024]⟩
abbrev S16x256x32x128 : Shape := ⟨4, ![16, 256, 32, 128]⟩
abbrev S128 : Shape := ⟨1, ![128]⟩
abbrev S_ : Shape := ⟨0, ![]⟩
abbrev S16x256x32 : Shape := ⟨3, ![16, 256, 32]⟩
abbrev S16x256x32x1 : Shape := ⟨4, ![16, 256, 32, 1]⟩
abbrev S1x1x1x128 : Shape := ⟨4, ![1, 1, 1, 128]⟩
abbrev S16x256x8x128 : Shape := ⟨4, ![16, 256, 8, 128]⟩
abbrev S16x256x8 : Shape := ⟨3, ![16, 256, 8]⟩
abbrev S16x256x8x1 : Shape := ⟨4, ![16, 256, 8, 1]⟩
abbrev S16x256x8x4x128 : Shape := ⟨5, ![16, 256, 8, 4, 128]⟩
abbrev S16x8x256x256x4 : Shape := ⟨5, ![16, 8, 256, 256, 4]⟩
abbrev S16x8x4x256x256 : Shape := ⟨5, ![16, 8, 4, 256, 256]⟩
abbrev S16x8x4x256 : Shape := ⟨4, ![16, 8, 4, 256]⟩
abbrev S16x8x4x256x1 : Shape := ⟨5, ![16, 8, 4, 256, 1]⟩
abbrev S16x8x128x4x256 : Shape := ⟨5, ![16, 8, 128, 4, 256]⟩
abbrev S4096x4096 : Shape := ⟨2, ![4096, 4096]⟩
abbrev S4096x1024 : Shape := ⟨2, ![4096, 1024]⟩

abbrev nBuf : Space → Nat
  | .hbm => 72
  | .vmem => 0
  | .smem => 0
  | _ => 0

abbrev bufTy : (tb : Table) → Fin (tcTables nBuf tb) → BufTy
  | .hbm, ⟨0, _⟩ => ⟨S6144x6144, .f32⟩
  | .hbm, ⟨1, _⟩ => ⟨S1x128, .f32⟩
  | .hbm, ⟨2, _⟩ => ⟨S1x128, .f32⟩
  | .hbm, ⟨3, _⟩ => ⟨S4096x6144, .f32⟩
  | .hbm, ⟨4, _⟩ => ⟨S16x256x6144, .f32⟩
  | .hbm, ⟨5, _⟩ => ⟨S16x256x4096, .f32⟩
  | .hbm, ⟨6, _⟩ => ⟨S16x256x1024, .f32⟩
  | .hbm, ⟨7, _⟩ => ⟨S16x256x1024, .f32⟩
  | .hbm, ⟨8, _⟩ => ⟨S16x256x32x128, .f32⟩
  | .hbm, ⟨9, _⟩ => ⟨S128, .f32⟩
  | .hbm, ⟨10, _⟩ => ⟨S16x256x32x128, .f32⟩
  | .hbm, ⟨11, _⟩ => ⟨S_, .f32⟩
  | .hbm, ⟨12, _⟩ => ⟨S16x256x32, .f32⟩
  | .hbm, ⟨13, _⟩ => ⟨S16x256x32x1, .f32⟩
  | .hbm, ⟨14, _⟩ => ⟨S_, .f32⟩
  | .hbm, ⟨15, _⟩ => ⟨S16x256x32x1, .f32⟩
  | .hbm, ⟨16, _⟩ => ⟨S16x256x32x1, .f32⟩
  | .hbm, ⟨17, _⟩ => ⟨S_, .f32⟩
  | .hbm, ⟨18, _⟩ => ⟨S16x256x32x1, .f32⟩
  | .hbm, ⟨19, _⟩ => ⟨S16x256x32x1, .f32⟩
  | .hbm, ⟨20, _⟩ => ⟨S16x256x32x1, .f32⟩
  | .hbm, ⟨21, _⟩ => ⟨S16x256x32x128, .f32⟩
  | .hbm, ⟨22, _⟩ => ⟨S16x256x32x128, .f32⟩
  | .hbm, ⟨23, _⟩ => ⟨S1x1x1x128, .f32⟩
  | .hbm, ⟨24, _⟩ => ⟨S16x256x32x128, .f32⟩
  | .hbm, ⟨25, _⟩ => ⟨S16x256x32x128, .f32⟩
  | .hbm, ⟨26, _⟩ => ⟨S16x256x8x128, .f32⟩
  | .hbm, ⟨27, _⟩ => ⟨S128, .f32⟩
  | .hbm, ⟨28, _⟩ => ⟨S16x256x8x128, .f32⟩
  | .hbm, ⟨29, _⟩ => ⟨S_, .f32⟩
  | .hbm, ⟨30, _⟩ => ⟨S16x256x8, .f32⟩
  | .hbm, ⟨31, _⟩ => ⟨S16x256x8x1, .f32⟩
  | .hbm, ⟨32, _⟩ => ⟨S_, .f32⟩
  | .hbm, ⟨33, _⟩ => ⟨S16x256x8x1, .f32⟩
  | .hbm, ⟨34, _⟩ => ⟨S16x256x8x1, .f32⟩
  | .hbm, ⟨35, _⟩ => ⟨S_, .f32⟩
  | .hbm, ⟨36, _⟩ => ⟨S16x256x8x1, .f32⟩
  | .hbm, ⟨37, _⟩ => ⟨S16x256x8x1, .f32⟩
  | .hbm, ⟨38, _⟩ => ⟨S16x256x8x1, .f32⟩
  | .hbm, ⟨39, _⟩ => ⟨S16x256x8x128, .f32⟩
  | .hbm, ⟨40, _⟩ => ⟨S16x256x8x128, .f32⟩
  | .hbm, ⟨41, _⟩ => ⟨S1x1x1x128, .f32⟩
  | .hbm, ⟨42, _⟩ => ⟨S16x256x8x128, .f32⟩
  | .hbm, ⟨43, _⟩ => ⟨S16x256x8x128, .f32⟩
  | .hbm, ⟨44, _⟩ => ⟨S16x256x8x128, .f32⟩
  | .hbm, ⟨45, _⟩ => ⟨S16x256x8x4x128, .f32⟩
  | .hbm, ⟨46, _⟩ => ⟨S16x8x256x256x4, .f32⟩
  | .hbm, ⟨47, _⟩ => ⟨S16x8x4x256x256, .f32⟩
  | .hbm, ⟨48, _⟩ => ⟨S_, .f32⟩
  | .hbm, ⟨49, _⟩ => ⟨S16x8x4x256x256, .f32⟩
  | .hbm, ⟨50, _⟩ => ⟨S16x8x4x256x256, .f32⟩
  | .hbm, ⟨51, _⟩ => ⟨S_, .f32⟩
  | .hbm, ⟨52, _⟩ => ⟨S16x8x4x256, .f32⟩
  | .hbm, ⟨53, _⟩ => ⟨S_, .f32⟩
  | .hbm, ⟨54, _⟩ => ⟨S16x8x4x256, .f32⟩
  | .hbm, ⟨55, _⟩ => ⟨S16x8x4x256, .f32⟩
  | .hbm, ⟨56, _⟩ => ⟨S16x8x4x256x1, .f32⟩
  | .hbm, ⟨57, _⟩ => ⟨S16x8x4x256x256, .f32⟩
  | .hbm, ⟨58, _⟩ => ⟨S16x8x4x256x256, .f32⟩
  | .hbm, ⟨59, _⟩ => ⟨S16x8x4x256x256, .f32⟩
  | .hbm, ⟨60, _⟩ => ⟨S_, .f32⟩
  | .hbm, ⟨61, _⟩ => ⟨S16x8x4x256, .f32⟩
  | .hbm, ⟨62, _⟩ => ⟨S16x8x4x256x1, .f32⟩
  | .hbm, ⟨63, _⟩ => ⟨S16x8x4x256x256, .f32⟩
  | .hbm, ⟨64, _⟩ => ⟨S16x8x4x256x256, .f32⟩
  | .hbm, ⟨65, _⟩ => ⟨S16x8x128x4x256, .f32⟩
  | .hbm, ⟨66, _⟩ => ⟨S16x256x8x4x128, .f32⟩
  | .hbm, ⟨67, _⟩ => ⟨S16x256x4096, .f32⟩
  | .hbm, ⟨68, _⟩ => ⟨S4096x4096, .f32⟩
  | .hbm, ⟨69, _⟩ => ⟨S4096x4096, .bf16⟩
  | .hbm, ⟨70, _⟩ => ⟨S4096x1024, .f32⟩
  | .hbm, ⟨71, _⟩ => ⟨S4096x1024, .f32⟩
  | _, _ => ⟨S6144x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel2.lean ====
abbrev S6144x4096 : Shape := ⟨2, ![6144, 4096]⟩
abbrev S1x4096x6144 : Shape := ⟨3, ![1, 4096, 6144]⟩
abbrev S6144x6144 : Shape := ⟨2, ![6144, 6144]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S6144x4096, .f32⟩
  | .hbm, ⟨1, _⟩ => ⟨S1x4096x6144, .f32⟩
  | .hbm, ⟨2, _⟩ => ⟨S6144x4096, .bf16⟩
  | .hbm, ⟨3, _⟩ => ⟨S6144x6144, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S6144x4096 : Shape := ⟨2, ![6144, 4096]⟩
abbrev S1x4096x6144 : Shape := ⟨3, ![1, 4096, 6144]⟩
abbrev S4096x6144 : Shape := ⟨2, ![4096, 6144]⟩
abbrev S6144x6144 : Shape := ⟨2, ![6144, 6144]⟩

abbrev nBuf : Space → Nat
  | .hbm => 4
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x4096x6144, .f32⟩
  | .hbm, ⟨2, _⟩ => ⟨S4096x6144, .f32⟩
  | .hbm, ⟨3, _⟩ => ⟨S6144x6144, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S6144x4096 : Shape := ⟨2, ![6144, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S6144x4096, .f32⟩
  | .hbm, ⟨1, _⟩ => ⟨S1x4096x4096, .f32⟩
  | .hbm, ⟨2, _⟩ => ⟨S6144x4096, .bf16⟩
  | .hbm, ⟨3, _⟩ => ⟨S6144x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S6144x4096 : Shape := ⟨2, ![6144, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x4096x4096, .f32⟩
  | .hbm, ⟨2, _⟩ => ⟨S4096x4096, .f32⟩
  | .hbm, ⟨3, _⟩ => ⟨S6144x4096, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S6144x4096 : Shape := ⟨2, ![6144, 4096]⟩
abbrev S1x4096x4096 : Shape := ⟨3, ![1, 4096, 4096]⟩
abbrev S3x1x4096 : Shape := ⟨3, ![3, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x512 : Shape := ⟨3, ![1, 1, 512]⟩
abbrev S4096x512 : Shape := ⟨2, ![4096, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S6144x4096, .f32⟩
  | .hbm, ⟨1, _⟩ => ⟨S1x4096x4096, .f32⟩
  | .hbm, ⟨2, _⟩ => ⟨S6144x4096, .f32⟩
  | .hbm, ⟨3, _⟩ => ⟨S3x1x4096, .f32⟩
  | .hbm, ⟨4, _⟩ => ⟨S6144x4096, .bf16⟩
  | .hbm, ⟨5, _⟩ => ⟨S6144x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  ![v20.toNat, c0_i32_8.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S6144x4096 : Shape := ⟨2, ![6144, 4096]⟩
abbrev S1x4096x4096 : Shape := ⟨3, ![1, 4096, 4096]⟩
abbrev S3x1x4096 : Shape := ⟨3, ![3, 1, 4096]⟩
abbrev S4096x4096 : Shape := ⟨2, ![4096, 4096]⟩
abbrev S1x1x4096 : Shape := ⟨3, ![1, 1, 4096]⟩
abbrev S1x4096 : Shape := ⟨2, ![1, 4096]⟩
abbrev S2048x4096 : Shape := ⟨2, ![2048, 4096]⟩
abbrev S2x1024x4096 : Shape := ⟨3, ![2, 1024, 4096]⟩
abbrev S2x1x4096 : Shape := ⟨3, ![2, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x4096x4096, .f32⟩
  | .hbm, ⟨2, _⟩ => ⟨S6144x4096, .f32⟩
  | .hbm, ⟨3, _⟩ => ⟨S3x1x4096, .f32⟩
  | .hbm, ⟨4, _⟩ => ⟨S4096x4096, .f32⟩
  | .hbm, ⟨5, _⟩ => ⟨S6144x4096, .f32⟩
  | .hbm, ⟨6, _⟩ => ⟨S4096x4096, .f32⟩
  | .hbm, ⟨7, _⟩ => ⟨S1x1x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S2048x4096, .f32⟩
  | .hbm, ⟨12, _⟩ => ⟨S2x1024x4096, .f32⟩
  | .hbm, ⟨13, _⟩ => ⟨S2x1x4096, .f32⟩
  | .hbm, ⟨14, _⟩ => ⟨S2x1024x4096, .f32⟩
  | .hbm, ⟨15, _⟩ => ⟨S2x1024x4096, .f32⟩
  | .hbm, ⟨16, _⟩ => ⟨S2048x4096, .f32⟩
  | .hbm, ⟨17, _⟩ => ⟨S6144x4096, .f32⟩
  | .hbm, ⟨18, _⟩ => ⟨S6144x4096, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel5.lean ====
abbrev S6144x4096 : Shape := ⟨2, ![6144, 4096]⟩
abbrev S2x4096x1024 : Shape := ⟨3, ![2, 4096, 1024]⟩
abbrev S6144x1024 : Shape := ⟨2, ![6144, 1024]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 5
  | .vmem => 10
  | .smem => 0
  | _ => 0

abbrev bufTy : (tb : Table) → Fin (tcTables nBuf tb) → BufTy
  | .hbm, ⟨0, _⟩ => ⟨S6144x4096, .f32⟩
  | .hbm, ⟨1, _⟩ => ⟨S2x4096x1024, .f32⟩
  | .hbm, ⟨2, _⟩ => ⟨S2x4096x1024, .f32⟩
  | .hbm, ⟨3, _⟩ => ⟨S6144x4096, .bf16⟩
  | .hbm, ⟨4, _⟩ => ⟨S6144x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S6144x4096 : Shape := ⟨2, ![6144, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S6144x1024 : Shape := ⟨2, ![6144, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S2x4096x1024, .f32⟩
  | .hbm, ⟨2, _⟩ => ⟨S2x4096x1024, .f32⟩
  | .hbm, ⟨3, _⟩ => ⟨S1x4096x1024, .f32⟩
  | .hbm, ⟨4, _⟩ => ⟨S4096x1024, .f32⟩
  | .hbm, ⟨5, _⟩ => ⟨S6144x1024, .f32⟩
  | .hbm, ⟨6, _⟩ => ⟨S6144x1024, .f32⟩
  | .hbm, ⟨7, _⟩ => ⟨S6144x1024, .f32⟩
  | .hbm, ⟨8, _⟩ => ⟨S_, .f32⟩
  | .hbm, ⟨9, _⟩ => ⟨S6144x1024, .f32⟩
  | .hbm, ⟨10, _⟩ => ⟨S6144x1024, .f32⟩
  | .hbm, ⟨11, _⟩ => ⟨S_, .f32⟩
  | .hbm, ⟨12, _⟩ => ⟨S6144x1024, .f32⟩
  | .hbm, ⟨13, _⟩ => ⟨S6144x1024, .f32⟩
  | .hbm, ⟨14, _⟩ => ⟨S6144x1024, .f32⟩
  | .hbm, ⟨15, _⟩ => ⟨S1x4096x1024, .f32⟩
  | .hbm, ⟨16, _⟩ => ⟨S4096x1024, .f32⟩
  | .hbm, ⟨17, _⟩ => ⟨S6144x1024, .f32⟩
  | .hbm, ⟨18, _⟩ => ⟨S6144x1024, .f32⟩
  | .hbm, ⟨19, _⟩ => ⟨S6144x1024, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel6.lean ====
abbrev S6144x4096 : Shape := ⟨2, ![6144, 4096]⟩
abbrev S65536 : Shape := ⟨1, ![65536]⟩
abbrev S2x64x4096x1024 : Shape := ⟨4, ![2, 64, 4096, 1024]⟩
abbrev S128 : Shape := ⟨1, ![128]⟩
abbrev S1 : Shape := ⟨1, ![1]⟩
abbrev S65536x1 : Shape := ⟨2, ![65536, 1]⟩
abbrev S65536x4096 : Shape := ⟨2, ![65536, 4096]⟩
abbrev S128x4096x1024 : Shape := ⟨3, ![128, 4096, 1024]⟩
abbrev S131072x1024 : Shape := ⟨2, ![131072, 1024]⟩
abbrev S256x4096 : Shape := ⟨2, ![256, 4096]⟩
abbrev S1x4096x256 : Shape := ⟨3, ![1, 4096, 256]⟩
abbrev S1024x256 : Shape := ⟨2, ![1024, 256]⟩
abbrev S256x2048 : Shape := ⟨2, ![256, 2048]⟩
abbrev S4096x256 : Shape := ⟨2, ![4096, 256]⟩
abbrev S2048x256 : Shape := ⟨2, ![2048, 256]⟩
abbrev S256x256 : Shape := ⟨2, ![256, 256]⟩
abbrev S768x256 : Shape := ⟨2, ![768, 256]⟩
abbrev S512x4096 : Shape := ⟨2, ![512, 4096]⟩
abbrev S512x2048 : Shape := ⟨2, ![512, 2048]⟩
abbrev S512x256 : Shape := ⟨2, ![512, 256]⟩
abbrev S768x4096 : Shape := ⟨2, ![768, 4096]⟩
abbrev S768x2048 : Shape := ⟨2, ![768, 2048]⟩
abbrev S1024x4096 : Shape := ⟨2, ![1024, 4096]⟩
abbrev S1024x2048 : Shape := ⟨2, ![1024, 2048]⟩

abbrev nBuf : Space → Nat
  | .hbm => 10
  | .vmem => 14
  | .smem => 4
  | _ => 0

abbrev bufTy : (tb : Table) → Fin (tcTables nBuf tb) → BufTy
  | .hbm, ⟨0, _⟩ => ⟨S6144x4096, .f32⟩
  | .hbm, ⟨1, _⟩ => ⟨S65536, .i32⟩
  | .hbm, ⟨2, _⟩ => ⟨S2x64x4096x1024, .f32⟩
  | .hbm, ⟨3, _⟩ => ⟨S2x64x4096x1024, .f32⟩
  | .hbm, ⟨4, _⟩ => ⟨S6144x4096, .bf16⟩
  | .hbm, ⟨5, _⟩ => ⟨S65536x1, .i32⟩
  | .hbm, ⟨6, _⟩ => ⟨S65536x4096, .bf16⟩
  | .hbm, ⟨7, _⟩ => ⟨S128x4096x1024, .f32⟩
  | .hbm, ⟨8, _⟩ => ⟨S128x4096x1024, .f32⟩
  | .hbm, ⟨9, _⟩ => ⟨S131072x1024, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S1x4096x256, .f32⟩
  | .local _ .vmem, ⟨9, _⟩ => ⟨S1x4096x256, .f32⟩
  | .local _ .vmem, ⟨10, _⟩ => ⟨S1x4096x256, .f32⟩
  | .local _ .vmem, ⟨11, _⟩ => ⟨S1x4096x256, .f32⟩
  | .local _ .vmem, ⟨12, _⟩ => ⟨S1024x256, .bf16⟩
  | .local _ .vmem, ⟨13, _⟩ => ⟨S1024x256, .bf16⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S1, .i32⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev main_arg7 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![128, 4], ![false, false]⟩

abbrev pre0 : Pipeline.Prefetch sig := ⟨4, ![main_arg4.idx, main_arg5.idx, main_arg6.idx, main_arg7.idx], fun | 0 => main_arg4.names | 1 => main_arg5.names | 2 => main_arg6.names | 3 => main_arg7.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v1 : BitVec 32) : BitVec 1 :=
  let c2_i32 : BitVec 32 := 2#32
  let v5 : BitVec 1 := Scalar.cmpi .eq v1 c2_i32
  let v6 : BitVec 32 := Scalar.extui v5
  let c0_i32_0 : BitVec 32 := 0#32
  let v7 : BitVec 1 := Scalar.cmpi .ne v6 c0_i32_0
  v7

def k0_cond3 (v1 : BitVec 32) : BitVec 1 :=
  let c3_i32 : BitVec 32 := 3#32
  let v8 : BitVec 1 := Scalar.cmpi .eq v1 c3_i32
  let v9 : BitVec 32 := Scalar.extui v8
  let c0_i32_1 : BitVec 32 := 0#32
  let v10 : BitVec 1 := Scalar.cmpi .ne v9 c0_i32_1
  v10

def k0_cond4 (v1 : BitVec 32) : BitVec 1 :=
  let c4_i32 : BitVec 32 := 4#32
  let v11 : BitVec 1 := Scalar.cmpi .eq v1 c4_i32
  let v12 : BitVec 32 := Scalar.extui v11
  let c0_i32_2 : BitVec 32 := 0#32
  let v13 : BitVec 1 := Scalar.cmpi .ne v12 c0_i32_2
  v13

def cc0_transform_0 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S128) ![v0.toNat] S1.size (k0_off1_inb i)) numel1_S1
  let v2 : Index := Scalar.indexCast arg0
  let v3 : BitVec 32 := pf.at 2 (Rect.unit (s := S128) ![v2.toNat] S1.size (k0_off1_inb i)) numel1_S1
  let c1_i32 : BitVec 32 := 1#32
  let v4 : BitVec 32 := Scalar.subi v3 c1_i32
  let c0_i32 : BitVec 32 := 0#32
  let v5 : BitVec 32 := Scalar.maxsi v4 c0_i32
  let c0_i32_0 : BitVec 32 := 0#32
  let v6 : BitVec 32 := Scalar.minsi c0_i32_0 v5
  let v7 : BitVec 32 := Scalar.addi v1 v6
  let c0_i32_1 : BitVec 32 := 0#32
  let c0_i32_2 : BitVec 32 := 0#32
  ![v7.toNat, c0_i32_1.toNat]

def cc0_transform_1 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S128) ![v0.toNat] S1.size (k0_off1_inb i)) numel1_S1
  let v2 : Index := Scalar.indexCast arg0
  let v3 : BitVec 32 := pf.at 2 (Rect.unit (s := S128) ![v2.toNat] S1.size (k0_off1_inb i)) numel1_S1
  let c1_i32 : BitVec 32 := 1#32
  let v4 : BitVec 32 := Scalar.subi v3 c1_i32
  let c0_i32 : BitVec 32 := 0#32
  let v5 : BitVec 32 := Scalar.maxsi v4 c0_i32
  let c1_i32_0 : BitVec 32 := 1#32
  let v6 : BitVec 32 := Scalar.minsi c1_i32_0 v5
  let v7 : BitVec 32 := Scalar.addi v1 v6
  let c0_i32_1 : BitVec 32 := 0#32
  let c0_i32_2 : BitVec 32 := 0#32
  ![v7.toNat, c0_i32_1.toNat]

def cc0_transform_2 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S128) ![v0.toNat] S1.size (k0_off1_inb i)) numel1_S1
  let v2 : Index := Scalar.indexCast arg0
  let v3 : BitVec 32 := pf.at 2 (Rect.unit (s := S128) ![v2.toNat] S1.size (k0_off1_inb i)) numel1_S1
  let c1_i32 : BitVec 32 := 1#32
  let v4 : BitVec 32 := Scalar.subi v3 c1_i32
  let c0_i32 : BitVec 32 := 0#32
  let v5 : BitVec 32 := Scalar.maxsi v4 c0_i32
  let c2_i32 : BitVec 32 := 2#32
  let v6 : BitVec 32 := Scalar.minsi c2_i32 v5
  let v7 : BitVec 32 := Scalar.addi v1 v6
  let c0_i32_0 : BitVec 32 := 0#32
  let c0_i32_1 : BitVec 32 := 0#32
  ![v7.toNat, c0_i32_0.toNat]

def cc0_transform_3 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S128) ![v0.toNat] S1.size (k0_off1_inb i)) numel1_S1
  let v2 : Index := Scalar.indexCast arg0
  let v3 : BitVec 32 := pf.at 2 (Rect.unit (s := S128) ![v2.toNat] S1.size (k0_off1_inb i)) numel1_S1
  let c1_i32 : BitVec 32 := 1#32
  let v4 : BitVec 32 := Scalar.subi v3 c1_i32
  let c0_i32 : BitVec 32 := 0#32
  let v5 : BitVec 32 := Scalar.maxsi v4 c0_i32
  let c3_i32 : BitVec 32 := 3#32
  let v6 : BitVec 32 := Scalar.minsi c3_i32 v5
  let v7 : BitVec 32 := Scalar.addi v1 v6
  let c0_i32_0 : BitVec 32 := 0#32
  let c0_i32_1 : BitVec 32 := 0#32
  ![v7.toNat, c0_i32_0.toNat]

def cc0_transform_4 (k0_off1_inb : ∀ i : grid0.Coords, ∀ a, (k0_off1 i) a + S1.size a ≤ S128.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c64_i32 : BitVec 32 := 64#32
  let v2 : BitVec 32 := Scalar.addi c64_i32 v1
  let c0 : Index := 0#32
  let v3 : BitVec 32 := pf.at 3 (Rect.unit (s := S1) ![0] S1.size inb_S1_S1_0) numel1_S1
  let v4 : BitVec 1 := Scalar.cmpi .sgt arg0 v3
  let c3_i32 : BitVec 32 := 3#32
  let v5 : BitVec 32 := Scalar.select v4 c3_i32 arg1
  let c0_i32 : BitVec 32 := 0#32
  let c0_i32_0 : BitVec 32 := 0#32
  ![v2.toNat, c0_i32.toNat, v5.toNat]

def cc0_transform_5 (k0_off1_inb : ∀ i : grid0.Coords, ∀ a, (k0_off1 i) a + S1.size a ≤ S128.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c64_i32 : BitVec 32 := 64#32
  let v2 : BitVec 32 := Scalar.addi c64_i32 v1
  let c0 : Index := 0#32
  let v3 : BitVec 32 := pf.at 3 (Rect.unit (s := S1) ![0] S1.size inb_S1_S1_0) numel1_S1
  let v4 : BitVec 1 := Scalar.cmpi .sgt arg0 v3
  let c3_i32 : BitVec 32 := 3#32
  let v5 : BitVec 32 := Scalar.select v4 c3_i32 arg1
  let c0_i32 : BitVec 32 := 0#32
  let c0_i32_0 : BitVec 32 := 0#32
  ![v2.toNat, c0_i32.toNat, v5.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 3 (Rect.unit (s := S1) ![0] S1.size inb_S1_S1_0) numel1_S1
  let v1 : BitVec 32 := Scalar.minsi arg0 v0
  let c0_0 : Index := 0#32
  let v2 : BitVec 32 := pf.at 3 (Rect.unit (s := S1) ![0] S1.size inb_S1_S1_0) numel1_S1
  let v3 : BitVec 1 := Scalar.cmpi .sgt arg0 v2
  let c3_i32 : BitVec 32 := 3#32
  let v4 : BitVec 32 := Scalar.select v3 c3_i32 arg1
  let c0_i32 : BitVec 32 := 0#32
  ![v1.toNat, v4.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S6144x4096 : Shape := ⟨2, ![6144, 4096]⟩
abbrev S65536 : Shape := ⟨1, ![65536]⟩
abbrev S2x64x4096x1024 : Shape := ⟨4, ![2, 64, 4096, 1024]⟩
abbrev S128 : Shape := ⟨1, ![128]⟩
abbrev S1 : Shape := ⟨1, ![1]⟩
abbrev S128x1 : Shape := ⟨2, ![128, 1]⟩
abbrev S_ : Shape := ⟨0, ![]⟩
abbrev S1024 : Shape := ⟨1, ![1024]⟩
abbrev S1x1024 : Shape := ⟨2, ![1, 1024]⟩
abbrev S128x1024 : Shape := ⟨2, ![128, 1024]⟩
abbrev S131072 : Shape := ⟨1, ![131072]⟩
abbrev S131072x1 : Shape := ⟨2, ![131072, 1]⟩
abbrev S131072x4096 : Shape := ⟨2, ![131072, 4096]⟩
abbrev S128x1024x4096 : Shape := ⟨3, ![128, 1024, 4096]⟩
abbrev S1x64x4096x1024 : Shape := ⟨4, ![1, 64, 4096, 1024]⟩
abbrev S64x4096x1024 : Shape := ⟨3, ![64, 4096, 1024]⟩
abbrev S128x4096x1024 : Shape := ⟨3, ![128, 4096, 1024]⟩
abbrev S128x1024x1024 : Shape := ⟨3, ![128, 1024, 1024]⟩
abbrev S131072x1024 : Shape := ⟨2, ![131072, 1024]⟩

abbrev nBuf : Space → Nat
  | .hbm => 45
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S65536, .i32⟩
  | .hbm, ⟨2, _⟩ => ⟨S2x64x4096x1024, .f32⟩
  | .hbm, ⟨3, _⟩ => ⟨S2x64x4096x1024, .f32⟩
  | .hbm, ⟨4, _⟩ => ⟨S128, .i32⟩
  | .hbm, ⟨5, _⟩ => ⟨S128, .i32⟩
  | .hbm, ⟨6, _⟩ => ⟨S128, .i32⟩
  | .hbm, ⟨7, _⟩ => ⟨S1, .i32⟩
  | .hbm, ⟨8, _⟩ => ⟨S128x1, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S1024, .i32⟩
  | .hbm, ⟨13, _⟩ => ⟨S1x1024, .i32⟩
  | .hbm, ⟨14, _⟩ => ⟨S128x1024, .i32⟩
  | .hbm, ⟨15, _⟩ => ⟨S128x1024, .i32⟩
  | .hbm, ⟨16, _⟩ => ⟨S128x1024, .i32⟩
  | .hbm, ⟨17, _⟩ => ⟨S131072, .i32⟩
  | .hbm, ⟨18, _⟩ => ⟨S131072x1, .i32⟩
  | .hbm, ⟨19, _⟩ => ⟨S131072, .i32⟩
  | .hbm, ⟨20, _⟩ => ⟨S131072x1, .i32⟩
  | .hbm, ⟨21, _⟩ => ⟨S131072x4096, .f32⟩
  | .hbm, ⟨22, _⟩ => ⟨S128x1024x4096, .f32⟩
  | .hbm, ⟨23, _⟩ => ⟨S1x64x4096x1024, .f32⟩
  | .hbm, ⟨24, _⟩ => ⟨S64x4096x1024, .f32⟩
  | .hbm, ⟨25, _⟩ => ⟨S128x1, .i32⟩
  | .hbm, ⟨26, _⟩ => ⟨S128x4096x1024, .f32⟩
  | .hbm, ⟨27, _⟩ => ⟨S128x1024x1024, .f32⟩
  | .hbm, ⟨28, _⟩ => ⟨S1x64x4096x1024, .f32⟩
  | .hbm, ⟨29, _⟩ => ⟨S64x4096x1024, .f32⟩
  | .hbm, ⟨30, _⟩ => ⟨S128x1, .i32⟩
  | .hbm, ⟨31, _⟩ => ⟨S128x4096x1024, .f32⟩
  | .hbm, ⟨32, _⟩ => ⟨S128x1024x1024, .f32⟩
  | .hbm, ⟨33, _⟩ => ⟨S128x1024x1024, .f32⟩
  | .hbm, ⟨34, _⟩ => ⟨S128x1024x1024, .f32⟩
  | .hbm, ⟨35, _⟩ => ⟨S_, .f32⟩
  | .hbm, ⟨36, _⟩ => ⟨S128x1024x1024, .f32⟩
  | .hbm, ⟨37, _⟩ => ⟨S128x1024x1024, .f32⟩
  | .hbm, ⟨38, _⟩ => ⟨S_, .f32⟩
  | .hbm, ⟨39, _⟩ => ⟨S128x1024x1024, .f32⟩
  | .hbm, ⟨40, _⟩ => ⟨S128x1024x1024, .f32⟩
  | .hbm, ⟨41, _⟩ => ⟨S128x1024x1024, .f32⟩
  | .hbm, ⟨42, _⟩ => ⟨S128x1024x1024, .f32⟩
  | .hbm, ⟨43, _⟩ => ⟨S131072x1024, .f32⟩
  | .hbm, ⟨44, _⟩ => ⟨S131072x1024, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_v9 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call3_v0 : Ref sig .tc := ⟨.hbm, 30, rfl⟩
abbrev main_v18 : Ref sig .tc := ⟨.hbm, 31, rfl⟩
abbrev main_v19 : Ref sig .tc := ⟨.hbm, 32, rfl⟩
abbrev main_call4_v0 : Ref sig .tc := ⟨.hbm, 33, rfl⟩
abbrev main_call4_v1 : Ref sig .tc := ⟨.hbm, 34, rfl⟩
abbrev main_call4_cst : Ref sig .tc := ⟨.hbm, 35, rfl⟩
abbrev main_call4_v2 : Ref sig .tc := ⟨.hbm, 36, rfl⟩
abbrev main_call4_v3 : Ref sig .tc := ⟨.hbm, 37, rfl⟩
abbrev main_call4_cst_0 : Ref sig .tc := ⟨.hbm, 38, rfl⟩
abbrev main_call4_v4 : Ref sig .tc := ⟨.hbm, 39, rfl⟩
abbrev main_call4_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel7.lean ====
abbrev S131072x1024 : Shape := ⟨2, ![131072, 1024]⟩
abbrev S2x64x1024x4096 : Shape := ⟨4, ![2, 64, 1024, 4096]⟩
abbrev S128 : Shape := ⟨1, ![128]⟩
abbrev S1 : Shape := ⟨1, ![1]⟩
abbrev S128x1024x4096 : Shape := ⟨3, ![128, 1024, 4096]⟩
abbrev S131072x5120 : Shape := ⟨2, ![131072, 5120]⟩
abbrev S1024x1024 : Shape := ⟨2, ![1024, 1024]⟩
abbrev S1x1024x2048 : Shape := ⟨3, ![1, 1024, 2048]⟩
abbrev S1024x2560 : Shape := ⟨2, ![1024, 2560]⟩
abbrev S256x1024 : Shape := ⟨2, ![256, 1024]⟩
abbrev S1024x2048 : Shape := ⟨2, ![1024, 2048]⟩
abbrev S256x2048 : Shape := ⟨2, ![256, 2048]⟩
abbrev S256x256 : Shape := ⟨2, ![256, 256]⟩
abbrev S768x2560 : Shape := ⟨2, ![768, 2560]⟩
abbrev S512x1024 : Shape := ⟨2, ![512, 1024]⟩
abbrev S512x2048 : Shape := ⟨2, ![512, 2048]⟩
abbrev S512x256 : Shape := ⟨2, ![512, 256]⟩
abbrev S512x2560 : Shape := ⟨2, ![512, 2560]⟩
abbrev S768x1024 : Shape := ⟨2, ![768, 1024]⟩
abbrev S768x2048 : Shape := ⟨2, ![768, 2048]⟩
abbrev S768x256 : Shape := ⟨2, ![768, 256]⟩
abbrev S256x2560 : Shape := ⟨2, ![256, 2560]⟩
abbrev S1024x256 : Shape := ⟨2, ![1024, 256]⟩
abbrev S131072x4x1280 : Shape := ⟨3, ![131072, 4, 1280]⟩
abbrev S131072x4x1024 : Shape := ⟨3, ![131072, 4, 1024]⟩
abbrev S131072x4096 : Shape := ⟨2, ![131072, 4096]⟩

abbrev nBuf : Space → Nat
  | .hbm => 8
  | .vmem => 6
  | .smem => 4
  | _ => 0

abbrev bufTy : (tb : Table) → Fin (tcTables nBuf tb) → BufTy
  | .hbm, ⟨0, _⟩ => ⟨S131072x1024, .f32⟩
  | .hbm, ⟨1, _⟩ => ⟨S2x64x1024x4096, .f32⟩
  | .hbm, ⟨2, _⟩ => ⟨S131072x1024, .bf16⟩
  | .hbm, ⟨3, _⟩ => ⟨S128x1024x4096, .f32⟩
  | .hbm, ⟨4, _⟩ => ⟨S131072x5120, .bf16⟩
  | .hbm, ⟨5, _⟩ => ⟨S131072x4x1280, .bf16⟩
  | .hbm, ⟨6, _⟩ => ⟨S131072x4x1024, .bf16⟩
  | .hbm, ⟨7, _⟩ => ⟨S131072x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x2560, .bf16⟩
  | .local _ .vmem, ⟨5, _⟩ => ⟨S1024x2560, .bf16⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S1, .i32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

abbrev pre0 : Pipeline.Prefetch sig := ⟨4, ![main_arg2.idx, main_arg3.idx, main_arg4.idx, main_arg5.idx], fun | 0 => main_arg2.names | 1 => main_arg3.names | 2 => main_arg4.names | 3 => main_arg5.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v1 : BitVec 32) : BitVec 1 :=
  let c2_i32 : BitVec 32 := 2#32
  let v5 : BitVec 1 := Scalar.cmpi .eq v1 c2_i32
  let v6 : BitVec 32 := Scalar.extui v5
  let c0_i32_0 : BitVec 32 := 0#32
  let v7 : BitVec 1 := Scalar.cmpi .ne v6 c0_i32_0
  v7

def k0_cond3 (v1 : BitVec 32) : BitVec 1 :=
  let c3_i32 : BitVec 32 := 3#32
  let v8 : BitVec 1 := Scalar.cmpi .eq v1 c3_i32
  let v9 : BitVec 32 := Scalar.extui v8
  let c0_i32_1 : BitVec 32 := 0#32
  let v10 : BitVec 1 := Scalar.cmpi .ne v9 c0_i32_1
  v10

def k0_cond4 (v1 : BitVec 32) : BitVec 1 :=
  let c4_i32 : BitVec 32 := 4#32
  let v11 : BitVec 1 := Scalar.cmpi .eq v1 c4_i32
  let v12 : BitVec 32 := Scalar.extui v11
  let c0_i32_2 : BitVec 32 := 0#32
  let v13 : BitVec 1 := Scalar.cmpi .ne v12 c0_i32_2
  v13

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 3 (Rect.unit (s := S1) ![0] S1.size inb_S1_S1_0) numel1_S1
  let v1 : BitVec 32 := Scalar.minsi arg1 v0
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S128) ![v0.toNat] S1.size (k0_off1_inb i)) numel1_S1
  let c64_i32 : BitVec 32 := 64#32
  let v2 : BitVec 32 := Scalar.addi c64_i32 v1
  let c0_i32 : BitVec 32 := 0#32
  let c0_i32_0 : BitVec 32 := 0#32
  ![v2.toNat, c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 3 (Rect.unit (s := S1) ![0] S1.size inb_S1_S1_0) numel1_S1
  let v1 : BitVec 32 := Scalar.minsi arg1 v0
  let c0_i32 : BitVec 32 := 0#32
  ![v1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S131072x1024 : Shape := ⟨2, ![131072, 1024]⟩
abbrev S2x64x1024x4096 : Shape := ⟨4, ![2, 64, 1024, 4096]⟩
abbrev S128 : Shape := ⟨1, ![128]⟩
abbrev S1 : Shape := ⟨1, ![1]⟩
abbrev S128x1024x1024 : Shape := ⟨3, ![128, 1024, 1024]⟩
abbrev S1x64x1024x4096 : Shape := ⟨4, ![1, 64, 1024, 4096]⟩
abbrev S64x1024x4096 : Shape := ⟨3, ![64, 1024, 4096]⟩
abbrev S128x1 : Shape := ⟨2, ![128, 1]⟩
abbrev S128x1024x4096 : Shape := ⟨3, ![128, 1024, 4096]⟩
abbrev S131072x4096 : Shape := ⟨2, ![131072, 4096]⟩

abbrev nBuf : Space → Nat
  | .hbm => 14
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S2x64x1024x4096, .f32⟩
  | .hbm, ⟨2, _⟩ => ⟨S128, .i32⟩
  | .hbm, ⟨3, _⟩ => ⟨S128, .i32⟩
  | .hbm, ⟨4, _⟩ => ⟨S128, .i32⟩
  | .hbm, ⟨5, _⟩ => ⟨S1, .i32⟩
  | .hbm, ⟨6, _⟩ => ⟨S128x1024x1024, .f32⟩
  | .hbm, ⟨7, _⟩ => ⟨S1x64x1024x4096, .f32⟩
  | .hbm, ⟨8, _⟩ => ⟨S64x1024x4096, .f32⟩
  | .hbm, ⟨9, _⟩ => ⟨S128x1, .i32⟩
  | .hbm, ⟨10, _⟩ => ⟨S128x1024x4096, .f32⟩
  | .hbm, ⟨11, _⟩ => ⟨S128x1024x4096, .f32⟩
  | .hbm, ⟨12, _⟩ => ⟨S131072x4096, .f32⟩
  | .hbm, ⟨13, _⟩ => ⟨S131072x4096, .bf16⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Kernel8.lean ====
abbrev S6144x1024 : Shape := ⟨2, ![6144, 1024]⟩
abbrev S2x1024x4096 : Shape := ⟨3, ![2, 1024, 4096]⟩
abbrev S131072x4096 : Shape := ⟨2, ![131072, 4096]⟩
abbrev S6144x8 : Shape := ⟨2, ![6144, 8]⟩
abbrev S6144x4096 : Shape := ⟨2, ![6144, 4096]⟩
abbrev S3x1x4096 : Shape := ⟨3, ![3, 1, 4096]⟩
abbrev S131072x4x1024 : Shape := ⟨3, ![131072, 4, 1024]⟩
abbrev S_ : Shape := ⟨0, ![]⟩
abbrev S131072x4x256 : Shape := ⟨3, ![131072, 4, 256]⟩
abbrev S131072x4x1280 : Shape := ⟨3, ![131072, 4, 1280]⟩
abbrev S131072x5120 : Shape := ⟨2, ![131072, 5120]⟩
abbrev S8x6144 : Shape := ⟨2, ![8, 6144]⟩
abbrev S49152 : Shape := ⟨1, ![49152]⟩
abbrev S49152x1 : Shape := ⟨2, ![49152, 1]⟩
abbrev S49152x5120 : Shape := ⟨2, ![49152, 5120]⟩
abbrev S256x1024 : Shape := ⟨2, ![256, 1024]⟩
abbrev S1x1024x1024 : Shape := ⟨3, ![1, 1024, 1024]⟩
abbrev S256x1280 : Shape := ⟨2, ![256, 1280]⟩
abbrev S256x8 : Shape := ⟨2, ![256, 8]⟩
abbrev S1x1x1024 : Shape := ⟨3, ![1, 1, 1024]⟩
abbrev S1024x1024 : Shape := ⟨2, ![1024, 1024]⟩
abbrev S256x512 : Shape := ⟨2, ![256, 512]⟩
abbrev S256x1 : Shape := ⟨2, ![256, 1]⟩
abbrev S1x1024 : Shape := ⟨2, ![1, 1024]⟩
abbrev S1x512 : Shape := ⟨2, ![1, 512]⟩

abbrev nBuf : Space → Nat
  | .hbm => 19
  | .vmem => 29
  | .smem => 0
  | _ => 0

abbrev bufTy : (tb : Table) → Fin (tcTables nBuf tb) → BufTy
  | .hbm, ⟨0, _⟩ => ⟨S6144x1024, .f32⟩
  | .hbm, ⟨1, _⟩ => ⟨S2x1024x4096, .f32⟩
  | .hbm, ⟨2, _⟩ => ⟨S131072x4096, .f32⟩
  | .hbm, ⟨3, _⟩ => ⟨S6144x8, .i32⟩
  | .hbm, ⟨4, _⟩ => ⟨S6144x8, .f32⟩
  | .hbm, ⟨5, _⟩ => ⟨S6144x4096, .f32⟩
  | .hbm, ⟨6, _⟩ => ⟨S3x1x4096, .f32⟩
  | .hbm, ⟨7, _⟩ => ⟨S131072x4096, .bf16⟩
  | .hbm, ⟨8, _⟩ => ⟨S131072x4x1024, .bf16⟩
  | .hbm, ⟨9, _⟩ => ⟨S_, .bf16⟩
  | .hbm, ⟨10, _⟩ => ⟨S131072x4x256, .bf16⟩
  | .hbm, ⟨11, _⟩ => ⟨S131072x4x1280, .bf16⟩
  | .hbm, ⟨12, _⟩ => ⟨S131072x5120, .bf16⟩
  | .hbm, ⟨13, _⟩ => ⟨S8x6144, .i32⟩
  | .hbm, ⟨14, _⟩ => ⟨S49152, .i32⟩
  | .hbm, ⟨15, _⟩ => ⟨S49152x1, .i32⟩
  | .hbm, ⟨16, _⟩ => ⟨S49152x5120, .bf16⟩
  | .hbm, ⟨17, _⟩ => ⟨S6144x1024, .bf16⟩
  | .hbm, ⟨18, _⟩ => ⟨S6144x4096, .f32⟩
  | .local _ .vmem, ⟨0, _⟩ => ⟨S256x1024, .bf16⟩
  | .local _ .vmem, ⟨1, _⟩ => ⟨S256x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S256x1280, .bf16⟩
  | .local _ .vmem, ⟨5, _⟩ => ⟨S256x1280, .bf16⟩
  | .local _ .vmem, ⟨6, _⟩ => ⟨S256x1280, .bf16⟩
  | .local _ .vmem, ⟨7, _⟩ => ⟨S256x1280, .bf16⟩
  | .local _ .vmem, ⟨8, _⟩ => ⟨S256x1280, .bf16⟩
  | .local _ .vmem, ⟨9, _⟩ => ⟨S256x1280, .bf16⟩
  | .local _ .vmem, ⟨10, _⟩ => ⟨S256x1280, .bf16⟩
  | .local _ .vmem, ⟨11, _⟩ => ⟨S256x1280, .bf16⟩
  | .local _ .vmem, ⟨12, _⟩ => ⟨S256x1280, .bf16⟩
  | .local _ .vmem, ⟨13, _⟩ => ⟨S256x1280, .bf16⟩
  | .local _ .vmem, ⟨14, _⟩ => ⟨S256x1280, .bf16⟩
  | .local _ .vmem, ⟨15, _⟩ => ⟨S256x1280, .bf16⟩
  | .local _ .vmem, ⟨16, _⟩ => ⟨S256x1280, .bf16⟩
  | .local _ .vmem, ⟨17, _⟩ => ⟨S256x1280, .bf16⟩
  | .local _ .vmem, ⟨18, _⟩ => ⟨S256x1280, .bf16⟩
  | .local _ .vmem, ⟨19, _⟩ => ⟨S256x1280, .bf16⟩
  | .local _ .vmem, ⟨20, _⟩ => ⟨S256x8, .f32⟩
  | .local _ .vmem, ⟨21, _⟩ => ⟨S256x8, .f32⟩
  | .local _ .vmem, ⟨22, _⟩ => ⟨S256x1024, .f32⟩
  | .local _ .vmem, ⟨23, _⟩ => ⟨S256x1024, .f32⟩
  | .local _ .vmem, ⟨24, _⟩ => ⟨S1x1x1024, .f32⟩
  | .local _ .vmem, ⟨25, _⟩ => ⟨S1x1x1024, .f32⟩
  | .local _ .vmem, ⟨26, _⟩ => ⟨S256x1024, .f32⟩
  | .local _ .vmem, ⟨27, _⟩ => ⟨S256x1024, .f32⟩
  | .local _ .vmem, ⟨28, _⟩ => ⟨S1024x1024, .bf16⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c120_i32 : BitVec 32 := 120#32
  let v0 : BitVec 32 := Scalar.addi c120_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c144_i32 : BitVec 32 := 144#32
  let v0 : BitVec 32 := Scalar.addi c144_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c168_i32 : BitVec 32 := 168#32
  let v0 : BitVec 32 := Scalar.addi c168_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.subi arg1 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  ![v20.toNat, c0_i32_7.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference8Ideal.lean ====
abbrev S6144x1024 : Shape := ⟨2, ![6144, 1024]⟩
abbrev S2x1024x4096 : Shape := ⟨3, ![2, 1024, 4096]⟩
abbrev S131072x4096 : Shape := ⟨2, ![131072, 4096]⟩
abbrev S6144x8 : Shape := ⟨2, ![6144, 8]⟩
abbrev S6144x4096 : Shape := ⟨2, ![6144, 4096]⟩
abbrev S3x1x4096 : Shape := ⟨3, ![3, 1, 4096]⟩
abbrev S49152 : Shape := ⟨1, ![49152]⟩
abbrev S49152x1 : Shape := ⟨2, ![49152, 1]⟩
abbrev S49152x4096 : Shape := ⟨2, ![49152, 4096]⟩
abbrev S6144x8x4096 : Shape := ⟨3, ![6144, 8, 4096]⟩
abbrev S6144x8x1 : Shape := ⟨3, ![6144, 8, 1]⟩
abbrev S_ : Shape := ⟨0, ![]⟩
abbrev S1x1024x4096 : Shape := ⟨3, ![1, 1024, 4096]⟩
abbrev S1024x4096 : Shape := ⟨2, ![1024, 4096]⟩
abbrev S4096x4096 : Shape := ⟨2, ![4096, 4096]⟩
abbrev S1x1x4096 : Shape := ⟨3, ![1, 1, 4096]⟩
abbrev S1x4096 : Shape := ⟨2, ![1, 4096]⟩
abbrev S2048x4096 : Shape := ⟨2, ![2048, 4096]⟩
abbrev S2x1x4096 : Shape := ⟨3, ![2, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S2x1024x4096, .f32⟩
  | .hbm, ⟨2, _⟩ => ⟨S131072x4096, .f32⟩
  | .hbm, ⟨3, _⟩ => ⟨S6144x8, .i32⟩
  | .hbm, ⟨4, _⟩ => ⟨S6144x8, .f32⟩
  | .hbm, ⟨5, _⟩ => ⟨S6144x4096, .f32⟩
  | .hbm, ⟨6, _⟩ => ⟨S3x1x4096, .f32⟩
  | .hbm, ⟨7, _⟩ => ⟨S49152, .i32⟩
  | .hbm, ⟨8, _⟩ => ⟨S49152x1, .i32⟩
  | .hbm, ⟨9, _⟩ => ⟨S49152x4096, .f32⟩
  | .hbm, ⟨10, _⟩ => ⟨S6144x8x4096, .f32⟩
  | .hbm, ⟨11, _⟩ => ⟨S6144x8x1, .f32⟩
  | .hbm, ⟨12, _⟩ => ⟨S6144x8x4096, .f32⟩
  | .hbm, ⟨13, _⟩ => ⟨S6144x8x4096, .f32⟩
  | .hbm, ⟨14, _⟩ => ⟨S_, .f32⟩
  | .hbm, ⟨15, _⟩ => ⟨S6144x4096, .f32⟩
  | .hbm, ⟨16, _⟩ => ⟨S1x1024x4096, .f32⟩
  | .hbm, ⟨17, _⟩ => ⟨S1024x4096, .f32⟩
  | .hbm, ⟨18, _⟩ => ⟨S6144x4096, .f32⟩
  | .hbm, ⟨19, _⟩ => ⟨S6144x4096, .f32⟩
  | .hbm, ⟨20, _⟩ => ⟨S4096x4096, .f32⟩
  | .hbm, ⟨21, _⟩ => ⟨S1x1x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S2048x4096, .f32⟩
  | .hbm, ⟨26, _⟩ => ⟨S2x1024x4096, .f32⟩
  | .hbm, ⟨27, _⟩ => ⟨S2x1x4096, .f32⟩
  | .hbm, ⟨28, _⟩ => ⟨S2x1024x4096, .f32⟩
  | .hbm, ⟨29, _⟩ => ⟨S2x1024x4096, .f32⟩
  | .hbm, ⟨30, _⟩ => ⟨S2048x4096, .f32⟩
  | .hbm, ⟨31, _⟩ => ⟨S6144x4096, .f32⟩
  | .hbm, ⟨32, _⟩ => ⟨S6144x4096, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel9.lean ====
abbrev S6144x4096 : Shape := ⟨2, ![6144, 4096]⟩
abbrev S1x2x4096x480 : Shape := ⟨4, ![1, 2, 4096, 480]⟩
abbrev S2x4096x480 : Shape := ⟨3, ![2, 4096, 480]⟩
abbrev S_ : Shape := ⟨0, ![]⟩
abbrev S2x4096x512 : Shape := ⟨3, ![2, 4096, 512]⟩
abbrev S1x4096x512 : Shape := ⟨3, ![1, 4096, 512]⟩
abbrev S4096x512 : Shape := ⟨2, ![4096, 512]⟩
abbrev S4096x1024 : Shape := ⟨2, ![4096, 1024]⟩
abbrev S1x4096x1024 : Shape := ⟨3, ![1, 4096, 1024]⟩
abbrev S6144x1024 : Shape := ⟨2, ![6144, 1024]⟩
abbrev S1024x4096 : Shape := ⟨2, ![1024, 4096]⟩
abbrev S1024x512 : Shape := ⟨2, ![1024, 512]⟩

abbrev nBuf : Space → Nat
  | .hbm => 14
  | .vmem => 7
  | .smem => 0
  | _ => 0

abbrev bufTy : (tb : Table) → Fin (tcTables nBuf tb) → BufTy
  | .hbm, ⟨0, _⟩ => ⟨S6144x4096, .f32⟩
  | .hbm, ⟨1, _⟩ => ⟨S1x2x4096x480, .f32⟩
  | .hbm, ⟨2, _⟩ => ⟨S2x4096x480, .f32⟩
  | .hbm, ⟨3, _⟩ => ⟨S_, .i32⟩
  | .hbm, ⟨4, _⟩ => ⟨S_, .f32⟩
  | .hbm, ⟨5, _⟩ => ⟨S2x4096x512, .f32⟩
  | .hbm, ⟨6, _⟩ => ⟨S6144x4096, .bf16⟩
  | .hbm, ⟨7, _⟩ => ⟨S1x4096x512, .f32⟩
  | .hbm, ⟨8, _⟩ => ⟨S4096x512, .f32⟩
  | .hbm, ⟨9, _⟩ => ⟨S1x4096x512, .f32⟩
  | .hbm, ⟨10, _⟩ => ⟨S4096x512, .f32⟩
  | .hbm, ⟨11, _⟩ => ⟨S4096x1024, .f32⟩
  | .hbm, ⟨12, _⟩ => ⟨S1x4096x1024, .f32⟩
  | .hbm, ⟨13, _⟩ => ⟨S6144x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S6144x4096 : Shape := ⟨2, ![6144, 4096]⟩
abbrev S1x2x4096x480 : Shape := ⟨4, ![1, 2, 4096, 480]⟩
abbrev S_ : Shape := ⟨0, ![]⟩
abbrev S6144x32 : Shape := ⟨2, ![6144, 32]⟩
abbrev S1x1x4096x480 : Shape := ⟨4, ![1, 1, 4096, 480]⟩
abbrev S4096x480 : Shape := ⟨2, ![4096, 480]⟩
abbrev S6144x480 : Shape := ⟨2, ![6144, 480]⟩
abbrev S6144x512 : Shape := ⟨2, ![6144, 512]⟩
abbrev S6144x1024 : Shape := ⟨2, ![6144, 1024]⟩

abbrev nBuf : Space → Nat
  | .hbm => 22
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x2x4096x480, .f32⟩
  | .hbm, ⟨2, _⟩ => ⟨S_, .f32⟩
  | .hbm, ⟨3, _⟩ => ⟨S6144x32, .f32⟩
  | .hbm, ⟨4, _⟩ => ⟨S1x1x4096x480, .f32⟩
  | .hbm, ⟨5, _⟩ => ⟨S4096x480, .f32⟩
  | .hbm, ⟨6, _⟩ => ⟨S6144x480, .f32⟩
  | .hbm, ⟨7, _⟩ => ⟨S6144x512, .f32⟩
  | .hbm, ⟨8, _⟩ => ⟨S1x1x4096x480, .f32⟩
  | .hbm, ⟨9, _⟩ => ⟨S4096x480, .f32⟩
  | .hbm, ⟨10, _⟩ => ⟨S6144x480, .f32⟩
  | .hbm, ⟨11, _⟩ => ⟨S6144x512, .f32⟩
  | .hbm, ⟨12, _⟩ => ⟨S6144x1024, .f32⟩
  | .hbm, ⟨13, _⟩ => ⟨S6144x1024, .f32⟩
  | .hbm, ⟨14, _⟩ => ⟨S6144x1024, .f32⟩
  | .hbm, ⟨15, _⟩ => ⟨S_, .f32⟩
  | .hbm, ⟨16, _⟩ => ⟨S6144x1024, .f32⟩
  | .hbm, ⟨17, _⟩ => ⟨S6144x1024, .f32⟩
  | .hbm, ⟨18, _⟩ => ⟨S_, .f32⟩
  | .hbm, ⟨19, _⟩ => ⟨S6144x1024, .f32⟩
  | .hbm, ⟨20, _⟩ => ⟨S6144x1024, .f32⟩
  | .hbm, ⟨21, _⟩ => ⟨S6144x1024, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel10.lean ====
abbrev S6144x512 : Shape := ⟨2, ![6144, 512]⟩
abbrev S1x2x480x4096 : Shape := ⟨4, ![1, 2, 480, 4096]⟩
abbrev S2x480x4096 : Shape := ⟨3, ![2, 480, 4096]⟩
abbrev S_ : Shape := ⟨0, ![]⟩
abbrev S2x512x4096 : Shape := ⟨3, ![2, 512, 4096]⟩
abbrev S6144x4096 : Shape := ⟨2, ![6144, 4096]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S6144x512, .f32⟩
  | .hbm, ⟨1, _⟩ => ⟨S1x2x480x4096, .f32⟩
  | .hbm, ⟨2, _⟩ => ⟨S2x480x4096, .f32⟩
  | .hbm, ⟨3, _⟩ => ⟨S_, .i32⟩
  | .hbm, ⟨4, _⟩ => ⟨S_, .f32⟩
  | .hbm, ⟨5, _⟩ => ⟨S2x512x4096, .f32⟩
  | .hbm, ⟨6, _⟩ => ⟨S6144x512, .bf16⟩
  | .hbm, ⟨7, _⟩ => ⟨S6144x4096, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .f32⟩
  | .local _ .vmem, ⟨3, _⟩ => ⟨S1x512x512, .f32⟩
  | .local _ .vmem, ⟨4, _⟩ => ⟨S1024x512, .f32⟩
  | .local _ .vmem, ⟨5, _⟩ => ⟨S1024x512, .f32⟩
  | .local _ .vmem, ⟨6, _⟩ => ⟨S512x512, .bf16⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S6144x512 : Shape := ⟨2, ![6144, 512]⟩
abbrev S1x2x480x4096 : Shape := ⟨4, ![1, 2, 480, 4096]⟩
abbrev S6144x480 : Shape := ⟨2, ![6144, 480]⟩
abbrev S1x1x480x4096 : Shape := ⟨4, ![1, 1, 480, 4096]⟩
abbrev S480x4096 : Shape := ⟨2, ![480, 4096]⟩
abbrev S6144x4096 : Shape := ⟨2, ![6144, 4096]⟩

abbrev nBuf : Space → Nat
  | .hbm => 6
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S1x2x480x4096, .f32⟩
  | .hbm, ⟨2, _⟩ => ⟨S6144x480, .f32⟩
  | .hbm, ⟨3, _⟩ => ⟨S1x1x480x4096, .f32⟩
  | .hbm, ⟨4, _⟩ => ⟨S480x4096, .f32⟩
  | .hbm, ⟨5, _⟩ => ⟨S6144x4096, .f32⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S6144x128 : Shape := ⟨2, ![6144, 128]⟩
abbrev S1x2x128x4096 : Shape := ⟨4, ![1, 2, 128, 4096]⟩
abbrev S1x2x4096 : Shape := ⟨3, ![1, 2, 4096]⟩
abbrev S2x128x4096 : Shape := ⟨3, ![2, 128, 4096]⟩
abbrev S1x1x4096 : Shape := ⟨3, ![1, 1, 4096]⟩
abbrev S4096 : Shape := ⟨1, ![4096]⟩
abbrev S1x4096 : Shape := ⟨2, ![1, 4096]⟩
abbrev S6144x4096 : Shape := ⟨2, ![6144, 4096]⟩
abbrev S1024x128 : Shape := ⟨2, ![1024, 128]⟩
abbrev S1x128x512 : Shape := ⟨3, ![1, 128, 512]⟩
abbrev S1x512 : Shape := ⟨2, ![1, 512]⟩
abbrev S1024x512 : Shape := ⟨2, ![1024, 512]⟩
abbrev S128x512 : Shape := ⟨2, ![128, 512]⟩

abbrev nBuf : Space → Nat
  | .hbm => 9
  | .vmem => 9
  | .smem => 0
  | _ => 0

abbrev bufTy : (tb : Table) → Fin (tcTables nBuf tb) → BufTy
  | .hbm, ⟨0, _⟩ => ⟨S6144x128, .f32⟩
  | .hbm, ⟨1, _⟩ => ⟨S1x2x128x4096, .f32⟩
  | .hbm, ⟨2, _⟩ => ⟨S1x2x4096, .f32⟩
  | .hbm, ⟨3, _⟩ => ⟨S6144x128, .bf16⟩
  | .hbm, ⟨4, _⟩ => ⟨S2x128x4096, .f32⟩
  | .hbm, ⟨5, _⟩ => ⟨S1x1x4096, .f32⟩
  | .hbm, ⟨6, _⟩ => ⟨S4096, .f32⟩
  | .hbm, ⟨7, _⟩ => ⟨S1x4096, .f32⟩
  | .hbm, ⟨8, _⟩ => ⟨S6144x4096, .f32⟩
  | .local _ .vmem, ⟨0, _⟩ => ⟨S1024x128, .bf16⟩
  | .local _ .vmem, ⟨1, _⟩ => ⟨S1024x128, .bf16⟩
  | .local _ .vmem, ⟨2, _⟩ => ⟨S1x128x512, .f32⟩
  | .local _ .vmem, ⟨3, _⟩ => ⟨S1x128x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S128x512, .bf16⟩
  | _, _ => ⟨S6144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S6144x128 : Shape := ⟨2, ![6144, 128]⟩
abbrev S1x2x128x4096 : Shape := ⟨4, ![1, 2, 128, 4096]⟩
abbrev S1x2x4096 : Shape := ⟨3, ![1, 2, 4096]⟩
abbrev S1x1x4096 : Shape := ⟨3, ![1, 1, 4096]⟩
abbrev S4096 : Shape := ⟨1, ![4096]⟩
abbrev S1x1x128x4096 : Shape := ⟨4, ![1, 1, 128, 4096]⟩
abbrev S128x4096 : Shape := ⟨2, ![128, 4096]⟩
abbrev S6144x4096 : Shape := ⟨2, ![6144, 4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S6144x128, .f32⟩
  | .hbm, ⟨1, _⟩ => ⟨S1x2x128x4096, .f32⟩
  | .hbm, ⟨2, _⟩ => ⟨S1x2x4096, .f32⟩
  | .hbm, ⟨3, _⟩ => ⟨S1x1x4096, .f32⟩
  | .hbm, ⟨4, _⟩ => ⟨S4096, .f32⟩
  | .hbm, ⟨5, _⟩ => ⟨S1x1x128x4096, .f32⟩
  | .hbm, ⟨6, _⟩ => ⟨S128x4096, .f32⟩
  | .hbm, ⟨7, _⟩ => ⟨S6144x4096, .f32⟩
  | .hbm, ⟨8, _⟩ => ⟨S1x4096, .f32⟩
  | .hbm, ⟨9, _⟩ => ⟨S6144x4096, .f32⟩
  | .hbm, ⟨10, _⟩ => ⟨S6144x4096, .f32⟩
  | _, _ => ⟨S6144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S6144x4096 : Shape := ⟨2, ![6144, 4096]⟩
abbrev S1x2x4096x128 : Shape := ⟨4, ![1, 2, 4096, 128]⟩
abbrev S1x1x4096x128 : Shape := ⟨4, ![1, 1, 4096, 128]⟩
abbrev S4096x128 : Shape := ⟨2, ![4096, 128]⟩
abbrev S4096x256 : Shape := ⟨2, ![4096, 256]⟩
abbrev S1x4096x256 : Shape := ⟨3, ![1, 4096, 256]⟩
abbrev S6144x256 : Shape := ⟨2, ![6144, 256]⟩
abbrev S1024x4096 : Shape := ⟨2, ![1024, 4096]⟩
abbrev S1024x256 : Shape := ⟨2, ![1024, 256]⟩

abbrev nBuf : Space → Nat
  | .hbm => 10
  | .vmem => 6
  | .smem => 0
  | _ => 0

abbrev bufTy : (tb : Table) → Fin (tcTables nBuf tb) → BufTy
  | .hbm, ⟨0, _⟩ => ⟨S6144x4096, .f32⟩
  | .hbm, ⟨1, _⟩ => ⟨S1x2x4096x128, .f32⟩
  | .hbm, ⟨2, _⟩ => ⟨S6144x4096, .bf16⟩
  | .hbm, ⟨3, _⟩ => ⟨S1x1x4096x128, .f32⟩
  | .hbm, ⟨4, _⟩ => ⟨S4096x128, .f32⟩
  | .hbm, ⟨5, _⟩ => ⟨S1x1x4096x128, .f32⟩
  | .hbm, ⟨6, _⟩ => ⟨S4096x128, .f32⟩
  | .hbm, ⟨7, _⟩ => ⟨S4096x256, .f32⟩
  | .hbm, ⟨8, _⟩ => ⟨S1x4096x256, .f32⟩
  | .hbm, ⟨9, _⟩ => ⟨S6144x256, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1024x256, .bf16⟩
  | .local _ .vmem, ⟨4, _⟩ => ⟨S1024x256, .bf16⟩
  | .local _ .vmem, ⟨5, _⟩ => ⟨S4096x256, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S6144x4096 : Shape := ⟨2, ![6144, 4096]⟩
abbrev S1x2x4096x128 : Shape := ⟨4, ![1, 2, 4096, 128]⟩
abbrev S1x1x4096x128 : Shape := ⟨4, ![1, 1, 4096, 128]⟩
abbrev S4096x128 : Shape := ⟨2, ![4096, 128]⟩
abbrev S6144x128 : Shape := ⟨2, ![6144, 128]⟩
abbrev S6144x256 : Shape := ⟨2, ![6144, 256]⟩

abbrev nBuf : Space → Nat
  | .hbm => 12
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x2x4096x128, .f32⟩
  | .hbm, ⟨2, _⟩ => ⟨S1x1x4096x128, .f32⟩
  | .hbm, ⟨3, _⟩ => ⟨S4096x128, .f32⟩
  | .hbm, ⟨4, _⟩ => ⟨S6144x128, .f32⟩
  | .hbm, ⟨5, _⟩ => ⟨S6144x128, .f32⟩
  | .hbm, ⟨6, _⟩ => ⟨S1x1x4096x128, .f32⟩
  | .hbm, ⟨7, _⟩ => ⟨S4096x128, .f32⟩
  | .hbm, ⟨8, _⟩ => ⟨S6144x128, .f32⟩
  | .hbm, ⟨9, _⟩ => ⟨S6144x128, .f32⟩
  | .hbm, ⟨10, _⟩ => ⟨S6144x256, .f32⟩
  | .hbm, ⟨11, _⟩ => ⟨S6144x256, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel13.lean ====
abbrev S6144x4096 : Shape := ⟨2, ![6144, 4096]⟩
abbrev S1x2x4096x128 : Shape := ⟨4, ![1, 2, 4096, 128]⟩
abbrev S1x1x4096x128 : Shape := ⟨4, ![1, 1, 4096, 128]⟩
abbrev S4096x128 : Shape := ⟨2, ![4096, 128]⟩
abbrev S4096x256 : Shape := ⟨2, ![4096, 256]⟩
abbrev S1x4096x256 : Shape := ⟨3, ![1, 4096, 256]⟩
abbrev S6144x256 : Shape := ⟨2, ![6144, 256]⟩
abbrev S1024x4096 : Shape := ⟨2, ![1024, 4096]⟩
abbrev S1024x256 : Shape := ⟨2, ![1024, 256]⟩

abbrev nBuf : Space → Nat
  | .hbm => 10
  | .vmem => 6
  | .smem => 0
  | _ => 0

abbrev bufTy : (tb : Table) → Fin (tcTables nBuf tb) → BufTy
  | .hbm, ⟨0, _⟩ => ⟨S6144x4096, .f32⟩
  | .hbm, ⟨1, _⟩ => ⟨S1x2x4096x128, .f32⟩
  | .hbm, ⟨2, _⟩ => ⟨S6144x4096, .bf16⟩
  | .hbm, ⟨3, _⟩ => ⟨S1x1x4096x128, .f32⟩
  | .hbm, ⟨4, _⟩ => ⟨S4096x128, .f32⟩
  | .hbm, ⟨5, _⟩ => ⟨S1x1x4096x128, .f32⟩
  | .hbm, ⟨6, _⟩ => ⟨S4096x128, .f32⟩
  | .hbm, ⟨7, _⟩ => ⟨S4096x256, .f32⟩
  | .hbm, ⟨8, _⟩ => ⟨S1x4096x256, .f32⟩
  | .hbm, ⟨9, _⟩ => ⟨S6144x256, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1024x256, .bf16⟩
  | .local _ .vmem, ⟨4, _⟩ => ⟨S1024x256, .bf16⟩
  | .local _ .vmem, ⟨5, _⟩ => ⟨S4096x256, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S6144x4096 : Shape := ⟨2, ![6144, 4096]⟩
abbrev S1x2x4096x128 : Shape := ⟨4, ![1, 2, 4096, 128]⟩
abbrev S1x1x4096x128 : Shape := ⟨4, ![1, 1, 4096, 128]⟩
abbrev S4096x128 : Shape := ⟨2, ![4096, 128]⟩
abbrev S6144x128 : Shape := ⟨2, ![6144, 128]⟩
abbrev S6144x256 : Shape := ⟨2, ![6144, 256]⟩

abbrev nBuf : Space → Nat
  | .hbm => 10
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S1x2x4096x128, .f32⟩
  | .hbm, ⟨2, _⟩ => ⟨S1x1x4096x128, .f32⟩
  | .hbm, ⟨3, _⟩ => ⟨S4096x128, .f32⟩
  | .hbm, ⟨4, _⟩ => ⟨S6144x128, .f32⟩
  | .hbm, ⟨5, _⟩ => ⟨S1x1x4096x128, .f32⟩
  | .hbm, ⟨6, _⟩ => ⟨S4096x128, .f32⟩
  | .hbm, ⟨7, _⟩ => ⟨S6144x128, .f32⟩
  | .hbm, ⟨8, _⟩ => ⟨S6144x256, .f32⟩
  | .hbm, ⟨9, _⟩ => ⟨S6144x256, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.Softmax.lean ====
/-
  Extended-real algebra of an attention head: RMS normalisation, scaled scores, and the softmax-weighted average of the
  values, once with the division after the sum over the keys and once with the weights divided before it. Nothing here
  names a program.
-/
module

public import Idealize.ShloMosaic.Lib.Pointwise

@[expose] public section

noncomputable section

namespace Cert.Attn

open Idealize.ShloMosaic

/-- The literals both programs print: the head's width, the normalisation's offset, the scores' scale, and the start of a
    maximum. -/
abbrev width : EReal := Ideal.ofBits .f32 0x43000000#32
abbrev offset : EReal := Ideal.ofBits .f32 0x358637BD#32
abbrev scale : EReal := Ideal.ofBits .f32 0x3DB504F3#32
abbrev low : EReal := Ideal.ofBits .f32 0xFF800000#32

theorem width_eq : width = ((128 : ℝ) : EReal) := by
  simp [width, Ideal.ofBits, Ideal.ieee, -EReal.coe_mul]; norm_num

theorem offset_eq : ∃ r : ℝ, 0 < r ∧ offset = (r : EReal) := by
  refine ⟨_, ?_, by simp [offset, Ideal.ofBits, Ideal.ieee, -EReal.coe_mul]; rfl⟩
  positivity

theorem scale_eq : ∃ r : ℝ, scale = (r : EReal) := by
  exact ⟨_, by simp [scale, Ideal.ofBits, Ideal.ieee, -EReal.coe_mul]; rfl⟩

theorem low_eq : low = ⊥ := by simp [low, Ideal.ofBits, Ideal.ieee]

/-! ### Real values -/

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.neg {x : EReal} : IsReal x → IsReal (-x) := by
  rintro ⟨a, rfl⟩; exact ⟨-a, (EReal.coe_neg a).symm⟩

theorem IsReal.sub {x y : EReal} : IsReal x → IsReal y → IsReal (x - y) := by
  rintro ⟨a, rfl⟩ ⟨b, rfl⟩; exact ⟨a - b, (EReal.coe_sub a b).symm⟩

theorem isReal_zero : IsReal 0 := ⟨0, rfl⟩

theorem IsReal.sum {ι : Type} (s : Finset ι) {f : ι → EReal} (h : ∀ j, IsReal (f j)) : IsReal (∑ j ∈ s, f j) := by
  classical
  induction s using Finset.induction_on with
  | empty => simpa using isReal_zero
  | insert a s ha ih => rw [Finset.sum_insert ha]; exact (h a).add ih

theorem isReal_of_ne {x : EReal} (hb : x ≠ ⊥) (ht : x ≠ ⊤) : IsReal x := ⟨x.toReal, (EReal.coe_toReal ht hb).symm⟩

theorem mul_self_nonneg' (x : EReal) : 0 ≤ x * x := by
  induction x with
  | bot => simp
  | top => simp
  | coe r => rw [← EReal.coe_mul]; exact_mod_cast mul_self_nonneg r

theorem isReal_of_sq_ne_top {x : EReal} (h : x * x ≠ ⊤) : IsReal x := by
  induction x with
  | bot => simp at h
  | top => simp at h
  | coe r => exact ⟨r, rfl⟩

/-! ### Normalisation -/

/-- Entry `d` of the row `x` normalised by its root mean square and scaled by the gain `g`. -/
def normed (x g : Fin 128 → EReal) (d : Fin 128) : EReal :=
  x d * Ideal.rsqrt (Ideal.div (∑ k, x k * x k) width + offset) * g d

/-- A row over its root mean square is real whatever the row holds: a row with an infinite entry has an infinite mean
    square, whose reciprocal root is zero. -/
theorem isReal_unit (x : Fin 128 → EReal) (d : Fin 128) :
    IsReal (x d * Ideal.rsqrt (Ideal.div (∑ k, x k * x k) width + offset)) := by
  obtain ⟨e, he, hoff⟩ := offset_eq
  have hdiv : ∀ y : EReal, Ideal.div y width = y * ((1 / 128 : ℝ) : EReal) := fun y => by
    rw [width_eq]; exact Ideal.div_coe (by norm_num) y
  rw [hdiv, hoff]
  by_cases hS : (∑ k, x k * x k) = ⊤
  · have : ((⊤ : EReal) * ((1 / 128 : ℝ) : EReal) + (e : EReal)) = ⊤ := by
      rw [EReal.top_mul_coe_of_pos (by norm_num)]; exact EReal.top_add_coe e
    rw [hS, this, Ideal.rsqrt_top, mul_zero]
    exact isReal_zero
  · have hle : x d * x d ≤ ∑ k, x k * x k :=
      Finset.single_le_sum (f := fun k => x k * x k) (fun k _ => mul_self_nonneg' (x k)) (Finset.mem_univ d)
    have hd : IsReal (x d) := isReal_of_sq_ne_top fun h => hS (top_le_iff.mp (h ▸ hle))
    have h0 : 0 ≤ ∑ k, x k * x k := Finset.sum_nonneg fun k _ => mul_self_nonneg' (x k)
    obtain ⟨r, hr⟩ := isReal_of_ne (fun h => by rw [h] at h0; simp at h0) hS
    rw [hr] at h0 ⊢
    have hr0 : 0 ≤ r := by exact_mod_cast h0
    refine hd.mul ?_
    rw [← EReal.coe_mul, ← EReal.coe_add, Ideal.rsqrt_coe]
    have hpos : 0 < r * (1 / 128) + e := by positivity
    rw [if_neg hpos.le.not_gt, if_neg hpos.ne']
    exact ⟨_, rfl⟩

theorem isReal_normed (x g : Fin 128 → EReal) (hg : ∀ d, IsReal (g d)) (d : Fin 128) : IsReal (normed x g d) :=
  (isReal_unit x d).mul (hg d)

/-! ### Softmax -/

/-- The scaled product of a query and a key. -/
def score (q k : Fin 128 → EReal) : EReal := (∑ d, q d * k d) * scale

theorem isReal_score {q k : Fin 128 → EReal} (hq : ∀ d, IsReal (q d)) (hk : ∀ d, IsReal (k d)) : IsReal (score q k) :=
  (IsReal.sum _ fun d => (hq d).mul (hk d)).mul scale_eq

variable {ι : Type} [Fintype ι]

/-- The greatest score. -/
def top (s : ι → EReal) : EReal := Finset.univ.fold max low s

/-- A key's unnormalised weight. -/
def weight (s : ι → EReal) (j : ι) : EReal := Ideal.exp (s j - top s)

/-- The sum of the weights. -/
def total (s : ι → EReal) : EReal := ∑ j, weight s j

/-- The weighted average of the values, divided after the sum. -/
def attend (s v : ι → EReal) : EReal := Ideal.div (∑ j, weight s j * v j) (total s)

theorem le_top (s : ι → EReal) (j : ι) : s j ≤ top s := (Finset.le_fold_max _).mpr (Or.inr ⟨j, Finset.mem_univ j, le_rfl⟩)

theorem top_mem [Nonempty ι] (s : ι → EReal) : ∃ j, top s = s j := by
  obtain ⟨j, -, hj⟩ := Finset.exists_max_image Finset.univ s Finset.univ_nonempty
  refine ⟨j, le_antisymm ((Finset.fold_max_le _).mpr ⟨?_, fun i hi => hj i hi⟩) (le_top s j)⟩
  rw [low_eq]; exact bot_le

theorem max_low_top (s : ι → EReal) : max low (top s) = top s := by rw [low_eq]; exact max_eq_right bot_le

/-- For real scores the sum of the weights is a positive real. -/
theorem total_pos [Nonempty ι] (s : ι → EReal) (hs : ∀ j, IsReal (s j)) : ∃ r : ℝ, 0 < r ∧ total s = (r : EReal) := by
  obtain ⟨j0, h0⟩ := top_mem s
  choose t ht using hs
  have hw : ∀ j, weight s j = ((Real.exp (t j - t j0) : ℝ) : EReal) := fun j => by
    unfold weight; rw [h0, ht j, ht j0, ← EReal.coe_sub, Ideal.exp_coe]
  refine ⟨∑ j, Real.exp (t j - t j0), Finset.sum_pos (fun j _ => Real.exp_pos _) Finset.univ_nonempty, ?_⟩
  unfold total
  simp only [hw]
  exact (map_sum (⟨⟨fun r : ℝ => (r : EReal), EReal.coe_zero⟩, EReal.coe_add⟩ : ℝ →+ EReal) _ _).symm

theorem sum_mul_coe {κ : Type} (s : Finset κ) (f : κ → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- DIVIDING AFTER THE SUM IS AVERAGING BY THE NORMALISED WEIGHTS, for real scores and values of any kind. -/
theorem attend_eq [Nonempty ι] (s v : ι → EReal) (hs : ∀ j, IsReal (s j)) :
    attend s v = ∑ j, v j * Ideal.div (weight s j) (total s) := by
  obtain ⟨r, hr, ht⟩ := total_pos s hs
  unfold attend
  rw [ht, Ideal.div_coe hr.ne', sum_mul_coe _ _ (by positivity)]
  refine Finset.sum_congr rfl fun j _ => ?_
  rw [Ideal.div_coe hr.ne', mul_comm (v j), mul_assoc, mul_assoc, mul_comm (v j)]

/-- A query's attention over keys and values, queries and keys normalised first. -/
def attnAt (q : Fin 128 → EReal) (k : ι → Fin 128 → EReal) (v : ι → EReal) (a b : Fin 128 → EReal) : EReal :=
  attend (fun j => score (normed q a) (normed (k j) b)) v

/-! ### Reading a matrix at natural coordinates -/

/-- Entry (`r`, `c`) of a matrix. -/
def rd {n m : ℕ} [NeZero n] [NeZero m] {α : Type} (X : (⟨2, ![n, m]⟩ : Shape).Idx → α) (r c : ℕ) : α :=
  X (ix2 (Fin.ofNat n r) (Fin.ofNat m c))

theorem rd_of {n m : ℕ} [NeZero n] [NeZero m] {α : Type} (X : (⟨2, ![n, m]⟩ : Shape).Idx → α)
    (i : (⟨2, ![n, m]⟩ : Shape).Idx) {r c : ℕ} (h0 : (i 0).val = r) (h1 : (i 1).val = c) : X i = rd X r c := by
  subst h0 h1
  refine congrArg X (funext fun a => Fin.ext ?_)
  match a with
  | ⟨0, _⟩ => exact (Nat.mod_eq_of_lt (i 0).isLt).symm
  | ⟨1, _⟩ => exact (Nat.mod_eq_of_lt (i 1).isLt).symm

/-- A block of a matrix, read at coordinates inside the block. -/
theorem rd_block {n m N M : ℕ} [NeZero n] [NeZero m] [NeZero N] [NeZero M] {α : Type} (B : (⟨2, ![n, m]⟩ : Shape).Idx → α)
    (X : (⟨2, ![N, M]⟩ : Shape).Idx → α) (R C : ℕ) (h : ∀ y, B y = rd X (R + (y 0).val) (C + (y 1).val)) {r c r' c' : ℕ}
    (hr : r < n) (hc : c < m) (hr' : R + r = r') (hc' : C + c = c') : rd B r c = rd X r' c' := by
  subst hr' hc'
  refine (h _).trans ?_
  show rd X (R + r % n) (C + c % m) = _
  rw [Nat.mod_eq_of_lt hr, Nat.mod_eq_of_lt hc]

end Cert.Attn
-- ==== Proof.Head.lean ====
/-
  The kernel body's stored vectors read at an index: the normalised keys, and each query head's attention.
-/
module

public import proofs.«01_k».proof.Proof.Gen.KernelIdeal.Frame
public import proofs.«01_k».proof.Proof.Softmax

@[expose] public section

noncomputable section

namespace Cert.Attn

open Idealize.ShloMosaic Cert.KernelIdeal Cert.KernelIdeal.Gen

/-- Row `r` of a block, and the one row of a gain. -/
def row (x : Vec Ideal S256x128 .f32) (r : Fin 256) : Fin 128 → EReal := fun d => x (ix2 r d)
def gain (g : Vec Ideal S1x128 .f32) : Fin 128 → EReal := fun d => g (ix2 0 d)

/-- One query head's attention at query `r` and column `d`: queries `q`, keys `k`, values `v`, gains `a` and `b`. -/
def headAt (q k v : Vec Ideal S256x128 .f32) (a b : Vec Ideal S1x128 .f32) (r : Fin 256) (d : Fin 128) : EReal :=
  attnAt (row q r) (row k) (fun j => v (ix2 j d)) (gain a) (gain b)

theorem keys_at (k : Vec Ideal S256x128 .f32) (b : Vec Ideal S1x128 .f32) (r : Fin 256) (d : Fin 128) :
    k0_pay2 k b (ix2 r d) = normed (row k r) (gain b) d := by
  pointwise [k0_pay2]
  rfl

theorem head0 (q k v : Vec Ideal S256x128 .f32) (a b : Vec Ideal S1x128 .f32) (r : Fin 256) (d : Fin 128) :
    k0_pay6 (k0_pay3 k b) (k0_pay4 v) (k0_pay5 q a) (ix2 r d) = headAt q k v a b r d := by
  pointwise [k0_pay6, k0_pay3, k0_pay2, k0_pay4, k0_pay5]
  rfl

theorem head1 (q k v : Vec Ideal S256x128 .f32) (a b : Vec Ideal S1x128 .f32) (r : Fin 256) (d : Fin 128) :
    k0_pay9 (k0_pay4 v) (k0_pay7 (k0_pay3 k b) q a) (k0_pay8 (k0_pay3 k b) q a) (ix2 r d) = headAt q k v a b r d := by
  pointwise [k0_pay9, k0_pay3, k0_pay2, k0_pay4, k0_pay7, k0_pay8]
  rfl

theorem head2 (q k v : Vec Ideal S256x128 .f32) (a b : Vec Ideal S1x128 .f32) (r : Fin 256) (d : Fin 128) :
    k0_pay10 (k0_pay3 k b) (k0_pay4 v) q a (ix2 r d) = headAt q k v a b r d := by
  pointwise [k0_pay10, k0_pay3, k0_pay2, k0_pay4]
  rfl

theorem head3 (q k v : Vec Ideal S256x128 .f32) (a b : Vec Ideal S1x128 .f32) (r : Fin 256) (d : Fin 128) :
    k0_pay1 (k0_pay3 k b) (k0_pay4 v) q a (ix2 r d) = headAt q k v a b r d := by
  pointwise [k0_pay1, k0_pay3, k0_pay2, k0_pay4]
  rfl

/-! ### Blocks -/

/-- The attention block at an index: the query head is the column over the head's width. -/
def block5 (x0 : Vec Ideal S256x512 .f32) (x1 x2 : Vec Ideal S256x128 .f32) (x3 x4 : Vec Ideal S1x128 .f32) :
    Vec Ideal S256x512 .bf16 := fun y =>
  attnAt (fun e => rd x0 (y 0).val ((y 1).val / 128 * 128 + e.val)) (fun (j : Fin 256) e => rd x1 j.val e.val)
    (fun j => rd x2 j.val ((y 1).val % 128)) (fun e => rd x3 0 e.val) (fun e => rd x4 0 e.val)

theorem headAt_eq_block5 (x0 : Vec Ideal S256x512 .f32) (x1 x2 : Vec Ideal S256x128 .f32) (x3 x4 : Vec Ideal S1x128 .f32)
    (q : Vec Ideal S256x128 .f32) (h : ℕ) (r : Fin 256) (d : Fin 128) (y : S256x512.Idx)
    (hy0 : (y 0).val = r.val) (hy1 : (y 1).val = h * 128 + d.val)
    (hq : ∀ e : Fin 128, q (ix2 r e) = rd x0 r.val (h * 128 + e.val)) :
    headAt q x1 x2 x3 x4 r d = block5 x0 x1 x2 x3 x4 y := by
  have hd := d.isLt
  have e1 : (y 1).val / 128 = h := by omega
  have e2 : (y 1).val % 128 = d.val := by omega
  unfold headAt block5
  rw [hy0, e1, e2]
  congr 1
  · funext e; exact hq e
  · funext j e; exact rd_of _ _ rfl rfl
  · funext j; exact rd_of _ _ rfl rfl
  · funext e; exact rd_of _ _ rfl rfl
  · funext e; exact rd_of _ _ rfl rfl

theorem out5_at (x0 : Vec Ideal S256x512 .f32) (x1 x2 : Vec Ideal S256x128 .f32) (x3 x4 : Vec Ideal S1x128 .f32)
    (y : S256x512.Idx) : out0_5 x0 x1 x2 x3 x4 y = block5 x0 x1 x2 x3 x4 y := by
  have hz : (![0, 0] : Fin 2 → Nat) = fun _ => 0 := funext fun a => by fin_cases a <;> rfl
  unfold_out out0_5
  rw [show View.ld x1 r0_0 = x1 from View.ld_unit_zero hz _ _, show View.ld x2 r0_0 = x2 from View.ld_unit_zero hz _ _,
    show View.ld x3 r0_1 = x3 from View.ld_unit_zero hz _ _, show View.ld x4 r0_1 = x4 from View.ld_unit_zero hz _ _]
  refine View.canon_apply_of_pieces (block5 x0 x1 x2 x3 x4) _ ?_ y (cover0_5 _ _ _ _ y)
  intro pc hpc
  simp only [List.mem_cons, List.mem_nil_iff, or_false] at hpc
  rcases hpc with rfl | rfl | rfl | rfl <;> intro x <;>
    obtain ⟨r, d, rfl⟩ : ∃ (r : Fin 256) (d : Fin 128), x = ix2 r d := ⟨x 0, x 1, (ix2_eta x).symm⟩
  · refine (head3 _ _ _ _ _ r d).trans (headAt_eq_block5 x0 x1 x2 x3 x4 _ 3 r d _ ?_ ?_ fun e => rd_of x0 (r0_5.emb (ix2 r e)) ?_ ?_) <;>
      rw [Rect.emb_apply] <;> simp
  · refine (head2 _ _ _ _ _ r d).trans (headAt_eq_block5 x0 x1 x2 x3 x4 _ 2 r d _ ?_ ?_ fun e => rd_of x0 (r0_4.emb (ix2 r e)) ?_ ?_) <;>
      rw [Rect.emb_apply] <;> simp
  · refine (head1 _ _ _ _ _ r d).trans (headAt_eq_block5 x0 x1 x2 x3 x4 _ 1 r d _ ?_ ?_ fun e => rd_of x0 (r0_3.emb (ix2 r e)) ?_ ?_) <;>
      rw [Rect.emb_apply] <;> simp
  · refine (head0 _ _ _ _ _ r d).trans (headAt_eq_block5 x0 x1 x2 x3 x4 _ 0 r d _ ?_ ?_ fun e => rd_of x0 (r0_2.emb (ix2 r e)) ?_ ?_) <;>
      rw [Rect.emb_apply] <;> simp

theorem out6_at (x0 : Vec Ideal S256x512 .f32) (x1 x2 : Vec Ideal S256x128 .f32) (x3 x4 : Vec Ideal S1x128 .f32)
    (y : S256x128.Idx) :
    out0_6 x0 x1 x2 x3 x4 y = normed (fun e => rd x1 (y 0).val e.val) (fun e => rd x4 0 e.val) (y 1) := by
  have hz : (![0, 0] : Fin 2 → Nat) = fun _ => 0 := funext fun a => by fin_cases a <;> rfl
  unfold_out out0_6
  rw [View.canon_unit_zero hz, show View.ld x1 r0_0 = x1 from View.ld_unit_zero hz _ _,
    show View.ld x4 r0_1 = x4 from View.ld_unit_zero hz _ _]
  obtain ⟨r, d, rfl⟩ : ∃ (r : Fin 256) (d : Fin 128), y = ix2 r d := ⟨y 0, y 1, (ix2_eta y).symm⟩
  refine (keys_at _ _ r d).trans ?_
  have e1 : row x1 r = fun e : Fin 128 => rd x1 r.val e.val := funext fun e => rd_of _ _ rfl rfl
  have e2 : gain x4 = fun e : Fin 128 => rd x4 0 e.val := funext fun e => rd_of _ _ rfl rfl
  rw [e1, e2]; rfl

theorem out7_at (x0 : Vec Ideal S256x512 .f32) (x1 x2 : Vec Ideal S256x128 .f32) (x3 x4 : Vec Ideal S1x128 .f32) :
    out0_7 x0 x1 x2 x3 x4 = x2 := by
  have hz : (![0, 0] : Fin 2 → Nat) = fun _ => 0 := funext fun a => by fin_cases a <;> rfl
  unfold_out out0_7
  rw [View.canon_unit_zero hz]
  exact View.ld_unit_zero hz _ _

end Cert.Attn
-- ==== Proof.Array.lean ====
/-
  The kernel's three result arrays after its run, each as one function of the argument arrays.
-/
module

public import proofs.«01_k».proof.Proof.Gen.KernelIdeal.Value
public import proofs.«01_k».proof.Proof.Head

@[expose] public section

noncomputable section

namespace Cert.Attn

open Idealize.ShloMosaic Idealize.ShloMosaic.TcCoe Idealize.SL Idealize.SL.Sem
open Idealize.ShloMosaic.Pipeline (Dat)
open Cert.KernelIdeal Cert.KernelIdeal.Gen

/-- The attention array: row `256 b + r`, query head `h`, column `d`; head `h` reads key and value head `h / 4` of
    sequence `b`. -/
def ctxOut (X : S6144x6144.Idx → EReal) (a b : S1x128.Idx → EReal) (i : S4096x4096.Idx) : EReal :=
  attnAt (fun e => rd X (i 0).val ((i 1).val / 128 * 128 + e.val))
    (fun (j : Fin 256) e => rd X ((i 0).val / 256 * 256 + j.val) (4096 + (i 1).val / 512 * 128 + e.val))
    (fun j => rd X ((i 0).val / 256 * 256 + j.val) (5120 + (i 1).val / 512 * 128 + (i 1).val % 128))
    (fun e => rd a 0 e.val) (fun e => rd b 0 e.val)

/-- The key cache: each key head's row normalised. -/
def keyOut (X : S6144x6144.Idx → EReal) (b : S1x128.Idx → EReal) (i : S4096x1024.Idx) : EReal :=
  normed (fun e => rd X (i 0).val (4096 + (i 1).val / 128 * 128 + e.val)) (fun e => rd b 0 e.val)
    ⟨(i 1).val % 128, Nat.mod_lt _ (by decide)⟩

/-- The value cache: the values as they come. -/
def valueOut (X : S6144x6144.Idx → EReal) (i : S4096x1024.Idx) : EReal := rd X (i 0).val (5120 + (i 1).val)

variable (m : (ℓ : Loc nD τ sig) → Buf (Elt Ideal) ℓ)

theorem V_v2 (c : Dev nD) : V m c main_v2 = m ((c : Thread nD τ).loc main_arg1) := by
  unfold_abbrev_sides
  after_results
  funext i
  pointwise []
  exact congrArg (m ((c : Thread nD τ).loc main_arg1)) (show (ix2 0 (i 1) : S1x128.Idx) = i from funext fun a => match a with
    | ⟨0, _⟩ => (Subsingleton.elim (α := Fin 1) _ _)
    | ⟨1, _⟩ => rfl)

theorem V_v3 (c : Dev nD) : V m c main_v3 = m ((c : Thread nD τ).loc main_arg2) := by
  unfold_abbrev_sides
  after_results
  funext i
  pointwise []
  exact congrArg (m ((c : Thread nD τ).loc main_arg2)) (show (ix2 0 (i 1) : S1x128.Idx) = i from funext fun a => match a with
    | ⟨0, _⟩ => (Subsingleton.elim (α := Fin 1) _ _)
    | ⟨1, _⟩ => rfl)

/-! ### Where the windows' blocks sit -/

theorem where0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem where1 : ∀ t : Fin cfg0.N, win0_1.index t 0 = t.val / 8 ∧ win0_1.index t 1 = 32 + t.val % 8 :=
  (by decide +kernel : ∀ t : Fin grid0.N, win0_1.index t 0 = t.val / 8 ∧ win0_1.index t 1 = 32 + t.val % 8)
theorem where2 : ∀ t : Fin cfg0.N, win0_2.index t 0 = t.val / 8 ∧ win0_2.index t 1 = 40 + t.val % 8 :=
  (by decide +kernel : ∀ t : Fin grid0.N, win0_2.index t 0 = t.val / 8 ∧ win0_2.index t 1 = 40 + t.val % 8)
theorem where3 : ∀ t : Fin cfg0.N, win0_3.index t 0 = 0 ∧ win0_3.index t 1 = 0 :=
  (by decide +kernel : ∀ t : Fin grid0.N, win0_3.index t 0 = 0 ∧ win0_3.index t 1 = 0)
theorem where4 : ∀ t : Fin cfg0.N, win0_4.index t 0 = 0 ∧ win0_4.index t 1 = 0 :=
  (by decide +kernel : ∀ t : Fin grid0.N, win0_4.index t 0 = 0 ∧ win0_4.index t 1 = 0)
theorem where5 : ∀ t : Fin cfg0.N, win0_5.index t 0 = t.val / 8 ∧ win0_5.index t 1 = t.val % 8 :=
  (by decide +kernel : ∀ t : Fin grid0.N, win0_5.index t 0 = t.val / 8 ∧ win0_5.index t 1 = t.val % 8)
theorem where6 : ∀ t : Fin cfg0.N, win0_6.index t 0 = t.val / 8 ∧ win0_6.index t 1 = t.val % 8 :=
  (by decide +kernel : ∀ t : Fin grid0.N, win0_6.index t 0 = t.val / 8 ∧ win0_6.index t 1 = t.val % 8)
theorem where7 : ∀ t : Fin cfg0.N, win0_7.index t 0 = t.val / 8 ∧ win0_7.index t 1 = t.val % 8 :=
  (by decide +kernel : ∀ t : Fin grid0.N, win0_7.index t 0 = t.val / 8 ∧ win0_7.index t 1 = t.val % 8)

/-! ### The input blocks -/

theorem in0 (c : Dev nD) (t : Fin cfg0.N) (y : S256x512.Idx) :
    iblk m c 0 t y = rd (m ((c : Thread nD τ).loc main_arg0)) (t.val / 8 * 256 + (y 0).val) (t.val % 8 * 512 + (y 1).val) := by
  show V m c main_arg0 ((win0_0.rect t).emb y) = _
  rw [V_main_arg0]
  exact rd_of _ _ ((win0_0.rect_emb_val t y 0).trans (by rw [(where0 t).1]; rfl))
    ((win0_0.rect_emb_val t y 1).trans (by rw [(where0 t).2]; rfl))

theorem in1 (c : Dev nD) (t : Fin cfg0.N) (y : S256x128.Idx) :
    iblk m c 1 t y = rd (m ((c : Thread nD τ).loc main_arg0)) (t.val / 8 * 256 + (y 0).val) ((32 + t.val % 8) * 128 + (y 1).val) := by
  show V m c main_arg0 ((win0_1.rect t).emb y) = _
  rw [V_main_arg0]
  exact rd_of _ _ ((win0_1.rect_emb_val t y 0).trans (by rw [(where1 t).1]; rfl))
    ((win0_1.rect_emb_val t y 1).trans (by rw [(where1 t).2]; rfl))

theorem in2 (c : Dev nD) (t : Fin cfg0.N) (y : S256x128.Idx) :
    iblk m c 2 t y = rd (m ((c : Thread nD τ).loc main_arg0)) (t.val / 8 * 256 + (y 0).val) ((40 + t.val % 8) * 128 + (y 1).val) := by
  show V m c main_arg0 ((win0_2.rect t).emb y) = _
  rw [V_main_arg0]
  exact rd_of _ _ ((win0_2.rect_emb_val t y 0).trans (by rw [(where2 t).1]; rfl))
    ((win0_2.rect_emb_val t y 1).trans (by rw [(where2 t).2]; rfl))

theorem in3 (c : Dev nD) (t : Fin cfg0.N) (y : S1x128.Idx) :
    iblk m c 3 t y = rd (m ((c : Thread nD τ).loc main_arg1)) (y 0).val (y 1).val := by
  show V m c main_v2 ((win0_3.rect t).emb y) = _
  rw [V_v2]
  exact rd_of _ _ (win0_3.rect_emb_val_of_index_zero t 0 (where3 t).1 y) (win0_3.rect_emb_val_of_index_zero t 1 (where3 t).2 y)

theorem in4 (c : Dev nD) (t : Fin cfg0.N) (y : S1x128.Idx) :
    iblk m c 4 t y = rd (m ((c : Thread nD τ).loc main_arg2)) (y 0).val (y 1).val := by
  show V m c main_v3 ((win0_4.rect t).emb y) = _
  rw [V_v3]
  exact rd_of _ _ (win0_4.rect_emb_val_of_index_zero t 0 (where4 t).1 y) (win0_4.rect_emb_val_of_index_zero t 1 (where4 t).2 y)

/-! ### The result blocks cover their arrays -/

/-- The grid point of a row and a column block. -/
def pt (r k : ℕ) (hr : r < 16) (hk : k < 8) : Fin cfg0.N := ⟨r * 8 + k, by show r * 8 + k < 128; omega⟩

theorem mem5 (t : Fin cfg0.N) (i : S4096x4096.Idx) (h0 : (i 0).val / 256 = t.val / 8) (h1 : (i 1).val / 512 = t.val % 8) :
    i ∈ ((cfg0.win 5).blk t).view.set := by
  show i ∈ ((View.whole main_v4_0).slice (win0_5.rect t)).set
  rw [View.set_slice_whole, Rect.mem_set_unit]
  intro a
  match a with
  | ⟨0, _⟩ =>
    show win0_5.index t 0 * 256 ≤ (i 0).val ∧ (i 0).val < win0_5.index t 0 * 256 + 256
    rw [(where5 t).1]; omega
  | ⟨1, _⟩ =>
    show win0_5.index t 1 * 512 ≤ (i 1).val ∧ (i 1).val < win0_5.index t 1 * 512 + 512
    rw [(where5 t).2]; omega

theorem mem6 (t : Fin cfg0.N) (i : S4096x1024.Idx) (h0 : (i 0).val / 256 = t.val / 8) (h1 : (i 1).val / 128 = t.val % 8) :
    i ∈ ((cfg0.win 6).blk t).view.set := by
  show i ∈ ((View.whole main_v4_1).slice (win0_6.rect t)).set
  rw [View.set_slice_whole, Rect.mem_set_unit]
  intro a
  match a with
  | ⟨0, _⟩ =>
    show win0_6.index t 0 * 256 ≤ (i 0).val ∧ (i 0).val < win0_6.index t 0 * 256 + 256
    rw [(where6 t).1]; omega
  | ⟨1, _⟩ =>
    show win0_6.index t 1 * 128 ≤ (i 1).val ∧ (i 1).val < win0_6.index t 1 * 128 + 128
    rw [(where6 t).2]; omega

theorem mem7 (t : Fin cfg0.N) (i : S4096x1024.Idx) (h0 : (i 0).val / 256 = t.val / 8) (h1 : (i 1).val / 128 = t.val % 8) :
    i ∈ ((cfg0.win 7).blk t).view.set := by
  show i ∈ ((View.whole main_v4_2).slice (win0_7.rect t)).set
  rw [View.set_slice_whole, Rect.mem_set_unit]
  intro a
  match a with
  | ⟨0, _⟩ =>
    show win0_7.index t 0 * 256 ≤ (i 0).val ∧ (i 0).val < win0_7.index t 0 * 256 + 256
    rw [(where7 t).1]; omega
  | ⟨1, _⟩ =>
    show win0_7.index t 1 * 128 ≤ (i 1).val ∧ (i 1).val < win0_7.index t 1 * 128 + 128
    rw [(where7 t).2]; omega

/-! ### The arrays -/

theorem arr5 (c : Dev nD) : (dats m 0 c).arrAt 5 cfg0.N = (fun i : S4096x4096.Idx => ctxOut (m ((c : Thread nD τ).loc main_arg0))
    (m ((c : Thread nD τ).loc main_arg1)) (m ((c : Thread nD τ).loc main_arg2)) i) := by
  refine (dats m 0 c).arrAt_eq_of_cover 5 _ (fun t _ => ?_) fun i => ?_
  · rw [Value.flushed5]
    funext y
    refine (out5_at _ _ _ _ _ y).trans ?_
    have z0 := (win0_5.rect_emb_val t y 0).trans (by rw [(where5 t).1]; rfl : _ = t.val / 8 * 256 + (y 0).val)
    have z1 := (win0_5.rect_emb_val t y 1).trans (by rw [(where5 t).2]; rfl : _ = t.val % 8 * 512 + (y 1).val)
    show _ = ctxOut _ _ _ ((win0_5.rect t).emb y)
    have hy0 : (y 0).val < 256 := (y 0).isLt
    have hy1 : (y 1).val < 512 := (y 1).isLt
    have ht : t.val % 8 < 8 := Nat.mod_lt _ (by decide)
    unfold ctxOut block5
    rw [z0, z1]
    congr 1
    · funext e; exact rd_block _ _ _ _ (in0 m c t) hy0 (by omega) rfl (by omega)
    · funext j e; exact rd_block _ _ _ _ (in1 m c t) j.isLt e.isLt (by omega) (by omega)
    · funext j; exact rd_block _ _ _ _ (in2 m c t) j.isLt (by omega) (by omega) (by omega)
    · funext e; exact rd_block _ _ 0 0 (fun y => by rw [in3, Nat.zero_add, Nat.zero_add]) (by decide) e.isLt rfl (Nat.zero_add _)
    · funext e; exact rd_block _ _ 0 0 (fun y => by rw [in4, Nat.zero_add, Nat.zero_add]) (by decide) e.isLt rfl (Nat.zero_add _)
  · have h0 : (i 0).val < 4096 := (i 0).isLt
    have h1 : (i 1).val < 4096 := (i 1).isLt
    exact ⟨pt ((i 0).val / 256) ((i 1).val / 512) (by omega) (by omega), flush0_5 _, mem5 _ i (by simp only [pt]; omega) (by simp only [pt]; omega)⟩

theorem arr6 (c : Dev nD) : (dats m 0 c).arrAt 6 cfg0.N = (fun i : S4096x1024.Idx => keyOut (m ((c : Thread nD τ).loc main_arg0))
    (m ((c : Thread nD τ).loc main_arg2)) i) := by
  refine (dats m 0 c).arrAt_eq_of_cover 6 _ (fun t _ => ?_) fun i => ?_
  · rw [Value.flushed6]
    funext y
    refine (out6_at _ _ _ _ _ y).trans ?_
    have z0 := (win0_6.rect_emb_val t y 0).trans (by rw [(where6 t).1]; rfl : _ = t.val / 8 * 256 + (y 0).val)
    have z1 := (win0_6.rect_emb_val t y 1).trans (by rw [(where6 t).2]; rfl : _ = t.val % 8 * 128 + (y 1).val)
    show _ = keyOut _ _ ((win0_6.rect t).emb y)
    have hy0 : (y 0).val < 256 := (y 0).isLt
    have hy1 : (y 1).val < 128 := (y 1).isLt
    unfold keyOut
    refine congr (congr (congrArg normed ?_) ?_) (Fin.ext ?_)
    · rw [z0, z1]; funext e; exact rd_block _ _ _ _ (in1 m c t) hy0 e.isLt rfl (by omega)
    · funext e; exact rd_block _ _ 0 0 (fun y => by rw [in4, Nat.zero_add, Nat.zero_add]) (by decide) e.isLt rfl (Nat.zero_add _)
    · show (y 1).val = ((win0_6.rect t).emb y 1).val % 128
      rw [z1]; omega
  · have h0 : (i 0).val < 4096 := (i 0).isLt
    have h1 : (i 1).val < 1024 := (i 1).isLt
    exact ⟨pt ((i 0).val / 256) ((i 1).val / 128) (by omega) (by omega), flush0_6 _, mem6 _ i (by simp only [pt]; omega) (by simp only [pt]; omega)⟩

theorem arr7 (c : Dev nD) : (dats m 0 c).arrAt 7 cfg0.N = (fun i : S4096x1024.Idx => valueOut (m ((c : Thread nD τ).loc main_arg0)) i) := by
  refine (dats m 0 c).arrAt_eq_of_cover 7 _ (fun t _ => ?_) fun i => ?_
  · rw [Value.flushed7]
    funext y
    refine (congrFun (out7_at _ _ _ _ _) y).trans ?_
    have z0 := (win0_7.rect_emb_val t y 0).trans (by rw [(where7 t).1]; rfl : _ = t.val / 8 * 256 + (y 0).val)
    have z1 := (win0_7.rect_emb_val t y 1).trans (by rw [(where7 t).2]; rfl : _ = t.val % 8 * 128 + (y 1).val)
    show _ = valueOut _ ((win0_7.rect t).emb y)
    unfold valueOut
    rw [z0, z1]
    refine (in2 m c t y).trans (congrArg₂ (rd _) rfl ?_)
    omega
  · have h0 : (i 0).val < 4096 := (i 0).isLt
    have h1 : (i 1).val < 1024 := (i 1).isLt
    exact ⟨pt ((i 0).val / 256) ((i 1).val / 128) (by omega) (by omega), flush0_7 _, mem7 _ i (by simp only [pt]; omega) (by simp only [pt]; omega)⟩

end Cert.Attn
-- ==== Proof.Reference.lean ====
/-
  The reference's three results read at an index, as the same functions of the argument arrays as the kernel's.
-/
module

public import proofs.«01_k».proof.Proof.Gen.ReferenceIdeal.Read
public import proofs.«01_k».proof.Proof.Softmax

@[expose] public section

noncomputable section

namespace Cert.AttnRef

open Idealize.ShloMosaic Cert.Attn Cert.ReferenceIdeal Cert.ReferenceIdeal.Gen Cert.ReferenceIdeal.Read

variable (X : (⟨S6144x6144, .f32⟩ : BufTy).Contents (Elt Ideal)) (a b : (⟨S1x128, .f32⟩ : BufTy).Contents (Elt Ideal))

theorem q_at (n : Fin 16) (t : Fin 256) (h : Fin 32) (e : Fin 128) :
    val_main_v5 (F := Ideal) X (ix4 n t h e) = rd X (n.val * 256 + t.val) (h.val * 128 + e.val) := by
  rw [val_main_v5_apply, val_main_v2_apply, val_main_v1_apply, val_main_v0_apply]
  refine rd_of X _ ?_ ?_
  · have := n.isLt; have := t.isLt; have := h.isLt; have := e.isLt; simp only [ix4_0, ix4_1, ix4_2, ix4_3]; omega
  · have := n.isLt; have := t.isLt; have := h.isLt; have := e.isLt; simp only [ix4_0, ix4_1, ix4_2, ix4_3]; omega

theorem k_at (n : Fin 16) (t : Fin 256) (h : Fin 8) (e : Fin 128) :
    val_main_v20 (F := Ideal) X (ix4 n t h e) = rd X (n.val * 256 + t.val) (4096 + h.val * 128 + e.val) := by
  rw [val_main_v20_apply, val_main_v3_apply, val_main_v1_apply, val_main_v0_apply]
  refine rd_of X _ ?_ ?_
  · have := n.isLt; have := t.isLt; have := h.isLt; have := e.isLt; simp only [ix4_0, ix4_1, ix4_2, ix4_3]; omega
  · have := n.isLt; have := t.isLt; have := h.isLt; have := e.isLt; simp only [ix4_0, ix4_1, ix4_2, ix4_3]; omega

theorem v_at (n : Fin 16) (t : Fin 256) (h : Fin 8) (e : Fin 128) :
    val_main_v35 (F := Ideal) X (ix4 n t h e) = rd X (n.val * 256 + t.val) (5120 + h.val * 128 + e.val) := by
  rw [val_main_v35_apply, val_main_v4_apply, val_main_v1_apply, val_main_v0_apply]
  refine rd_of X _ ?_ ?_
  · have := n.isLt; have := t.isLt; have := h.isLt; have := e.isLt; simp only [ix4_0, ix4_1, ix4_2, ix4_3]; omega
  · have := n.isLt; have := t.isLt; have := h.isLt; have := e.isLt; simp only [ix4_0, ix4_1, ix4_2, ix4_3]; omega

theorem qn_at (n : Fin 16) (t : Fin 256) (h : Fin 32) (e : Fin 128) :
    val_main_v19 (F := Ideal) X a (ix4 n t h e)
      = normed (fun e => rd X (n.val * 256 + t.val) (h.val * 128 + e.val)) (fun e => rd a 0 e.val) e := by
  pointwise [val_main_v19, val_main_v18, val_main_v17, val_main_v16, val_main_v15, val_main_v14, val_main_v13, val_main_v12,
    val_main_v11, val_main_v10, val_main_v9, val_main_v8, val_main_v7, val_main_v6, val_main_cst, val_main_cst_0, val_main_cst_1]
  simp only [q_at]
  exact congrArg (_ * ·) (rd_of a _ rfl rfl)

theorem kn_at (n : Fin 16) (t : Fin 256) (h : Fin 8) (e : Fin 128) :
    val_main_v34 (F := Ideal) X b (ix4 n t h e)
      = normed (fun e => rd X (n.val * 256 + t.val) (4096 + h.val * 128 + e.val)) (fun e => rd b 0 e.val) e := by
  pointwise [val_main_v34, val_main_v33, val_main_v32, val_main_v31, val_main_v30, val_main_v29, val_main_v28, val_main_v27,
    val_main_v26, val_main_v25, val_main_v24, val_main_v23, val_main_v22, val_main_v21, val_main_cst_2, val_main_cst_3, val_main_cst_4]
  simp only [k_at]
  exact congrArg (_ * ·) (rd_of b _ rfl rfl)

/-- The scores of query `t` of head `4 h + g` in sequence `n`. -/
def scores (n : Fin 16) (h : Fin 8) (g : Fin 4) (t s : Fin 256) : EReal :=
  score (normed (fun e => rd X (n.val * 256 + t.val) ((h.val * 4 + g.val) * 128 + e.val)) (fun e => rd a 0 e.val))
    (normed (fun e => rd X (n.val * 256 + s.val) (4096 + h.val * 128 + e.val)) (fun e => rd b 0 e.val))

theorem qg_at (n : Fin 16) (t : Fin 256) (h : Fin 8) (g : Fin 4) (e : Fin 128) :
    val_main_v36 (F := Ideal) X a (ix5 n t h g e)
      = normed (fun e => rd X (n.val * 256 + t.val) ((h.val * 4 + g.val) * 128 + e.val)) (fun e => rd a 0 e.val) e := by
  have hg := g.isLt
  have hh := h.isLt
  rw [val_main_v36_apply]
  refine (congrArg (val_main_v19 (F := Ideal) X a) ?_).trans (qn_at X a n t ⟨h.val * 4 + g.val, by omega⟩ e)
  have := n.isLt
  have := t.isLt
  have := e.isLt
  funext x
  apply Fin.ext
  match x with
  | ⟨0, _⟩ => simp only [ix5_0, ix5_1, ix5_2, ix5_3, ix5_4]; show _ = n.val; omega
  | ⟨1, _⟩ => simp only [ix5_0, ix5_1, ix5_2, ix5_3, ix5_4]; show _ = t.val; omega
  | ⟨2, _⟩ => simp only [ix5_0, ix5_1, ix5_2, ix5_3, ix5_4]; show _ = h.val * 4 + g.val; omega
  | ⟨3, _⟩ => simp only [ix5_0, ix5_1, ix5_2, ix5_3, ix5_4]; show _ = e.val; omega

theorem score_at (n : Fin 16) (h : Fin 8) (g : Fin 4) (t s : Fin 256) :
    val_main_v40 (F := Ideal) X a b (ix5 n h g t s) = scores X a b n h g t s := by
  pointwise [val_main_v40, val_main_v39, val_main_v38, val_main_v37, val_main_cst_5]
  simp only [qg_at, kn_at]
  exact congrArg (· * _) (Finset.sum_congr rfl fun d _ => mul_comm _ _)

theorem top_at (n : Fin 16) (h : Fin 8) (g : Fin 4) (t : Fin 256) :
    val_main_v41 (F := Ideal) X a b (ix4 n h g t) = top (scores X a b n h g t) := by
  unfold val_main_v41
  have e : ∀ s, val_main_v40 (F := Ideal) X a b (ix5 n h g t s) = scores X a b n h g t s := score_at X a b n h g t
  generalize val_main_v40 (F := Ideal) X a b = S at e ⊢
  pointwise [val_main_cst_6]
  simp only [e]
  rfl

theorem weight_at (n : Fin 16) (h : Fin 8) (g : Fin 4) (t s : Fin 256) :
    val_main_v47 (F := Ideal) X a b (ix5 n h g t s) = weight (scores X a b n h g t) s := by
  have e := score_at X a b n h g t s
  have e' : ∀ u, val_main_v43 (F := Ideal) X a b u = max low (val_main_v41 (F := Ideal) X a b u) := fun u => by
    rw [val_main_v43_apply, val_main_v42_apply]; rfl
  have e'' := top_at X a b n h g t
  unfold val_main_v47 val_main_v46 val_main_v45 val_main_v44
  generalize val_main_v40 (F := Ideal) X a b = S at e ⊢
  generalize val_main_v43 (F := Ideal) X a b = M at e' ⊢
  generalize val_main_v41 (F := Ideal) X a b = N at e' e''
  pointwise []
  rw [e, e', e'', max_low_top]
  rfl

theorem total_at (n : Fin 16) (h : Fin 8) (g : Fin 4) (t : Fin 256) :
    val_main_v48 (F := Ideal) X a b (ix4 n h g t) = total (scores X a b n h g t) := by
  have e := weight_at X a b n h g t
  unfold val_main_v48
  generalize val_main_v47 (F := Ideal) X a b = S at e ⊢
  pointwise [val_main_cst_8]
  simp only [e]
  rfl

theorem prob_at (n : Fin 16) (h : Fin 8) (g : Fin 4) (t s : Fin 256) :
    val_main_v51 (F := Ideal) X a b (ix5 n h g t s)
      = Ideal.div (weight (scores X a b n h g t) s) (total (scores X a b n h g t)) := by
  have e := weight_at X a b n h g t s
  have e' := total_at X a b n h g t
  unfold val_main_v51 val_main_v50 val_main_v49
  generalize val_main_v47 (F := Ideal) X a b = S at e ⊢
  generalize val_main_v48 (F := Ideal) X a b = T at e' ⊢
  pointwise []
  rw [e, e']

theorem avg_at (n : Fin 16) (h : Fin 8) (g : Fin 4) (t : Fin 256) (d : Fin 128) :
    val_main_v53 (F := Ideal) X a b (ix5 n t h g d)
      = ∑ s : Fin 256, rd X (n.val * 256 + s.val) (5120 + h.val * 128 + d.val)
          * Ideal.div (weight (scores X a b n h g t) s) (total (scores X a b n h g t)) := by
  have e := prob_at X a b n h g t
  have e' := fun s => v_at X n s h d
  unfold val_main_v53 val_main_v52
  generalize val_main_v51 (F := Ideal) X a b = S at e ⊢
  generalize val_main_v35 (F := Ideal) X = T at e' ⊢
  pointwise []
  simp only [e, e']

/-- The attention result: for real gains every score is real, so the division moves out of the sum. -/
theorem attn_eq (ha : ∀ d, IsReal (rd a 0 d)) (hb : ∀ d, IsReal (rd b 0 d)) (i : S4096x4096.Idx) :
    val_main_v56 (F := Ideal) X a b i = attnAt (fun e => rd X (i 0).val ((i 1).val / 128 * 128 + e.val))
      (fun (j : Fin 256) e => rd X ((i 0).val / 256 * 256 + j.val) (4096 + (i 1).val / 512 * 128 + e.val))
      (fun j => rd X ((i 0).val / 256 * 256 + j.val) (5120 + (i 1).val / 512 * 128 + (i 1).val % 128))
      (fun e => rd a 0 e.val) (fun e => rd b 0 e.val) := by
  have h0 : (i 0).val < 4096 := (i 0).isLt
  have h1 : (i 1).val < 4096 := (i 1).isLt
  rw [val_main_v56_apply, val_main_v55_apply, val_main_v54_apply]
  show val_main_v53 (F := Ideal) X a b (idx_main_v54 (idx_main_v55 i)) = _
  have hi : idx_main_v54 (idx_main_v55 i) = ix5 (⟨(i 0).val / 256, by omega⟩ : Fin 16) (⟨(i 0).val % 256, by omega⟩ : Fin 256)
      (⟨(i 1).val / 512, by omega⟩ : Fin 8) (⟨(i 1).val / 128 % 4, by omega⟩ : Fin 4) (⟨(i 1).val % 128, by omega⟩ : Fin 128) := by
    funext x
    apply Fin.ext
    match x with
    | ⟨0, _⟩ => show _ = (i 0).val / 256; dsimp only; omega
    | ⟨1, _⟩ => show _ = (i 0).val % 256; dsimp only; omega
    | ⟨2, _⟩ => show _ = (i 1).val / 512; dsimp only; omega
    | ⟨3, _⟩ => show _ = (i 1).val / 128 % 4; dsimp only; omega
    | ⟨4, _⟩ => show _ = (i 1).val % 128; dsimp only; omega
  rw [hi, avg_at, attnAt, attend_eq _ _ fun j => isReal_score (isReal_normed _ _ fun d => ha d.val) (isReal_normed _ _ fun d => hb d.val)]
  have es : scores X a b (⟨(i 0).val / 256, by omega⟩ : Fin 16) (⟨(i 1).val / 512, by omega⟩ : Fin 8)
      (⟨(i 1).val / 128 % 4, by omega⟩ : Fin 4) (⟨(i 0).val % 256, by omega⟩ : Fin 256)
      = fun j => score (normed (fun e => rd X (i 0).val ((i 1).val / 128 * 128 + e.val)) (fun e => rd a 0 e.val))
          (normed (fun e => rd X ((i 0).val / 256 * 256 + j.val) (4096 + (i 1).val / 512 * 128 + e.val)) (fun e => rd b 0 e.val)) := by
    funext j
    unfold scores
    have c1 : (i 0).val / 256 * 256 + (i 0).val % 256 = (i 0).val := by omega
    have c2 : (i 1).val / 512 * 4 + (i 1).val / 128 % 4 = (i 1).val / 128 := by omega
    simp only [c1, c2]
  rw [es]

/-- The key cache. -/
theorem key_eq (i : S4096x1024.Idx) :
    val_main_v57 (F := Ideal) X b i = normed (fun e => rd X (i 0).val (4096 + (i 1).val / 128 * 128 + e.val)) (fun e => rd b 0 e.val)
      ⟨(i 1).val % 128, Nat.mod_lt _ (by decide)⟩ := by
  have h0 : (i 0).val < 4096 := (i 0).isLt
  have h1 : (i 1).val < 1024 := (i 1).isLt
  rw [val_main_v57_apply]
  have hi : idx_main_v57 i = ix4 (⟨(i 0).val / 256, by omega⟩ : Fin 16) (⟨(i 0).val % 256, by omega⟩ : Fin 256)
      (⟨(i 1).val / 128, by omega⟩ : Fin 8) (⟨(i 1).val % 128, by omega⟩ : Fin 128) := by
    funext x
    apply Fin.ext
    match x with
    | ⟨0, _⟩ => show _ = (i 0).val / 256; dsimp only; omega
    | ⟨1, _⟩ => show _ = (i 0).val % 256; dsimp only; omega
    | ⟨2, _⟩ => show _ = (i 1).val / 128; dsimp only; omega
    | ⟨3, _⟩ => show _ = (i 1).val % 128; dsimp only; omega
  rw [hi, kn_at]
  have c1 : (i 0).val / 256 * 256 + (i 0).val % 256 = (i 0).val := by omega
  simp only [c1]

/-- The value cache. -/
theorem value_eq (i : S4096x1024.Idx) : val_main_v58 (F := Ideal) X i = rd X (i 0).val (5120 + (i 1).val) := by
  have h0 : (i 0).val < 4096 := (i 0).isLt
  have h1 : (i 1).val < 1024 := (i 1).isLt
  rw [val_main_v58_apply]
  have hi : idx_main_v58 i = ix4 (⟨(i 0).val / 256, by omega⟩ : Fin 16) (⟨(i 0).val % 256, by omega⟩ : Fin 256)
      (⟨(i 1).val / 128, by omega⟩ : Fin 8) (⟨(i 1).val % 128, by omega⟩ : Fin 128) := by
    funext x
    apply Fin.ext
    match x with
    | ⟨0, _⟩ => show _ = (i 0).val / 256; dsimp only; omega
    | ⟨1, _⟩ => show _ = (i 0).val % 256; dsimp only; omega
    | ⟨2, _⟩ => show _ = (i 1).val / 128; dsimp only; omega
    | ⟨3, _⟩ => show _ = (i 1).val % 128; dsimp only; omega
  rw [hi, v_at]
  refine congrArg₂ (rd X) ?_ ?_ <;> dsimp only <;> omega

end Cert.AttnRef
-- ==== Proof.Gains.lean ====
/-
  The precondition read: every gain is a real number.
-/
module

public import proofs.«01_k».proof.Defs
public import proofs.«01_k».proof.Proof.Softmax

@[expose] public section

namespace Cert.Attn

open Idealize.ShloMosaic Cert.Pre_finite_gains

theorem preFacts : Cert.Pre_finite_gains.Facts := ⟨by decide⟩

theorem isReal_of_abs {x : EReal} (h : FloatOps.absf (F := Ideal) (φ := .f32) x < Ideal.ofBits .f32 0x7F800000#32) : IsReal x := by
  have ht : Ideal.ofBits .f32 0x7F800000#32 = (⊤ : EReal) := by simp [Ideal.ofBits, Ideal.ieee]
  rw [ht] at h
  change max x (-x) < ⊤ at h
  induction x with
  | bot => exact absurd h (by simp)
  | top => exact absurd h (by simp)
  | coe r => exact ⟨r, rfl⟩

theorem gains_real [Cert.Pre_finite_gains.Facts] (X : FVec Ideal S6144x6144 .f32) (a b : FVec Ideal S1x128 .f32)
    (h : fn (F := Ideal) X a b = fun _ => 1#1) (d : ℕ) : IsReal (rd a 0 d) ∧ IsReal (rd b 0 d) := by
  have h := congrFun h (ix2 0 (Fin.ofNat 128 d))
  revert h
  pointwise [fn]
  intro h
  have two : ∀ p q : Bool, IntOp.andi (BitVec.ofBool p) (BitVec.ofBool q) = 1#1 → p = true ∧ q = true := by decide
  obtain ⟨h1, h2⟩ := two _ _ h
  exact ⟨isReal_of_abs (of_decide_eq_true h1), isReal_of_abs (of_decide_eq_true h2)⟩

end Cert.Attn
-- ==== Proof.Product.lean ====
/-
  A product of a matrix with one layer of a stack of weights, read at natural coordinates.
-/
module

public import proofs.«01_k».proof.Proof.Softmax

@[expose] public section

noncomputable section

namespace Cert.Mm

open Idealize.ShloMosaic Cert.Attn

/-- An array of three axes read at natural coordinates. -/
def rd3 {l n m : ℕ} [NeZero l] [NeZero n] [NeZero m] {α : Type} (X : (⟨3, ![l, n, m]⟩ : Shape).Idx → α) (a r c : ℕ) : α :=
  X (ix3 (Fin.ofNat l a) (Fin.ofNat n r) (Fin.ofNat m c))

theorem rd3_of {l n m : ℕ} [NeZero l] [NeZero n] [NeZero m] {α : Type} (X : (⟨3, ![l, n, m]⟩ : Shape).Idx → α)
    (i : (⟨3, ![l, n, m]⟩ : Shape).Idx) {a r c : ℕ} (h0 : (i 0).val = a) (h1 : (i 1).val = r) (h2 : (i 2).val = c) :
    X i = rd3 X a r c := by
  subst h0 h1 h2
  refine congrArg X (funext fun a => Fin.ext ?_)
  match a with
  | ⟨0, _⟩ => exact (Nat.mod_eq_of_lt (i 0).isLt).symm
  | ⟨1, _⟩ => exact (Nat.mod_eq_of_lt (i 1).isLt).symm
  | ⟨2, _⟩ => exact (Nat.mod_eq_of_lt (i 2).isLt).symm

/-- Row `r` of `X` against column `c` of the weights of layer `a`. -/
def prod {n K l m : ℕ} [NeZero n] [NeZero K] [NeZero l] [NeZero m] (X : (⟨2, ![n, K]⟩ : Shape).Idx → EReal)
    (W : (⟨3, ![l, K, m]⟩ : Shape).Idx → EReal) (a r c : ℕ) : EReal :=
  ∑ k : Fin K, rd X r k.val * rd3 W a k.val c

/-- The literal one, as the programs write it. -/
def one : EReal := Ideal.ofBits .f32 0x3F800000#32

theorem one_eq : one = 1 := by
  simp only [one, Ideal.ofBits_one_f32]

/-- The gate's swish times the second product. -/
def swiglu (g u : EReal) : EReal := g * Ideal.logistic g * u

end Cert.Mm
-- ==== Proof.Proj2.lean ====
/-
  The projection of the attention layer: what the call leaves in its array, and the reference's product.
-/
module

public import proofs.«01_k».proof.Proof.Gen.Kernel2Ideal.Value
public import proofs.«01_k».proof.Proof.Gen.Reference2Ideal.Read
public import proofs.«01_k».proof.Proof.Product

@[expose] public section

noncomputable section

namespace Cert.Proj2

open Idealize.ShloMosaic Idealize.ShloMosaic.TcCoe Idealize.SL Idealize.SL.Sem
open Idealize.ShloMosaic.Pipeline (Dat)
open Cert.Kernel2Ideal Cert.Kernel2Ideal.Gen Cert.Attn Cert.Mm

variable (m : (ℓ : Loc nD τ sig) → Buf (Elt Ideal) ℓ)

theorem V_v0 (c : Dev nD) : V m c main_v0 = m ((c : Thread nD τ).loc main_arg0) := by
  unfold_abbrev_sides
  after_results
  rfl

/-! ### The payloads -/

theorem cast_at (x1 : Vec Ideal S1x4096x512 .f32) (k : Fin 4096) (j : Fin 512) :
    k0_pay1 x1 (ix2 k j) = rd3 x1 0 k.val j.val := by
  pointwise [k0_pay1]
  exact rd3_of _ _ rfl rfl rfl

theorem mul_at (a : Vec Ideal S1024x4096 .bf16) (w : Vec Ideal S4096x512 .bf16) (r : Fin 1024) (j : Fin 512) :
    k0_pay2 a w (ix2 r j) = ∑ k : Fin 4096, a (ix2 r k) * w (ix2 k j) := by
  pointwise [k0_pay2]

/-! ### Where the windows' blocks sit -/

theorem where0 : ∀ t : Fin cfg0.N, win0_0.index t 0 = t.val % 6 ∧ win0_0.index t 1 = 0 :=
  (by decide +kernel : ∀ t : Fin grid0.N, win0_0.index t 0 = t.val % 6 ∧ win0_0.index t 1 = 0)
theorem where1 : ∀ t : Fin cfg0.N, win0_1.index t 0 = 0 ∧ win0_1.index t 1 = 0 ∧ win0_1.index t 2 = t.val / 6 :=
  (by decide +kernel : ∀ t : Fin grid0.N, win0_1.index t 0 = 0 ∧ win0_1.index t 1 = 0 ∧ win0_1.index t 2 = t.val / 6)
theorem where2 : ∀ t : Fin cfg0.N, win0_2.index t 0 = t.val % 6 ∧ win0_2.index t 1 = t.val / 6 :=
  (by decide +kernel : ∀ t : Fin grid0.N, win0_2.index t 0 = t.val % 6 ∧ win0_2.index t 1 = t.val / 6)

theorem in0 (c : Dev nD) (t : Fin cfg0.N) (y : S1024x4096.Idx) :
    iblk m c 0 t y = rd (m ((c : Thread nD τ).loc main_arg0)) (t.val % 6 * 1024 + (y 0).val) (y 1).val := by
  show V m c main_v0 ((win0_0.rect t).emb y) = _
  rw [V_v0]
  exact rd_of _ _ ((win0_0.rect_emb_val t y 0).trans (by rw [(where0 t).1]; rfl))
    (win0_0.rect_emb_val_of_index_zero t 1 (where0 t).2 y)

theorem in1 (c : Dev nD) (t : Fin cfg0.N) (y : S1x4096x512.Idx) :
    iblk m c 1 t y = rd3 (m ((c : Thread nD τ).loc main_arg1)) 0 (y 1).val (t.val / 6 * 512 + (y 2).val) := by
  show V m c main_arg1 ((win0_1.rect t).emb y) = _
  rw [V_main_arg1]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 0 * 1 + (y 0).val = 0
  omega

/-! ### The weights kept in the scratch, and the block written back -/

/-- The weights of the column block of point `n`. -/
def cols (W : S1x4096x6144.Idx → EReal) (n : ℕ) : S4096x512.Idx → EReal := fun i => rd3 W 0 (i 0).val (n / 6 * 512 + (i 1).val)

theorem cast_eq (c : Dev nD) (t : Fin cfg0.N) :
    k0_pay1 (iblk m c 1 t) = cols (m ((c : Thread nD τ).loc main_arg1)) t.val := by
  funext i
  obtain ⟨k, j, rfl⟩ : ∃ (k : Fin 4096) (j : Fin 512), i = ix2 k j := ⟨i 0, i 1, (ix2_eta i).symm⟩
  refine (cast_at _ k j).trans ?_
  refine (in1 m c t (ix3 _ _ _)).trans ?_
  show rd3 _ 0 (k.val % 4096) (_ + j.val % 512) = rd3 _ 0 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 6 = 0) :
    (outsAt0 m c t.val t.isLt).2 = cols (m ((c : Thread nD τ).loc main_arg1)) t.val := by
  rw [outsAt0_A m c t h0, ← cast_eq]
  unfold sout0_A_0
  rw [View.read_writes_eq_canon _ _ _ (scover0_A_0 c _ _ _ _ _ _ _ _ _ _ _ _)]
  unfold kernelRun0_A
  dsimp only
  sl_unfold_words
  rw [View.canon_unit_zero hz2]
  simp only [View.readAt_eq_ld, (hs0_1 t).read_unread, View.ld_unit_zero (S := S1x4096x512) hz3]

theorem out_reset (c : Dev nD) (t : Fin cfg0.N) (h0 : t.val % 6 = 0) :
    (outsAt0 m c t.val t.isLt).1 = k0_pay2 (iblk m c 0 t) (cols (m ((c : Thread nD τ).loc main_arg1)) t.val) := by
  rw [outsAt0_A m c t h0, ← cast_eq]
  unfold out0_A_2
  rw [View.read_writes_eq_canon _ _ _ (cover0_A_2 c _ _ _ _ _ _ _ _ _ _ _ _)]
  unfold kernelRun0_A
  dsimp only
  sl_unfold_words
  rw [View.canon_unit_zero hz2, View.readCov_unit_zero (S := S4096x512) _ hz2]
  simp only [View.readAt_eq_ld, (hs0_0 t).read_unread, (hs0_1 t).read_unread, View.ld_unit_zero (S := S1x4096x512) hz3,
    View.ld_unit_zero (S := S1024x4096) hz2]

theorem out_carry (c : Dev nD) (t : Fin cfg0.N) (h0 : ¬ t.val % 6 = 0) :
    (outsAt0 m c t.val t.isLt).1 = k0_pay2 (iblk m c 0 t) (outsAt0 m c (t.val - 1) (Nat.lt_of_le_of_lt (Nat.sub_le _ _) t.isLt)).2 := by
  rw [outsAt0_B m c t h0]
  unfold out0_B_2
  rw [View.read_writes_eq_canon _ _ _ (cover0_B_2 c _ _ _ _ _ _ _ _ _ _ _ _ _)]
  unfold kernelRun0_B
  dsimp only
  sl_unfold_words
  rw [View.canon_unit_zero hz2]
  simp only [View.readAt_eq_ld, (hs0_0 t).read_unread, (Memref.isWhole_whole cc0_scratch0).read_unread,
    View.ld_unit_zero (S := S1024x4096) hz2, View.ld_unit_zero (S := S4096x512) hz2]

/-- The scratch holds the weights of the point's column block. -/
theorem scratch_at (c : Dev nD) : ∀ (n : ℕ) (h : n < cfg0.N),
    (outsAt0 m c n h).2 = cols (m ((c : Thread nD τ).loc main_arg1)) n := by
  intro n
  induction n with
  | zero => intro h; exact scratch_reset m c ⟨0, h⟩ rfl
  | succ n ih =>
    intro h
    by_cases h0 : (n + 1) % 6 = 0
    · exact scratch_reset m c ⟨n + 1, h⟩ h0
    · rw [outsAt0_B m c ⟨n + 1, h⟩ h0]
      refine (ih (Nat.lt_of_succ_lt h)).trans ?_
      unfold cols
      rw [show (n + 1) / 6 = n / 6 by omega]

theorem out_at (c : Dev nD) (t : Fin cfg0.N) :
    (outsAt0 m c t.val t.isLt).1 = k0_pay2 (iblk m c 0 t) (cols (m ((c : Thread nD τ).loc main_arg1)) t.val) := by
  by_cases h0 : t.val % 6 = 0
  · exact out_reset m c t h0
  · rw [out_carry m c t h0, scratch_at]
    unfold cols
    rw [show (t.val - 1) / 6 = t.val / 6 by omega]

/-! ### The array -/

/-- The product. -/
def out (X : S6144x4096.Idx → EReal) (W : S1x4096x6144.Idx → EReal) (i : S6144x6144.Idx) : EReal :=
  prod X W 0 (i 0).val (i 1).val

theorem mem2 (t : Fin cfg0.N) (i : S6144x6144.Idx) (h0 : (i 0).val / 1024 = t.val % 6) (h1 : (i 1).val / 512 = t.val / 6) :
    i ∈ ((cfg0.win 2).blk t).view.set := by
  show i ∈ ((View.whole main_v1).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(where2 t).1]; omega
  | ⟨1, _⟩ =>
    show win0_2.index t 1 * 512 ≤ (i 1).val ∧ (i 1).val < win0_2.index t 1 * 512 + 512
    rw [(where2 t).2]; omega

theorem arr (c : Dev nD) : (dats m 0 c).arrAt 2 cfg0.N = (fun i : S6144x6144.Idx =>
    out (m ((c : Thread nD τ).loc main_arg0)) (m ((c : Thread nD τ).loc main_arg1)) i) := by
  refine (dats m 0 c).arrAt_eq_of_cover 2 _ (fun t _ => ?_) fun i => ?_
  · rw [Value.flushed2]
    funext y
    show (outsAt0 m c t.val t.isLt).1 y = out _ _ ((win0_2.rect t).emb y)
    rw [out_at]
    obtain ⟨r, j, rfl⟩ : ∃ (r : Fin 1024) (j : Fin 512), y = ix2 r j := ⟨y 0, y 1, (ix2_eta y).symm⟩
    refine (mul_at _ _ r j).trans ?_
    unfold out prod
    rw [(win0_2.rect_emb_val t (ix2 r j) 0).trans (by rw [(where2 t).1]; rfl : _ = t.val % 6 * 1024 + r.val),
      (win0_2.rect_emb_val t (ix2 r j) 1).trans (by rw [(where2 t).2]; rfl : _ = t.val / 6 * 512 + j.val)]
    refine Finset.sum_congr rfl fun k _ => congrArg₂ (· * ·) (in0 m c t (ix2 r k)) ?_
    rfl
  · have h0 : (i 0).val < 6144 := (i 0).isLt
    have h1 : (i 1).val < 6144 := (i 1).isLt
    exact ⟨⟨(i 1).val / 512 * 6 + (i 0).val / 1024, by show _ < 72; omega⟩, flush0_2 _,
      mem2 _ i (by show _ = ((i 1).val / 512 * 6 + (i 0).val / 1024) % 6; omega) (by show _ = ((i 1).val / 512 * 6 + (i 0).val / 1024) / 6; omega)⟩

/-! ### The reference -/

theorem ref_eq (X : S6144x4096.Idx → EReal) (W : S1x4096x6144.Idx → EReal) (i : S6144x6144.Idx) :
    Cert.Reference2Ideal.Read.val_main_v1 (F := Ideal) X W i = out X W i := by
  rw [Cert.Reference2Ideal.Read.val_main_v1_apply]
  unfold out prod
  refine Finset.sum_congr rfl fun k _ => congrArg₂ (· * ·)
    (rd_of X (Cert.Reference2Ideal.Read.lidx_main_v1 i k) rfl rfl) ?_
  rw [Cert.Reference2Ideal.Read.val_main_v0_apply]
  have hk : k.val < 4096 := k.isLt
  have hc : (i 1).val < 6144 := (i 1).isLt
  refine rd3_of W _ rfl ?_ ?_
  · show (k.val * 6144 + (i 1).val) / 6144 % 4096 = k.val
    omega
  · show (k.val * 6144 + (i 1).val) % 6144 = (i 1).val
    omega

end Cert.Proj2
-- ==== Proof.Proj3.lean ====
/-
  One of the three projections of the recurrent layer: what the call leaves in its array, and the reference's product.
-/
module

public import proofs.«01_k».proof.Proof.Gen.Kernel3Ideal.Value
public import proofs.«01_k».proof.Proof.Gen.Reference3Ideal.Read
public import proofs.«01_k».proof.Proof.Product

@[expose] public section

noncomputable section

namespace Cert.Proj3

open Idealize.ShloMosaic Idealize.ShloMosaic.TcCoe Idealize.SL Idealize.SL.Sem
open Idealize.ShloMosaic.Pipeline (Dat)
open Cert.Kernel3Ideal Cert.Kernel3Ideal.Gen Cert.Attn Cert.Mm

variable (m : (ℓ : Loc nD τ sig) → Buf (Elt Ideal) ℓ)

theorem V_v0 (c : Dev nD) : V m c main_v0 = m ((c : Thread nD τ).loc main_arg0) := by
  unfold_abbrev_sides
  after_results
  rfl

/-! ### The payloads -/

theorem cast_at (x1 : Vec Ideal S1x4096x512 .f32) (k : Fin 4096) (j : Fin 512) :
    k0_pay1 x1 (ix2 k j) = rd3 x1 0 k.val j.val := by
  pointwise [k0_pay1]
  exact rd3_of _ _ rfl rfl rfl

theorem mul_at (a : Vec Ideal S1024x4096 .bf16) (w : Vec Ideal S4096x512 .bf16) (r : Fin 1024) (j : Fin 512) :
    k0_pay2 a w (ix2 r j) = ∑ k : Fin 4096, a (ix2 r k) * w (ix2 k j) := by
  pointwise [k0_pay2]

/-! ### Where the windows' blocks sit -/

theorem where0 : ∀ t : Fin cfg0.N, win0_0.index t 0 = t.val % 6 ∧ win0_0.index t 1 = 0 :=
  (by decide +kernel : ∀ t : Fin grid0.N, win0_0.index t 0 = t.val % 6 ∧ win0_0.index t 1 = 0)
theorem where1 : ∀ t : Fin cfg0.N, win0_1.index t 0 = 0 ∧ win0_1.index t 1 = 0 ∧ win0_1.index t 2 = t.val / 6 :=
  (by decide +kernel : ∀ t : Fin grid0.N, win0_1.index t 0 = 0 ∧ win0_1.index t 1 = 0 ∧ win0_1.index t 2 = t.val / 6)
theorem where2 : ∀ t : Fin cfg0.N, win0_2.index t 0 = t.val % 6 ∧ win0_2.index t 1 = t.val / 6 :=
  (by decide +kernel : ∀ t : Fin grid0.N, win0_2.index t 0 = t.val % 6 ∧ win0_2.index t 1 = t.val / 6)

theorem in0 (c : Dev nD) (t : Fin cfg0.N) (y : S1024x4096.Idx) :
    iblk m c 0 t y = rd (m ((c : Thread nD τ).loc main_arg0)) (t.val % 6 * 1024 + (y 0).val) (y 1).val := by
  show V m c main_v0 ((win0_0.rect t).emb y) = _
  rw [V_v0]
  exact rd_of _ _ ((win0_0.rect_emb_val t y 0).trans (by rw [(where0 t).1]; rfl))
    (win0_0.rect_emb_val_of_index_zero t 1 (where0 t).2 y)

theorem in1 (c : Dev nD) (t : Fin cfg0.N) (y : S1x4096x512.Idx) :
    iblk m c 1 t y = rd3 (m ((c : Thread nD τ).loc main_arg1)) 0 (y 1).val (t.val / 6 * 512 + (y 2).val) := by
  show V m c main_arg1 ((win0_1.rect t).emb y) = _
  rw [V_main_arg1]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 0 * 1 + (y 0).val = 0
  omega

/-! ### The weights kept in the scratch, and the block written back -/

/-- The weights of the column block of point `n`. -/
def cols (W : S1x4096x4096.Idx → EReal) (n : ℕ) : S4096x512.Idx → EReal := fun i => rd3 W 0 (i 0).val (n / 6 * 512 + (i 1).val)

theorem cast_eq (c : Dev nD) (t : Fin cfg0.N) :
    k0_pay1 (iblk m c 1 t) = cols (m ((c : Thread nD τ).loc main_arg1)) t.val := by
  funext i
  obtain ⟨k, j, rfl⟩ : ∃ (k : Fin 4096) (j : Fin 512), i = ix2 k j := ⟨i 0, i 1, (ix2_eta i).symm⟩
  refine (cast_at _ k j).trans ?_
  refine (in1 m c t (ix3 _ _ _)).trans ?_
  show rd3 _ 0 (k.val % 4096) (_ + j.val % 512) = rd3 _ 0 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 6 = 0) :
    (outsAt0 m c t.val t.isLt).2 = cols (m ((c : Thread nD τ).loc main_arg1)) t.val := by
  rw [outsAt0_A m c t h0, ← cast_eq]
  unfold sout0_A_0
  rw [View.read_writes_eq_canon _ _ _ (scover0_A_0 c _ _ _ _ _ _ _ _ _ _ _ _)]
  unfold kernelRun0_A
  dsimp only
  sl_unfold_words
  rw [View.canon_unit_zero hz2]
  simp only [View.readAt_eq_ld, (hs0_1 t).read_unread, View.ld_unit_zero (S := S1x4096x512) hz3]

theorem out_reset (c : Dev nD) (t : Fin cfg0.N) (h0 : t.val % 6 = 0) :
    (outsAt0 m c t.val t.isLt).1 = k0_pay2 (iblk m c 0 t) (cols (m ((c : Thread nD τ).loc main_arg1)) t.val) := by
  rw [outsAt0_A m c t h0, ← cast_eq]
  unfold out0_A_2
  rw [View.read_writes_eq_canon _ _ _ (cover0_A_2 c _ _ _ _ _ _ _ _ _ _ _ _)]
  unfold kernelRun0_A
  dsimp only
  sl_unfold_words
  rw [View.canon_unit_zero hz2, View.readCov_unit_zero (S := S4096x512) _ hz2]
  simp only [View.readAt_eq_ld, (hs0_0 t).read_unread, (hs0_1 t).read_unread, View.ld_unit_zero (S := S1x4096x512) hz3,
    View.ld_unit_zero (S := S1024x4096) hz2]

theorem out_carry (c : Dev nD) (t : Fin cfg0.N) (h0 : ¬ t.val % 6 = 0) :
    (outsAt0 m c t.val t.isLt).1 = k0_pay2 (iblk m c 0 t) (outsAt0 m c (t.val - 1) (Nat.lt_of_le_of_lt (Nat.sub_le _ _) t.isLt)).2 := by
  rw [outsAt0_B m c t h0]
  unfold out0_B_2
  rw [View.read_writes_eq_canon _ _ _ (cover0_B_2 c _ _ _ _ _ _ _ _ _ _ _ _ _)]
  unfold kernelRun0_B
  dsimp only
  sl_unfold_words
  rw [View.canon_unit_zero hz2]
  simp only [View.readAt_eq_ld, (hs0_0 t).read_unread, (Memref.isWhole_whole cc0_scratch0).read_unread,
    View.ld_unit_zero (S := S1024x4096) hz2, View.ld_unit_zero (S := S4096x512) hz2]

/-- The scratch holds the weights of the point's column block. -/
theorem scratch_at (c : Dev nD) : ∀ (n : ℕ) (h : n < cfg0.N),
    (outsAt0 m c n h).2 = cols (m ((c : Thread nD τ).loc main_arg1)) n := by
  intro n
  induction n with
  | zero => intro h; exact scratch_reset m c ⟨0, h⟩ rfl
  | succ n ih =>
    intro h
    by_cases h0 : (n + 1) % 6 = 0
    · exact scratch_reset m c ⟨n + 1, h⟩ h0
    · rw [outsAt0_B m c ⟨n + 1, h⟩ h0]
      refine (ih (Nat.lt_of_succ_lt h)).trans ?_
      unfold cols
      rw [show (n + 1) / 6 = n / 6 by omega]

theorem out_at (c : Dev nD) (t : Fin cfg0.N) :
    (outsAt0 m c t.val t.isLt).1 = k0_pay2 (iblk m c 0 t) (cols (m ((c : Thread nD τ).loc main_arg1)) t.val) := by
  by_cases h0 : t.val % 6 = 0
  · exact out_reset m c t h0
  · rw [out_carry m c t h0, scratch_at]
    unfold cols
    rw [show (t.val - 1) / 6 = t.val / 6 by omega]

/-! ### The array -/

/-- The product. -/
def out (X : S6144x4096.Idx → EReal) (W : S1x4096x4096.Idx → EReal) (i : S6144x4096.Idx) : EReal :=
  prod X W 0 (i 0).val (i 1).val

theorem mem2 (t : Fin cfg0.N) (i : S6144x4096.Idx) (h0 : (i 0).val / 1024 = t.val % 6) (h1 : (i 1).val / 512 = t.val / 6) :
    i ∈ ((cfg0.win 2).blk t).view.set := by
  show i ∈ ((View.whole main_v1).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(where2 t).1]; omega
  | ⟨1, _⟩ =>
    show win0_2.index t 1 * 512 ≤ (i 1).val ∧ (i 1).val < win0_2.index t 1 * 512 + 512
    rw [(where2 t).2]; omega

theorem arr (c : Dev nD) : (dats m 0 c).arrAt 2 cfg0.N = (fun i : S6144x4096.Idx =>
    out (m ((c : Thread nD τ).loc main_arg0)) (m ((c : Thread nD τ).loc main_arg1)) i) := by
  refine (dats m 0 c).arrAt_eq_of_cover 2 _ (fun t _ => ?_) fun i => ?_
  · rw [Value.flushed2]
    funext y
    show (outsAt0 m c t.val t.isLt).1 y = out _ _ ((win0_2.rect t).emb y)
    rw [out_at]
    obtain ⟨r, j, rfl⟩ : ∃ (r : Fin 1024) (j : Fin 512), y = ix2 r j := ⟨y 0, y 1, (ix2_eta y).symm⟩
    refine (mul_at _ _ r j).trans ?_
    unfold out prod
    rw [(win0_2.rect_emb_val t (ix2 r j) 0).trans (by rw [(where2 t).1]; rfl : _ = t.val % 6 * 1024 + r.val),
      (win0_2.rect_emb_val t (ix2 r j) 1).trans (by rw [(where2 t).2]; rfl : _ = t.val / 6 * 512 + j.val)]
    refine Finset.sum_congr rfl fun k _ => congrArg₂ (· * ·) (in0 m c t (ix2 r k)) ?_
    rfl
  · have h0 : (i 0).val < 6144 := (i 0).isLt
    have h1 : (i 1).val < 4096 := (i 1).isLt
    exact ⟨⟨(i 1).val / 512 * 6 + (i 0).val / 1024, by show _ < 48; omega⟩, flush0_2 _,
      mem2 _ i (by show _ = ((i 1).val / 512 * 6 + (i 0).val / 1024) % 6; omega) (by show _ = ((i 1).val / 512 * 6 + (i 0).val / 1024) / 6; omega)⟩

/-! ### The reference -/

theorem ref_eq (X : S6144x4096.Idx → EReal) (W : S1x4096x4096.Idx → EReal) (i : S6144x4096.Idx) :
    Cert.Reference3Ideal.Read.val_main_v1 (F := Ideal) X W i = out X W i := by
  rw [Cert.Reference3Ideal.Read.val_main_v1_apply]
  unfold out prod
  refine Finset.sum_congr rfl fun k _ => congrArg₂ (· * ·)
    (rd_of X (Cert.Reference3Ideal.Read.lidx_main_v1 i k) rfl rfl) ?_
  rw [Cert.Reference3Ideal.Read.val_main_v0_apply]
  have hk : k.val < 4096 := k.isLt
  have hc : (i 1).val < 4096 := (i 1).isLt
  refine rd3_of W _ rfl ?_ ?_
  · show (k.val * 4096 + (i 1).val) / 4096 % 4096 = k.val
    omega
  · show (k.val * 4096 + (i 1).val) % 4096 = (i 1).val
    omega

end Cert.Proj3
-- ==== Proof.MixOut.lean ====
/-
  The product that ends a mixer, gated onto the residual stream: what the call leaves in its array, and the reference's array.
-/
module

public import proofs.«01_k».proof.Proof.Gen.Kernel4Ideal.Value
public import proofs.«01_k».proof.Proof.Gen.Reference4Ideal.Read
public import proofs.«01_k».proof.Proof.Product

@[expose] public section

noncomputable section

namespace Cert.MixOut

open Idealize.ShloMosaic Idealize.ShloMosaic.TcCoe Idealize.SL Idealize.SL.Sem
open Idealize.ShloMosaic.Pipeline (Dat)
open Cert.Kernel4Ideal Cert.Kernel4Ideal.Gen Cert.Attn Cert.Mm

variable (m : (ℓ : Loc nD τ sig) → Buf (Elt Ideal) ℓ)

theorem V_v0 (c : Dev nD) : V m c main_v0 = m ((c : Thread nD τ).loc main_arg0) := by
  unfold_abbrev_sides
  after_results
  rfl

/-! ### The payloads -/

theorem cast_at (x1 : Vec Ideal S1x4096x512 .f32) (k : Fin 4096) (j : Fin 512) :
    k0_pay1 x1 (ix2 k j) = rd3 x1 0 k.val j.val := by
  pointwise [k0_pay1]
  exact rd3_of _ _ rfl rfl rfl

theorem mul_at (a : Vec Ideal S1024x4096 .bf16) (w : Vec Ideal S4096x512 .bf16) (x : Vec Ideal S1024x512 .f32)
    (g : Vec Ideal S1x1x512 .f32) (r : Fin 1024) (j : Fin 512) :
    k0_pay2 a w x g (ix2 r j) = x (ix2 r j) + rd3 g 0 0 j.val * ∑ k : Fin 4096, a (ix2 r k) * w (ix2 k j) := by
  pointwise [k0_pay2]
  congr 2
  exact rd3_of _ _ rfl rfl rfl

/-! ### Where the windows' blocks sit -/

theorem where0 : ∀ t : Fin cfg0.N, win0_0.index t 0 = t.val % 6 ∧ win0_0.index t 1 = 0 :=
  (by decide +kernel : ∀ t : Fin grid0.N, win0_0.index t 0 = t.val % 6 ∧ win0_0.index t 1 = 0)
theorem where1 : ∀ t : Fin cfg0.N, win0_1.index t 0 = 0 ∧ win0_1.index t 1 = 0 ∧ win0_1.index t 2 = t.val / 6 :=
  (by decide +kernel : ∀ t : Fin grid0.N, win0_1.index t 0 = 0 ∧ win0_1.index t 1 = 0 ∧ win0_1.index t 2 = t.val / 6)
theorem where4 : ∀ t : Fin cfg0.N, win0_4.index t 0 = t.val % 6 ∧ win0_4.index t 1 = t.val / 6 :=
  (by decide +kernel : ∀ t : Fin grid0.N, win0_4.index t 0 = t.val % 6 ∧ win0_4.index t 1 = t.val / 6)

theorem where2 : ∀ t : Fin cfg0.N, win0_2.index t 0 = t.val % 6 ∧ win0_2.index t 1 = t.val / 6 :=
  (by decide +kernel : ∀ t : Fin grid0.N, win0_2.index t 0 = t.val % 6 ∧ win0_2.index t 1 = t.val / 6)
theorem where3 : ∀ t : Fin cfg0.N, win0_3.index t 0 = t.val % 6 - 3 ∧ win0_3.index t 1 = 0 ∧ win0_3.index t 2 = t.val / 6 :=
  (by decide +kernel : ∀ t : Fin grid0.N, win0_3.index t 0 = t.val % 6 - 3 ∧ win0_3.index t 1 = 0 ∧ win0_3.index t 2 = t.val / 6)

theorem in0 (c : Dev nD) (t : Fin cfg0.N) (y : S1024x4096.Idx) :
    iblk m c 0 t y = rd (m ((c : Thread nD τ).loc main_arg0)) (t.val % 6 * 1024 + (y 0).val) (y 1).val := by
  show V m c main_v0 ((win0_0.rect t).emb y) = _
  rw [V_v0]
  exact rd_of _ _ ((win0_0.rect_emb_val t y 0).trans (by rw [(where0 t).1]; rfl))
    (win0_0.rect_emb_val_of_index_zero t 1 (where0 t).2 y)

theorem in1 (c : Dev nD) (t : Fin cfg0.N) (y : S1x4096x512.Idx) :
    iblk m c 1 t y = rd3 (m ((c : Thread nD τ).loc main_arg1)) 0 (y 1).val (t.val / 6 * 512 + (y 2).val) := by
  show V m c main_arg1 ((win0_1.rect t).emb y) = _
  rw [V_main_arg1]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 0 * 1 + (y 0).val = 0
  omega

theorem in2 (c : Dev nD) (t : Fin cfg0.N) (y : S1024x512.Idx) :
    iblk m c 2 t y = rd (m ((c : Thread nD τ).loc main_arg2)) (t.val % 6 * 1024 + (y 0).val) (t.val / 6 * 512 + (y 1).val) := by
  show V m c main_arg2 ((win0_2.rect t).emb y) = _
  rw [V_main_arg2]
  exact rd_of _ _ ((win0_2.rect_emb_val t y 0).trans (by rw [(where2 t).1]; rfl))
    ((win0_2.rect_emb_val t y 1).trans (by rw [(where2 t).2]; rfl))

theorem in3 (c : Dev nD) (t : Fin cfg0.N) (y : S1x1x512.Idx) :
    iblk m c 3 t y = rd3 (m ((c : Thread nD τ).loc main_arg3)) (t.val % 6 - 3) 0 (t.val / 6 * 512 + (y 2).val) := by
  show V m c main_arg3 ((win0_3.rect t).emb y) = _
  rw [V_main_arg3]
  refine rd3_of _ _ ((win0_3.rect_emb_val t y 0).trans ?_) ((win0_3.rect_emb_val_of_index_zero t 1 (where3 t).2.1 y).trans ?_)
    ((win0_3.rect_emb_val t y 2).trans (by rw [(where3 t).2.2]; rfl))
  · rw [(where3 t).1]
    have : (y 0).val < 1 := (y 0).isLt
    show (t.val % 6 - 3) * 1 + (y 0).val = _
    omega
  · have : (y 1).val < 1 := (y 1).isLt
    omega

/-! ### The weights kept in the scratch, and the block written back -/

/-- The weights of the column block of point `n`. -/
def cols (W : S1x4096x4096.Idx → EReal) (n : ℕ) : S4096x512.Idx → EReal := fun i => rd3 W 0 (i 0).val (n / 6 * 512 + (i 1).val)

theorem cast_eq (c : Dev nD) (t : Fin cfg0.N) :
    k0_pay1 (iblk m c 1 t) = cols (m ((c : Thread nD τ).loc main_arg1)) t.val := by
  funext i
  obtain ⟨k, j, rfl⟩ : ∃ (k : Fin 4096) (j : Fin 512), i = ix2 k j := ⟨i 0, i 1, (ix2_eta i).symm⟩
  refine (cast_at _ k j).trans ?_
  refine (in1 m c t (ix3 _ _ _)).trans ?_
  show rd3 _ 0 (k.val % 4096) (_ + j.val % 512) = rd3 _ 0 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 6 = 0) :
    (outsAt0 m c t.val t.isLt).2 = cols (m ((c : Thread nD τ).loc main_arg1)) t.val := by
  rw [outsAt0_A m c t h0, ← cast_eq]
  unfold sout0_A_0
  rw [View.read_writes_eq_canon _ _ _ (scover0_A_0 c _ _ _ _ _ _ _ _ _ _ _ _ _ _ _ _ _ _)]
  unfold kernelRun0_A
  dsimp only
  sl_unfold_words
  rw [View.canon_unit_zero hz2]
  simp only [View.readAt_eq_ld, (hs0_1 t).read_unread, View.ld_unit_zero (S := S1x4096x512) hz3]

theorem out_reset (c : Dev nD) (t : Fin cfg0.N) (h0 : t.val % 6 = 0) :
    (outsAt0 m c t.val t.isLt).1 = k0_pay2 (iblk m c 0 t) (cols (m ((c : Thread nD τ).loc main_arg1)) t.val) (iblk m c 2 t) (iblk m c 3 t) := by
  rw [outsAt0_A m c t h0, ← cast_eq]
  unfold out0_A_4
  rw [View.read_writes_eq_canon _ _ _ (cover0_A_4 c _ _ _ _ _ _ _ _ _ _ _ _ _ _ _ _ _ _)]
  unfold kernelRun0_A
  dsimp only
  sl_unfold_words
  rw [View.canon_unit_zero hz2, View.readCov_unit_zero (S := S4096x512) _ hz2]
  simp only [View.readAt_eq_ld, (hs0_0 t).read_unread, (hs0_2 t).read_unread, (hs0_3 t).read_unread, (hs0_1 t).read_unread, View.ld_unit_zero (S := S1x4096x512) hz3,
    View.ld_unit_zero (S := S1024x4096) hz2, View.ld_unit_zero (S := S1024x512) hz2, View.ld_unit_zero (S := S1x1x512) hz3]

theorem out_carry (c : Dev nD) (t : Fin cfg0.N) (h0 : ¬ t.val % 6 = 0) :
    (outsAt0 m c t.val t.isLt).1 = k0_pay2 (iblk m c 0 t) (outsAt0 m c (t.val - 1) (Nat.lt_of_le_of_lt (Nat.sub_le _ _) t.isLt)).2 (iblk m c 2 t) (iblk m c 3 t) := by
  rw [outsAt0_B m c t h0]
  unfold out0_B_4
  rw [View.read_writes_eq_canon _ _ _ (cover0_B_4 c _ _ _ _ _ _ _ _ _ _ _ _ _ _ _ _ _ _ _)]
  unfold kernelRun0_B
  dsimp only
  sl_unfold_words
  rw [View.canon_unit_zero hz2]
  simp only [View.readAt_eq_ld, (hs0_0 t).read_unread, (hs0_2 t).read_unread, (hs0_3 t).read_unread, (Memref.isWhole_whole cc0_scratch0).read_unread,
    View.ld_unit_zero (S := S1024x4096) hz2, View.ld_unit_zero (S := S1024x512) hz2, View.ld_unit_zero (S := S1x1x512) hz3, View.ld_unit_zero (S := S4096x512) hz2]

/-- The scratch holds the weights of the point's column block. -/
theorem scratch_at (c : Dev nD) : ∀ (n : ℕ) (h : n < cfg0.N),
    (outsAt0 m c n h).2 = cols (m ((c : Thread nD τ).loc main_arg1)) n := by
  intro n
  induction n with
  | zero => intro h; exact scratch_reset m c ⟨0, h⟩ rfl
  | succ n ih =>
    intro h
    by_cases h0 : (n + 1) % 6 = 0
    · exact scratch_reset m c ⟨n + 1, h⟩ h0
    · rw [outsAt0_B m c ⟨n + 1, h⟩ h0]
      refine (ih (Nat.lt_of_succ_lt h)).trans ?_
      unfold cols
      rw [show (n + 1) / 6 = n / 6 by omega]

theorem out_at (c : Dev nD) (t : Fin cfg0.N) :
    (outsAt0 m c t.val t.isLt).1 = k0_pay2 (iblk m c 0 t) (cols (m ((c : Thread nD τ).loc main_arg1)) t.val) (iblk m c 2 t) (iblk m c 3 t) := by
  by_cases h0 : t.val % 6 = 0
  · exact out_reset m c t h0
  · rw [out_carry m c t h0, scratch_at]
    unfold cols
    rw [show (t.val - 1) / 6 = t.val / 6 by omega]

/-! ### The array -/

/-- The group a row belongs to: the prompt's rows are the first, each sample has its own. -/
def group (r : ℕ) : ℕ := r / 1024 - 3

/-- The residual row and the gated product. -/
def out (X : S6144x4096.Idx → EReal) (W : S1x4096x4096.Idx → EReal) (R : S6144x4096.Idx → EReal) (G : S3x1x4096.Idx → EReal)
    (i : S6144x4096.Idx) : EReal :=
  rd R (i 0).val (i 1).val + rd3 G (group (i 0).val) 0 (i 1).val * prod X W 0 (i 0).val (i 1).val

theorem mem4 (t : Fin cfg0.N) (i : S6144x4096.Idx) (h0 : (i 0).val / 1024 = t.val % 6) (h1 : (i 1).val / 512 = t.val / 6) :
    i ∈ ((cfg0.win 4).blk t).view.set := by
  show i ∈ ((View.whole main_v1).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [(where4 t).1]; omega
  | ⟨1, _⟩ =>
    show win0_4.index t 1 * 512 ≤ (i 1).val ∧ (i 1).val < win0_4.index t 1 * 512 + 512
    rw [(where4 t).2]; omega

theorem arr (c : Dev nD) : (dats m 0 c).arrAt 4 cfg0.N = (fun i : S6144x4096.Idx =>
    out (m ((c : Thread nD τ).loc main_arg0)) (m ((c : Thread nD τ).loc main_arg1)) (m ((c : Thread nD τ).loc main_arg2))
      (m ((c : Thread nD τ).loc main_arg3)) i) := by
  refine (dats m 0 c).arrAt_eq_of_cover 4 _ (fun t _ => ?_) fun i => ?_
  · rw [Value.flushed4]
    funext y
    show (outsAt0 m c t.val t.isLt).1 y = out _ _ _ _ ((win0_4.rect t).emb y)
    rw [out_at]
    obtain ⟨r, j, rfl⟩ : ∃ (r : Fin 1024) (j : Fin 512), y = ix2 r j := ⟨y 0, y 1, (ix2_eta y).symm⟩
    refine (mul_at _ _ _ _ r j).trans ?_
    unfold out prod
    rw [(win0_4.rect_emb_val t (ix2 r j) 0).trans (by rw [(where4 t).1]; rfl : _ = t.val % 6 * 1024 + r.val),
      (win0_4.rect_emb_val t (ix2 r j) 1).trans (by rw [(where4 t).2]; rfl : _ = t.val / 6 * 512 + j.val)]
    have hr := r.isLt
    have hg : group (t.val % 6 * 1024 + r.val) = t.val % 6 - 3 := by unfold group; omega
    refine congrArg₂ (· + ·) (in2 m c t (ix2 r j)) (congrArg₂ (· * ·) ?_ (Finset.sum_congr rfl fun k _ => congrArg₂ (· * ·) (in0 m c t (ix2 r k)) rfl))
    refine (in3 m c t _).trans ?_
    rw [hg]
    show rd3 _ _ 0 (_ + j.val % 512) = _
    rw [Nat.mod_eq_of_lt j.isLt]
  · have h0 : (i 0).val < 6144 := (i 0).isLt
    have h1 : (i 1).val < 4096 := (i 1).isLt
    exact ⟨⟨(i 1).val / 512 * 6 + (i 0).val / 1024, by show _ < 48; omega⟩, flush0_4 _,
      mem4 _ i (by show _ = ((i 1).val / 512 * 6 + (i 0).val / 1024) % 6; omega) (by show _ = ((i 1).val / 512 * 6 + (i 0).val / 1024) / 6; omega)⟩

/-! ### The reference -/

open Cert.Reference4Ideal.Read

theorem prod_at (X : S6144x4096.Idx → EReal) (W : S1x4096x4096.Idx → EReal) (i : S6144x4096.Idx) {r c : ℕ}
    (h0 : (i 0).val = r) (h1 : (i 1).val = c) : val_main_v1 (F := Ideal) X W i = prod X W 0 r c := by
  subst h0 h1
  rw [val_main_v1_apply]
  unfold prod
  refine Finset.sum_congr rfl fun k _ => congrArg₂ (· * ·) (rd_of X (lidx_main_v1 i k) rfl rfl) ?_
  rw [val_main_v0_apply]
  have hk : k.val < 4096 := k.isLt
  have hc : (i 1).val < 4096 := (i 1).isLt
  refine rd3_of W _ rfl ?_ ?_
  · show (k.val * 4096 + (i 1).val) / 4096 % 4096 = k.val
    omega
  · show (k.val * 4096 + (i 1).val) % 4096 = (i 1).val
    omega

theorem prompt_gate (G : S3x1x4096.Idx → EReal) (i : Cert.Reference4Ideal.S4096x4096.Idx) :
    val_main_v5 (F := Ideal) G i = rd3 G 0 0 (i 1).val := by
  rw [val_main_v5_apply, val_main_v4_apply, val_main_v3_apply]
  have hc : (i 1).val < 4096 := (i 1).isLt
  refine rd3_of G _ rfl rfl ?_
  show (0 * 4096 + (i 1).val) % 4096 = _
  omega

theorem sample_row (X : S6144x4096.Idx → EReal) (W : S1x4096x4096.Idx → EReal) (G : S3x1x4096.Idx → EReal) (i : Cert.Reference4Ideal.S2048x4096.Idx) :
    val_main_v12 (F := Ideal) X W G i = prod X W 0 (4096 + (i 0).val) (i 1).val * rd3 G (1 + (i 0).val / 1024) 0 (i 1).val := by
  have hr : (i 0).val < 2048 := (i 0).isLt
  have hc : (i 1).val < 4096 := (i 1).isLt
  rw [val_main_v12_apply, val_main_v11_apply, val_main_v8_apply, val_main_v7_apply, val_main_v10_apply, val_main_v9_apply]
  refine congrArg₂ (· * ·) (prod_at X W _ ?_ ?_) (rd3_of G _ ?_ rfl ?_)
  · show 4096 + (((((i 0).val * 4096 + (i 1).val) / 4194304) * 1024 + ((i 0).val * 4096 + (i 1).val) / 4096 % 1024) * 4096 + ((i 0).val * 4096 + (i 1).val) % 4096) / 4096 = _
    omega
  · show (((((i 0).val * 4096 + (i 1).val) / 4194304) * 1024 + ((i 0).val * 4096 + (i 1).val) / 4096 % 1024) * 4096 + ((i 0).val * 4096 + (i 1).val) % 4096) % 4096 = _
    omega
  · show 1 + ((i 0).val * 4096 + (i 1).val) / 4194304 = _
    omega
  · show ((i 0).val * 4096 + (i 1).val) % 4096 = _
    omega

theorem ref_eq (X : S6144x4096.Idx → EReal) (W : S1x4096x4096.Idx → EReal) (R : S6144x4096.Idx → EReal) (G : S3x1x4096.Idx → EReal)
    (i : S6144x4096.Idx) : val_main_v14 (F := Ideal) X W R G i = out X W R G i := by
  rw [val_main_v14_apply]
  have hc : (i 1).val < 4096 := (i 1).isLt
  have hr : (i 0).val < 6144 := (i 0).isLt
  refine congrArg₂ (· + ·) (rd_of R i rfl rfl) ?_
  rw [mul_comm]
  unfold val_main_v13
  by_cases h : (i 0).val < 4096
  · rw [concatenate_pair_apply_left (t := S6144x4096) (s₁ := Cert.Reference4Ideal.S4096x4096)
      (s₂ := Cert.Reference4Ideal.S2048x4096) 0 _ _ _ i rfl (ix2 ⟨(i 0).val, h⟩ (i 1)) (fun b => match b with
        | ⟨0, _⟩ => rfl
        | ⟨1, _⟩ => rfl)]
    rw [val_main_v6_apply, val_main_v2_apply, prompt_gate]
    refine congrArg₂ (· * ·) (prod_at X W _ rfl rfl) ?_
    rw [show group (i 0).val = 0 by unfold group; omega]
    rfl
  · rw [concatenate_pair_apply_right (t := S6144x4096) (s₁ := Cert.Reference4Ideal.S4096x4096)
      (s₂ := Cert.Reference4Ideal.S2048x4096) 0 _ _ _ i rfl rfl (ix2 ⟨(i 0).val - 4096, by omega⟩ (i 1)) (fun b => match b with
        | ⟨0, _⟩ => fun hb => absurd rfl hb
        | ⟨1, _⟩ => fun _ => rfl) (by show (i 0).val - 4096 + 4096 = (i 0).val; omega)]
    rw [sample_row]
    show prod X W 0 (4096 + ((i 0).val - 4096)) (i 1).val * rd3 G (1 + ((i 0).val - 4096) / 1024) 0 (i 1).val = _
    rw [show 4096 + ((i 0).val - 4096) = (i 0).val by omega,
      show 1 + ((i 0).val - 4096) / 1024 = group (i 0).val by unfold group; omega]

end Cert.MixOut

end
-- ==== Proof.SharedUp.lean ====
/-
  The gated pair of products of the shared expert: what the call leaves in its array, and the reference's array.
-/
module

public import proofs.«01_k».proof.Proof.Gen.Kernel5Ideal.Value
public import proofs.«01_k».proof.Proof.Gen.Reference5Ideal.Read
public import proofs.«01_k».proof.Proof.Product

@[expose] public section

noncomputable section

namespace Cert.SharedUp

open Idealize.ShloMosaic Idealize.ShloMosaic.TcCoe Idealize.SL Idealize.SL.Sem
open Idealize.ShloMosaic.Pipeline (Dat)
open Cert.Kernel5Ideal Cert.Kernel5Ideal.Gen Cert.Attn Cert.Mm

variable (m : (ℓ : Loc nD τ sig) → Buf (Elt Ideal) ℓ)

theorem V_v0 (c : Dev nD) : V m c main_v0 = m ((c : Thread nD τ).loc main_arg0) := by
  unfold_abbrev_sides
  after_results
  rfl

/-! ### The payloads -/

theorem cast_at (x1 : Vec Ideal S1x4096x256 .f32) (k : Fin 4096) (j : Fin 256) :
    k0_pay1 x1 (ix2 k j) = rd3 x1 0 k.val j.val := by
  pointwise [k0_pay1]
  exact rd3_of _ _ rfl rfl rfl

theorem cast_at' (x1 : Vec Ideal S1x4096x256 .f32) (k : Fin 4096) (j : Fin 256) :
    k0_pay2 x1 (ix2 k j) = rd3 x1 0 k.val j.val := by
  pointwise [k0_pay2]
  exact rd3_of _ _ rfl rfl rfl

theorem mul_at (a : Vec Ideal S1024x4096 .bf16) (w u : Vec Ideal S4096x256 .bf16) (r : Fin 1024) (j : Fin 256) :
    k0_pay3 a w u (ix2 r j) = swiglu (∑ k : Fin 4096, a (ix2 r k) * w (ix2 k j)) (∑ k : Fin 4096, a (ix2 r k) * u (ix2 k j)) := by
  pointwise [k0_pay3]
  rfl

/-! ### Where the windows' blocks sit -/

theorem where0 : ∀ t : Fin cfg0.N, win0_0.index t 0 = t.val % 6 ∧ win0_0.index t 1 = 0 :=
  (by decide +kernel : ∀ t : Fin grid0.N, win0_0.index t 0 = t.val % 6 ∧ win0_0.index t 1 = 0)
theorem where1 : ∀ t : Fin cfg0.N, win0_1.index t 0 = 1 ∧ win0_1.index t 1 = 0 ∧ win0_1.index t 2 = t.val / 6 :=
  (by decide +kernel : ∀ t : Fin grid0.N, win0_1.index t 0 = 1 ∧ win0_1.index t 1 = 0 ∧ win0_1.index t 2 = t.val / 6)
theorem where2 : ∀ t : Fin cfg0.N, win0_2.index t 0 = 1 ∧ win0_2.index t 1 = 0 ∧ win0_2.index t 2 = t.val / 6 :=
  (by decide +kernel : ∀ t : Fin grid0.N, win0_2.index t 0 = 1 ∧ win0_2.index t 1 = 0 ∧ win0_2.index t 2 = t.val / 6)
theorem where3 : ∀ t : Fin cfg0.N, win0_3.index t 0 = t.val % 6 ∧ win0_3.index t 1 = t.val / 6 :=
  (by decide +kernel : ∀ t : Fin grid0.N, win0_3.index t 0 = t.val % 6 ∧ win0_3.index t 1 = t.val / 6)

theorem in0 (c : Dev nD) (t : Fin cfg0.N) (y : S1024x4096.Idx) :
    iblk m c 0 t y = rd (m ((c : Thread nD τ).loc main_arg0)) (t.val % 6 * 1024 + (y 0).val) (y 1).val := by
  show V m c main_v0 ((win0_0.rect t).emb y) = _
  rw [V_v0]
  exact rd_of _ _ ((win0_0.rect_emb_val t y 0).trans (by rw [(where0 t).1]; rfl))
    (win0_0.rect_emb_val_of_index_zero t 1 (where0 t).2 y)

theorem in1 (c : Dev nD) (t : Fin cfg0.N) (y : S1x4096x256.Idx) :
    iblk m c 1 t y = rd3 (m ((c : Thread nD τ).loc main_arg1)) 1 (y 1).val (t.val / 6 * 256 + (y 2).val) := by
  show V m c main_arg1 ((win0_1.rect t).emb y) = _
  rw [V_main_arg1]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 1 * 1 + (y 0).val = 1
  omega

theorem in2 (c : Dev nD) (t : Fin cfg0.N) (y : S1x4096x256.Idx) :
    iblk m c 2 t y = rd3 (m ((c : Thread nD τ).loc main_arg2)) 1 (y 1).val (t.val / 6 * 256 + (y 2).val) := by
  show V m c main_arg2 ((win0_2.rect t).emb y) = _
  rw [V_main_arg2]
  refine rd3_of _ _ ?_ (win0_2.rect_emb_val_of_index_zero t 1 (where2 t).2.1 y)
    ((win0_2.rect_emb_val t y 2).trans (by rw [(where2 t).2.2]; rfl))
  refine (win0_2.rect_emb_val t y 0).trans ?_
  rw [(where2 t).1]
  have : (y 0).val < 1 := (y 0).isLt
  show 1 * 1 + (y 0).val = 1
  omega

/-! ### The weights kept in the scratch, and the block written back -/

/-- The weights of the column block of point `n`. -/
def cols (W : S2x4096x1024.Idx → EReal) (n : ℕ) : S4096x256.Idx → EReal := fun i => rd3 W 1 (i 0).val (n / 6 * 256 + (i 1).val)

theorem cast_eq (c : Dev nD) (t : Fin cfg0.N) :
    k0_pay1 (iblk m c 1 t) = cols (m ((c : Thread nD τ).loc main_arg1)) t.val := by
  funext i
  obtain ⟨k, j, rfl⟩ : ∃ (k : Fin 4096) (j : Fin 256), i = ix2 k j := ⟨i 0, i 1, (ix2_eta i).symm⟩
  refine (cast_at _ k j).trans ?_
  refine (in1 m c t (ix3 _ _ _)).trans ?_
  show rd3 (m ((c : Thread nD τ).loc main_arg1)) 1 (k.val % 4096) (_ + j.val % 256) = rd3 (m ((c : Thread nD τ).loc main_arg1)) 1 k.val (_ + j.val)
  rw [Nat.mod_eq_of_lt k.isLt, Nat.mod_eq_of_lt j.isLt]

theorem cast_eq' (c : Dev nD) (t : Fin cfg0.N) :
    k0_pay2 (iblk m c 2 t) = cols (m ((c : Thread nD τ).loc main_arg2)) t.val := by
  funext i
  obtain ⟨k, j, rfl⟩ : ∃ (k : Fin 4096) (j : Fin 256), i = ix2 k j := ⟨i 0, i 1, (ix2_eta i).symm⟩
  refine (cast_at' _ k j).trans ?_
  refine (in2 m c t (ix3 _ _ _)).trans ?_
  show rd3 (m ((c : Thread nD τ).loc main_arg2)) 1 (k.val % 4096) (_ + j.val % 256) = rd3 (m ((c : Thread nD τ).loc main_arg2)) 1 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 6 = 0) :
    (outsAt0 m c t.val t.isLt).2.1 = cols (m ((c : Thread nD τ).loc main_arg1)) t.val := by
  rw [outsAt0_A m c t h0, ← cast_eq]
  unfold sout0_A_0
  rw [View.read_writes_eq_canon _ _ _ (scover0_A_0 c _ _ _ _ _ _ _ _ _ _ _ _ _ _ _ _ _)]
  unfold kernelRun0_A
  dsimp only
  sl_unfold_words
  rw [View.canon_unit_zero hz2]
  simp only [View.readAt_eq_ld, (hs0_1 t).read_unread, View.ld_unit_zero (S := S1x4096x256) hz3]

theorem scratch_reset' (c : Dev nD) (t : Fin cfg0.N) (h0 : t.val % 6 = 0) :
    (outsAt0 m c t.val t.isLt).2.2 = cols (m ((c : Thread nD τ).loc main_arg2)) t.val := by
  rw [outsAt0_A m c t h0, ← cast_eq']
  unfold sout0_A_1
  rw [View.read_writes_eq_canon _ _ _ (scover0_A_1 c _ _ _ _ _ _ _ _ _ _ _ _ _ _ _ _ _)]
  unfold kernelRun0_A
  dsimp only
  sl_unfold_words
  rw [View.canon_unit_zero hz2]
  simp only [View.readAt_eq_ld, (hs0_2 t).read_unread, View.ld_unit_zero (S := S1x4096x256) hz3]

theorem out_reset (c : Dev nD) (t : Fin cfg0.N) (h0 : t.val % 6 = 0) :
    (outsAt0 m c t.val t.isLt).1 = k0_pay3 (iblk m c 0 t) (cols (m ((c : Thread nD τ).loc main_arg1)) t.val) (cols (m ((c : Thread nD τ).loc main_arg2)) t.val) := by
  rw [outsAt0_A m c t h0, ← cast_eq, ← cast_eq']
  unfold out0_A_3
  rw [View.read_writes_eq_canon _ _ _ (cover0_A_3 c _ _ _ _ _ _ _ _ _ _ _ _ _ _ _ _ _)]
  unfold kernelRun0_A
  dsimp only
  sl_unfold_words
  rw [View.canon_unit_zero hz2, View.readCov_unit_zero (S := S4096x256) _ hz2,
    View.readCov_unit_zero (S := S4096x256) _ hz2]
  simp only [View.readAt_eq_ld, (hs0_0 t).read_unread, (hs0_1 t).read_unread, (hs0_2 t).read_unread, View.ld_unit_zero (S := S1x4096x256) hz3,
    View.ld_unit_zero (S := S1024x4096) hz2]

theorem out_carry (c : Dev nD) (t : Fin cfg0.N) (h0 : ¬ t.val % 6 = 0) :
    (outsAt0 m c t.val t.isLt).1 = k0_pay3 (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_B m c t h0]
  unfold out0_B_3
  rw [View.read_writes_eq_canon _ _ _ (cover0_B_3 c _ _ _ _ _ _ _ _ _ _ _ _ _ _ _ _ _ _ _)]
  unfold kernelRun0_B
  dsimp only
  sl_unfold_words
  rw [View.canon_unit_zero hz2]
  simp only [View.readAt_eq_ld, (hs0_0 t).read_unread, (Memref.isWhole_whole cc0_scratch0).read_unread, (Memref.isWhole_whole cc0_scratch1).read_unread,
    View.ld_unit_zero (S := S1024x4096) hz2, View.ld_unit_zero (S := S4096x256) hz2]

/-- The scratch holds the weights of the point's column block. -/
theorem scratch_at (c : Dev nD) : ∀ (n : ℕ) (h : n < cfg0.N),
    (outsAt0 m c n h).2.1 = cols (m ((c : Thread nD τ).loc main_arg1)) n := by
  intro n
  induction n with
  | zero => intro h; exact scratch_reset m c ⟨0, h⟩ rfl
  | succ n ih =>
    intro h
    by_cases h0 : (n + 1) % 6 = 0
    · exact scratch_reset m c ⟨n + 1, h⟩ h0
    · rw [outsAt0_B m c ⟨n + 1, h⟩ h0]
      refine (ih (Nat.lt_of_succ_lt h)).trans ?_
      unfold cols
      rw [show (n + 1) / 6 = n / 6 by omega]

/-- The scratch holds the weights of the point's column block. -/
theorem scratch_at' (c : Dev nD) : ∀ (n : ℕ) (h : n < cfg0.N),
    (outsAt0 m c n h).2.2 = cols (m ((c : Thread nD τ).loc main_arg2)) n := by
  intro n
  induction n with
  | zero => intro h; exact scratch_reset' m c ⟨0, h⟩ rfl
  | succ n ih =>
    intro h
    by_cases h0 : (n + 1) % 6 = 0
    · exact scratch_reset' m c ⟨n + 1, h⟩ h0
    · rw [outsAt0_B m c ⟨n + 1, h⟩ h0]
      refine (ih (Nat.lt_of_succ_lt h)).trans ?_
      unfold cols
      rw [show (n + 1) / 6 = n / 6 by omega]

theorem out_at (c : Dev nD) (t : Fin cfg0.N) :
    (outsAt0 m c t.val t.isLt).1 = k0_pay3 (iblk m c 0 t) (cols (m ((c : Thread nD τ).loc main_arg1)) t.val) (cols (m ((c : Thread nD τ).loc main_arg2)) t.val) := by
  by_cases h0 : t.val % 6 = 0
  · exact out_reset m c t h0
  · rw [out_carry m c t h0, scratch_at, scratch_at']
    unfold cols
    rw [show (t.val - 1) / 6 = t.val / 6 by omega]

/-! ### The array -/

/-- The gated product. -/
def out (X : S6144x4096.Idx → EReal) (W U : S2x4096x1024.Idx → EReal) (i : S6144x1024.Idx) : EReal :=
  swiglu (prod X W 1 (i 0).val (i 1).val) (prod X U 1 (i 0).val (i 1).val)

theorem mem3 (t : Fin cfg0.N) (i : S6144x1024.Idx) (h0 : (i 0).val / 1024 = t.val % 6) (h1 : (i 1).val / 256 = t.val / 6) :
    i ∈ ((cfg0.win 3).blk t).view.set := by
  show i ∈ ((View.whole main_v1).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(where3 t).1]; omega
  | ⟨1, _⟩ =>
    show win0_3.index t 1 * 256 ≤ (i 1).val ∧ (i 1).val < win0_3.index t 1 * 256 + 256
    rw [(where3 t).2]; omega

theorem arr (c : Dev nD) : (dats m 0 c).arrAt 3 cfg0.N = (fun i : S6144x1024.Idx =>
    out (m ((c : Thread nD τ).loc main_arg0)) (m ((c : Thread nD τ).loc main_arg1))
      (m ((c : Thread nD τ).loc main_arg2)) i) := by
  refine (dats m 0 c).arrAt_eq_of_cover 3 _ (fun t _ => ?_) fun i => ?_
  · rw [Value.flushed3]
    funext y
    show (outsAt0 m c t.val t.isLt).1 y = out _ _ _ ((win0_3.rect t).emb y)
    rw [out_at]
    obtain ⟨r, j, rfl⟩ : ∃ (r : Fin 1024) (j : Fin 256), y = ix2 r j := ⟨y 0, y 1, (ix2_eta y).symm⟩
    refine (mul_at _ _ _ r j).trans ?_
    unfold out prod
    rw [(win0_3.rect_emb_val t (ix2 r j) 0).trans (by rw [(where3 t).1]; rfl : _ = t.val % 6 * 1024 + r.val),
      (win0_3.rect_emb_val t (ix2 r j) 1).trans (by rw [(where3 t).2]; rfl : _ = t.val / 6 * 256 + j.val)]
    exact congrArg₂ swiglu (Finset.sum_congr rfl fun k _ => congrArg₂ (· * ·) (in0 m c t (ix2 r k)) rfl)
      (Finset.sum_congr rfl fun k _ => congrArg₂ (· * ·) (in0 m c t (ix2 r k)) rfl)
  · have h0 : (i 0).val < 6144 := (i 0).isLt
    have h1 : (i 1).val < 1024 := (i 1).isLt
    exact ⟨⟨(i 1).val / 256 * 6 + (i 0).val / 1024, by show _ < 24; omega⟩, flush0_3 _,
      mem3 _ i (by show _ = ((i 1).val / 256 * 6 + (i 0).val / 1024) % 6; omega) (by show _ = ((i 1).val / 256 * 6 + (i 0).val / 1024) / 6; omega)⟩

/-! ### The reference -/

open Cert.Reference5Ideal.Read

theorem gate_at (X : S6144x4096.Idx → EReal) (W : S2x4096x1024.Idx → EReal) (i : S6144x1024.Idx) :
    val_main_v2 (F := Ideal) X W i = prod X W 1 (i 0).val (i 1).val := by
  rw [val_main_v2_apply]
  unfold prod
  refine Finset.sum_congr rfl fun k _ => congrArg₂ (· * ·) (rd_of X (lidx_main_v2 i k) rfl rfl) ?_
  rw [val_main_v1_apply, val_main_v0_apply]
  have hk : k.val < 4096 := k.isLt
  have hc : (i 1).val < 1024 := (i 1).isLt
  refine rd3_of W _ rfl ?_ ?_
  · show (k.val * 1024 + (i 1).val) / 1024 % 4096 = k.val
    omega
  · show (k.val * 1024 + (i 1).val) % 1024 = (i 1).val
    omega

theorem up_at (X : S6144x4096.Idx → EReal) (W : S2x4096x1024.Idx → EReal) (i : S6144x1024.Idx) :
    val_main_v6 (F := Ideal) X W i = prod X W 1 (i 0).val (i 1).val := by
  rw [val_main_v6_apply]
  unfold prod
  refine Finset.sum_congr rfl fun k _ => congrArg₂ (· * ·) (rd_of X (lidx_main_v6 i k) rfl rfl) ?_
  rw [val_main_v5_apply, val_main_v4_apply]
  have hk : k.val < 4096 := k.isLt
  have hc : (i 1).val < 1024 := (i 1).isLt
  refine rd3_of W _ rfl ?_ ?_
  · show (k.val * 1024 + (i 1).val) / 1024 % 4096 = k.val
    omega
  · show (k.val * 1024 + (i 1).val) % 1024 = (i 1).val
    omega

theorem ref_eq (X : S6144x4096.Idx → EReal) (W U : S2x4096x1024.Idx → EReal) (i : S6144x1024.Idx) :
    val_main_v8 (F := Ideal) X W U i = out X W U i := by
  rw [val_main_v8_apply, val_main_v7_apply, val_main_v3_apply, val_main_call0_v5_apply, val_main_call0_v4_apply,
    val_main_call0_v3_apply, val_main_call0_v2_apply, val_main_call0_v1_apply, val_main_call0_v0_apply, up_at, gate_at]
  unfold out
  generalize prod X W 1 (i 0).val (i 1).val = g
  generalize prod X U 1 (i 0).val (i 1).val = u
  show g * Ideal.div one (one + Ideal.exp (-g)) * u = _
  rw [one_eq]
  rfl

end Cert.SharedUp

end
-- ==== Proof.ExpertsBase.lean ====
/-
  What the experts' call starts from: its arrays and tables as the region finds them, and its blocks.
-/
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### @main up to the region -/

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### The prefetched tables, read off the launch memory -/

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S128 .i32 := Memref.whole main_arg4
abbrev htbM0_0 : tbM0_0.IsWhole := Memref.isWhole_whole _
abbrev tbM0_1 : Memref sig .tc .smem S128 .i32 := Memref.whole main_arg5
abbrev htbM0_1 : tbM0_1.IsWhole := Memref.isWhole_whole _
abbrev tbM0_2 : Memref sig .tc .smem S128 .i32 := Memref.whole main_arg6
abbrev htbM0_2 : tbM0_2.IsWhole := Memref.isWhole_whole _
abbrev tbM0_3 : Memref sig .tc .smem S1 .i32 := Memref.whole main_arg7
abbrev htbM0_3 : tbM0_3.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ### The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ### The frame claim's post from the frame run's -/

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ### The kernel body on any staging memrefs: a subtype the run finds -/

abbrev ms0_0 (hO : Ok m) (t : Fin (cfgM m hO).N) : Memref sig .tc .vmem S256x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x4096 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x4096 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x4096 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x4096x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4096x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1024x256 .bf16 := spec0_6.stage ((cfgM m hO).slots t 6)
abbrev hs0_6 (hO : Ok m) (t : Fin (cfgM m hO).N) : (ms0_6 m hO t).IsWhole := hstage0_6 (((cfgM m hO).slots t 6).cast nbuf0_6)

end Cert.Kernel6Ideal.Gen

end
-- ==== Proof.ExpertsRun0.lean ====
/-
  One of the five ways the experts' call runs at a point.
-/
module

public import proofs.«01_k».proof.Proof.ExpertsBase

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of the third table the body reads at the point `i`: the item's count of blocks. -/
abbrev word (c : Dev nD) (i : grid0.Coords) (xt2 : TbBuf0 (F := F) c tbM0_2) : BitVec 32 :=
  tbM0_2.view.readAt (Elt F) (Rect.unit (s := S128) (k0_off1 i) S1.size (k0_off1_inb i)).toLoadRect xt2 (Shape.Idx.first (numel1_S1.symm ▸ Nat.one_pos))

set_option maxHeartbeats 1000000 in
/-- The body at a point whose item has no rows: it leaves every buffer as it was. -/
theorem run0 (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 : Vec F S256x4096 .bf16) (x1 : Vec F S256x4096 .bf16) (x2 : Vec F S256x4096 .bf16) (x3 : Vec F S256x4096 .bf16) (x4 : Vec F S1x4096x256 .f32) (x5 : Vec F S1x4096x256 .f32) (x6 : Vec F S1024x256 .bf16) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : ¬k0_cond3 (word c i xt2) = 1#1) (hc4 : ¬k0_cond4 (word c i xt2) = 1#1) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_up i tbM0_0 htbM0_0 tbM0_1 htbM0_1 tbM0_2 htbM0_2 tbM0_3 htbM0_3 arg6 harg6 arg7 harg7 arg8 harg8 arg9 harg9 arg10 harg10 arg11 harg11 arg12 harg12) K := by
    intro E K
    simp only [cc0_expert_up_eq_skeleton]; unfold cc0_expert_up_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]
    · iexists _; isplitr; · ipureintro; exact hf6
      iexact H6
    isplitl [HT0]; · iexact HT0
    isplitl [HT1]; · iexact HT1
    isplitl [HT2]; · iexact HT2
    iexact HT3

end Cert.Kernel6Ideal.Gen

end
-- ==== Proof.ExpertsRun1.lean ====
/-
  One of the five ways the experts' call runs at a point.
-/
module

public import proofs.«01_k».proof.Proof.ExpertsRun0

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the item has 1 block of rows: the pieces it leaves in the output's buffer, and that it runs. -/
noncomputable def run1 (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 : Vec F S256x4096 .bf16) (x1 : Vec F S256x4096 .bf16) (x2 : Vec F S256x4096 .bf16) (x3 : Vec F S256x4096 .bf16) (x4 : Vec F S1x4096x256 .f32) (x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : k0_cond1 (word c i xt2) = 1#1) (hc2 : ¬k0_cond2 (word c i xt2) = 1#1) (hc3 : ¬k0_cond3 (word c i xt2) = 1#1) (hc4 : ¬k0_cond4 (word c i xt2) = 1#1) :
    { L6 : List (View.Piece (Elt F) S1024x256 .bf16) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ d, owns (c : Thread nD τ) arg12 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ f, arg12.view.loc (c : Thread nD τ) ↦[arg12.view.set]{fullShare} arg12.view.writes (Elt F) f L6) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_up i tbM0_0 htbM0_0 tbM0_1 htbM0_1 tbM0_2 htbM0_2 tbM0_3 htbM0_3 arg6 harg6 arg7 harg7 arg8 harg8 arg9 harg9 arg10 harg10 arg11 harg11 arg12 harg12) K } := by
  refine ⟨?_, fun E K => ?run⟩
  case run =>
    simp only [cc0_expert_up_eq_skeleton]; unfold cc0_expert_up_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]; · iexists _; iexact H6
    isplitl [HT0]; · iexact HT0
    isplitl [HT1]; · iexact HT1
    isplitl [HT2]; · iexact HT2
    iexact HT3

end Cert.Kernel6Ideal.Gen

end
-- ==== Proof.ExpertsRun2.lean ====
/-
  One of the five ways the experts' call runs at a point.
-/
module

public import proofs.«01_k».proof.Proof.ExpertsRun1

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the item has 2 blocks of rows: the pieces it leaves in the output's buffer, and that it runs. -/
noncomputable def run2 (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 : Vec F S256x4096 .bf16) (x1 : Vec F S256x4096 .bf16) (x2 : Vec F S256x4096 .bf16) (x3 : Vec F S256x4096 .bf16) (x4 : Vec F S1x4096x256 .f32) (x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : k0_cond2 (word c i xt2) = 1#1) (hc3 : ¬k0_cond3 (word c i xt2) = 1#1) (hc4 : ¬k0_cond4 (word c i xt2) = 1#1) :
    { L6 : List (View.Piece (Elt F) S1024x256 .bf16) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ d, owns (c : Thread nD τ) arg12 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ f, arg12.view.loc (c : Thread nD τ) ↦[arg12.view.set]{fullShare} arg12.view.writes (Elt F) f L6) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_up i tbM0_0 htbM0_0 tbM0_1 htbM0_1 tbM0_2 htbM0_2 tbM0_3 htbM0_3 arg6 harg6 arg7 harg7 arg8 harg8 arg9 harg9 arg10 harg10 arg11 harg11 arg12 harg12) K } := by
  refine ⟨?_, fun E K => ?run⟩
  case run =>
    simp only [cc0_expert_up_eq_skeleton]; unfold cc0_expert_up_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]; · iexists _; iexact H6
    isplitl [HT0]; · iexact HT0
    isplitl [HT1]; · iexact HT1
    isplitl [HT2]; · iexact HT2
    iexact HT3

end Cert.Kernel6Ideal.Gen

end
-- ==== Proof.ExpertsRun3.lean ====
/-
  One of the five ways the experts' call runs at a point.
-/
module

public import proofs.«01_k».proof.Proof.ExpertsRun2

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the item has 3 blocks of rows: the pieces it leaves in the output's buffer, and that it runs. -/
noncomputable def run3 (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 : Vec F S256x4096 .bf16) (x1 : Vec F S256x4096 .bf16) (x2 : Vec F S256x4096 .bf16) (x3 : Vec F S256x4096 .bf16) (x4 : Vec F S1x4096x256 .f32) (x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : k0_cond3 (word c i xt2) = 1#1) (hc4 : ¬k0_cond4 (word c i xt2) = 1#1) :
    { L6 : List (View.Piece (Elt F) S1024x256 .bf16) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ d, owns (c : Thread nD τ) arg12 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ f, arg12.view.loc (c : Thread nD τ) ↦[arg12.view.set]{fullShare} arg12.view.writes (Elt F) f L6) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_up i tbM0_0 htbM0_0 tbM0_1 htbM0_1 tbM0_2 htbM0_2 tbM0_3 htbM0_3 arg6 harg6 arg7 harg7 arg8 harg8 arg9 harg9 arg10 harg10 arg11 harg11 arg12 harg12) K } := by
  refine ⟨?_, fun E K => ?run⟩
  case run =>
    simp only [cc0_expert_up_eq_skeleton]; unfold cc0_expert_up_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]; · iexists _; iexact H6
    isplitl [HT0]; · iexact HT0
    isplitl [HT1]; · iexact HT1
    isplitl [HT2]; · iexact HT2
    iexact HT3

end Cert.Kernel6Ideal.Gen

end
-- ==== Proof.ExpertsRun4.lean ====
/-
  One of the five ways the experts' call runs at a point.
-/
module

public import proofs.«01_k».proof.Proof.ExpertsRun3

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the item has 4 blocks of rows: the pieces it leaves in the output's buffer, and that it runs. -/
noncomputable def run4 (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 : Vec F S256x4096 .bf16) (x1 : Vec F S256x4096 .bf16) (x2 : Vec F S256x4096 .bf16) (x3 : Vec F S256x4096 .bf16) (x4 : Vec F S1x4096x256 .f32) (x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : ¬k0_cond3 (word c i xt2) = 1#1) (hc4 : k0_cond4 (word c i xt2) = 1#1) :
    { L6 : List (View.Piece (Elt F) S1024x256 .bf16) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ d, owns (c : Thread nD τ) arg12 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ f, arg12.view.loc (c : Thread nD τ) ↦[arg12.view.set]{fullShare} arg12.view.writes (Elt F) f L6) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_up i tbM0_0 htbM0_0 tbM0_1 htbM0_1 tbM0_2 htbM0_2 tbM0_3 htbM0_3 arg6 harg6 arg7 harg7 arg8 harg8 arg9 harg9 arg10 harg10 arg11 harg11 arg12 harg12) K } := by
  refine ⟨?_, fun E K => ?run⟩
  case run =>
    simp only [cc0_expert_up_eq_skeleton]; unfold cc0_expert_up_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]; · iexists _; iexact H6
    isplitl [HT0]; · iexact HT0
    isplitl [HT1]; · iexact HT1
    isplitl [HT2]; · iexact HT2
    iexact HT3

end Cert.Kernel6Ideal.Gen

end
-- ==== Proof.ExpertsFacts.lean ====
/-
  What the tables hold, as natural numbers, and where the blocks of the experts' call sit.
-/
module

public import proofs.«01_k».proof.Proof.ExpertsRun4
public import proofs.«01_k».proof.Proof.Product

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four tables: experts, first blocks, counts, last item. -/
abbrev T0 (pf : pre0.Contents (Elt F)) : S128.Idx → BitVec 32 := pf 0
abbrev T1 (pf : pre0.Contents (Elt F)) : S128.Idx → BitVec 32 := pf 1
abbrev T2 (pf : pre0.Contents (Elt F)) : S128.Idx → BitVec 32 := pf 2
abbrev T3 (pf : pre0.Contents (Elt F)) : S1.Idx → BitVec 32 := pf 3

/-- The tables' contents as natural numbers: item `k`'s expert, its first block of rows, its count of blocks, and the last item
    that has rows. Every item up to the last has between one and four blocks, an item after it has none, and an item's blocks
    lie among the 256 blocks of rows. -/
structure Items (e b n : ℕ → ℕ) (L : ℕ) (pf : pre0.Contents (Elt F)) : Prop where
  we : ∀ k : Fin 128, T0 pf (ix1 k) = BitVec.ofNat 32 (e k)
  wb : ∀ k : Fin 128, T1 pf (ix1 k) = BitVec.ofNat 32 (b k)
  wn : ∀ k : Fin 128, T2 pf (ix1 k) = BitVec.ofNat 32 (n k)
  wl : T3 pf (ix1 0) = BitVec.ofNat 32 L
  he : ∀ k : Fin 128, e k < 64
  hn : ∀ k : Fin 128, n k ≤ 4
  hb : ∀ k : Fin 128, b k + max (n k) 1 ≤ 256
  hl : L < 128
  live : ∀ k : Fin 128, k.val ≤ L → 1 ≤ n k
  dead : ∀ k : Fin 128, L < k.val → n k = 0

theorem off_word (i : grid0.Coords) : k0_off1 i 0 = (i 0).val := by
  have h : (i 0).val < 128 := (i 0).isLt
  show (BitVec.ofNat 32 (i 0).val).toNat = _
  rw [BitVec.toNat_ofNat]; omega

/-- The item of a point. -/
abbrev item (i : grid0.Coords) : Fin 128 := i 0

theorem at_item {s : Shape} (f : s.Idx → BitVec 32) (i j : s.Idx) (h : ∀ a, (i a).val = (j a).val) : f i = f j :=
  congrArg f (funext fun a => Fin.ext (h a))

theorem first_val (a : Fin 1) : ((Shape.Idx.first (numel1_S1.symm ▸ Nat.one_pos) : S1.Idx) a).val = 0 := by
  have h := ((Shape.Idx.first (numel1_S1.symm ▸ Nat.one_pos) : S1.Idx) a).isLt
  have : S1.size a = 1 := by revert a; decide
  omega

variable {e b n : ℕ → ℕ} {L : ℕ} {pf : pre0.Contents (Elt F)}

theorem at_word {R : Rect S128} (h1 : R.shape.numel = 1) (f : S128.Idx → BitVec 32) (i : grid0.Coords) (hR : R.off 0 = k0_off1 i 0) :
    f (R.emb (Shape.Idx.first (h1.symm ▸ Nat.one_pos))) = f (ix1 (item i)) := by
  refine at_item f _ _ fun a => ?_
  obtain rfl : a = 0 := Subsingleton.elim _ _
  rw [Rect.emb_apply]
  have h : ((Shape.Idx.first (h1.symm ▸ Nat.one_pos) : R.shape.Idx) 0).val = 0 := by
    have h2 := ((Shape.Idx.first (h1.symm ▸ Nat.one_pos) : R.shape.Idx) 0).isLt
    have h3 : R.shape.size 0 ∣ 1 := by rw [← h1]; exact ⟨_, (Fin.prod_univ_one _).trans (Nat.mul_one _).symm⟩
    have := Nat.dvd_one.mp h3
    omega
  rw [h, hR, off_word]
  show _ = (i 0).val
  omega

theorem at0 (hI : Items e b n L pf) (i : grid0.Coords) :
    (pf.at 0 (Rect.unit (s := S128) (k0_off1 i) S1.size (k0_off1_inb i)) numel1_S1 : BitVec 32) = BitVec.ofNat 32 (e (item i)) :=
  (at_word numel1_S1 (T0 pf) i rfl).trans (hI.we _)
theorem at1 (hI : Items e b n L pf) (i : grid0.Coords) :
    (pf.at 1 (Rect.unit (s := S128) (k0_off1 i) S1.size (k0_off1_inb i)) numel1_S1 : BitVec 32) = BitVec.ofNat 32 (b (item i)) :=
  (at_word numel1_S1 (T1 pf) i rfl).trans (hI.wb _)
theorem at2 (hI : Items e b n L pf) (i : grid0.Coords) :
    (pf.at 2 (Rect.unit (s := S128) (k0_off1 i) S1.size (k0_off1_inb i)) numel1_S1 : BitVec 32) = BitVec.ofNat 32 (n (item i)) :=
  (at_word numel1_S1 (T2 pf) i rfl).trans (hI.wn _)
theorem at3 (hI : Items e b n L pf) :
    (pf.at 3 (Rect.unit (s := S1) ![0] S1.size inb_S1_S1_0) numel1_S1 : BitVec 32) = BitVec.ofNat 32 L :=
  (at_item (T3 pf) _ (ix1 0) fun a => by
    obtain rfl : a = 0 := Subsingleton.elim _ _
    show 0 + 1 * ((Shape.Idx.first (numel1_S1.symm ▸ Nat.one_pos) : S1.Idx) 0).val = 0
    rw [first_val]).trans hI.wl

theorem word_eq (hI : Items e b n L pf) (c : Dev nD) (i : grid0.Coords) : word c i (pf 2) = BitVec.ofNat 32 (n (item i)) :=
  at2 hI i

theorem atD_eq (hI : Items e b n L pf) (i : grid0.Coords) : (pf.atD 2 (k0_off1 i) : BitVec 32) = BitVec.ofNat 32 (n (item i)) := by
  have hh : ∀ a, k0_off1 i a + 1 ≤ S128.size a := fun a => by
    have h := k0_off1_inb i a
    obtain rfl : a = 0 := Subsingleton.elim _ _
    exact h
  refine (dif_pos hh).trans ?_
  rw [← hI.wn (item i)]
  refine at_item (T2 pf) _ _ fun a => ?_
  obtain rfl : a = 0 := Subsingleton.elim _ _
  exact off_word i

/-! ### The conditions -/

theorem cond1_iff (k : ℕ) (h : k ≤ 4) : k0_cond1 (BitVec.ofNat 32 k) = 1#1 ↔ k = 1 := by interval_cases k <;> decide
theorem cond2_iff (k : ℕ) (h : k ≤ 4) : k0_cond2 (BitVec.ofNat 32 k) = 1#1 ↔ k = 2 := by interval_cases k <;> decide
theorem cond3_iff (k : ℕ) (h : k ≤ 4) : k0_cond3 (BitVec.ofNat 32 k) = 1#1 ↔ k = 3 := by interval_cases k <;> decide
theorem cond4_iff (k : ℕ) (h : k ≤ 4) : k0_cond4 (BitVec.ofNat 32 k) = 1#1 ↔ k = 4 := by interval_cases k <;> decide

theorem idle_iff (hI : Items e b n L pf) (i : grid0.Coords) : idle0 pf 6 i = true ↔ n (item i) = 0 := by
  have h := hI.hn (item i)
  show (!(k0_cond1 (pf.atD 2 (k0_off1 i)) == 1#1) && !(k0_cond2 (pf.atD 2 (k0_off1 i)) == 1#1) && !(k0_cond3 (pf.atD 2 (k0_off1 i)) == 1#1) && !(k0_cond4 (pf.atD 2 (k0_off1 i)) == 1#1)) = true ↔ _
  rw [atD_eq hI i]
  generalize n (item i) = k at h ⊢
  interval_cases k <;> decide

/-! ### The blocks' places -/

theorem add_words (B s N : ℕ) (hB : B + max N 1 ≤ 256) (hs : s < 4) (hN : N ≤ 4) :
    (Scalar.addi (BitVec.ofNat 32 B) (Scalar.minsi (BitVec.ofNat 32 s) (Scalar.maxsi (Scalar.subi (BitVec.ofNat 32 N) 1#32) 0#32))).toNat
      = B + min s (N - 1) := by
  have key : ∀ s < 4, ∀ N ≤ 4, Scalar.minsi (BitVec.ofNat 32 s) (Scalar.maxsi (Scalar.subi (BitVec.ofNat 32 N) 1#32) 0#32) = BitVec.ofNat 32 (min s (N - 1)) := by decide
  rw [key s hs N hN]
  show (BitVec.ofNat 32 B + BitVec.ofNat 32 _).toNat = _
  rw [BitVec.toNat_add, BitVec.toNat_ofNat, BitVec.toNat_ofNat]
  omega

theorem where0 (hI : Items e b n L pf) (i : grid0.Coords) : cc0_transform_0 k0_off1_inb numel1_S1 pf i = ![b (item i) + min 0 (n (item i) - 1), 0] := by
  rw [← add_words _ 0 _ (hI.hb (item i)) (by omega) (hI.hn (item i)), ← at1 hI i, ← at2 hI i]
  rfl
theorem where1 (hI : Items e b n L pf) (i : grid0.Coords) : cc0_transform_1 k0_off1_inb numel1_S1 pf i = ![b (item i) + min 1 (n (item i) - 1), 0] := by
  rw [← add_words _ 1 _ (hI.hb (item i)) (by omega) (hI.hn (item i)), ← at1 hI i, ← at2 hI i]
  rfl
theorem where2 (hI : Items e b n L pf) (i : grid0.Coords) : cc0_transform_2 k0_off1_inb numel1_S1 pf i = ![b (item i) + min 2 (n (item i) - 1), 0] := by
  rw [← add_words _ 2 _ (hI.hb (item i)) (by omega) (hI.hn (item i)), ← at1 hI i, ← at2 hI i]
  rfl
theorem where3 (hI : Items e b n L pf) (i : grid0.Coords) : cc0_transform_3 k0_off1_inb numel1_S1 pf i = ![b (item i) + min 3 (n (item i) - 1), 0] := by
  rw [← add_words _ 3 _ (hI.hb (item i)) (by omega) (hI.hn (item i)), ← at1 hI i, ← at2 hI i]
  rfl

/-- The column block of a point: its own, and the last one after the last item that has rows. -/
abbrev col (L : ℕ) (i : grid0.Coords) : ℕ := if L < (i 0).val then 3 else (i 1).val

theorem col_word (i : grid0.Coords) (hL : L < 128) :
    (Scalar.select (Scalar.cmpi .sgt (BitVec.ofNat 32 (i 0).val) (BitVec.ofNat 32 L)) 3#32 (BitVec.ofNat 32 (i 1).val)).toNat = col L i := by
  have h0 : (i 0).val < 128 := (i 0).isLt
  have h1 : (i 1).val < 4 := (i 1).isLt
  have hc : Scalar.cmpi .sgt (BitVec.ofNat 32 (i 0).val) (BitVec.ofNat 32 L) = 1#1 ↔ L < (i 0).val :=
    WordCmp.cmpi_sgt_ofNat_eq_one_iff (by omega) (by omega)
  show (if Scalar.cmpi .sgt (BitVec.ofNat 32 (i 0).val) (BitVec.ofNat 32 L) = 1#1 then 3#32 else BitVec.ofNat 32 (i 1).val).toNat = _
  unfold col
  by_cases h : L < (i 0).val
  · rw [if_pos h, if_pos (hc.mpr h)]; rfl
  · rw [if_neg h, if_neg (fun hh => h (hc.mp hh)), BitVec.toNat_ofNat]; omega

theorem where4 (hI : Items e b n L pf) (i : grid0.Coords) : cc0_transform_4 k0_off1_inb numel1_S1 inb_S1_S1_0 pf i = ![64 + e (item i), 0, col L i] := by
  have h : (64#32 + BitVec.ofNat 32 (e (item i))).toNat = 64 + e (item i) := by
    have := hI.he (item i)
    rw [BitVec.toNat_add, BitVec.toNat_ofNat, BitVec.toNat_ofNat]; omega
  rw [← col_word i hI.hl, ← h, ← at0 hI i, ← at3 hI]
  rfl
theorem where5 (hI : Items e b n L pf) (i : grid0.Coords) : cc0_transform_5 k0_off1_inb numel1_S1 inb_S1_S1_0 pf i = ![64 + e (item i), 0, col L i] := by
  have h : (64#32 + BitVec.ofNat 32 (e (item i))).toNat = 64 + e (item i) := by
    have := hI.he (item i)
    rw [BitVec.toNat_add, BitVec.toNat_ofNat, BitVec.toNat_ofNat]; omega
  rw [← col_word i hI.hl, ← h, ← at0 hI i, ← at3 hI]
  rfl
theorem where6 (hI : Items e b n L pf) (i : grid0.Coords) : cc0_transform_6 inb_S1_S1_0 numel1_S1 pf i = ![min (i 0).val L, col L i] := by
  have h0 : (i 0).val < 128 := (i 0).isLt
  have h : (Scalar.minsi (BitVec.ofNat 32 (i 0).val) (BitVec.ofNat 32 L)).toNat = min (i 0).val L := by
    have hl := hI.hl
    have hc : (BitVec.ofNat 32 (i 0).val).slt (BitVec.ofNat 32 L) = true ↔ (i 0).val < L := by
      rw [BitVec.slt_iff_toInt_lt, WordCmp.toInt_ofNat_of_lt (by omega), WordCmp.toInt_ofNat_of_lt (by omega)]; omega
    show (if (BitVec.ofNat 32 (i 0).val).slt (BitVec.ofNat 32 L) = true then BitVec.ofNat 32 (i 0).val else BitVec.ofNat 32 L).toNat = _
    by_cases h : (i 0).val < L
    · rw [if_pos (hc.mpr h), BitVec.toNat_ofNat]; omega
    · rw [if_neg (fun hh => h (hc.mp hh)), BitVec.toNat_ofNat]; omega
  rw [← col_word i hI.hl, ← h, ← at3 hI]
  rfl

/-- The tables of the precondition keep every block inside its array. -/
theorem ok_of_items (hI : Items e b n L pf) : ok0 pf := by
  have ha : ∀ i : grid0.Coords, b (item i) + max (n (item i)) 1 ≤ 256 := fun i => hI.hb _
  have he : ∀ i : grid0.Coords, e (item i) < 64 := fun i => hI.he _
  have hc : ∀ i : grid0.Coords, col L i < 4 := fun i => by
    have h1 : (i 1).val < 4 := (i 1).isLt
    unfold col; split <;> omega
  have hl := hI.hl
  refine ⟨fun i => ?_, fun i => ?_, fun i => ?_, fun i => ?_, fun i => ?_, fun i => ?_, fun i => ?_⟩
  all_goals have ha := ha i; have he := he i; have hc := hc i
  · refine ⟨?_, Or.inr (Affine.block_words_dvd (by decide) (by decide))⟩
    rw [where0 hI i]
    intro a
    match a with
    | 0 => show (b (item i) + min 0 (n (item i) - 1) + 1) * 256 ≤ 65536; omega
    | 1 => show (0 + 1) * 4096 ≤ 4096; omega
  · refine ⟨?_, Or.inr (Affine.block_words_dvd (by decide) (by decide))⟩
    rw [where1 hI i]
    intro a
    match a with
    | 0 => show (b (item i) + min 1 (n (item i) - 1) + 1) * 256 ≤ 65536; omega
    | 1 => show (0 + 1) * 4096 ≤ 4096; omega
  · refine ⟨?_, Or.inr (Affine.block_words_dvd (by decide) (by decide))⟩
    rw [where2 hI i]
    intro a
    match a with
    | 0 => show (b (item i) + min 2 (n (item i) - 1) + 1) * 256 ≤ 65536; omega
    | 1 => show (0 + 1) * 4096 ≤ 4096; omega
  · refine ⟨?_, Or.inr (Affine.block_words_dvd (by decide) (by decide))⟩
    rw [where3 hI i]
    intro a
    match a with
    | 0 => show (b (item i) + min 3 (n (item i) - 1) + 1) * 256 ≤ 65536; omega
    | 1 => show (0 + 1) * 4096 ≤ 4096; omega
  · refine ⟨?_, Or.inl rfl⟩
    rw [where4 hI i]
    intro a
    match a with
    | 0 => show (64 + e (item i) + 1) * 1 ≤ 128; omega
    | 1 => show (0 + 1) * 4096 ≤ 4096; omega
    | 2 => show (col L i + 1) * 256 ≤ 1024; omega
  · refine ⟨?_, Or.inl rfl⟩
    rw [where5 hI i]
    intro a
    match a with
    | 0 => show (64 + e (item i) + 1) * 1 ≤ 128; omega
    | 1 => show (0 + 1) * 4096 ≤ 4096; omega
    | 2 => show (col L i + 1) * 256 ≤ 1024; omega
  · refine ⟨?_, Or.inr (Affine.block_words_dvd (by decide) (by decide))⟩
    rw [where6 hI i]
    intro a
    match a with
    | 0 => show (min (i 0).val L + 1) * 1024 ≤ 131072; omega
    | 1 => show (col L i + 1) * 256 ≤ 1024; omega

end Cert.Kernel6Ideal.Gen

end
-- ==== Proof.ExpertsOut.lean ====
/-
  What the experts' call leaves in its output's buffer at a point.
-/
module

public import proofs.«01_k».proof.Proof.ExpertsFacts

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What an item of 1 block leaves: the products on its first 256 rows, zeros below. -/
def pieces1 (x0 x1 x2 x3 : Vec F S256x4096 .bf16) (x4 x5 : Vec F S1x4096x256 .f32) : List (View.Piece (Elt F) S1024x256 .bf16) :=
  [⟨Rect.unit (s := S1024x256) ![256, 0] S768x256.size inb_S1024x256_S768x256_256_0, k0_pay2 (F := F)⟩,
    ⟨Rect.unit (s := S1024x256) ![0, 0] S256x256.size inb_S1024x256_S256x256_0_0, k0_pay1 x0 x4 x5⟩]
/-- What an item of 2 blocks leaves: the products on its first 512 rows, zeros below. -/
def pieces2 (x0 x1 x2 x3 : Vec F S256x4096 .bf16) (x4 x5 : Vec F S1x4096x256 .f32) : List (View.Piece (Elt F) S1024x256 .bf16) :=
  [⟨Rect.unit (s := S1024x256) ![512, 0] S512x256.size inb_S1024x256_S512x256_512_0, k0_pay4 (F := F)⟩,
    ⟨Rect.unit (s := S1024x256) ![0, 0] S512x256.size inb_S1024x256_S512x256_0_0, k0_pay3 x0 x1 x4 x5⟩]
/-- What an item of 3 blocks leaves: the products on its first 768 rows, zeros below. -/
def pieces3 (x0 x1 x2 x3 : Vec F S256x4096 .bf16) (x4 x5 : Vec F S1x4096x256 .f32) : List (View.Piece (Elt F) S1024x256 .bf16) :=
  [⟨Rect.unit (s := S1024x256) ![768, 0] S256x256.size inb_S1024x256_S256x256_768_0, k0_pay6 (F := F)⟩,
    ⟨Rect.unit (s := S1024x256) ![0, 0] S768x256.size inb_S1024x256_S768x256_0_0, k0_pay5 x0 x1 x2 x4 x5⟩]
/-- What an item of 4 blocks leaves: the products on all the rows. -/
def pieces4 (x0 x1 x2 x3 : Vec F S256x4096 .bf16) (x4 x5 : Vec F S1x4096x256 .f32) : List (View.Piece (Elt F) S1024x256 .bf16) :=
  [⟨Rect.unit (s := S1024x256) ![0, 0] S1024x256.size inb_S1024x256_S1024x256_0_0, k0_pay7 x0 x1 x2 x3 x4 x5⟩]

theorem cover1 (x0 x1 x2 x3 : Vec F S256x4096 .bf16) (x4 x5 : Vec F S1x4096x256 .f32) (y : S1024x256.Idx) : ∃ p ∈ pieces1 x0 x1 x2 x3 x4 x5, y ∈ p.1.set := by
  have h0 : (y 0).val < 1024 := (y 0).isLt
  have h1 : (y 1).val < 256 := (y 1).isLt
  by_cases h : (y 0).val < 256
  · refine ⟨_, List.mem_cons_of_mem _ List.mem_cons_self, ?_⟩
    rw [Rect.mem_set_unit]
    intro a
    match a with
    | 0 => exact ⟨Nat.zero_le _, by show _ < 0 + 256; omega⟩
    | 1 => exact ⟨Nat.zero_le _, by show _ < 0 + 256; omega⟩
  · refine ⟨_, List.mem_cons_self, ?_⟩
    rw [Rect.mem_set_unit]
    intro a
    match a with
    | 0 => exact ⟨by show 256 ≤ _; omega, by show _ < 256 + 768; omega⟩
    | 1 => exact ⟨Nat.zero_le _, by show _ < 0 + 256; omega⟩
theorem cover2 (x0 x1 x2 x3 : Vec F S256x4096 .bf16) (x4 x5 : Vec F S1x4096x256 .f32) (y : S1024x256.Idx) : ∃ p ∈ pieces2 x0 x1 x2 x3 x4 x5, y ∈ p.1.set := by
  have h0 : (y 0).val < 1024 := (y 0).isLt
  have h1 : (y 1).val < 256 := (y 1).isLt
  by_cases h : (y 0).val < 512
  · refine ⟨_, List.mem_cons_of_mem _ List.mem_cons_self, ?_⟩
    rw [Rect.mem_set_unit]
    intro a
    match a with
    | 0 => exact ⟨Nat.zero_le _, by show _ < 0 + 512; omega⟩
    | 1 => exact ⟨Nat.zero_le _, by show _ < 0 + 256; omega⟩
  · refine ⟨_, List.mem_cons_self, ?_⟩
    rw [Rect.mem_set_unit]
    intro a
    match a with
    | 0 => exact ⟨by show 512 ≤ _; omega, by show _ < 512 + 512; omega⟩
    | 1 => exact ⟨Nat.zero_le _, by show _ < 0 + 256; omega⟩
theorem cover3 (x0 x1 x2 x3 : Vec F S256x4096 .bf16) (x4 x5 : Vec F S1x4096x256 .f32) (y : S1024x256.Idx) : ∃ p ∈ pieces3 x0 x1 x2 x3 x4 x5, y ∈ p.1.set := by
  have h0 : (y 0).val < 1024 := (y 0).isLt
  have h1 : (y 1).val < 256 := (y 1).isLt
  by_cases h : (y 0).val < 768
  · refine ⟨_, List.mem_cons_of_mem _ List.mem_cons_self, ?_⟩
    rw [Rect.mem_set_unit]
    intro a
    match a with
    | 0 => exact ⟨Nat.zero_le _, by show _ < 0 + 768; omega⟩
    | 1 => exact ⟨Nat.zero_le _, by show _ < 0 + 256; omega⟩
  · refine ⟨_, List.mem_cons_self, ?_⟩
    rw [Rect.mem_set_unit]
    intro a
    match a with
    | 0 => exact ⟨by show 768 ≤ _; omega, by show _ < 768 + 256; omega⟩
    | 1 => exact ⟨Nat.zero_le _, by show _ < 0 + 256; omega⟩
theorem cover4 (x0 x1 x2 x3 : Vec F S256x4096 .bf16) (x4 x5 : Vec F S1x4096x256 .f32) (y : S1024x256.Idx) : ∃ p ∈ pieces4 x0 x1 x2 x3 x4 x5, y ∈ p.1.set := by
  have h0 : (y 0).val < 1024 := (y 0).isLt
  have h1 : (y 1).val < 256 := (y 1).isLt
  refine ⟨_, List.mem_cons_self, ?_⟩
  rw [Rect.mem_set_unit]
  intro a
  match a with
  | 0 => exact ⟨Nat.zero_le _, by show _ < 0 + 1024; omega⟩
  | 1 => exact ⟨Nat.zero_le _, by show _ < 0 + 256; omega⟩

/-- What the body leaves in the output's buffer for an item of `k` blocks, at a point that has rows. -/
def outN (k : ℕ) (x0 x1 x2 x3 : Vec F S256x4096 .bf16) (x4 x5 : Vec F S1x4096x256 .f32) : Vec F S1024x256 .bf16 :=
  if k = 1 then View.canon (pieces1 x0 x1 x2 x3 x4 x5) else if k = 2 then View.canon (pieces2 x0 x1 x2 x3 x4 x5)
  else if k = 3 then View.canon (pieces3 x0 x1 x2 x3 x4 x5) else View.canon (pieces4 x0 x1 x2 x3 x4 x5)

theorem z2 : (![0, 0] : Fin 2 → ℕ) = fun _ => 0 := by decide
theorem z3 : (![0, 0, 0] : Fin 3 → ℕ) = fun _ => 0 := by decide

theorem run1_pieces (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 x1 x2 x3 : Vec F S256x4096 .bf16) (x4 x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : k0_cond1 (word c i xt2) = 1#1) (hc2 : ¬k0_cond2 (word c i xt2) = 1#1) (hc3 : ¬k0_cond3 (word c i xt2) = 1#1) (hc4 : ¬k0_cond4 (word c i xt2) = 1#1) :
    (run1 c i arg6 harg6 arg7 harg7 arg8 harg8 arg9 harg9 arg10 harg10 arg11 harg11 arg12 harg12 x0 x1 x2 x3 x4 x5 xt0 xt1 xt2 xt3 hc1 hc2 hc3 hc4).1 = pieces1 x0 x1 x2 x3 x4 x5 := by
  unfold run1
  dsimp only
  sl_unfold_words
  simp only [View.readAt_eq_ld, harg6.read_unread, harg7.read_unread, harg8.read_unread, harg9.read_unread, harg10.read_unread, harg11.read_unread, View.ld_unit_zero (S := S1x4096x256) z3,
    View.ld_unit_zero (S := S256x4096) z2]
  rfl
theorem run1_read (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 x1 x2 x3 : Vec F S256x4096 .bf16) (x4 x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : k0_cond1 (word c i xt2) = 1#1) (hc2 : ¬k0_cond2 (word c i xt2) = 1#1) (hc3 : ¬k0_cond3 (word c i xt2) = 1#1) (hc4 : ¬k0_cond4 (word c i xt2) = 1#1) (f) :
    arg12.view.read (Elt F) (arg12.view.writes (Elt F) f (run1 c i arg6 harg6 arg7 harg7 arg8 harg8 arg9 harg9 arg10 harg10 arg11 harg11 arg12 harg12 x0 x1 x2 x3 x4 x5 xt0 xt1 xt2 xt3 hc1 hc2 hc3 hc4).1)
      = View.canon (pieces1 x0 x1 x2 x3 x4 x5) := by
  rw [run1_pieces, View.read_writes_eq_canon _ _ _ (cover1 _ _ _ _ _ _)]
theorem run2_pieces (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 x1 x2 x3 : Vec F S256x4096 .bf16) (x4 x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : k0_cond2 (word c i xt2) = 1#1) (hc3 : ¬k0_cond3 (word c i xt2) = 1#1) (hc4 : ¬k0_cond4 (word c i xt2) = 1#1) :
    (run2 c i arg6 harg6 arg7 harg7 arg8 harg8 arg9 harg9 arg10 harg10 arg11 harg11 arg12 harg12 x0 x1 x2 x3 x4 x5 xt0 xt1 xt2 xt3 hc1 hc2 hc3 hc4).1 = pieces2 x0 x1 x2 x3 x4 x5 := by
  unfold run2
  dsimp only
  sl_unfold_words
  simp only [View.readAt_eq_ld, harg6.read_unread, harg7.read_unread, harg8.read_unread, harg9.read_unread, harg10.read_unread, harg11.read_unread, View.ld_unit_zero (S := S1x4096x256) z3,
    View.ld_unit_zero (S := S256x4096) z2]
  rfl
theorem run2_read (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 x1 x2 x3 : Vec F S256x4096 .bf16) (x4 x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : k0_cond2 (word c i xt2) = 1#1) (hc3 : ¬k0_cond3 (word c i xt2) = 1#1) (hc4 : ¬k0_cond4 (word c i xt2) = 1#1) (f) :
    arg12.view.read (Elt F) (arg12.view.writes (Elt F) f (run2 c i arg6 harg6 arg7 harg7 arg8 harg8 arg9 harg9 arg10 harg10 arg11 harg11 arg12 harg12 x0 x1 x2 x3 x4 x5 xt0 xt1 xt2 xt3 hc1 hc2 hc3 hc4).1)
      = View.canon (pieces2 x0 x1 x2 x3 x4 x5) := by
  rw [run2_pieces, View.read_writes_eq_canon _ _ _ (cover2 _ _ _ _ _ _)]
theorem run3_pieces (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 x1 x2 x3 : Vec F S256x4096 .bf16) (x4 x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : k0_cond3 (word c i xt2) = 1#1) (hc4 : ¬k0_cond4 (word c i xt2) = 1#1) :
    (run3 c i arg6 harg6 arg7 harg7 arg8 harg8 arg9 harg9 arg10 harg10 arg11 harg11 arg12 harg12 x0 x1 x2 x3 x4 x5 xt0 xt1 xt2 xt3 hc1 hc2 hc3 hc4).1 = pieces3 x0 x1 x2 x3 x4 x5 := by
  unfold run3
  dsimp only
  sl_unfold_words
  simp only [View.readAt_eq_ld, harg6.read_unread, harg7.read_unread, harg8.read_unread, harg9.read_unread, harg10.read_unread, harg11.read_unread, View.ld_unit_zero (S := S1x4096x256) z3,
    View.ld_unit_zero (S := S256x4096) z2]
  rfl
theorem run3_read (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 x1 x2 x3 : Vec F S256x4096 .bf16) (x4 x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : k0_cond3 (word c i xt2) = 1#1) (hc4 : ¬k0_cond4 (word c i xt2) = 1#1) (f) :
    arg12.view.read (Elt F) (arg12.view.writes (Elt F) f (run3 c i arg6 harg6 arg7 harg7 arg8 harg8 arg9 harg9 arg10 harg10 arg11 harg11 arg12 harg12 x0 x1 x2 x3 x4 x5 xt0 xt1 xt2 xt3 hc1 hc2 hc3 hc4).1)
      = View.canon (pieces3 x0 x1 x2 x3 x4 x5) := by
  rw [run3_pieces, View.read_writes_eq_canon _ _ _ (cover3 _ _ _ _ _ _)]
theorem run4_pieces (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 x1 x2 x3 : Vec F S256x4096 .bf16) (x4 x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : ¬k0_cond3 (word c i xt2) = 1#1) (hc4 : k0_cond4 (word c i xt2) = 1#1) :
    (run4 c i arg6 harg6 arg7 harg7 arg8 harg8 arg9 harg9 arg10 harg10 arg11 harg11 arg12 harg12 x0 x1 x2 x3 x4 x5 xt0 xt1 xt2 xt3 hc1 hc2 hc3 hc4).1 = pieces4 x0 x1 x2 x3 x4 x5 := by
  unfold run4
  dsimp only
  sl_unfold_words
  simp only [View.readAt_eq_ld, harg6.read_unread, harg7.read_unread, harg8.read_unread, harg9.read_unread, harg10.read_unread, harg11.read_unread, View.ld_unit_zero (S := S1x4096x256) z3,
    View.ld_unit_zero (S := S256x4096) z2]
  rfl
theorem run4_read (c : Dev nD) (i : grid0.Coords) (arg6 : Memref sig .tc .vmem S256x4096 .bf16) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S1x4096x256 .f32) (harg10 : arg10.IsWhole) (arg11 : Memref sig .tc .vmem S1x4096x256 .f32) (harg11 : arg11.IsWhole) (arg12 : Memref sig .tc .vmem S1024x256 .bf16) (harg12 : arg12.IsWhole)
    (x0 x1 x2 x3 : Vec F S256x4096 .bf16) (x4 x5 : Vec F S1x4096x256 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : ¬k0_cond3 (word c i xt2) = 1#1) (hc4 : k0_cond4 (word c i xt2) = 1#1) (f) :
    arg12.view.read (Elt F) (arg12.view.writes (Elt F) f (run4 c i arg6 harg6 arg7 harg7 arg8 harg8 arg9 harg9 arg10 harg10 arg11 harg11 arg12 harg12 x0 x1 x2 x3 x4 x5 xt0 xt1 xt2 xt3 hc1 hc2 hc3 hc4).1)
      = View.canon (pieces4 x0 x1 x2 x3 x4 x5) := by
  rw [run4_pieces, View.read_writes_eq_canon _ _ _ (cover4 _ _ _ _ _ _)]

end Cert.Kernel6Ideal.Gen

end
-- ==== Proof.ExpertsFrame.lean ====
/-
  The experts' call at every point, and its run: what its arrays hold at the end.
-/
module

public import proofs.«01_k».proof.Proof.ExpertsOut
public import Idealize.ShloMosaic.Lib.Pipeline.TableIdle
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {e b n : ℕ → ℕ} {L : ℕ} (hI : Items e b n L (tbl m))

/-- The tables' side condition. -/
abbrev hok : Ok m := ok_of_items hI

theorem points : (cfgM m (hok m hI)).N = 512 := N_0

/-- What a point's body leaves in the output's buffer, at a point whose item has rows. -/
def outAt (c : Dev nD) (t : Fin (cfgM m (hok m hI)).N) : Vec F S1024x256 .bf16 :=
  outN (n (item (grid0.coords t))) (iblk m (hok m hI) c 0 t) (iblk m (hok m hI) c 1 t) (iblk m (hok m hI) c 2 t) (iblk m (hok m hI) c 3 t) (iblk m (hok m hI) c 4 t) (iblk m (hok m hI) c 5 t)

/-- The last point up to `t` whose item has rows. -/
def back (t : Fin (cfgM m (hok m hI)).N) : Fin (cfgM m (hok m hI)).N := ⟨min t.val (4 * L + 3), lt_of_le_of_lt (min_le_left _ _) t.isLt⟩

/-- The call's proof data: after a point each input's buffer holds its block, and the output's what the last point with rows left. -/
def dats (_ : Fin 1) (c : Dev nD) : Dat τ (Elt F) Unit ℕ (UR sig nD τ) ℕ (cfgM m (hok m hI)) c where
  A w := V m c (Pipeline.arrRef spec0 w)
  after w t := match w with
    | ⟨0, _⟩ => iblk m (hok m hI) c 0 t
    | ⟨1, _⟩ => iblk m (hok m hI) c 1 t
    | ⟨2, _⟩ => iblk m (hok m hI) c 2 t
    | ⟨3, _⟩ => iblk m (hok m hI) c 3 t
    | ⟨4, _⟩ => iblk m (hok m hI) c 4 t
    | ⟨5, _⟩ => iblk m (hok m hI) c 5 t
    | ⟨6, _⟩ => outAt m hI c (back m hI t)
  Φ _ := iprop(Pipeline.ΦA spec0 c ∗ Pipeline.ΦT pre0 (tbl m) c)
  q w := Pipeline.shareOf spec0 w
  owed _ := 0

theorem A_eq (c : Dev nD) (w : Fin (cfgM m (hok m hI)).W) : (dats m hI 0 c).A w = V m c (Pipeline.arrRef spec0 w) := by
  dsimp only [dats]

theorem after0_0 (c : Dev nD) (t : Fin (cfgM m (hok m hI)).N) : (dats m hI 0 c).after 0 t = iblk m (hok m hI) c 0 t := by dsimp only [dats]; try rfl
theorem after0_1 (c : Dev nD) (t : Fin (cfgM m (hok m hI)).N) : (dats m hI 0 c).after 1 t = iblk m (hok m hI) c 1 t := by dsimp only [dats]; try rfl
theorem after0_2 (c : Dev nD) (t : Fin (cfgM m (hok m hI)).N) : (dats m hI 0 c).after 2 t = iblk m (hok m hI) c 2 t := by dsimp only [dats]; try rfl
theorem after0_3 (c : Dev nD) (t : Fin (cfgM m (hok m hI)).N) : (dats m hI 0 c).after 3 t = iblk m (hok m hI) c 3 t := by dsimp only [dats]; try rfl
theorem after0_4 (c : Dev nD) (t : Fin (cfgM m (hok m hI)).N) : (dats m hI 0 c).after 4 t = iblk m (hok m hI) c 4 t := by dsimp only [dats]; try rfl
theorem after0_5 (c : Dev nD) (t : Fin (cfgM m (hok m hI)).N) : (dats m hI 0 c).after 5 t = iblk m (hok m hI) c 5 t := by dsimp only [dats]; try rfl
theorem after0_6 (c : Dev nD) (t : Fin (cfgM m (hok m hI)).N) : (dats m hI 0 c).after 6 t = outAt m hI c (back m hI t) := by dsimp only [dats]; try rfl

theorem before0_0 (c : Dev nD) (t : Fin (cfgM m (hok m hI)).N) (d) : (dats m hI 0 c).before 0 t d = iblk m (hok m hI) c 0 t :=
  before0_0_of m (hok m hI) (dats m hI 0 c) (A_eq m hI c 0) (after0_0 m hI c) t d
theorem before0_1 (c : Dev nD) (t : Fin (cfgM m (hok m hI)).N) (d) : (dats m hI 0 c).before 1 t d = iblk m (hok m hI) c 1 t :=
  before0_1_of m (hok m hI) (dats m hI 0 c) (A_eq m hI c 1) (after0_1 m hI c) t d
theorem before0_2 (c : Dev nD) (t : Fin (cfgM m (hok m hI)).N) (d) : (dats m hI 0 c).before 2 t d = iblk m (hok m hI) c 2 t :=
  before0_2_of m (hok m hI) (dats m hI 0 c) (A_eq m hI c 2) (after0_2 m hI c) t d
theorem before0_3 (c : Dev nD) (t : Fin (cfgM m (hok m hI)).N) (d) : (dats m hI 0 c).before 3 t d = iblk m (hok m hI) c 3 t :=
  before0_3_of m (hok m hI) (dats m hI 0 c) (A_eq m hI c 3) (after0_3 m hI c) t d
theorem before0_4 (c : Dev nD) (t : Fin (cfgM m (hok m hI)).N) (d) : (dats m hI 0 c).before 4 t d = iblk m (hok m hI) c 4 t :=
  before0_4_of m (hok m hI) (dats m hI 0 c) (A_eq m hI c 4) (after0_4 m hI c) t d
theorem before0_5 (c : Dev nD) (t : Fin (cfgM m (hok m hI)).N) (d) : (dats m hI 0 c).before 5 t d = iblk m (hok m hI) c 5 t :=
  before0_5_of m (hok m hI) (dats m hI 0 c) (A_eq m hI c 5) (after0_5 m hI c) t d

/-! ### Where the output is idle, and where it is written back -/

theorem coords_eq : ∀ t : Fin grid0.N, (grid0.coords t 0).val = t.val / 4 ∧ (grid0.coords t 1).val = t.val % 4 := by decide +kernel

theorem idle_iff' (t : Fin (cfgM m (hok m hI)).N) : (cfgM m (hok m hI)).idle 6 ((cfgM m (hok m hI)).grid.coords t) = true ↔ 4 * L + 3 < t.val := by
  refine (idle_iff hI (grid0.coords t)).trans ?_
  have h0 := (coords_eq t).1
  constructor
  · intro h
    by_contra hc
    have := hI.live (item (grid0.coords t)) (by show (grid0.coords t 0).val ≤ L; omega)
    omega
  · intro h
    exact hI.dead (item (grid0.coords t)) (by show L < (grid0.coords t 0).val; omega)

theorem index6 (t : Fin (cfgM m (hok m hI)).N) : ((cfgM m (hok m hI)).win 6).index t = ![min (t.val / 4) L, if L < t.val / 4 then 3 else t.val % 4] := by
  obtain ⟨h0, h1⟩ := coords_eq t
  rw [← h0, ← h1]
  exact where6 hI (grid0.coords t)

theorem flush_dead (t : Fin (cfgM m (hok m hI)).N) (h : 4 * L + 3 ≤ t.val) (h' : t.val < 511) : ((cfgM m (hok m hI)).win 6).flush t = false := by
  have hN := points m hI
  unfold Pipeline.Window.flush
  have h1 : decide (t.val + 1 = (cfgM m (hok m hI)).N) = false := decide_eq_false (by omega)
  have h2 : decide (∃ h : t.val + 1 < (cfgM m (hok m hI)).N, ((cfgM m (hok m hI)).win 6).index ⟨t.val + 1, h⟩ ≠ ((cfgM m (hok m hI)).win 6).index t) = false := by
    refine decide_eq_false ?_
    rintro ⟨h3, h4⟩
    apply h4
    rw [index6 m hI, index6 m hI]
    have e1 : min ((t.val + 1) / 4) L = min (t.val / 4) L := by omega
    have e2 : (if L < (t.val + 1) / 4 then 3 else (t.val + 1) % 4) = (if L < t.val / 4 then 3 else t.val % 4) := by split <;> split <;> omega
    show ![min ((t.val + 1) / 4) L, if L < (t.val + 1) / 4 then 3 else (t.val + 1) % 4] = _
    rw [e1, e2]
  exact (congrArg _ (by rw [h1, h2]; rfl)).trans (Bool.and_false _)

theorem flush_live (t : Fin (cfgM m (hok m hI)).N) (h : t.val < 4 * L + 3) : ((cfgM m (hok m hI)).win 6).flush t = true := by
  have hN := points m hI
  have hl := hI.hl
  have h2 : decide (∃ h : t.val + 1 < (cfgM m (hok m hI)).N, ((cfgM m (hok m hI)).win 6).index ⟨t.val + 1, h⟩ ≠ ((cfgM m (hok m hI)).win 6).index t) = true := by
    refine decide_eq_true ⟨by omega, fun h4 => ?_⟩
    rw [index6 m hI, index6 m hI] at h4
    have a0 : min ((t.val + 1) / 4) L = min (t.val / 4) L := congrFun h4 0
    have a1 : (if L < (t.val + 1) / 4 then 3 else (t.val + 1) % 4) = (if L < t.val / 4 then 3 else t.val % 4) := congrFun h4 1
    rw [if_neg (by omega), if_neg (by omega)] at a1
    omega
  unfold Pipeline.Window.flush
  exact (congrArg _ (by rw [h2]; exact Bool.or_true _)).trans (Bool.and_true _)

theorem fresh_dead : ∀ k, 4 * L + 3 < k → k < 512 → (cfgM m (hok m hI)).fresh 6 k = false := by
  have hN := points m hI
  intro k
  induction k with
  | zero => intro h; omega
  | succ k ih =>
    intro h h'
    have hk : k < (cfgM m (hok m hI)).N := by omega
    rw [Pipeline.Cfg.fresh_succ _ _ k hk, flush_dead m hI ⟨k, hk⟩ (by show 4 * L + 3 ≤ k; omega) (by show k < 511; omega), Bool.false_or]
    by_cases hc : 4 * L + 3 < k
    · rw [ih hc (by omega), Bool.and_false]
    · have : (cfgM m (hok m hI)).idle 6 ((cfgM m (hok m hI)).grid.coords ⟨k, hk⟩) = false := by
        rw [Bool.eq_false_iff]
        intro hh
        exact hc ((idle_iff' m hI ⟨k, hk⟩).mp hh)
      rw [this, Bool.false_and]

theorem back_dead (t : Fin (cfgM m (hok m hI)).N) (h : 4 * L + 3 < t.val) :
    back m hI t = back m hI ⟨t.val - 1, by omega⟩ := by
  apply Fin.ext
  show min t.val (4 * L + 3) = min (t.val - 1) (4 * L + 3)
  omega

/-- At a point without rows the output's buffer still holds what the last point with rows left. -/
theorem before0_6 (c : Dev nD) (t : Fin (cfgM m (hok m hI)).N) (h : 4 * L + 3 < t.val) (d) :
    (dats m hI 0 c).before 6 t d = (dats m hI 0 c).after 6 t := by
  have hN := points m hI
  have ht := t.isLt
  refine ((dats m hI 0 c).before_out_traj 6 rfl (fun _ _ => rfl) (fun t _ hi _ => ?_) t.val t rfl d).trans ?_
  · rw [after0_6 m hI, after0_6 m hI, back_dead m hI t ((idle_iff' m hI t).mp hi)]
  · rw [fresh_dead m hI t.val h (by omega), if_neg Bool.false_ne_true, after0_6 m hI, after0_6 m hI, back_dead m hI t h]

/-! ### The body at a point -/

/-- The body at a point, on the buffers of its windows. -/
abbrev bodyAt0 (a : (pcfg0 (F := F)).Adm) (t : Fin (cfg0 a).N) : Prog (TpuEff nD τ sig (Elt F) Λ₀ .tc) PUnit :=
  cc0_expert_up (grid0.coords t) tbM0_0 htbM0_0 tbM0_1 htbM0_1 tbM0_2 htbM0_2 tbM0_3 htbM0_3 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6))

/-- What the body is called with. -/
def bodyPre (c : Dev nD) (t : Fin (cfgM m (hok m hI)).N) : sProp 𝕄 :=
  iprop((dats m hI 0 c).Φ t.castSucc ∗ (dats m hI 0 c).owesAt () t.castSucc
    ∗ (∃ d, owns (c : Thread nD τ) (ms0_0 m (hok m hI) t) fullShare ((dats m hI 0 c).before 0 t d))
    ∗ (∃ d, owns (c : Thread nD τ) (ms0_1 m (hok m hI) t) fullShare ((dats m hI 0 c).before 1 t d))
    ∗ (∃ d, owns (c : Thread nD τ) (ms0_2 m (hok m hI) t) fullShare ((dats m hI 0 c).before 2 t d))
    ∗ (∃ d, owns (c : Thread nD τ) (ms0_3 m (hok m hI) t) fullShare ((dats m hI 0 c).before 3 t d))
    ∗ (∃ d, owns (c : Thread nD τ) (ms0_4 m (hok m hI) t) fullShare ((dats m hI 0 c).before 4 t d))
    ∗ (∃ d, owns (c : Thread nD τ) (ms0_5 m (hok m hI) t) fullShare ((dats m hI 0 c).before 5 t d))
    ∗ (∃ d, owns (c : Thread nD τ) (ms0_6 m (hok m hI) t) fullShare ((dats m hI 0 c).before 6 t d)))

/-- What it returns. -/
def bodyPost (c : Dev nD) (t : Fin (cfgM m (hok m hI)).N) : sProp 𝕄 :=
  iprop((dats m hI 0 c).Φ t.succ ∗ (dats m hI 0 c).owesAt () t.succ
    ∗ owns (c : Thread nD τ) (ms0_0 m (hok m hI) t) fullShare ((dats m hI 0 c).after 0 t)
    ∗ owns (c : Thread nD τ) (ms0_1 m (hok m hI) t) fullShare ((dats m hI 0 c).after 1 t)
    ∗ owns (c : Thread nD τ) (ms0_2 m (hok m hI) t) fullShare ((dats m hI 0 c).after 2 t)
    ∗ owns (c : Thread nD τ) (ms0_3 m (hok m hI) t) fullShare ((dats m hI 0 c).after 3 t)
    ∗ owns (c : Thread nD τ) (ms0_4 m (hok m hI) t) fullShare ((dats m hI 0 c).after 4 t)
    ∗ owns (c : Thread nD τ) (ms0_5 m (hok m hI) t) fullShare ((dats m hI 0 c).after 5 t)
    ∗ (dats m hI 0 c).leavesExact 6 t)

theorem leaves_live (c : Dev nD) (t : Fin (cfgM m (hok m hI)).N) (h : ¬4 * L + 3 < t.val) :
    (dats m hI 0 c).leavesExact 6 t = owns (c : Thread nD τ) (ms0_6 m (hok m hI) t) fullShare (outAt m hI c t) := by
  have hi : (cfgM m (hok m hI)).idle 6 ((cfgM m (hok m hI)).grid.coords t) = false := by
    rw [Bool.eq_false_iff]; exact fun hh => h ((idle_iff' m hI t).mp hh)
  have hb : back m hI t = t := Fin.ext (min_eq_left (by omega))
  unfold Dat.leavesExact
  rw [hi]
  show owns (c : Thread nD τ) (ms0_6 m (hok m hI) t) fullShare ((dats m hI 0 c).after 6 t) = _
  rw [after0_6 m hI, hb]

theorem leaves_dead (c : Dev nD) (t : Fin (cfgM m (hok m hI)).N) (h : 4 * L + 3 < t.val) (d) :
    owns (c : Thread nD τ) (ms0_6 m (hok m hI) t) fullShare ((dats m hI 0 c).before 6 t d) ⊢ ((dats m hI 0 c).leavesExact 6 t : sProp 𝕄) := by
  have hi := (idle_iff' m hI t).mpr h
  unfold Dat.leavesExact
  rw [hi]
  cases hf : ((cfgM m (hok m hI)).win 6).flush t
  · show _ ⊢ (iprop(∃ d, owns (c : Thread nD τ) (ms0_6 m (hok m hI) t) fullShare ((dats m hI 0 c).before 6 t d)) : sProp 𝕄)
    iintro H; iexists d; iexact H
  · show _ ⊢ (owns (c : Thread nD τ) (ms0_6 m (hok m hI) t) fullShare ((dats m hI 0 c).after 6 t) : sProp 𝕄)
    rw [before0_6 m hI c t h d]

set_option maxHeartbeats 1600000 in
theorem sound0 (c : Dev nD) (t : Fin (cfgM m (hok m hI)).N) (hn : n (item (grid0.coords t)) = 0) :
    bodyPre m hI c t ⊢ wp frame (wpE (defs₀ (F := F)) Variants.none c none) Set.univ (bodyAt0 (adm m (hok m hI)) t) (fun _ => bodyPost m hI c t) := by
  have h0 := (coords_eq t).1
  have ht : 4 * L + 3 < t.val := by
    by_contra h
    have := hI.live (item (grid0.coords t)) (by show (grid0.coords t 0).val ≤ L; omega)
    omega
  have hc1 : ¬k0_cond1 (word c (grid0.coords t) (tbl m 2)) = 1#1 := by rw [word_eq hI, hn]; decide
  have hc2 : ¬k0_cond2 (word c (grid0.coords t) (tbl m 2)) = 1#1 := by rw [word_eq hI, hn]; decide
  have hc3 : ¬k0_cond3 (word c (grid0.coords t) (tbl m 2)) = 1#1 := by rw [word_eq hI, hn]; decide
  have hc4 : ¬k0_cond4 (word c (grid0.coords t) (tbl m 2)) = 1#1 := by rw [word_eq hI, hn]; decide
  unfold bodyPre bodyPost bodyAt0
  simp only [before0_0 m hI, before0_1 m hI, before0_2 m hI, before0_3 m hI, before0_4 m hI, before0_5 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI, after0_2 m hI, after0_3 m hI, after0_4 m hI, after0_5 m hI]
  rw [show (dats m hI 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply (run0 c (grid0.coords t) _ _ _ _ _ _ _ _ _ _ _ _ _ _ (iblk m (hok m hI) c 0 t) (iblk m (hok m hI) c 1 t) (iblk m (hok m hI) c 2 t) (iblk m (hok m hI) c 3 t) (iblk m (hok m hI) c 4 t) (iblk m (hok m hI) c 5 t) _ (tbl m 0) (tbl m 1) (tbl m 2) (tbl m 3) hc1 hc2 hc3 hc4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  isplitl [HT3]; · iexact HT3
  iintro ⟨H0, H1, H2, H3, H4, H5, H6, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves_dead m hI c t ht d6)
  iexact H6

set_option maxHeartbeats 1600000 in
theorem sound1 (c : Dev nD) (t : Fin (cfgM m (hok m hI)).N) (hn : n (item (grid0.coords t)) = 1) :
    bodyPre m hI c t ⊢ wp frame (wpE (defs₀ (F := F)) Variants.none c none) Set.univ (bodyAt0 (adm m (hok m hI)) t) (fun _ => bodyPost m hI c t) := by
  have h0 := (coords_eq t).1
  have ht : ¬4 * L + 3 < t.val := fun h => by
    have := hI.dead (item (grid0.coords t)) (by show L < (grid0.coords t 0).val; omega)
    omega
  have hc1 : k0_cond1 (word c (grid0.coords t) (tbl m 2)) = 1#1 := by rw [word_eq hI, hn]; decide
  have hc2 : ¬k0_cond2 (word c (grid0.coords t) (tbl m 2)) = 1#1 := by rw [word_eq hI, hn]; decide
  have hc3 : ¬k0_cond3 (word c (grid0.coords t) (tbl m 2)) = 1#1 := by rw [word_eq hI, hn]; decide
  have hc4 : ¬k0_cond4 (word c (grid0.coords t) (tbl m 2)) = 1#1 := by rw [word_eq hI, hn]; decide
  unfold bodyPre bodyPost bodyAt0
  simp only [before0_0 m hI, before0_1 m hI, before0_2 m hI, before0_3 m hI, before0_4 m hI, before0_5 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI, after0_2 m hI, after0_3 m hI, after0_4 m hI, after0_5 m hI]
  rw [show (dats m hI 0 c).Φ t.castSucc = iprop(Pipeline.ΦA spec0 c ∗ Pipeline.ΦT pre0 (tbl m) c) from rfl, PhiT0_eq]
  rw [leaves_live m hI c t ht]
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply ((run1 c (grid0.coords t) _ _ _ _ _ _ _ _ _ _ _ _ _ _ (iblk m (hok m hI) c 0 t) (iblk m (hok m hI) c 1 t) (iblk m (hok m hI) c 2 t) (iblk m (hok m hI) c 3 t) (iblk m (hok m hI) c 4 t) (iblk m (hok m hI) c 5 t) (tbl m 0) (tbl m 1) (tbl m 2) (tbl m 3) hc1 hc2 hc3 hc4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT0]; · iexact HT0
  isplitl [HT1]; · iexact HT1
  isplitl [HT2]; · iexact HT2
  isplitl [HT3]; · iexact HT3
  iintro ⟨H0, H1, H2, H3, H4, H5, ⟨%e6, H6⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  refine (run1_read c _ _ _ _ _ _ _ _ _ _ _ _ _ _ _ _ _ _ _ _ _ _ _ _ _ _ _ _ _ _).trans ?_
  unfold outAt outN
  rw [hn, if_pos rfl]

set_option maxHeartbeats 1600000 in
theorem sound2 (c : Dev nD) (t : Fin (cfgM m (hok m hI)).N) (hn : n (item (grid0.coords t)) = 2) :
    bodyPre m hI c t ⊢ wp frame (wpE (defs₀ (F := F)) Variants.none c none) Set.univ (bodyAt0 (adm m (hok m hI)) t) (fun _ => bodyPost m hI c t) := by
  have h0 := (coords_eq t).1
  have ht : ¬4 * L + 3 < t.val := fun h => by
    have := hI.dead (item (grid0.coords t)) (by show L < (grid0.coords t 0).val; omega)
    omega
  have hc1 : ¬k0_cond1 (word c (grid0.coords t) (tbl m 2)) = 1#1 := by rw [word_eq hI, hn]; decide
  have hc2 : k0_cond2 (word c (grid0.coords t) (tbl m 2)) = 1#1 := by rw [word_eq hI, hn]; decide
  have hc3 : ¬k0_cond3 (word c (grid0.coords t) (tbl m 2)) = 1#1 := by rw [word_eq hI, hn]; decide
  have hc4 : ¬k0_cond4 (word c (grid0.coords t) (tbl m 2)) = 1#1 := by rw [word_eq hI, hn]; decide
  unfold bodyPre bodyPost bodyAt0
  simp only [before0_0 m hI, before0_1 m hI, before0_2 m hI, before0_3 m hI, before0_4 m hI, before0_5 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI, after0_2 m hI, after0_3 m hI, after0_4 m hI, after0_5 m hI]
  rw [show (dats m hI 0 c).Φ t.castSucc = iprop(Pipeline.ΦA spec0 c ∗ Pipeline.ΦT pre0 (tbl m) c) from rfl, PhiT0_eq]
  rw [leaves_live m hI c t ht]
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply ((run2 c (grid0.coords t) _ _ _ _ _ _ _ _ _ _ _ _ _ _ (iblk m (hok m hI) c 0 t) (iblk m (hok m hI) c 1 t) (iblk m (hok m hI) c 2 t) (iblk m (hok m hI) c 3 t) (iblk m (hok m hI) c 4 t) (iblk m (hok m hI) c 5 t) (tbl m 0) (tbl m 1) (tbl m 2) (tbl m 3) hc1 hc2 hc3 hc4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT0]; · iexact HT0
  isplitl [HT1]; · iexact HT1
  isplitl [HT2]; · iexact HT2
  isplitl [HT3]; · iexact HT3
  iintro ⟨H0, H1, H2, H3, H4, H5, ⟨%e6, H6⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  refine (run2_read c _ _ _ _ _ _ _ _ _ _ _ _ _ _ _ _ _ _ _ _ _ _ _ _ _ _ _ _ _ _).trans ?_
  unfold outAt outN
  rw [hn, if_neg (by decide), if_pos rfl]

set_option maxHeartbeats 1600000 in
theorem sound3 (c : Dev nD) (t : Fin (cfgM m (hok m hI)).N) (hn : n (item (grid0.coords t)) = 3) :
    bodyPre m hI c t ⊢ wp frame (wpE (defs₀ (F := F)) Variants.none c none) Set.univ (bodyAt0 (adm m (hok m hI)) t) (fun _ => bodyPost m hI c t) := by
  have h0 := (coords_eq t).1
  have ht : ¬4 * L + 3 < t.val := fun h => by
    have := hI.dead (item (grid0.coords t)) (by show L < (grid0.coords t 0).val; omega)
    omega
  have hc1 : ¬k0_cond1 (word c (grid0.coords t) (tbl m 2)) = 1#1 := by rw [word_eq hI, hn]; decide
  have hc2 : ¬k0_cond2 (word c (grid0.coords t) (tbl m 2)) = 1#1 := by rw [word_eq hI, hn]; decide
  have hc3 : k0_cond3 (word c (grid0.coords t) (tbl m 2)) = 1#1 := by rw [word_eq hI, hn]; decide
  have hc4 : ¬k0_cond4 (word c (grid0.coords t) (tbl m 2)) = 1#1 := by rw [word_eq hI, hn]; decide
  unfold bodyPre bodyPost bodyAt0
  simp only [before0_0 m hI, before0_1 m hI, before0_2 m hI, before0_3 m hI, before0_4 m hI, before0_5 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI, after0_2 m hI, after0_3 m hI, after0_4 m hI, after0_5 m hI]
  rw [show (dats m hI 0 c).Φ t.castSucc = iprop(Pipeline.ΦA spec0 c ∗ Pipeline.ΦT pre0 (tbl m) c) from rfl, PhiT0_eq]
  rw [leaves_live m hI c t ht]
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply ((run3 c (grid0.coords t) _ _ _ _ _ _ _ _ _ _ _ _ _ _ (iblk m (hok m hI) c 0 t) (iblk m (hok m hI) c 1 t) (iblk m (hok m hI) c 2 t) (iblk m (hok m hI) c 3 t) (iblk m (hok m hI) c 4 t) (iblk m (hok m hI) c 5 t) (tbl m 0) (tbl m 1) (tbl m 2) (tbl m 3) hc1 hc2 hc3 hc4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT0]; · iexact HT0
  isplitl [HT1]; · iexact HT1
  isplitl [HT2]; · iexact HT2
  isplitl [HT3]; · iexact HT3
  iintro ⟨H0, H1, H2, H3, H4, H5, ⟨%e6, H6⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  refine (run3_read c _ _ _ _ _ _ _ _ _ _ _ _ _ _ _ _ _ _ _ _ _ _ _ _ _ _ _ _ _ _).trans ?_
  unfold outAt outN
  rw [hn, if_neg (by decide), if_neg (by decide), if_pos rfl]

set_option maxHeartbeats 1600000 in
theorem sound4 (c : Dev nD) (t : Fin (cfgM m (hok m hI)).N) (hn : n (item (grid0.coords t)) = 4) :
    bodyPre m hI c t ⊢ wp frame (wpE (defs₀ (F := F)) Variants.none c none) Set.univ (bodyAt0 (adm m (hok m hI)) t) (fun _ => bodyPost m hI c t) := by
  have h0 := (coords_eq t).1
  have ht : ¬4 * L + 3 < t.val := fun h => by
    have := hI.dead (item (grid0.coords t)) (by show L < (grid0.coords t 0).val; omega)
    omega
  have hc1 : ¬k0_cond1 (word c (grid0.coords t) (tbl m 2)) = 1#1 := by rw [word_eq hI, hn]; decide
  have hc2 : ¬k0_cond2 (word c (grid0.coords t) (tbl m 2)) = 1#1 := by rw [word_eq hI, hn]; decide
  have hc3 : ¬k0_cond3 (word c (grid0.coords t) (tbl m 2)) = 1#1 := by rw [word_eq hI, hn]; decide
  have hc4 : k0_cond4 (word c (grid0.coords t) (tbl m 2)) = 1#1 := by rw [word_eq hI, hn]; decide
  unfold bodyPre bodyPost bodyAt0
  simp only [before0_0 m hI, before0_1 m hI, before0_2 m hI, before0_3 m hI, before0_4 m hI, before0_5 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI, after0_2 m hI, after0_3 m hI, after0_4 m hI, after0_5 m hI]
  rw [show (dats m hI 0 c).Φ t.castSucc = iprop(Pipeline.ΦA spec0 c ∗ Pipeline.ΦT pre0 (tbl m) c) from rfl, PhiT0_eq]
  rw [leaves_live m hI c t ht]
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩⟩
  iapply ((run4 c (grid0.coords t) _ _ _ _ _ _ _ _ _ _ _ _ _ _ (iblk m (hok m hI) c 0 t) (iblk m (hok m hI) c 1 t) (iblk m (hok m hI) c 2 t) (iblk m (hok m hI) c 3 t) (iblk m (hok m hI) c 4 t) (iblk m (hok m hI) c 5 t) (tbl m 0) (tbl m 1) (tbl m 2) (tbl m 3) hc1 hc2 hc3 hc4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT0]; · iexact HT0
  isplitl [HT1]; · iexact HT1
  isplitl [HT2]; · iexact HT2
  isplitl [HT3]; · iexact HT3
  iintro ⟨H0, H1, H2, H3, H4, H5, ⟨%e6, H6⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  refine (run4_read c _ _ _ _ _ _ _ _ _ _ _ _ _ _ _ _ _ _ _ _ _ _ _ _ _ _ _ _ _ _).trans ?_
  unfold outAt outN
  rw [hn, if_neg (by decide), if_neg (by decide), if_neg (by decide)]

theorem sound_body (c : Dev nD) (t : Fin (cfgM m (hok m hI)).N) :
    bodyPre m hI c t ⊢ wp frame (wpE (defs₀ (F := F)) Variants.none c none) Set.univ (bodyAt0 (adm m (hok m hI)) t) (fun _ => bodyPost m hI c t) := by
  have h := hI.hn (item (grid0.coords t))
  obtain h | h | h | h | h : n (item (grid0.coords t)) = 0 ∨ n (item (grid0.coords t)) = 1 ∨ n (item (grid0.coords t)) = 2
    ∨ n (item (grid0.coords t)) = 3 ∨ n (item (grid0.coords t)) = 4 := by omega
  · exact sound0 m hI c t h
  · exact sound1 m hI c t h
  · exact sound2 m hI c t h
  · exact sound3 m hI c t h
  · exact sound4 m hI c t h

theorem defs₀_row (t : Fin (cfgM m (hok m hI)).N) :
    defs₀ (F := F) .tc (cfgM m (hok m hI)).body ((cfgM m (hok m hI)).bodyArgs t ((cfgM m (hok m hI)).slots t)) = bodyAt0 (adm m (hok m hI)) t := by
  unfold defs₀; rw [Defs.onTc_tc]

theorem body_obligation (c : Dev nD) : BodyObligation (dats (F := F) m hI 0 c) (defs₀ (F := F)) Variants.none () Set.univ := fun t => by
  rw [bigSep_W0, bigSep_W0, defs₀_row m hI]
  exact triple_restated (sound_body m hI c t) rfl .rfl fun _ => .rfl

/-! ### The run -/

set_option backward.isDefEq.respectTransparency.types false in
/-- Every run of the program ends, its semaphores at zero, every array and every other buffer as the proof data say. -/
theorem run_quiescent : θ_run defs (onTc (τ := τ) (main (F := F))) (s₀ m ρ)
    (fun r => (Pipeline.FramePost (Pipeline.pin pcfgs fun _ => adm m (hok m hI)) (dats m hI) 0 (V m)) r ∧ r.2.sem = fun _ => 0) :=
  Pipeline.θ_run_frameP_shared (Q' := _) pcfgs (fun _ => adm m (hok m hI)) (dats m hI) (0 : Fin 1) launch₀0 defs₀ Variants.none m ρ main
    (hbody := fun c => (body_obligation m hI c).loose) (hq := fun _ _ _ => rfl)
    (howed := fun _ _ => rfl) (V := V m) (hmain := hmain m Variants.none) (hA := A_eq m hI) (hpf := V_pre m) (hΦ := fun _ _ => rfl)

theorem rest0 : main_arg0 ∈ Pipeline.restRefs sig spec0 := Pipeline.mem_restRefs_of main_arg0 (by decide) (by decide)
theorem rest1 : main_arg1 ∈ Pipeline.restRefs sig spec0 := Pipeline.mem_restRefs_of main_arg1 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)
theorem rest4 : main_arg4 ∈ Pipeline.restRefs sig spec0 := Pipeline.mem_restRefs_of main_arg4 (by decide) (by decide)
theorem rest5 : main_arg5 ∈ Pipeline.restRefs sig spec0 := Pipeline.mem_restRefs_of main_arg5 (by decide) (by decide)
theorem rest6 : main_arg6 ∈ Pipeline.restRefs sig spec0 := Pipeline.mem_restRefs_of main_arg6 (by decide) (by decide)
theorem rest7 : main_arg7 ∈ Pipeline.restRefs sig spec0 := Pipeline.mem_restRefs_of main_arg7 (by decide) (by decide)

/-- The arguments after a run are as before it. -/
theorem args_kept (r : PUnit × MemSt nD τ sig (Elt F))
    (h : Pipeline.FramePost (Pipeline.pin pcfgs fun _ => adm m (hok m hI)) (dats m hI) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 rest0).trans (V_main_arg0 m c),
        ((h c).2 main_arg1 rest1).trans (V_main_arg1 m c),
        ((h c).2 main_arg2 rest2).trans (V_main_arg2 m c),
        ((h c).2 main_arg3 rest3).trans (V_main_arg3 m c),
        ((h c).2 main_arg4 rest4).trans (V_main_arg4 m c),
        ((h c).2 main_arg5 rest5).trans (V_main_arg5 m c),
        ((h c).2 main_arg6 rest6).trans (V_main_arg6 m c),
        ((h c).2 main_arg7 rest7).trans (V_main_arg7 m c)⟩

include hI in
/-- Every run of the program ends, its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_kept m hI r h.1, h.2⟩) (run_quiescent m ρ hI)

end Cert.Kernel6Ideal.Gen

end
-- ==== Proof.ExpertsPay.lean ====
/-
  The payloads of the experts' call, read at an index.
-/
module

public import proofs.«01_k».proof.Proof.ExpertsOut

@[expose] public section

noncomputable section

namespace Cert.Kernel6Ideal.Gen

open Idealize.ShloMosaic Cert.Attn Cert.Mm

theorem split (f : Fin 4096 → EReal) :
    ∑ k : Fin 4096, f k = ∑ x : Fin 2048, f ⟨x.val, by omega⟩ + ∑ x : Fin 2048, f ⟨2048 + x.val, by omega⟩ :=
  Fin.sum_univ_add (a := 2048) (b := 2048) f

theorem pay1_at (x0 : Vec Ideal S256x4096 .bf16) (w u : Vec Ideal S1x4096x256 .f32) (r : Fin 256) (j : Fin 256) (f g₁ g₂ : Fin 4096 → EReal)
    (h0 : ∀ q : Fin 256, q.val = r.val → ∀ k, x0 (ix2 q k) = f k) (hw : ∀ k, w (ix3 0 k j) = g₁ k) (hu : ∀ k, u (ix3 0 k j) = g₂ k) :
    k0_pay1 x0 w u (ix2 r j) = swiglu (∑ k : Fin 4096, f k * g₁ k) (∑ k : Fin 4096, f k * g₂ k) := by
  pointwise [k0_pay1]
  have hx : ∀ k : Fin 4096, x0 (ix2 r k) = f k := h0 r rfl
  simp only [hx, hw, hu]
  unfold swiglu
  rw [split (fun k => f k * g₁ k), split (fun k => f k * g₂ k)]

theorem pay3_at (x0 x1 : Vec Ideal S256x4096 .bf16) (w u : Vec Ideal S1x4096x256 .f32) (r : Fin 512) (j : Fin 256) (f g₁ g₂ : Fin 4096 → EReal)
    (h0 : ∀ q : Fin 256, q.val = r.val → ∀ k, x0 (ix2 q k) = f k) (h1 : ∀ q : Fin 256, 256 + q.val = r.val → ∀ k, x1 (ix2 q k) = f k)
    (hw : ∀ k, w (ix3 0 k j) = g₁ k) (hu : ∀ k, u (ix3 0 k j) = g₂ k) :
    k0_pay3 x0 x1 w u (ix2 r j) = swiglu (∑ k : Fin 4096, f k * g₁ k) (∑ k : Fin 4096, f k * g₂ k) := by
  pointwise [k0_pay3]
  have hr := r.isLt
  by_cases n0 : r.val < 256
  · have hx : ∀ k : Fin 4096, x0 (ix2 (⟨r.val, n0⟩ : Fin 256) k) = f k := h0 _ rfl
    simp only [dif_pos n0, hx, hw, hu]
    unfold swiglu
    rw [split (fun k => f k * g₁ k), split (fun k => f k * g₂ k)]
  · have hx : ∀ k : Fin 4096, x1 (ix2 (⟨r.val - 256, by omega⟩ : Fin 256) k) = f k := h1 _ (by show 256 + (r.val - 256) = r.val; omega)
    simp only [dif_neg n0, hx, hw, hu]
    unfold swiglu
    rw [split (fun k => f k * g₁ k), split (fun k => f k * g₂ k)]

theorem pay5_at (x0 x1 x2 : Vec Ideal S256x4096 .bf16) (w u : Vec Ideal S1x4096x256 .f32) (r : Fin 768) (j : Fin 256) (f g₁ g₂ : Fin 4096 → EReal)
    (h0 : ∀ q : Fin 256, q.val = r.val → ∀ k, x0 (ix2 q k) = f k) (h1 : ∀ q : Fin 256, 256 + q.val = r.val → ∀ k, x1 (ix2 q k) = f k)
    (h2 : ∀ q : Fin 256, 512 + q.val = r.val → ∀ k, x2 (ix2 q k) = f k)
    (hw : ∀ k, w (ix3 0 k j) = g₁ k) (hu : ∀ k, u (ix3 0 k j) = g₂ k) :
    k0_pay5 x0 x1 x2 w u (ix2 r j) = swiglu (∑ k : Fin 4096, f k * g₁ k) (∑ k : Fin 4096, f k * g₂ k) := by
  pointwise [k0_pay5]
  have hr := r.isLt
  by_cases n0 : r.val < 256
  · have hx : ∀ k : Fin 4096, x0 (ix2 (⟨r.val, n0⟩ : Fin 256) k) = f k := h0 _ rfl
    simp only [dif_pos n0, hx, hw, hu]
    unfold swiglu
    rw [split (fun k => f k * g₁ k), split (fun k => f k * g₂ k)]
  · by_cases n1 : r.val - 256 < 256
    · have hx : ∀ k : Fin 4096, x1 (ix2 (⟨r.val - 256, n1⟩ : Fin 256) k) = f k := h1 _ (by show 256 + (r.val - 256) = r.val; omega)
      simp only [dif_neg n0, dif_pos n1, hx, hw, hu]
      unfold swiglu
      rw [split (fun k => f k * g₁ k), split (fun k => f k * g₂ k)]
    · have hx : ∀ k : Fin 4096, x2 (ix2 (⟨r.val - 256 - 256, by omega⟩ : Fin 256) k) = f k := h2 _ (by show 512 + (r.val - 256 - 256) = r.val; omega)
      simp only [dif_neg n0, dif_neg n1, hx, hw, hu]
      unfold swiglu
      rw [split (fun k => f k * g₁ k), split (fun k => f k * g₂ k)]

theorem pay7_at (x0 x1 x2 x3 : Vec Ideal S256x4096 .bf16) (w u : Vec Ideal S1x4096x256 .f32) (r : Fin 1024) (j : Fin 256) (f g₁ g₂ : Fin 4096 → EReal)
    (h0 : ∀ q : Fin 256, q.val = r.val → ∀ k, x0 (ix2 q k) = f k) (h1 : ∀ q : Fin 256, 256 + q.val = r.val → ∀ k, x1 (ix2 q k) = f k)
    (h2 : ∀ q : Fin 256, 512 + q.val = r.val → ∀ k, x2 (ix2 q k) = f k) (h3 : ∀ q : Fin 256, 768 + q.val = r.val → ∀ k, x3 (ix2 q k) = f k)
    (hw : ∀ k, w (ix3 0 k j) = g₁ k) (hu : ∀ k, u (ix3 0 k j) = g₂ k) :
    k0_pay7 x0 x1 x2 x3 w u (ix2 r j) = swiglu (∑ k : Fin 4096, f k * g₁ k) (∑ k : Fin 4096, f k * g₂ k) := by
  pointwise [k0_pay7]
  have hr := r.isLt
  by_cases n0 : r.val < 256
  · have hx : ∀ k : Fin 4096, x0 (ix2 (⟨r.val, n0⟩ : Fin 256) k) = f k := h0 _ rfl
    simp only [dif_pos n0, hx, hw, hu]
    unfold swiglu
    rw [split (fun k => f k * g₁ k), split (fun k => f k * g₂ k)]
  · by_cases n1 : r.val - 256 < 256
    · have hx : ∀ k : Fin 4096, x1 (ix2 (⟨r.val - 256, n1⟩ : Fin 256) k) = f k := h1 _ (by show 256 + (r.val - 256) = r.val; omega)
      simp only [dif_neg n0, dif_pos n1, hx, hw, hu]
      unfold swiglu
      rw [split (fun k => f k * g₁ k), split (fun k => f k * g₂ k)]
    · by_cases n2 : r.val - 256 - 256 < 256
      · have hx : ∀ k : Fin 4096, x2 (ix2 (⟨r.val - 256 - 256, n2⟩ : Fin 256) k) = f k := h2 _ (by show 512 + (r.val - 256 - 256) = r.val; omega)
        simp only [dif_neg n0, dif_neg n1, dif_pos n2, hx, hw, hu]
        unfold swiglu
        rw [split (fun k => f k * g₁ k), split (fun k => f k * g₂ k)]
      · have hx : ∀ k : Fin 4096, x3 (ix2 (⟨r.val - 256 - 256 - 256, by omega⟩ : Fin 256) k) = f k := h3 _ (by show 768 + (r.val - 256 - 256 - 256) = r.val; omega)
        simp only [dif_neg n0, dif_neg n1, dif_neg n2, hx, hw, hu]
        unfold swiglu
        rw [split (fun k => f k * g₁ k), split (fun k => f k * g₂ k)]

theorem canon1_at (x0 x1 x2 x3 : Vec Ideal S256x4096 .bf16) (w u : Vec Ideal S1x4096x256 .f32) (r : Fin 1024) (j : Fin 256) (h : r.val < 256) :
    View.canon (pieces1 x0 x1 x2 x3 w u) (ix2 r j) = k0_pay1 x0 w u (ix2 (⟨r.val, h⟩ : Fin 256) j) := by
  unfold pieces1
  rw [View.canon_cons_of_not_mem _ _ (by
    rw [Rect.mem_set_unit]
    intro hh
    have : 256 ≤ r.val := (hh 0).1
    omega)]
  have e : (ix2 r j : S1024x256.Idx) = (Rect.unit (s := S1024x256) ![0, 0] S256x256.size inb_S1024x256_S256x256_0_0).emb (ix2 (⟨r.val, h⟩ : Fin 256) j) := by
    funext a
    refine Fin.ext ?_
    match a with
    | ⟨0, _⟩ => show r.val = 0 + 1 * r.val; omega
    | ⟨1, _⟩ => show j.val = 0 + 1 * j.val; omega
  rw [e, View.canon_cons_emb]

theorem canon2_at (x0 x1 x2 x3 : Vec Ideal S256x4096 .bf16) (w u : Vec Ideal S1x4096x256 .f32) (r : Fin 1024) (j : Fin 256) (h : r.val < 512) :
    View.canon (pieces2 x0 x1 x2 x3 w u) (ix2 r j) = k0_pay3 x0 x1 w u (ix2 (⟨r.val, h⟩ : Fin 512) j) := by
  unfold pieces2
  rw [View.canon_cons_of_not_mem _ _ (by
    rw [Rect.mem_set_unit]
    intro hh
    have : 512 ≤ r.val := (hh 0).1
    omega)]
  have e : (ix2 r j : S1024x256.Idx) = (Rect.unit (s := S1024x256) ![0, 0] S512x256.size inb_S1024x256_S512x256_0_0).emb (ix2 (⟨r.val, h⟩ : Fin 512) j) := by
    funext a
    refine Fin.ext ?_
    match a with
    | ⟨0, _⟩ => show r.val = 0 + 1 * r.val; omega
    | ⟨1, _⟩ => show j.val = 0 + 1 * j.val; omega
  rw [e, View.canon_cons_emb]

theorem canon3_at (x0 x1 x2 x3 : Vec Ideal S256x4096 .bf16) (w u : Vec Ideal S1x4096x256 .f32) (r : Fin 1024) (j : Fin 256) (h : r.val < 768) :
    View.canon (pieces3 x0 x1 x2 x3 w u) (ix2 r j) = k0_pay5 x0 x1 x2 w u (ix2 (⟨r.val, h⟩ : Fin 768) j) := by
  unfold pieces3
  rw [View.canon_cons_of_not_mem _ _ (by
    rw [Rect.mem_set_unit]
    intro hh
    have : 768 ≤ r.val := (hh 0).1
    omega)]
  have e : (ix2 r j : S1024x256.Idx) = (Rect.unit (s := S1024x256) ![0, 0] S768x256.size inb_S1024x256_S768x256_0_0).emb (ix2 (⟨r.val, h⟩ : Fin 768) j) := by
    funext a
    refine Fin.ext ?_
    match a with
    | ⟨0, _⟩ => show r.val = 0 + 1 * r.val; omega
    | ⟨1, _⟩ => show j.val = 0 + 1 * j.val; omega
  rw [e, View.canon_cons_emb]

theorem outN_at (k : ℕ) (hk : 1 ≤ k) (hk' : k ≤ 4) (x0 x1 x2 x3 : Vec Ideal S256x4096 .bf16) (w u : Vec Ideal S1x4096x256 .f32)
    (r : Fin 1024) (j : Fin 256) (h : r.val < 256 * k) (f g₁ g₂ : Fin 4096 → EReal)
    (h0 : ∀ q : Fin 256, q.val = r.val → ∀ k, x0 (ix2 q k) = f k) (h1 : ∀ q : Fin 256, 256 + q.val = r.val → ∀ k, x1 (ix2 q k) = f k)
    (h2 : ∀ q : Fin 256, 512 + q.val = r.val → ∀ k, x2 (ix2 q k) = f k) (h3 : ∀ q : Fin 256, 768 + q.val = r.val → ∀ k, x3 (ix2 q k) = f k)
    (hw : ∀ k, w (ix3 0 k j) = g₁ k) (hu : ∀ k, u (ix3 0 k j) = g₂ k) :
    outN k x0 x1 x2 x3 w u (ix2 r j) = swiglu (∑ k : Fin 4096, f k * g₁ k) (∑ k : Fin 4096, f k * g₂ k) := by
  unfold outN
  obtain rfl | rfl | rfl | rfl : k = 1 ∨ k = 2 ∨ k = 3 ∨ k = 4 := by omega
  · rw [if_pos rfl, canon1_at _ _ _ _ _ _ r j (by omega)]
    exact pay1_at _ _ _ ⟨r.val, _⟩ j f g₁ g₂ h0 hw hu
  · rw [if_neg (by decide), if_pos rfl, canon2_at _ _ _ _ _ _ r j (by omega)]
    exact pay3_at _ _ _ _ ⟨r.val, _⟩ j f g₁ g₂ h0 h1 hw hu
  · rw [if_neg (by decide), if_neg (by decide), if_pos rfl, canon3_at _ _ _ _ _ _ r j (by omega)]
    exact pay5_at _ _ _ _ _ ⟨r.val, _⟩ j f g₁ g₂ h0 h1 h2 hw hu
  · rw [if_neg (by decide), if_neg (by decide), if_neg (by decide)]
    unfold pieces4
    rw [View.canon_unit_zero z2]
    exact pay7_at _ _ _ _ _ _ r j f g₁ g₂ h0 h1 h2 h3 hw hu

end Cert.Kernel6Ideal.Gen

end
-- ==== Proof.Rows.lean ====
/-
  Rows taken from a table at a column of indices, an index outside the table taken at its nearest row.
-/
module

public import proofs.«01_k».proof.Proof.Softmax

@[expose] public section

noncomputable section

namespace Cert.Rows

open Idealize.ShloMosaic Cert.Attn

/-- The row an index names among `n`. -/
def clip (n : ℕ) (b : BitVec 32) : ℕ := min b.toInt.toNat (n - 1)

theorem clip_lt {n : ℕ} (h : 0 < n) (b : BitVec 32) : clip n b < n := by unfold clip; omega

abbrev rowDims (R C B : ℕ) (wf : GatherDims.WF ⟨2, ![R, C]⟩ ⟨2, ![B, 1]⟩ ⟨2, ![B, C]⟩ [1] [0] [] [0] [] 1 ![1, C]) :
    GatherDims ⟨2, ![R, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

theorem rows_apply {α : Type} {R C B : ℕ} (hR : 0 < R)
    (wf : GatherDims.WF ⟨2, ![R, C]⟩ ⟨2, ![B, 1]⟩ ⟨2, ![B, C]⟩ [1] [0] [] [0] [] 1 ![1, C])
    (x : (⟨2, ![R, C]⟩ : Shape).Idx → α) (idx : IVec ⟨2, ![B, 1]⟩ 32) (p : Fin B) (y : Fin C) :
    Host.gather (rowDims R C B wf) x idx (ix2 p y) = x (ix2 ⟨clip R (idx (ix2 p 0)), clip_lt hR _⟩ y) := by
  unfold Host.gather
  refine congrArg x (funext fun a => Fin.ext ?_)
  show (rowDims R C B wf).start (ix2 p y) idx a + (rowDims R C B wf).batchCoord (ix2 p y) a
      + (rowDims R C B wf).offCoord (ix2 p y) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C B wf).startIndexMap from List.mem_singleton.mpr rfl)]
    have hsi : (rowDims R C B wf).siIdx (ix2 p y) ⟨List.idxOf (0 : Fin 2) (rowDims R C B wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start
    rw [dif_neg (show ¬(1 : Fin 2) ∈ (rowDims R C B wf).startIndexMap from fun h => by
      have := congrArg Fin.val (List.mem_singleton.mp h); simp at this)]
    unfold GatherDims.offCoord
    rw [dif_pos (show (1 : Fin 2) ∈ (rowDims R C B wf).sKept from (GatherDims.mem_sKept _ _).mpr
      ⟨fun h => by have := congrArg Fin.val (List.mem_singleton.mp h); simp at this, List.not_mem_nil⟩)]
    simp only [Nat.zero_add]
    rfl

abbrev rowDims3 (R C D B : ℕ) (wf : GatherDims.WF ⟨3, ![R, C, D]⟩ ⟨2, ![B, 1]⟩ ⟨3, ![B, C, D]⟩ [1, 2] [0] [] [0] [] 1 ![1, C, D]) :
    GatherDims ⟨3, ![R, C, D]⟩ ⟨2, ![B, 1]⟩ ⟨3, ![B, C, D]⟩ where
  offsetDims := [1, 2]
  collapsedSliceDims := [0]
  operandBatchingDims := []
  startIndicesBatchingDims := []
  startIndexMap := [0]
  indexVectorDim := 1
  sliceSizes := ![1, C, D]
  wf := wf

theorem rows3_apply {α : Type} {R C D B : ℕ} (hR : 0 < R)
    (wf : GatherDims.WF ⟨3, ![R, C, D]⟩ ⟨2, ![B, 1]⟩ ⟨3, ![B, C, D]⟩ [1, 2] [0] [] [0] [] 1 ![1, C, D])
    (x : (⟨3, ![R, C, D]⟩ : Shape).Idx → α) (idx : IVec ⟨2, ![B, 1]⟩ 32) (p : Fin B) (y : Fin C) (z : Fin D) :
    Host.gather (rowDims3 R C D B wf) x idx (ix3 p y z) = x (ix3 ⟨clip R (idx (ix2 p 0)), clip_lt hR _⟩ y z) := by
  unfold Host.gather
  refine congrArg x (funext fun a => Fin.ext ?_)
  show (rowDims3 R C D B wf).start (ix3 p y z) idx a + (rowDims3 R C D B wf).batchCoord (ix3 p y z) a
      + (rowDims3 R C D B wf).offCoord (ix3 p y z) a = _
  have hin : ∀ a : Fin 3, a.val ≠ 0 → a ∉ ([0] : List (Fin 3)) := fun a h h' => h (by rw [List.mem_singleton.mp h']; rfl)
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 R C D B wf).startIndexMap from List.mem_singleton.mpr rfl)]
    have hsi : (rowDims3 R C D B wf).siIdx (ix3 p y z) ⟨List.idxOf (0 : Fin 3) (rowDims3 R C D B wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start
    rw [dif_neg (show ¬(1 : Fin 3) ∈ (rowDims3 R C D B wf).startIndexMap from hin 1 (by decide))]
    unfold GatherDims.offCoord
    rw [dif_pos (show (1 : Fin 3) ∈ (rowDims3 R C D B wf).sKept from (GatherDims.mem_sKept _ _).mpr
      ⟨hin 1 (by decide), List.not_mem_nil⟩)]
    simp only [Nat.zero_add]
    rfl
  · rw [GatherDims.batchCoord_eq_zero _ _ _ List.not_mem_nil]
    unfold GatherDims.start
    rw [dif_neg (show ¬(2 : Fin 3) ∈ (rowDims3 R C D B wf).startIndexMap from hin 2 (by decide))]
    unfold GatherDims.offCoord
    rw [dif_pos (show (2 : Fin 3) ∈ (rowDims3 R C D B wf).sKept from (GatherDims.mem_sKept _ _).mpr
      ⟨hin 2 (by decide), List.not_mem_nil⟩)]
    simp only [Nat.zero_add]
    rfl

end Cert.Rows

end
-- ==== Proof.ExpertsRef.lean ====
/-
  The experts' gate and up products read at natural coordinates, and the reference's array.
-/
module

public import proofs.«01_k».proof.Proof.Gen.Reference6Ideal.Run
public import proofs.«01_k».proof.Proof.Gen.Reference6Ideal.Read
public import proofs.«01_k».proof.Proof.Rows
public import proofs.«01_k».proof.Proof.Product
public import Idealize.ShloMosaic.Lib.StableHlo.Predicate

@[expose] public section

noncomputable section

namespace Cert.Experts

open Idealize.ShloMosaic Cert.Attn Cert.Mm Cert.Rows

/-- An array of four axes read at natural coordinates. -/
def rd4 {l e n m : ℕ} [NeZero l] [NeZero e] [NeZero n] [NeZero m] {α : Type} (X : (⟨4, ![l, e, n, m]⟩ : Shape).Idx → α) (a b r c : ℕ) : α :=
  X (ix4 (Fin.ofNat l a) (Fin.ofNat e b) (Fin.ofNat n r) (Fin.ofNat m c))

theorem rd4_of {l e n m : ℕ} [NeZero l] [NeZero e] [NeZero n] [NeZero m] {α : Type} (X : (⟨4, ![l, e, n, m]⟩ : Shape).Idx → α)
    (i : (⟨4, ![l, e, n, m]⟩ : Shape).Idx) {a b r c : ℕ} (h0 : (i 0).val = a) (h1 : (i 1).val = b) (h2 : (i 2).val = r)
    (h3 : (i 3).val = c) : X i = rd4 X a b r c := by
  subst h0 h1 h2 h3
  refine congrArg X (funext fun a => Fin.ext ?_)
  match a with
  | ⟨0, _⟩ => exact (Nat.mod_eq_of_lt (i 0).isLt).symm
  | ⟨1, _⟩ => exact (Nat.mod_eq_of_lt (i 1).isLt).symm
  | ⟨2, _⟩ => exact (Nat.mod_eq_of_lt (i 2).isLt).symm
  | ⟨3, _⟩ => exact (Nat.mod_eq_of_lt (i 3).isLt).symm

/-- The token whose row the slot `s` holds. -/
def tok (st : (⟨1, ![65536]⟩ : Shape).Idx → BitVec 32) (s : ℕ) : ℕ := clip 6144 (st (ix1 (Fin.ofNat 65536 s)))

/-- Slot `s`'s row of the tokens against column `j` of the weights of expert `e` in layer 1. -/
def eprod (H : (⟨2, ![6144, 4096]⟩ : Shape).Idx → EReal) (st : (⟨1, ![65536]⟩ : Shape).Idx → BitVec 32)
    (W : (⟨4, ![2, 64, 4096, 1024]⟩ : Shape).Idx → EReal) (s e j : ℕ) : EReal :=
  ∑ k : Fin 4096, rd H (tok st s) k.val * rd4 W 1 e k.val j

/-- The gated pair of products at slot `s`, expert `e`, column `j`. -/
def gated (H : (⟨2, ![6144, 4096]⟩ : Shape).Idx → EReal) (st : (⟨1, ![65536]⟩ : Shape).Idx → BitVec 32)
    (W U : (⟨4, ![2, 64, 4096, 1024]⟩ : Shape).Idx → EReal) (s e j : ℕ) : EReal :=
  swiglu (eprod H st W s e j) (eprod H st U s e j)

open Cert.Reference6Ideal Cert.Reference6Ideal.Read

theorem slot_at (x5 : S128.Idx → BitVec 32) (r : Fin 131072) {b : ℕ} (hb : x5 (ix1 ⟨r.val / 1024, by omega⟩) = BitVec.ofNat 32 b) :
    val_main_v8 (F := Ideal) x5 (ix1 r) = BitVec.ofNat 32 (b * 256 + r.val % 1024) := by
  rw [val_main_v8_apply, val_main_v7_apply, val_main_v6_apply, val_main_v5_apply, val_main_v4_apply, val_main_v3_apply,
    val_main_v2_apply, val_main_v1_apply, val_main_v0_apply]
  have e : x5 (idx_main_v0 (idx_main_v5 (idx_main_v8 (ix1 r)))) = BitVec.ofNat 32 b :=
    (congrArg x5 (funext fun a => by obtain rfl : a = 0 := Subsingleton.elim _ _; rfl)).trans hb
  rw [e]
  show BitVec.ofNat 32 b * BitVec.ofNat 32 256 + BitVec.ofNat 32 (r.val % 1024) = _
  rw [← BitVec.ofNat_mul, ← BitVec.ofNat_add]

theorem token_at (x1 : S65536.Idx → BitVec 32) (x5 : S128.Idx → BitVec 32) (r : Fin 131072) {b : ℕ}
    (hb : x5 (ix1 ⟨r.val / 1024, by omega⟩) = BitVec.ofNat 32 b) (hs : b * 256 + r.val % 1024 < 65536) :
    val_main_v9 (F := Ideal) x1 x5 (ix1 r) = x1 (ix1 (Fin.ofNat 65536 (b * 256 + r.val % 1024))) := by
  have h := StableHlo.Predicate.gather_take gather_S65536_S131072x1_S131072_n_0_n_n_0_1_1 rfl rfl rfl rfl x1 (val_main_call0_v0 (F := Ideal) x5) r (by decide)
  have e : (ix1 r : S131072.Idx) = Shape.Idx.ofFin r := funext fun a => by obtain rfl : a = 0 := Subsingleton.elim _ _; rfl
  unfold val_main_v9
  rw [e, h]
  refine congrArg x1 (funext fun a => Fin.ext ?_)
  obtain rfl : a = 0 := Subsingleton.elim _ _
  have e2 : val_main_call0_v0 (F := Ideal) x5 (StableHlo.Predicate.ixP r) = BitVec.ofNat 32 (b * 256 + r.val % 1024) := by
    rw [val_main_call0_v0_apply]
    exact (congrArg _ (funext fun a => by obtain rfl : a = 0 := Subsingleton.elim _ _; rfl)).trans (slot_at x5 r hb)
  show min (val_main_call0_v0 (F := Ideal) x5 (StableHlo.Predicate.ixP r)).toInt.toNat (65536 - 1) = (b * 256 + r.val % 1024) % 65536
  rw [e2, StableHlo.Predicate.toInt_ofNat_small _ (by omega)]
  omega

theorem row_at (x0 : S6144x4096.Idx → EReal) (x1 : S65536.Idx → BitVec 32) (x5 : S128.Idx → BitVec 32) (r : Fin 131072) (k : Fin 4096) {b : ℕ}
    (hb : x5 (ix1 ⟨r.val / 1024, by omega⟩) = BitVec.ofNat 32 b) (hs : b * 256 + r.val % 1024 < 65536) :
    val_main_v10 (F := Ideal) x0 x1 x5 (ix2 r k) = rd x0 (tok x1 (b * 256 + r.val % 1024)) k.val := by
  have h := rows_apply (R := 6144) (C := 4096) (B := 131072) (by decide) gather_S6144x4096_S131072x1_S131072x4096_1_0_n_n_0_1_14096.wf x0 (val_main_call1_v0 (F := Ideal) x1 x5) r k
  refine Eq.trans h ?_
  refine rd_of _ _ ?_ rfl
  show clip 6144 (val_main_call1_v0 (F := Ideal) x1 x5 (ix2 r 0)) = _
  rw [val_main_call1_v0_apply]
  exact congrArg (clip 6144) (token_at x1 x5 r hb hs)

theorem weight_at (x2 : S2x64x4096x1024.Idx → EReal) (x4 : S128.Idx → BitVec 32) (p : Fin 128) (k : Fin 4096) (j : Fin 1024) {e : ℕ}
    (he : x4 (ix1 p) = BitVec.ofNat 32 e) (hl : e < 64) :
    val_main_v14 (F := Ideal) x2 x4 (ix3 p k j) = rd4 x2 1 e k.val j.val := by
  have h := rows3_apply (R := 64) (C := 4096) (D := 1024) (B := 128) (by decide) gather_S64x4096x1024_S128x1_S128x4096x1024_12_0_n_n_0_1_140961024.wf
    (val_main_v13 (F := Ideal) x2) (val_main_call2_v0 (F := Ideal) x4) p k j
  refine Eq.trans h ?_
  have hk : k.val < 4096 := k.isLt
  have hj : j.val < 1024 := j.isLt
  have hc : clip 64 (val_main_call2_v0 (F := Ideal) x4 (ix2 p 0)) = e := by
    rw [val_main_call2_v0_apply]
    have e2 : x4 (idx_main_call2_v0 (ix2 p 0)) = BitVec.ofNat 32 e :=
      (congrArg x4 (funext fun a => by obtain rfl : a = 0 := Subsingleton.elim _ _; rfl)).trans he
    rw [e2]
    unfold clip
    rw [StableHlo.Predicate.toInt_ofNat_small _ (by omega)]
    omega
  rw [val_main_v13_apply, val_main_v12_apply]
  refine rd4_of x2 _ rfl ?_ ?_ ?_
  · show ((clip 64 (val_main_call2_v0 (F := Ideal) x4 (ix2 p 0)) * 4096 + k.val) * 1024 + j.val) / 4194304 % 64 = e
    rw [hc]; omega
  · show ((clip 64 (val_main_call2_v0 (F := Ideal) x4 (ix2 p 0)) * 4096 + k.val) * 1024 + j.val) / 1024 % 4096 = k.val
    rw [hc]; omega
  · show ((clip 64 (val_main_call2_v0 (F := Ideal) x4 (ix2 p 0)) * 4096 + k.val) * 1024 + j.val) % 1024 = j.val
    rw [hc]; omega

/-- The two products have the same text. -/
theorem up_same (x0 : S6144x4096.Idx → EReal) (x1 : S65536.Idx → BitVec 32) (x3 : S2x64x4096x1024.Idx → EReal) (x4 x5 : S128.Idx → BitVec 32) :
    val_main_v19 (F := Ideal) x0 x1 x3 x4 x5 = val_main_v15 (F := Ideal) x0 x1 x3 x4 x5 := rfl

theorem gate_at (x0 : S6144x4096.Idx → EReal) (x1 : S65536.Idx → BitVec 32) (x2 : S2x64x4096x1024.Idx → EReal) (x4 x5 : S128.Idx → BitVec 32)
    (r : Fin 131072) (j : Fin 1024) {b e : ℕ}
    (hb : x5 (ix1 ⟨r.val / 1024, by omega⟩) = BitVec.ofNat 32 b) (hs : b * 256 + r.val % 1024 < 65536)
    (he : x4 (ix1 ⟨r.val / 1024, by omega⟩) = BitVec.ofNat 32 e) (hl : e < 64) :
    val_main_v15 (F := Ideal) x0 x1 x2 x4 x5 (ix3 ⟨r.val / 1024, by omega⟩ ⟨r.val % 1024, by omega⟩ j)
      = eprod x0 x1 x2 (b * 256 + r.val % 1024) e j.val := by
  rw [val_main_v15_apply]
  unfold eprod
  refine Finset.sum_congr rfl fun k _ => congrArg₂ (· * ·) ?_ ?_
  · rw [val_main_v11_apply]
    refine Eq.trans (congrArg _ ?_) (row_at x0 x1 x5 r k hb hs)
    have hk : k.val < 4096 := k.isLt
    funext a
    refine Fin.ext ?_
    match a with
    | ⟨0, _⟩ => show ((r.val / 1024 * 1024 + r.val % 1024) * 4096 + k.val) / 4096 = r.val; omega
    | ⟨1, _⟩ => show ((r.val / 1024 * 1024 + r.val % 1024) * 4096 + k.val) % 4096 = k.val; omega
  · refine Eq.trans (congrArg _ ?_) (weight_at x2 x4 ⟨r.val / 1024, by omega⟩ k j he hl)
    funext a
    match a with
    | ⟨0, _⟩ => rfl
    | ⟨1, _⟩ => rfl
    | ⟨2, _⟩ => rfl

theorem ref_at (x0 : S6144x4096.Idx → EReal) (x1 : S65536.Idx → BitVec 32) (x2 x3 : S2x64x4096x1024.Idx → EReal) (x4 x5 : S128.Idx → BitVec 32)
    (r : Fin 131072) (j : Fin 1024) {b e : ℕ}
    (hb : x5 (ix1 ⟨r.val / 1024, by omega⟩) = BitVec.ofNat 32 b) (hs : b * 256 + r.val % 1024 < 65536)
    (he : x4 (ix1 ⟨r.val / 1024, by omega⟩) = BitVec.ofNat 32 e) (hl : e < 64) :
    val_main_v23 (F := Ideal) x0 x1 x2 x3 x4 x5 (ix2 r j) = gated x0 x1 x2 x3 (b * 256 + r.val % 1024) e j.val := by
  have hi : idx_main_v22 (ix2 r j) = ix3 ⟨r.val / 1024, by omega⟩ ⟨r.val % 1024, by omega⟩ j := by
    have hj : j.val < 1024 := j.isLt
    funext a
    refine Fin.ext ?_
    match a with
    | ⟨0, _⟩ => show (r.val * 1024 + j.val) / 1048576 = r.val / 1024; omega
    | ⟨1, _⟩ => show (r.val * 1024 + j.val) / 1024 % 1024 = r.val % 1024; omega
    | ⟨2, _⟩ => show (r.val * 1024 + j.val) % 1024 = j.val; omega
  rw [val_main_v23_apply, val_main_v22_apply, hi, val_main_v21_apply, val_main_v20_apply, val_main_call4_v5_apply, val_main_call4_v4_apply,
    val_main_call4_v3_apply, val_main_call4_v2_apply, val_main_call4_v1_apply, val_main_call4_v0_apply, up_same,
    gate_at x0 x1 x2 x4 x5 r j hb hs he hl, gate_at x0 x1 x3 x4 x5 r j hb hs he hl]
  unfold gated
  generalize eprod x0 x1 x2 (b * 256 + r.val % 1024) e j.val = g
  generalize eprod x0 x1 x3 (b * 256 + r.val % 1024) e j.val = u
  show g * Ideal.div one (one + Ideal.exp (-g)) * u = _
  rw [one_eq]
  rfl

end Cert.Experts

end
-- ==== Proof.ExpertsIn.lean ====
/-
  What the experts' call reads at a point: the rows of its item's tokens and the columns of its expert's weights.
-/
module

public import proofs.«01_k».proof.Proof.ExpertsFrame
public import proofs.«01_k».proof.Proof.ExpertsPay
public import proofs.«01_k».proof.Proof.ExpertsRef

@[expose] public section

set_option maxRecDepth 16384

noncomputable section

namespace Cert.Kernel6Ideal.Gen

open Idealize.ShloMosaic Idealize.ShloMosaic.TcCoe Idealize.ShloMosaic.Tactic
open Idealize.ShloMosaic.Pipeline (Dat Cfg Window)
open Cert.Attn Cert.Mm Cert.Rows Cert.Experts

variable [Cert.Kernel6Ideal.Facts]
variable (m : (ℓ : Loc nD τ sig) → Buf (Elt Ideal) ℓ) {e b n : ℕ → ℕ} {L : ℕ} (hI : Items e b n L (tbl m))

theorem V_v1 (c : Dev nD) : V m c main_v1 = Host.gather gather_S6144x4096_S65536x1_S65536x4096_1_0_n_n_0_1_14096
    (m ((c : Thread nD τ).loc main_arg0) : S6144x4096.Idx → EReal)
    (broadcastInDim S65536x1 ![0] bcast_S65536_S65536x1_0 (m ((c : Thread nD τ).loc main_arg1))) := by
  unfold_abbrev_sides
  after_results
  rfl

theorem V_v2 (c : Dev nD) : V m c main_v2 = shapeCast S128x4096x1024 (m ((c : Thread nD τ).loc main_arg2) : S2x64x4096x1024.Idx → EReal)
    shapeCasts_S2x64x4096x1024_S128x4096x1024 := by
  suffices h : ∀ y, shapeCast S128x4096x1024 (m ((c : Thread nD τ).loc main_arg2) : S2x64x4096x1024.Idx → EReal)
      shapeCasts_S2x64x4096x1024_S128x4096x1024 = y → V m c main_v2 = y from h _ rfl
  intro y hy
  unfold V
  simp only [List.flatten_cons, List.flatten_nil, List.append_nil, List.cons_append, List.nil_append]
  after_results
  exact hy

theorem V_v3 (c : Dev nD) : V m c main_v3 = shapeCast S128x4096x1024 (m ((c : Thread nD τ).loc main_arg3) : S2x64x4096x1024.Idx → EReal)
    shapeCasts_S2x64x4096x1024_S128x4096x1024 := by
  suffices h : ∀ y, shapeCast S128x4096x1024 (m ((c : Thread nD τ).loc main_arg3) : S2x64x4096x1024.Idx → EReal)
      shapeCasts_S2x64x4096x1024_S128x4096x1024 = y → V m c main_v3 = y from h _ rfl
  intro y hy
  unfold V
  simp only [List.flatten_cons, List.flatten_nil, List.append_nil, List.cons_append, List.nil_append]
  after_results
  exact hy

/-- The sorted rows at slot `s`. -/
theorem slots_at (c : Dev nD) (i : S65536x4096.Idx) {s k : ℕ} (h0 : (i 0).val = s) (h1 : (i 1).val = k) :
    V m c main_v1 i = rd (m ((c : Thread nD τ).loc main_arg0)) (tok (m ((c : Thread nD τ).loc main_arg1)) s) k := by
  subst h0 h1
  rw [V_v1]
  have e : i = ix2 (i 0) (i 1) := (ix2_eta i).symm
  refine (congrArg _ e).trans ((rows_apply (by decide) gather_S6144x4096_S65536x1_S65536x4096_1_0_n_n_0_1_14096_wf _ _ (i 0) (i 1)).trans ?_)
  refine rd_of _ _ ?_ rfl
  show clip 6144 _ = clip 6144 _
  refine congrArg (clip 6144) (congrArg (m ((c : Thread nD τ).loc main_arg1) : S65536.Idx → BitVec 32) (funext fun (a : Fin 1) => Fin.ext ?_))
  obtain rfl : a = 0 := Subsingleton.elim _ _
  exact (Nat.mod_eq_of_lt (i 0).isLt).symm

/-- Expert `x` of layer 1 among the layers' experts side by side. -/
theorem side_at (W : S2x64x4096x1024.Idx → EReal) (i : S128x4096x1024.Idx) {x k j : ℕ} (hx : x < 64) (h0 : (i 0).val = 64 + x)
    (h1 : (i 1).val = k) (h2 : (i 2).val = j) :
    shapeCast S128x4096x1024 W shapeCasts_S2x64x4096x1024_S128x4096x1024 i = rd4 W 1 x k j := by
  subst h1 h2
  refine (shapeCast_apply W _ i (ix4 1 ⟨x, hx⟩ (i 1) (i 2)) ?_).trans (rd4_of _ _ rfl rfl rfl rfl)
  rw [Shape.rowMajor_val_four, Shape.rowMajor_val_three]
  show (((1 * 64 + x) * 4096 + (i 1).val) * 1024 + (i 2).val) = ((i 0).val * 4096 + (i 1).val) * 1024 + (i 2).val
  rw [h0, Nat.one_mul]

theorem in0 (c : Dev nD) (t : Fin (cfgM m (hok m hI)).N) (q : Fin 256) (k : Fin 4096) {s : ℕ}
    (hs : s = b (t.val / 4) * 256 + q.val) :
    iblk m (hok m hI) c 0 t (ix2 q k) = rd (m ((c : Thread nD τ).loc main_arg0)) (tok (m ((c : Thread nD τ).loc main_arg1)) s) k.val := by
  have h := where0 hI (grid0.coords t)
  have e0 : (grid0.coords t 0).val = t.val / 4 := (coords_eq t).1
  show V m c main_v1 ((((cfgM m (hok m hI)).win 0).rect t).emb (ix2 q k)) = _
  refine slots_at m c _ ?_ ?_
  · refine (((cfgM m (hok m hI)).win 0).rect_emb_val t (ix2 q k) (0 : Fin 2)).trans ?_
    refine (congrArg (fun z => z * 256 + q.val) (congrFun h 0)).trans ?_
    show (b (grid0.coords t 0).val + min 0 (n (grid0.coords t 0).val - 1)) * 256 + q.val = _
    rw [e0, Nat.zero_min, hs]; rfl
  · refine (((cfgM m (hok m hI)).win 0).rect_emb_val t (ix2 q k) (1 : Fin 2)).trans ?_
    refine (congrArg (fun z => z * 4096 + k.val) (congrFun h 1)).trans ?_
    show 0 * 4096 + k.val = _
    omega

theorem in1 (c : Dev nD) (t : Fin (cfgM m (hok m hI)).N) (q : Fin 256) (k : Fin 4096) {s : ℕ} (hn : 1 ≤ n (t.val / 4) - 1)
    (hs : s = b (t.val / 4) * 256 + (256 + q.val)) :
    iblk m (hok m hI) c 1 t (ix2 q k) = rd (m ((c : Thread nD τ).loc main_arg0)) (tok (m ((c : Thread nD τ).loc main_arg1)) s) k.val := by
  have h := where1 hI (grid0.coords t)
  have e0 : (grid0.coords t 0).val = t.val / 4 := (coords_eq t).1
  show V m c main_v1 ((((cfgM m (hok m hI)).win 1).rect t).emb (ix2 q k)) = _
  refine slots_at m c _ ?_ ?_
  · refine (((cfgM m (hok m hI)).win 1).rect_emb_val t (ix2 q k) (0 : Fin 2)).trans ?_
    refine (congrArg (fun z => z * 256 + q.val) (congrFun h 0)).trans ?_
    show (b (grid0.coords t 0).val + min 1 (n (grid0.coords t 0).val - 1)) * 256 + q.val = _
    rw [e0, Nat.min_eq_left hn, hs]; omega
  · refine (((cfgM m (hok m hI)).win 1).rect_emb_val t (ix2 q k) (1 : Fin 2)).trans ?_
    refine (congrArg (fun z => z * 4096 + k.val) (congrFun h 1)).trans ?_
    show 0 * 4096 + k.val = _
    omega

theorem in2 (c : Dev nD) (t : Fin (cfgM m (hok m hI)).N) (q : Fin 256) (k : Fin 4096) {s : ℕ} (hn : 2 ≤ n (t.val / 4) - 1)
    (hs : s = b (t.val / 4) * 256 + (512 + q.val)) :
    iblk m (hok m hI) c 2 t (ix2 q k) = rd (m ((c : Thread nD τ).loc main_arg0)) (tok (m ((c : Thread nD τ).loc main_arg1)) s) k.val := by
  have h := where2 hI (grid0.coords t)
  have e0 : (grid0.coords t 0).val = t.val / 4 := (coords_eq t).1
  show V m c main_v1 ((((cfgM m (hok m hI)).win 2).rect t).emb (ix2 q k)) = _
  refine slots_at m c _ ?_ ?_
  · refine (((cfgM m (hok m hI)).win 2).rect_emb_val t (ix2 q k) (0 : Fin 2)).trans ?_
    refine (congrArg (fun z => z * 256 + q.val) (congrFun h 0)).trans ?_
    show (b (grid0.coords t 0).val + min 2 (n (grid0.coords t 0).val - 1)) * 256 + q.val = _
    rw [e0, Nat.min_eq_left hn, hs]; omega
  · refine (((cfgM m (hok m hI)).win 2).rect_emb_val t (ix2 q k) (1 : Fin 2)).trans ?_
    refine (congrArg (fun z => z * 4096 + k.val) (congrFun h 1)).trans ?_
    show 0 * 4096 + k.val = _
    omega

theorem in3 (c : Dev nD) (t : Fin (cfgM m (hok m hI)).N) (q : Fin 256) (k : Fin 4096) {s : ℕ} (hn : 3 ≤ n (t.val / 4) - 1)
    (hs : s = b (t.val / 4) * 256 + (768 + q.val)) :
    iblk m (hok m hI) c 3 t (ix2 q k) = rd (m ((c : Thread nD τ).loc main_arg0)) (tok (m ((c : Thread nD τ).loc main_arg1)) s) k.val := by
  have h := where3 hI (grid0.coords t)
  have e0 : (grid0.coords t 0).val = t.val / 4 := (coords_eq t).1
  show V m c main_v1 ((((cfgM m (hok m hI)).win 3).rect t).emb (ix2 q k)) = _
  refine slots_at m c _ ?_ ?_
  · refine (((cfgM m (hok m hI)).win 3).rect_emb_val t (ix2 q k) (0 : Fin 2)).trans ?_
    refine (congrArg (fun z => z * 256 + q.val) (congrFun h 0)).trans ?_
    show (b (grid0.coords t 0).val + min 3 (n (grid0.coords t 0).val - 1)) * 256 + q.val = _
    rw [e0, Nat.min_eq_left hn, hs]; omega
  · refine (((cfgM m (hok m hI)).win 3).rect_emb_val t (ix2 q k) (1 : Fin 2)).trans ?_
    refine (congrArg (fun z => z * 4096 + k.val) (congrFun h 1)).trans ?_
    show 0 * 4096 + k.val = _
    omega

theorem in4 (c : Dev nD) (t : Fin (cfgM m (hok m hI)).N) (ht : t.val / 4 ≤ L) (k : Fin 4096) (j : Fin 256) :
    iblk m (hok m hI) c 4 t (ix3 0 k j) = rd4 (m ((c : Thread nD τ).loc main_arg2)) 1 (e (t.val / 4)) k.val (t.val % 4 * 256 + j.val) := by
  have h := where4 hI (grid0.coords t)
  obtain ⟨e0, e1⟩ := coords_eq t
  have hN := points m hI
  show V m c main_v2 ((((cfgM m (hok m hI)).win 4).rect t).emb (ix3 0 k j)) = _
  rw [V_v2]
  refine side_at _ _ (hI.he ⟨t.val / 4, by omega⟩) ?_ ?_ ?_
  · refine (((cfgM m (hok m hI)).win 4).rect_emb_val t (ix3 0 k j) (0 : Fin 3)).trans ?_
    refine (congrArg (fun z => z * 1 + 0) (congrFun h 0)).trans ?_
    show (64 + e (grid0.coords t 0).val) * 1 + 0 = 64 + e (t.val / 4)
    rw [e0]; omega
  · refine (((cfgM m (hok m hI)).win 4).rect_emb_val t (ix3 0 k j) (1 : Fin 3)).trans ?_
    refine (congrArg (fun z => z * 4096 + k.val) (congrFun h 1)).trans ?_
    show 0 * 4096 + k.val = _
    omega
  · refine (((cfgM m (hok m hI)).win 4).rect_emb_val t (ix3 0 k j) (2 : Fin 3)).trans ?_
    refine (congrArg (fun z => z * 256 + j.val) (congrFun h 2)).trans ?_
    show (if L < (grid0.coords t 0).val then 3 else (grid0.coords t 1).val) * 256 + j.val = _
    rw [e0, e1, if_neg (by omega)]

theorem in5 (c : Dev nD) (t : Fin (cfgM m (hok m hI)).N) (ht : t.val / 4 ≤ L) (k : Fin 4096) (j : Fin 256) :
    iblk m (hok m hI) c 5 t (ix3 0 k j) = rd4 (m ((c : Thread nD τ).loc main_arg3)) 1 (e (t.val / 4)) k.val (t.val % 4 * 256 + j.val) := by
  have h := where5 hI (grid0.coords t)
  obtain ⟨e0, e1⟩ := coords_eq t
  have hN := points m hI
  show V m c main_v3 ((((cfgM m (hok m hI)).win 5).rect t).emb (ix3 0 k j)) = _
  rw [V_v3]
  refine side_at _ _ (hI.he ⟨t.val / 4, by omega⟩) ?_ ?_ ?_
  · refine (((cfgM m (hok m hI)).win 5).rect_emb_val t (ix3 0 k j) (0 : Fin 3)).trans ?_
    refine (congrArg (fun z => z * 1 + 0) (congrFun h 0)).trans ?_
    show (64 + e (grid0.coords t 0).val) * 1 + 0 = 64 + e (t.val / 4)
    rw [e0]; omega
  · refine (((cfgM m (hok m hI)).win 5).rect_emb_val t (ix3 0 k j) (1 : Fin 3)).trans ?_
    refine (congrArg (fun z => z * 4096 + k.val) (congrFun h 1)).trans ?_
    show 0 * 4096 + k.val = _
    omega
  · refine (((cfgM m (hok m hI)).win 5).rect_emb_val t (ix3 0 k j) (2 : Fin 3)).trans ?_
    refine (congrArg (fun z => z * 256 + j.val) (congrFun h 2)).trans ?_
    show (if L < (grid0.coords t 0).val then 3 else (grid0.coords t 1).val) * 256 + j.val = _
    rw [e0, e1, if_neg (by omega)]

/-- A point leaves the gated products of its item's slots and its block's columns. -/
theorem outAt_live (c : Dev nD) (t : Fin (cfgM m (hok m hI)).N) (ht : t.val ≤ 4 * L + 3) (r : Fin 1024) (j : Fin 256)
    (hr : r.val < 256 * n (t.val / 4)) :
    outAt m hI c t (ix2 r j) = gated (m ((c : Thread nD τ).loc main_arg0)) (m ((c : Thread nD τ).loc main_arg1))
      (m ((c : Thread nD τ).loc main_arg2)) (m ((c : Thread nD τ).loc main_arg3))
      (b (t.val / 4) * 256 + r.val) (e (t.val / 4)) (t.val % 4 * 256 + j.val) := by
  have hN := points m hI
  have htl := t.isLt
  have e0 : (grid0.coords t 0).val = t.val / 4 := (coords_eq t).1
  have hn4 : n (t.val / 4) ≤ 4 := hI.hn ⟨t.val / 4, by omega⟩
  show outN (n (grid0.coords t 0).val) _ _ _ _ _ _ (ix2 r j) = _
  rw [e0]
  exact outN_at (n (t.val / 4)) (by omega) hn4 _ _ _ _ _ _ r j hr _ _ _
    (fun q hq k => in0 m hI c t q k (by omega))
    (fun q hq k => in1 m hI c t q k (by omega) (by omega))
    (fun q hq k => in2 m hI c t q k (by omega) (by omega))
    (fun q hq k => in3 m hI c t q k (by omega) (by omega))
    (fun k => in4 m hI c t (by omega) k j)
    (fun k => in5 m hI c t (by omega) k j)

end Cert.Kernel6Ideal.Gen

end
-- ==== Proof.ExpertsVal.lean ====
/-
  The array of the experts' call at the rows that the items fill.
-/
module

public import proofs.«01_k».proof.Proof.ExpertsIn

@[expose] public section

set_option maxRecDepth 16384

noncomputable section

namespace Cert.Kernel6Ideal.Gen

open Idealize.ShloMosaic Idealize.ShloMosaic.TcCoe Idealize.ShloMosaic.Tactic
open Idealize.ShloMosaic.Pipeline (Dat Cfg Window)
open Cert.Attn Cert.Mm Cert.Rows Cert.Experts

variable [Cert.Kernel6Ideal.Facts]
variable (m : (ℓ : Loc nD τ sig) → Buf (Elt Ideal) ℓ) {e b n : ℕ → ℕ} {L : ℕ} (hI : Items e b n L (tbl m))

/-- The last point writes its block back. -/
theorem flush_last (t : Fin (cfgM m (hok m hI)).N) (h : t.val = 511) : ((cfgM m (hok m hI)).win 6).flush t = true := by
  have hN := points m hI
  have h1 : decide (t.val + 1 = (cfgM m (hok m hI)).N) = true := decide_eq_true (by omega)
  unfold Pipeline.Window.flush
  exact (congrArg _ (by rw [h1]; exact Bool.true_or _)).trans (Bool.and_true _)

/-- A point that writes back does so at the block of the last point whose item has rows. -/
theorem index_back (t : Fin (cfgM m (hok m hI)).N) (h : ((cfgM m (hok m hI)).win 6).flush t = true) :
    ((cfgM m (hok m hI)).win 6).index t = ![(back m hI t).val / 4, (back m hI t).val % 4] := by
  have hN := points m hI
  have hl := hI.hl
  have ht := t.isLt
  rw [index6 m hI]
  have hlast : t.val < 4 * L + 3 ∨ t.val = 511 := by
    by_contra hc
    have := flush_dead m hI t (by omega) (by omega)
    rw [this] at h
    exact Bool.false_ne_true h
  have e0 : min (t.val / 4) L = min t.val (4 * L + 3) / 4 := by omega
  have e1 : (if L < t.val / 4 then 3 else t.val % 4) = min t.val (4 * L + 3) % 4 := by split <;> omega
  show ![min (t.val / 4) L, if L < t.val / 4 then 3 else t.val % 4] = ![min t.val (4 * L + 3) / 4, min t.val (4 * L + 3) % 4]
  rw [e0, e1]

/-- What the array holds at a row that an item fills. -/
abbrev Filled (c : Dev nD) (i : S131072x1024.Idx) (v : EReal) : Prop :=
  (i 0).val % 1024 < 256 * n ((i 0).val / 1024) → v = gated (m ((c : Thread nD τ).loc main_arg0)) (m ((c : Thread nD τ).loc main_arg1))
    (m ((c : Thread nD τ).loc main_arg2)) (m ((c : Thread nD τ).loc main_arg3))
    (b ((i 0).val / 1024) * 256 + (i 0).val % 1024) (e ((i 0).val / 1024)) (i 1).val

theorem filled_at (c : Dev nD) (t : Fin (cfgM m (hok m hI)).N) (h : ((cfgM m (hok m hI)).win 6).flush t = true) (r : Fin 1024) (j : Fin 256) :
    Filled (e := e) (b := b) (n := n) m c ((((cfgM m (hok m hI)).win 6).rect t).emb (ix2 r j)) (outAt m hI c (back m hI t) (ix2 r j)) := by
  have hi := index_back m hI t h
  have h0 : ((((cfgM m (hok m hI)).win 6).rect t).emb (ix2 r j) (0 : Fin 2) : ℕ) = (back m hI t).val / 4 * 1024 + r.val :=
    (((cfgM m (hok m hI)).win 6).rect_emb_val t (ix2 r j) (0 : Fin 2)).trans (congrArg (fun z => z * 1024 + r.val) (congrFun hi (0 : Fin 2)))
  have h1 : ((((cfgM m (hok m hI)).win 6).rect t).emb (ix2 r j) (1 : Fin 2) : ℕ) = (back m hI t).val % 4 * 256 + j.val :=
    (((cfgM m (hok m hI)).win 6).rect_emb_val t (ix2 r j) (1 : Fin 2)).trans (congrArg (fun z => z * 256 + j.val) (congrFun hi (1 : Fin 2)))
  have hr := r.isLt
  intro hlive
  have d0 : ((back m hI t).val / 4 * 1024 + r.val) / 1024 = (back m hI t).val / 4 := by omega
  have m0 : ((back m hI t).val / 4 * 1024 + r.val) % 1024 = r.val := by omega
  rw [h0, d0, m0] at hlive
  rw [h0, h1, d0, m0]
  exact outAt_live m hI c (back m hI t) (min_le_right _ _) r j hlive

theorem mem6 (t : Fin (cfgM m (hok m hI)).N) (h : ((cfgM m (hok m hI)).win 6).flush t = true) (i : S131072x1024.Idx)
    (h0 : (i 0).val / 1024 = (back m hI t).val / 4) (h1 : (i 1).val / 256 = (back m hI t).val % 4) :
    i ∈ (((cfgM m (hok m hI)).win 6).blk t).view.set := by
  have hi := index_back m hI t h
  have i0 : ((cfgM m (hok m hI)).win 6).index t (0 : Fin 2) = (back m hI t).val / 4 := congrFun hi (0 : Fin 2)
  have i1 : ((cfgM m (hok m hI)).win 6).index t (1 : Fin 2) = (back m hI t).val % 4 := congrFun hi (1 : Fin 2)
  refine (congrArg (fun S => i ∈ S) (View.set_slice_whole main_v4 (((cfgM m (hok m hI)).win 6).rect t))).mpr ?_
  refine Rect.mem_set_unit.mpr ?_
  intro (a : Fin 2)
  match a with
  | ⟨0, _⟩ =>
    show ((cfgM m (hok m hI)).win 6).index t (0 : Fin 2) * 1024 ≤ (i 0).val ∧ (i 0).val < ((cfgM m (hok m hI)).win 6).index t (0 : Fin 2) * 1024 + 1024
    rw [i0]; omega
  | ⟨1, _⟩ =>
    show ((cfgM m (hok m hI)).win 6).index t (1 : Fin 2) * 256 ≤ (i 1).val ∧ (i 1).val < ((cfgM m (hok m hI)).win 6).index t (1 : Fin 2) * 256 + 256
    rw [i1]; omega

/-- The array after the run holds the gated products at every row that an item fills. -/
theorem filled (c : Dev nD) (i : S131072x1024.Idx) :
    Filled (e := e) (b := b) (n := n) m c i ((dats m hI 0 c).arrAt 6 (cfgM m (hok m hI)).N i) := by
  intro hlive
  have hN := points m hI
  have hl := hI.hl
  have hr : (i 0).val < 131072 := (i 0).isLt
  have hj : (i 1).val < 1024 := (i 1).isLt
  have hit : (i 0).val / 1024 ≤ L := by
    by_contra hc
    have := hI.dead ⟨(i 0).val / 1024, by omega⟩ (by show L < (i 0).val / 1024; omega)
    have hz : n ((i 0).val / 1024) = 0 := this
    omega
  have hP := (dats m hI 0 c).arrAt_forall_of_flushed 6 (fun i v => Filled (e := e) (b := b) (n := n) m c i v) (fun t ht (y : S1024x256.Idx) => by
    obtain ⟨r, j, rfl⟩ : ∃ (r : Fin 1024) (j : Fin 256), y = ix2 r j := ⟨y 0, y 1, (ix2_eta y).symm⟩
    exact filled_at m hI c t ht r j)
  by_cases h : 4 * ((i 0).val / 1024) + (i 1).val / 256 < 4 * L + 3
  · let t : Fin (cfgM m (hok m hI)).N := ⟨4 * ((i 0).val / 1024) + (i 1).val / 256, by omega⟩
    have hf : ((cfgM m (hok m hI)).win 6).flush t = true := flush_live m hI t h
    have hb : (back m hI t).val = 4 * ((i 0).val / 1024) + (i 1).val / 256 := Nat.min_eq_left h.le
    exact hP (cfgM m (hok m hI)).N t i t.isLt hf (mem6 m hI t hf i (by rw [hb]; omega) (by rw [hb]; omega)) hlive
  · let t : Fin (cfgM m (hok m hI)).N := ⟨511, by omega⟩
    have hf : ((cfgM m (hok m hI)).win 6).flush t = true := flush_last m hI t rfl
    have hb : (back m hI t).val = 4 * L + 3 := Nat.min_eq_right (by show 4 * L + 3 ≤ 511; omega)
    exact hP (cfgM m (hok m hI)).N t i t.isLt hf (mem6 m hI t hf i (by rw [hb]; omega) (by rw [hb]; omega)) hlive

end Cert.Kernel6Ideal.Gen

end
-- ==== Proof.ExpertsPre.lean ====
/-
  The precondition read: the tables hold what the routing makes.
-/
module

public import proofs.«01_k».proof.Defs
public import proofs.«01_k».proof.Proof.ExpertsFacts

@[expose] public section

noncomputable section

namespace Cert.Kernel6Ideal.Gen

open Idealize.ShloMosaic

theorem preItems : Cert.Pre_items.Facts := ⟨by decide, by decide⟩

theorem and_one : ∀ p q : BitVec 1, IntOp.andi p q = 1#1 → p = 1#1 ∧ q = 1#1 := by decide

theorem sle_of {a b : BitVec 32} (h : IntOp.cmpi .sle a b = 1#1) : a.toInt ≤ b.toInt := by
  by_contra hn
  have : BitVec.sle a b = false := by rw [BitVec.sle, decide_eq_false_iff_not]; exact hn
  simp [IntOp.cmpi, this] at h

theorem sge_of {a b : BitVec 32} (h : IntOp.cmpi .sge a b = 1#1) : b.toInt ≤ a.toInt := by
  by_contra hn
  have : BitVec.sle b a = false := by rw [BitVec.sle, decide_eq_false_iff_not]; exact hn
  simp [IntOp.cmpi, this] at h

theorem slt_of {a b : BitVec 32} (h : IntOp.cmpi .slt a b = 1#1) : a.toInt < b.toInt := by
  by_contra hn
  have : BitVec.slt a b = false := by rw [BitVec.slt, decide_eq_false_iff_not]; exact hn
  simp [IntOp.cmpi, this] at h

theorem sle_iff {a b : BitVec 32} : IntOp.cmpi .sle a b = 1#1 ↔ a.toInt ≤ b.toInt := by
  refine ⟨sle_of, fun h => ?_⟩
  have : BitVec.sle a b = true := by rw [BitVec.sle, decide_eq_true_iff]; exact h
  simp [IntOp.cmpi, this]

theorem eq_of {a b : BitVec 32} (h : IntOp.cmpi .eq a b = 1#1) : a = b := by
  by_contra hn
  have : (a == b) = false := beq_eq_false_iff_ne.mpr hn
  simp [IntOp.cmpi, this] at h

theorem int_nat {a : BitVec 32} (h : 0 ≤ a.toInt) : a.toInt = a.toNat := by
  rw [BitVec.toInt_eq_toNat_cond] at h ⊢
  have := a.isLt
  split_ifs at h ⊢ <;> omega

theorem room : ∀ j : Fin 5, (IntOp.subi (256#32) (IntOp.maxsi (BitVec.ofNat 32 j.val) 1#32)).toInt = 256 - (max j.val 1 : ℕ) := by decide

theorem items_word [Cert.Pre_items.Facts] {F : FTy → Type} [FloatOps F] (h : FVec F Pre_items.S6144x4096 .f32) (st : IVec Pre_items.S65536 32)
    (wg wu : FVec F Pre_items.S2x64x4096x1024 .f32) (ie ib nb : IVec Pre_items.S128 32) (la : IVec Pre_items.S1 32)
    (hp : Pre_items.fn (F := F) h st wg wu ie ib nb la = fun _ => 1#1) (k : Fin 128) :
    (ie (ix1 k)).toNat < 64 ∧ (nb (ix1 k)).toNat ≤ 4 ∧ (ib (ix1 k)).toNat + max (nb (ix1 k)).toNat 1 ≤ 256
      ∧ (la (ix1 0)).toNat < 128 ∧ (k.val ≤ (la (ix1 0)).toNat → 1 ≤ (nb (ix1 k)).toNat)
      ∧ ((la (ix1 0)).toNat < k.val → (nb (ix1 k)).toNat = 0) := by
  have hp := congrFun hp (ix1 k)
  revert hp
  pointwise [Pre_items.fn, Pre_items.fn_part1, Pre_items.fn_where]
  intro hp
  obtain ⟨hp, h8⟩ := and_one _ _ hp
  obtain ⟨hp, h7⟩ := and_one _ _ hp
  obtain ⟨hp, h6⟩ := and_one _ _ hp
  obtain ⟨hp, h5⟩ := and_one _ _ hp
  obtain ⟨hp, h4⟩ := and_one _ _ hp
  obtain ⟨hp, h3⟩ := and_one _ _ hp
  obtain ⟨h1, h2⟩ := and_one _ _ hp
  have h1 := sge_of h1
  have h2 := slt_of h2
  have h3 := sge_of h3
  have h4 := sle_of h4
  have h5 := sle_of h5
  have h7 := sge_of h7
  have h8 := slt_of h8
  generalize ie (ix1 k) = x at *
  generalize ib (ix1 k) = y at *
  generalize nb (ix1 k) = z at *
  generalize la (ix1 0) = w at *
  have z0 : (0#32).toInt = 0 := by decide
  have z1 : (1#32).toInt = 1 := by decide
  have z4 : (4#32).toInt = 4 := by decide
  have z64 : (64#32).toInt = 64 := by decide
  have z128 : (128#32).toInt = 128 := by decide
  rw [z0] at h1 h3 h7
  rw [z4] at h4
  rw [z64] at h2
  rw [z128] at h8
  have e1 := int_nat h1
  have e3 := int_nat h3
  have e7 := int_nat h7
  have hk := k.isLt
  have hkt : (BitVec.ofNat 32 k.val).toInt = k.val := by
    rw [BitVec.toInt_eq_toNat_cond, BitVec.toNat_ofNat]; split_ifs <;> omega
  have hz : 0 ≤ z.toInt ∧ (k.val ≤ w.toNat → 1 ≤ z.toInt) ∧ (w.toNat < k.val → z.toInt = 0) := by
    by_cases hc : IntOp.cmpi .sle (BitVec.ofNat 32 k.val) w = 1#1
    · replace h6 := (if_pos hc).symm.trans h6
      have h6 := sge_of h6
      rw [z1] at h6
      have hc := sle_of hc
      rw [hkt] at hc
      refine ⟨by omega, fun _ => h6, fun _ => by omega⟩
    · replace h6 := (if_neg hc).symm.trans h6
      have h6 := eq_of h6
      rw [sle_iff, hkt] at hc
      subst h6
      rw [z0]
      refine ⟨by omega, fun _ => by omega, fun _ => rfl⟩
  obtain ⟨hz, hl, hd⟩ := hz
  have ez := int_nat hz
  have hj : z.toNat < 5 := by omega
  have hr : (IntOp.subi (256#32) (IntOp.maxsi (BitVec.ofNat 32 z.toNat) 1#32)).toInt = 256 - (max z.toNat 1 : ℕ) := room ⟨z.toNat, hj⟩
  rw [BitVec.ofNat_toNat, BitVec.setWidth_eq] at hr
  rw [hr] at h5
  refine ⟨by omega, by omega, by omega, by omega, fun h => ?_, fun h => ?_⟩
  · have := hl h; omega
  · have := hd h; omega

variable {F : FTy → Type} [FloatOps F] (m : (ℓ : Loc nD τ sig) → Buf (Elt F) ℓ)

/-- The tables in the launch memory satisfy what the items' tables must. -/
theorem items_of [Cert.Pre_items.Facts] (hp : Pre_items.fn (F := F) (m (((0 : Dev nD).tc : Thread nD τ).loc main_arg0))
      (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4))
      (m (((0 : Dev nD).tc : Thread nD τ).loc main_arg5)) (m (((0 : Dev nD).tc : Thread nD τ).loc main_arg6))
      (m (((0 : Dev nD).tc : Thread nD τ).loc main_arg7)) = fun _ => 1#1) :
    Items (fun k => (T0 (tbl m) (ix1 (Fin.ofNat 128 k))).toNat) (fun k => (T1 (tbl m) (ix1 (Fin.ofNat 128 k))).toNat)
      (fun k => (T2 (tbl m) (ix1 (Fin.ofNat 128 k))).toNat) (T3 (tbl m) (ix1 0)).toNat (tbl m) := by
  have e0 : T0 (tbl m) = m (((0 : Dev nD).tc : Thread nD τ).loc main_arg4) := V_main_arg4 m 0
  have e1 : T1 (tbl m) = m (((0 : Dev nD).tc : Thread nD τ).loc main_arg5) := V_main_arg5 m 0
  have e2 : T2 (tbl m) = m (((0 : Dev nD).tc : Thread nD τ).loc main_arg6) := V_main_arg6 m 0
  have e3 : T3 (tbl m) = m (((0 : Dev nD).tc : Thread nD τ).loc main_arg7) := V_main_arg7 m 0
  rw [← e0, ← e1, ← e2, ← e3] at hp
  have hw := items_word _ _ _ _ _ _ _ _ hp
  have hf : ∀ k : Fin 128, Fin.ofNat 128 k.val = k := fun k => Fin.ext (Nat.mod_eq_of_lt k.isLt)
  refine ⟨fun k => ?_, fun k => ?_, fun k => ?_, ?_, fun k => ?_, fun k => ?_, fun k => ?_, (hw 0).2.2.2.1, fun k => ?_, fun k => ?_⟩
  · show _ = BitVec.ofNat 32 (T0 (tbl m) (ix1 (Fin.ofNat 128 k.val))).toNat
    rw [hf, BitVec.ofNat_toNat, BitVec.setWidth_eq]
  · show _ = BitVec.ofNat 32 (T1 (tbl m) (ix1 (Fin.ofNat 128 k.val))).toNat
    rw [hf, BitVec.ofNat_toNat, BitVec.setWidth_eq]
  · show _ = BitVec.ofNat 32 (T2 (tbl m) (ix1 (Fin.ofNat 128 k.val))).toNat
    rw [hf, BitVec.ofNat_toNat, BitVec.setWidth_eq]
  · rw [BitVec.ofNat_toNat, BitVec.setWidth_eq]
  · show (T0 (tbl m) (ix1 (Fin.ofNat 128 k.val))).toNat < 64
    rw [hf]; exact (hw k).1
  · show (T2 (tbl m) (ix1 (Fin.ofNat 128 k.val))).toNat ≤ 4
    rw [hf]; exact (hw k).2.1
  · show (T1 (tbl m) (ix1 (Fin.ofNat 128 k.val))).toNat + max (T2 (tbl m) (ix1 (Fin.ofNat 128 k.val))).toNat 1 ≤ 256
    rw [hf]; exact (hw k).2.2.1
  · show _ → 1 ≤ (T2 (tbl m) (ix1 (Fin.ofNat 128 k.val))).toNat
    rw [hf]; exact (hw k).2.2.2.2.1
  · show _ → (T2 (tbl m) (ix1 (Fin.ofNat 128 k.val))).toNat = 0
    rw [hf]; exact (hw k).2.2.2.2.2

end Cert.Kernel6Ideal.Gen

end
-- ==== Proof.ExpertsMask.lean ====
/-
  The mask read: the rows that the items fill.
-/
module

public import proofs.«01_k».proof.Proof.ExpertsPre

@[expose] public section

noncomputable section

namespace Cert.Kernel6Ideal.Gen

open Idealize.ShloMosaic

theorem onLiveRows : Cert.On_live_rows.Facts := ⟨by decide, by decide, by decide, by decide, by decide, by decide, by decide⟩

theorem words : ∀ k : Fin 5, (IntOp.muli (BitVec.ofNat 32 k.val) 256#32).toInt = (256 * k.val : ℕ) := by decide

theorem live_word [Cert.On_live_rows.Facts] {F : FTy → Type} [FloatOps F] (h : FVec F On_live_rows.S6144x4096 .f32) (st : IVec On_live_rows.S65536 32)
    (wg wu : FVec F On_live_rows.S2x64x4096x1024 .f32) (ie ib nb : IVec On_live_rows.S128 32) (la : IVec On_live_rows.S1 32)
    (r : Fin 131072) (j : Fin 1024) (hp : On_live_rows.fn (F := F) h st wg wu ie ib nb la (ix2 r j) = 1#1)
    (hn : (nb (ix1 ⟨r.val / 1024, by omega⟩)).toNat ≤ 4) : r.val % 1024 < 256 * (nb (ix1 ⟨r.val / 1024, by omega⟩)).toNat := by
  revert hp
  pointwise [On_live_rows.fn]
  intro hp
  have h1 := slt_of hp
  generalize nb (ix1 ⟨r.val / 1024, _⟩) = x at *
  have e1 : (BitVec.ofNat 32 (r.val % 1024)).toInt = (r.val % 1024 : ℕ) := by
    rw [BitVec.toInt_eq_toNat_cond, BitVec.toNat_ofNat]
    split_ifs <;> omega
  have e2 := words ⟨x.toNat, by omega⟩
  have ex : BitVec.ofNat 32 x.toNat = x := BitVec.eq_of_toNat_eq (by rw [BitVec.toNat_ofNat]; exact Nat.mod_eq_of_lt x.isLt)
  have e3 : (IntOp.muli x 256#32).toInt = (256 * x.toNat : ℕ) := by rw [← e2]; exact congrArg (fun y => (IntOp.muli y 256#32).toInt) ex.symm
  rw [e1, e3] at h1
  omega

end Cert.Kernel6Ideal.Gen

end
-- ==== Proof.ExpertsEnd.lean ====
/-
  The experts' call and its reference hold the same values at every row that an item fills.
-/
module

public import proofs.«01_k».proof.Proof.ExpertsVal
public import proofs.«01_k».proof.Proof.ExpertsMask

@[expose] public section

set_option maxRecDepth 16384

noncomputable section

namespace Cert.Kernel6Ideal.Gen

open Idealize.ShloMosaic Idealize.ShloMosaic.TcCoe Idealize.SL.Sem
open Cert.Attn Cert.Mm Cert.Experts

variable [Cert.Kernel6Ideal.Facts] [Cert.Pre_items.Facts]
variable (m : (ℓ : Loc nD τ sig) → Buf (Elt Ideal) ℓ)

/-- The experts of the items. -/
abbrev itE (k : ℕ) : ℕ := (T0 (tbl m) (ix1 (Fin.ofNat 128 k))).toNat
/-- The row blocks at which the items begin. -/
abbrev itB (k : ℕ) : ℕ := (T1 (tbl m) (ix1 (Fin.ofNat 128 k))).toNat
/-- How many row blocks the items hold. -/
abbrev itN (k : ℕ) : ℕ := (T2 (tbl m) (ix1 (Fin.ofNat 128 k))).toNat
/-- The last item that has rows. -/
abbrev itL : ℕ := (T3 (tbl m) (ix1 0)).toNat

/-- The kernel's array after the run. -/
def outArr (hI : Items (itE m) (itB m) (itN m) (itL m) (tbl m)) (c : Dev nD) : S131072x1024.Idx → EReal :=
  (dats m hI 0 c).arrAt 6 (cfgM m (hok m hI)).N

theorem run6 (ρ : Dev nD → PrngReg) (hI : Items (itE m) (itB m) (itN m) (itL m) (tbl m)) :
    θ_run (Cert.Kernel6Ideal.defs (F := Ideal)) (onTc (τ := τ) (Cert.Kernel6Ideal.main (F := Ideal))) ⟨m, fun _ => 0, ρ⟩
      (fun r => ∀ c : Dev nD, r.2.mem ((c.tc : Thread nD τ).loc main_v4) = outArr m hI c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) :=
  (θ_run defs _ _).mono (fun r h c => ⟨(h.1 c).1 6, args_kept m hI r h.1 c⟩) (run_quiescent m ρ hI)

theorem res_eq [Cert.On_live_rows.Facts] (hI : Items (itE m) (itB m) (itN m) (itL m) (tbl m)) (c : Dev nD) (i : S131072x1024.Idx)
    (hp : On_live_rows.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) i = 1#1) :
    Cert.Reference6Ideal.Read.val_main_v23 (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) i = outArr m hI c i := by
  obtain rfl : c = 0 := Subsingleton.elim _ _
  obtain ⟨r, j, rfl⟩ : ∃ (r : Fin 131072) (j : Fin 1024), i = ix2 r j := ⟨i 0, i 1, (ix2_eta i).symm⟩
  have e0 : T0 (tbl m) = m (((0 : Dev nD).tc : Thread nD τ).loc main_arg4) := V_main_arg4 m 0
  have e1 : T1 (tbl m) = m (((0 : Dev nD).tc : Thread nD τ).loc main_arg5) := V_main_arg5 m 0
  have e2 : T2 (tbl m) = m (((0 : Dev nD).tc : Thread nD τ).loc main_arg6) := V_main_arg6 m 0
  rw [← e0, ← e1, ← e2] at hp
  rw [← e0, ← e1]
  have hr := r.isLt
  let k : Fin 128 := ⟨r.val / 1024, by omega⟩
  have hn : itN m k.val ≤ 4 := hI.hn k
  have hb : itB m k.val + max (itN m k.val) 1 ≤ 256 := hI.hb k
  have hf : Fin.ofNat 128 k.val = k := Fin.ext (Nat.mod_eq_of_lt k.isLt)
  have hnk : (T2 (tbl m) (ix1 k)).toNat = itN m k.val := by show _ = (T2 (tbl m) (ix1 (Fin.ofNat 128 k.val))).toNat; rw [hf]
  have hlive : r.val % 1024 < 256 * itN m k.val := by
    rw [← hnk]
    exact live_word _ _ _ _ _ _ _ _ r j hp (by show (T2 (tbl m) (ix1 k)).toNat ≤ 4; rw [hnk]; exact hn)
  refine (ref_at _ _ _ _ _ _ r j (b := itB m k.val) (e := itE m k.val) (hI.wb k) (by omega) (hI.we k) (hI.he k)).trans ?_
  exact (filled m hI 0 (ix2 r j) hlive).symm

end Cert.Kernel6Ideal.Gen

end
-- ==== Proof.Experts.lean ====
module
public import proofs.«01_k».proof.Proof.Gen.Kernel6Ideal.Skeleton
public import proofs.«01_k».proof.Proof.Gen.Kernel6Ideal.Launch
public import proofs.«01_k».proof.Proof.Gen.Kernel6.Skeleton
public import proofs.«01_k».proof.Proof.Gen.Kernel6.Launch
public import proofs.«01_k».proof.Proof.Gen.Reference6Ideal.Run
public import proofs.«01_k».proof.Proof.Gen.Reference6Ideal.Read
public import proofs.«01_k».proof.Proof.ExpertsEnd
-- ==== Proof.DownBase.lean ====
/-
  What the experts' second call starts from: its arrays and tables as the region finds them, and its blocks.
-/
module

public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### @main around the region -/

abbrev V₀ (c : Dev nD) : Valuation τ sig (Elt F) := StableHlo.after (List.flatten [hostOps0]) (fun b => m (c, b))
abbrev V (c : Dev nD) (b : Ref sig .tc) : Buf (Elt F) ((c : Thread nD τ).loc b) := V₀ m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainPK (Ix := Unit) (Name := ℕ) (U := UR sig nD τ) (Lvl := ℕ) pcfgs 0 defs₀ 𝒱₀ m (main (F := F)) (V m)
    (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ### The prefetched tables, read off the launch memory -/

def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S128 .i32 := Memref.whole main_arg2
abbrev htbM0_0 : tbM0_0.IsWhole := Memref.isWhole_whole _
abbrev tbM0_1 : Memref sig .tc .smem S128 .i32 := Memref.whole main_arg3
abbrev htbM0_1 : tbM0_1.IsWhole := Memref.isWhole_whole _
abbrev tbM0_2 : Memref sig .tc .smem S128 .i32 := Memref.whole main_arg4
abbrev htbM0_2 : tbM0_2.IsWhole := Memref.isWhole_whole _
abbrev tbM0_3 : Memref sig .tc .smem S1 .i32 := Memref.whole main_arg5
abbrev htbM0_3 : tbM0_3.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ### The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ### The staging buffers -/

abbrev ms0_0 (hO : Ok m) (t : Fin (cfgM m hO).N) : Memref sig .tc .vmem S1024x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x2560 .bf16 := spec0_2.stage ((cfgM m hO).slots t 2)
abbrev hs0_2 (hO : Ok m) (t : Fin (cfgM m hO).N) : (ms0_2 m hO t).IsWhole := hstage0_2 (((cfgM m hO).slots t 2).cast nbuf0_2)

end Cert.Kernel7Ideal.Gen

end
-- ==== Proof.DownRun0.lean ====
/-
  The ways the experts' second call runs at a point: an item without rows.
-/
module

public import proofs.«01_k».proof.Proof.DownBase

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of the third table the body reads at the point `i`: the item's count of blocks. -/
abbrev word (c : Dev nD) (i : grid0.Coords) (xt2 : TbBuf0 (F := F) c tbM0_2) : BitVec 32 :=
  tbM0_2.view.readAt (Elt F) (Rect.unit (s := S128) (k0_off1 i) S1.size (k0_off1_inb i)).toLoadRect xt2 (Shape.Idx.first (numel1_S1.symm ▸ Nat.one_pos))

set_option maxHeartbeats 1000000 in
/-- The body where the item has no rows: it runs and leaves every buffer as it was. -/
theorem run0 (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (x2 : Vec F S1024x2560 .bf16) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : ¬k0_cond3 (word c i xt2) = 1#1) (hc4 : ¬k0_cond4 (word c i xt2) = 1#1) (E : Set ℕ) (K : PUnit → sProp 𝕄) :
    iprop(owns (c : Thread nD τ) arg6 fullShare x0 ∗ owns (c : Thread nD τ) arg7 fullShare x1 ∗ owns (c : Thread nD τ) arg8 fullShare x2 ∗ tbPt0 c tbM0_0 xt0 ∗ tbPt0 c tbM0_1 xt1 ∗ tbPt0 c tbM0_2 xt2 ∗ tbPt0 c tbM0_3 xt3
        ∗ (iprop(owns (c : Thread nD τ) arg6 fullShare x0 ∗ owns (c : Thread nD τ) arg7 fullShare x1 ∗ owns (c : Thread nD τ) arg8 fullShare x2 ∗ tbPt0 c tbM0_0 xt0 ∗ tbPt0 c tbM0_1 xt1 ∗ tbPt0 c tbM0_2 xt2 ∗ tbPt0 c tbM0_3 xt3) -∗ K ⟨⟩))
      ⊢ wp frame (wpE (defs₀ (F := F)) Variants.none c none) E (cc0_expert_down i tbM0_0 htbM0_0 tbM0_1 htbM0_1 tbM0_2 htbM0_2 tbM0_3 htbM0_3 arg6 harg6 arg7 harg7 arg8 harg8) K := by
    simp only [cc0_expert_down_eq_skeleton]; unfold cc0_expert_down_skel
    unfold owns
    iintro ⟨⟨%f0, %hf0, H0⟩, ⟨%f1, %hf1, H1⟩, ⟨%f2, %hf2, H2⟩, HT0, HT1, HT2, HT3, Hk⟩
    obtain rfl := harg6.eq_unread hf0; obtain rfl := harg7.eq_unread hf1
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact hf2
      iexact H2
    isplitl [HT0]; · iexact HT0
    isplitl [HT1]; · iexact HT1
    isplitl [HT2]; · iexact HT2
    iexact HT3

end Cert.Kernel7Ideal.Gen

end
-- ==== Proof.DownRun1.lean ====
/-
  The ways the experts' second call runs at a point: an item of one block.
-/
module

public import proofs.«01_k».proof.Proof.DownRun0

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body where the item has one block of rows: the pieces it leaves in the output's buffer, and that it runs. -/
noncomputable def run1 (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : k0_cond1 (word c i xt2) = 1#1) (hc2 : ¬k0_cond2 (word c i xt2) = 1#1) (hc3 : ¬k0_cond3 (word c i xt2) = 1#1) (hc4 : ¬k0_cond4 (word c i xt2) = 1#1) :
    { L2 : List (View.Piece (Elt F) S1024x2560 .bf16) //
      ∀ (E : Set ℕ) (K : PUnit → sProp 𝕄),
        iprop(owns (c : Thread nD τ) arg6 fullShare x0 ∗ owns (c : Thread nD τ) arg7 fullShare x1 ∗ (∃ d, owns (c : Thread nD τ) arg8 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ (∃ f, arg8.view.loc (c : Thread nD τ) ↦[arg8.view.set]{fullShare} arg8.view.writes (Elt F) f L2) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_down i tbM0_0 htbM0_0 tbM0_1 htbM0_1 tbM0_2 htbM0_2 tbM0_3 htbM0_3 arg6 harg6 arg7 harg7 arg8 harg8) K } := by
  refine ⟨?_, fun E K => ?run⟩
  case run =>
    simp only [cc0_expert_down_eq_skeleton]; unfold cc0_expert_down_skel
    unfold owns
    iintro ⟨⟨%f0, %hf0, H0⟩, ⟨%f1, %hf1, H1⟩, ⟨%d2, %f2, -, H2⟩, HT0, HT1, HT2, HT3, Hk⟩
    obtain rfl := harg6.eq_unread hf0; obtain rfl := harg7.eq_unread hf1
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]; · iexists _; iexact H2
    isplitl [HT0]; · iexact HT0
    isplitl [HT1]; · iexact HT1
    isplitl [HT2]; · iexact HT2
    iexact HT3

end Cert.Kernel7Ideal.Gen

end
-- ==== Proof.DownRun2.lean ====
/-
  The ways the experts' second call runs at a point: an item of two blocks.
-/
module

public import proofs.«01_k».proof.Proof.DownRun0

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body where the item has two blocks of rows: the pieces it leaves in the output's buffer, and that it runs. -/
noncomputable def run2 (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : k0_cond2 (word c i xt2) = 1#1) (hc3 : ¬k0_cond3 (word c i xt2) = 1#1) (hc4 : ¬k0_cond4 (word c i xt2) = 1#1) :
    { L2 : List (View.Piece (Elt F) S1024x2560 .bf16) //
      ∀ (E : Set ℕ) (K : PUnit → sProp 𝕄),
        iprop(owns (c : Thread nD τ) arg6 fullShare x0 ∗ owns (c : Thread nD τ) arg7 fullShare x1 ∗ (∃ d, owns (c : Thread nD τ) arg8 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ (∃ f, arg8.view.loc (c : Thread nD τ) ↦[arg8.view.set]{fullShare} arg8.view.writes (Elt F) f L2) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_down i tbM0_0 htbM0_0 tbM0_1 htbM0_1 tbM0_2 htbM0_2 tbM0_3 htbM0_3 arg6 harg6 arg7 harg7 arg8 harg8) K } := by
  refine ⟨?_, fun E K => ?run⟩
  case run =>
    simp only [cc0_expert_down_eq_skeleton]; unfold cc0_expert_down_skel
    unfold owns
    iintro ⟨⟨%f0, %hf0, H0⟩, ⟨%f1, %hf1, H1⟩, ⟨%d2, %f2, -, H2⟩, HT0, HT1, HT2, HT3, Hk⟩
    obtain rfl := harg6.eq_unread hf0; obtain rfl := harg7.eq_unread hf1
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]; · iexists _; iexact H2
    isplitl [HT0]; · iexact HT0
    isplitl [HT1]; · iexact HT1
    isplitl [HT2]; · iexact HT2
    iexact HT3

end Cert.Kernel7Ideal.Gen

end
-- ==== Proof.DownRun3.lean ====
/-
  The ways the experts' second call runs at a point: an item of three blocks.
-/
module

public import proofs.«01_k».proof.Proof.DownRun0

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body where the item has three blocks of rows: the pieces it leaves in the output's buffer, and that it runs. -/
noncomputable def run3 (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : k0_cond3 (word c i xt2) = 1#1) (hc4 : ¬k0_cond4 (word c i xt2) = 1#1) :
    { L2 : List (View.Piece (Elt F) S1024x2560 .bf16) //
      ∀ (E : Set ℕ) (K : PUnit → sProp 𝕄),
        iprop(owns (c : Thread nD τ) arg6 fullShare x0 ∗ owns (c : Thread nD τ) arg7 fullShare x1 ∗ (∃ d, owns (c : Thread nD τ) arg8 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ (∃ f, arg8.view.loc (c : Thread nD τ) ↦[arg8.view.set]{fullShare} arg8.view.writes (Elt F) f L2) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_down i tbM0_0 htbM0_0 tbM0_1 htbM0_1 tbM0_2 htbM0_2 tbM0_3 htbM0_3 arg6 harg6 arg7 harg7 arg8 harg8) K } := by
  refine ⟨?_, fun E K => ?run⟩
  case run =>
    simp only [cc0_expert_down_eq_skeleton]; unfold cc0_expert_down_skel
    unfold owns
    iintro ⟨⟨%f0, %hf0, H0⟩, ⟨%f1, %hf1, H1⟩, ⟨%d2, %f2, -, H2⟩, HT0, HT1, HT2, HT3, Hk⟩
    obtain rfl := harg6.eq_unread hf0; obtain rfl := harg7.eq_unread hf1
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]; · iexists _; iexact H2
    isplitl [HT0]; · iexact HT0
    isplitl [HT1]; · iexact HT1
    isplitl [HT2]; · iexact HT2
    iexact HT3

end Cert.Kernel7Ideal.Gen

end
-- ==== Proof.DownRun4.lean ====
/-
  The ways the experts' second call runs at a point: an item of four blocks.
-/
module

public import proofs.«01_k».proof.Proof.DownRun0

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body where the item has four blocks of rows: the pieces it leaves in the output's buffer, and that it runs. -/
noncomputable def run4 (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : ¬k0_cond3 (word c i xt2) = 1#1) (hc4 : k0_cond4 (word c i xt2) = 1#1) :
    { L2 : List (View.Piece (Elt F) S1024x2560 .bf16) //
      ∀ (E : Set ℕ) (K : PUnit → sProp 𝕄),
        iprop(owns (c : Thread nD τ) arg6 fullShare x0 ∗ owns (c : Thread nD τ) arg7 fullShare x1 ∗ (∃ d, owns (c : Thread nD τ) arg8 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ (∃ f, arg8.view.loc (c : Thread nD τ) ↦[arg8.view.set]{fullShare} arg8.view.writes (Elt F) f L2) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_down i tbM0_0 htbM0_0 tbM0_1 htbM0_1 tbM0_2 htbM0_2 tbM0_3 htbM0_3 arg6 harg6 arg7 harg7 arg8 harg8) K } := by
  refine ⟨?_, fun E K => ?run⟩
  case run =>
    simp only [cc0_expert_down_eq_skeleton]; unfold cc0_expert_down_skel
    unfold owns
    iintro ⟨⟨%f0, %hf0, H0⟩, ⟨%f1, %hf1, H1⟩, ⟨%d2, %f2, -, H2⟩, HT0, HT1, HT2, HT3, Hk⟩
    obtain rfl := harg6.eq_unread hf0; obtain rfl := harg7.eq_unread hf1
    sl_exec (disch := first | sl_exact hc1 | sl_exact hc2 | sl_exact hc3 | sl_exact hc4)
    sl_step
    iapply Hk
    isplitl [H0]
    · iexists _; isplitr; · ipureintro; exact harg6.read_unread _
      iexact H0
    isplitl [H1]
    · iexists _; isplitr; · ipureintro; exact harg7.read_unread _
      iexact H1
    isplitl [H2]; · iexists _; iexact H2
    isplitl [HT0]; · iexact HT0
    isplitl [HT1]; · iexact HT1
    isplitl [HT2]; · iexact HT2
    iexact HT3

end Cert.Kernel7Ideal.Gen

end
-- ==== Proof.DownFacts.lean ====
/-
  What the items' tables say at a point of the experts' second call.
-/
module

public import proofs.«01_k».proof.Proof.DownRun0
public import proofs.«01_k».proof.Proof.Product

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four tables: experts, first blocks, counts, last item. -/
abbrev T0 (pf : pre0.Contents (Elt F)) : S128.Idx → BitVec 32 := pf 0
abbrev T1 (pf : pre0.Contents (Elt F)) : S128.Idx → BitVec 32 := pf 1
abbrev T2 (pf : pre0.Contents (Elt F)) : S128.Idx → BitVec 32 := pf 2
abbrev T3 (pf : pre0.Contents (Elt F)) : S1.Idx → BitVec 32 := pf 3

/-- The tables' contents as natural numbers: item `k`'s expert, its count of blocks of rows, and the last item that has rows.
    Every item up to the last has between one and four blocks, an item after it has none. -/
structure Items (e n : ℕ → ℕ) (L : ℕ) (pf : pre0.Contents (Elt F)) : Prop where
  we : ∀ k : Fin 128, T0 pf (ix1 k) = BitVec.ofNat 32 (e k)
  wn : ∀ k : Fin 128, T2 pf (ix1 k) = BitVec.ofNat 32 (n k)
  wl : T3 pf (ix1 0) = BitVec.ofNat 32 L
  he : ∀ k : Fin 128, e k < 64
  hn : ∀ k : Fin 128, n k ≤ 4
  hl : L < 128
  live : ∀ k : Fin 128, k.val ≤ L → 1 ≤ n k
  dead : ∀ k : Fin 128, L < k.val → n k = 0

theorem off_word (i : grid0.Coords) : k0_off1 i 0 = (i 1).val := by
  have h : (i 1).val < 128 := (i 1).isLt
  show (BitVec.ofNat 32 (i 1).val).toNat = _
  rw [BitVec.toNat_ofNat]; omega

/-- The item of a point. -/
abbrev item (i : grid0.Coords) : Fin 128 := i 1

theorem at_item {s : Shape} (f : s.Idx → BitVec 32) (i j : s.Idx) (h : ∀ a, (i a).val = (j a).val) : f i = f j :=
  congrArg f (funext fun a => Fin.ext (h a))

theorem first_val (a : Fin 1) : ((Shape.Idx.first (numel1_S1.symm ▸ Nat.one_pos) : S1.Idx) a).val = 0 := by
  have h := ((Shape.Idx.first (numel1_S1.symm ▸ Nat.one_pos) : S1.Idx) a).isLt
  have : S1.size a = 1 := by revert a; decide
  omega

variable {e n : ℕ → ℕ} {L : ℕ} {pf : pre0.Contents (Elt F)}

theorem at_word {R : Rect S128} (h1 : R.shape.numel = 1) (f : S128.Idx → BitVec 32) (i : grid0.Coords) (hR : R.off 0 = k0_off1 i 0) :
    f (R.emb (Shape.Idx.first (h1.symm ▸ Nat.one_pos))) = f (ix1 (item i)) := by
  refine at_item f _ _ fun a => ?_
  obtain rfl : a = 0 := Subsingleton.elim _ _
  rw [Rect.emb_apply]
  have h : ((Shape.Idx.first (h1.symm ▸ Nat.one_pos) : R.shape.Idx) 0).val = 0 := by
    have h2 := ((Shape.Idx.first (h1.symm ▸ Nat.one_pos) : R.shape.Idx) 0).isLt
    have h3 : R.shape.size 0 ∣ 1 := by rw [← h1]; exact ⟨_, (Fin.prod_univ_one _).trans (Nat.mul_one _).symm⟩
    have := Nat.dvd_one.mp h3
    omega
  rw [h, hR, off_word]
  show _ = (i 1).val
  omega

theorem at0 (hI : Items e n L pf) (i : grid0.Coords) :
    (pf.at 0 (Rect.unit (s := S128) (k0_off1 i) S1.size (k0_off1_inb i)) numel1_S1 : BitVec 32) = BitVec.ofNat 32 (e (item i)) :=
  (at_word numel1_S1 (T0 pf) i rfl).trans (hI.we _)
theorem at2 (hI : Items e n L pf) (i : grid0.Coords) :
    (pf.at 2 (Rect.unit (s := S128) (k0_off1 i) S1.size (k0_off1_inb i)) numel1_S1 : BitVec 32) = BitVec.ofNat 32 (n (item i)) :=
  (at_word numel1_S1 (T2 pf) i rfl).trans (hI.wn _)
theorem at3 (hI : Items e n L pf) :
    (pf.at 3 (Rect.unit (s := S1) ![0] S1.size inb_S1_S1_0) numel1_S1 : BitVec 32) = BitVec.ofNat 32 L :=
  (at_item (T3 pf) _ (ix1 0) fun a => by
    obtain rfl : a = 0 := Subsingleton.elim _ _
    show 0 + 1 * ((Shape.Idx.first (numel1_S1.symm ▸ Nat.one_pos) : S1.Idx) 0).val = 0
    rw [first_val]).trans hI.wl

theorem word_eq (hI : Items e n L pf) (c : Dev nD) (i : grid0.Coords) : word c i (pf 2) = BitVec.ofNat 32 (n (item i)) :=
  at2 hI i

theorem atD_eq (hI : Items e n L pf) (i : grid0.Coords) : (pf.atD 2 (k0_off1 i) : BitVec 32) = BitVec.ofNat 32 (n (item i)) := by
  have hh : ∀ a, k0_off1 i a + 1 ≤ S128.size a := fun a => by
    have h := k0_off1_inb i a
    obtain rfl : a = 0 := Subsingleton.elim _ _
    exact h
  refine (dif_pos hh).trans ?_
  rw [← hI.wn (item i)]
  refine at_item (T2 pf) _ _ fun a => ?_
  obtain rfl : a = 0 := Subsingleton.elim _ _
  exact off_word i

/-! ### The conditions -/

theorem cond1_iff (k : ℕ) (h : k ≤ 4) : k0_cond1 (BitVec.ofNat 32 k) = 1#1 ↔ k = 1 := by interval_cases k <;> decide
theorem cond2_iff (k : ℕ) (h : k ≤ 4) : k0_cond2 (BitVec.ofNat 32 k) = 1#1 ↔ k = 2 := by interval_cases k <;> decide
theorem cond3_iff (k : ℕ) (h : k ≤ 4) : k0_cond3 (BitVec.ofNat 32 k) = 1#1 ↔ k = 3 := by interval_cases k <;> decide
theorem cond4_iff (k : ℕ) (h : k ≤ 4) : k0_cond4 (BitVec.ofNat 32 k) = 1#1 ↔ k = 4 := by interval_cases k <;> decide

theorem idle_iff (hI : Items e n L pf) (i : grid0.Coords) : idle0 pf 2 i = true ↔ n (item i) = 0 := by
  have h := hI.hn (item i)
  show (!(k0_cond1 (pf.atD 2 (k0_off1 i)) == 1#1) && !(k0_cond2 (pf.atD 2 (k0_off1 i)) == 1#1) && !(k0_cond3 (pf.atD 2 (k0_off1 i)) == 1#1) && !(k0_cond4 (pf.atD 2 (k0_off1 i)) == 1#1)) = true ↔ _
  rw [atD_eq hI i]
  generalize n (item i) = k at h ⊢
  interval_cases k <;> decide

/-! ### The blocks' places -/

theorem min_word (hI : Items e n L pf) (i : grid0.Coords) :
    (Scalar.minsi (BitVec.ofNat 32 (i 1).val) (BitVec.ofNat 32 L)).toNat = min (i 1).val L := by
  have h0 : (i 1).val < 128 := (i 1).isLt
  have hl := hI.hl
  have hc : (BitVec.ofNat 32 (i 1).val).slt (BitVec.ofNat 32 L) = true ↔ (i 1).val < L := by
    rw [BitVec.slt_iff_toInt_lt, WordCmp.toInt_ofNat_of_lt (by omega), WordCmp.toInt_ofNat_of_lt (by omega)]; omega
  show (if (BitVec.ofNat 32 (i 1).val).slt (BitVec.ofNat 32 L) = true then BitVec.ofNat 32 (i 1).val else BitVec.ofNat 32 L).toNat = _
  by_cases h : (i 1).val < L
  · rw [if_pos (hc.mpr h), BitVec.toNat_ofNat]; omega
  · rw [if_neg (fun hh => h (hc.mp hh)), BitVec.toNat_ofNat]; omega

theorem half_word (i : grid0.Coords) : (BitVec.ofNat 32 (i 0).val).toNat = (i 0).val := by
  have h0 : (i 0).val < 2 := (i 0).isLt
  rw [BitVec.toNat_ofNat]; omega

theorem where0 (hI : Items e n L pf) (i : grid0.Coords) : cc0_transform_0 inb_S1_S1_0 numel1_S1 pf i = ![min (i 1).val L, 0] := by
  rw [← min_word hI i, ← at3 hI]
  rfl
theorem where1 (hI : Items e n L pf) (i : grid0.Coords) : cc0_transform_1 k0_off1_inb numel1_S1 pf i = ![64 + e (item i), 0, (i 0).val] := by
  have h : (64#32 + BitVec.ofNat 32 (e (item i))).toNat = 64 + e (item i) := by
    have := hI.he (item i)
    rw [BitVec.toNat_add, BitVec.toNat_ofNat, BitVec.toNat_ofNat]; omega
  conv_rhs => rw [← half_word i, ← h, ← at0 hI i]
  rfl
theorem where2 (hI : Items e n L pf) (i : grid0.Coords) : cc0_transform_2 inb_S1_S1_0 numel1_S1 pf i = ![min (i 1).val L, (i 0).val] := by
  conv_rhs => rw [← min_word hI i, ← half_word i, ← at3 hI]
  rfl

/-- The tables of the precondition keep every block inside its array. -/
theorem ok_of_items (hI : Items e n L pf) : ok0 pf := by
  have he : ∀ i : grid0.Coords, e (item i) < 64 := fun i => hI.he _
  have hl := hI.hl
  have h0 : ∀ i : grid0.Coords, (i 0).val < 2 := fun i => (i 0).isLt
  refine ⟨fun i => ?_, fun i => ?_, fun i => ?_⟩
  all_goals have he := he i; have h0 := h0 i
  · refine ⟨?_, Or.inr (Affine.block_words_dvd (by decide) (by decide))⟩
    rw [where0 hI i]
    intro a
    match a with
    | 0 => show (min (i 1).val L + 1) * 1024 ≤ 131072; omega
    | 1 => show (0 + 1) * 1024 ≤ 1024; omega
  · refine ⟨?_, Or.inl rfl⟩
    rw [where1 hI i]
    intro a
    match a with
    | 0 => show (64 + e (item i) + 1) * 1 ≤ 128; omega
    | 1 => show (0 + 1) * 1024 ≤ 1024; omega
    | 2 => show ((i 0).val + 1) * 2048 ≤ 4096; omega
  · refine ⟨?_, Or.inr (Affine.block_words_dvd (by decide) (by decide))⟩
    rw [where2 hI i]
    intro a
    match a with
    | 0 => show (min (i 1).val L + 1) * 1024 ≤ 131072; omega
    | 1 => show ((i 0).val + 1) * 2560 ≤ 5120; omega

end Cert.Kernel7Ideal.Gen

end
-- ==== Proof.DownOut.lean ====
/-
  What the experts' second call leaves in its output's buffer at a point.
-/
module

public import proofs.«01_k».proof.Proof.DownRun1
public import proofs.«01_k».proof.Proof.DownRun2
public import proofs.«01_k».proof.Proof.DownRun3
public import proofs.«01_k».proof.Proof.DownRun4
public import proofs.«01_k».proof.Proof.DownFacts

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem z2 : (![0, 0] : Fin 2 → ℕ) = fun _ => 0 := by decide
theorem z3 : (![0, 0, 0] : Fin 3 → ℕ) = fun _ => 0 := by decide

/-- What an item of one block leaves: the products' two halves on its first 256 rows, zeros elsewhere. -/
def pieces1 (x0 : Vec F S1024x1024 .bf16) (x1 : Vec F S1x1024x2048 .f32) : List (View.Piece (Elt F) S1024x2560 .bf16) :=
  [⟨Rect.unit (s := S1024x2560) ![256, 0] S768x2560.size inb_S1024x2560_S768x2560_256_0, k0_pay6 (F := F)⟩,
    ⟨Rect.unit (s := S1024x2560) ![0, 2304] S256x256.size inb_S1024x2560_S256x256_0_2304, k0_pay5 (F := F)⟩,
    ⟨Rect.unit (s := S1024x2560) ![0, 1280] S256x1024.size inb_S1024x2560_S256x1024_0_1280, k0_pay4 (View.ld x0 (Rect.unit (s := S1024x1024) ![0, 0] S256x1024.size inb_S1024x1024_S256x1024_0_0)) x1⟩,
    ⟨Rect.unit (s := S1024x2560) ![0, 1024] S256x256.size inb_S1024x2560_S256x256_0_1024, k0_pay3 (F := F)⟩,
    ⟨Rect.unit (s := S1024x2560) ![0, 0] S256x1024.size inb_S1024x2560_S256x1024_0_0, k0_pay2 (View.ld x0 (Rect.unit (s := S1024x1024) ![0, 0] S256x1024.size inb_S1024x1024_S256x1024_0_0)) x1⟩]
/-- What an item of two blocks leaves: the products' two halves on its first 512 rows, zeros elsewhere. -/
def pieces2 (x0 : Vec F S1024x1024 .bf16) (x1 : Vec F S1x1024x2048 .f32) : List (View.Piece (Elt F) S1024x2560 .bf16) :=
  [⟨Rect.unit (s := S1024x2560) ![512, 0] S512x2560.size inb_S1024x2560_S512x2560_512_0, k0_pay12 (F := F)⟩,
    ⟨Rect.unit (s := S1024x2560) ![0, 2304] S512x256.size inb_S1024x2560_S512x256_0_2304, k0_pay11 (F := F)⟩,
    ⟨Rect.unit (s := S1024x2560) ![0, 1280] S512x1024.size inb_S1024x2560_S512x1024_0_1280, k0_pay10 (View.ld x0 (Rect.unit (s := S1024x1024) ![0, 0] S512x1024.size inb_S1024x1024_S512x1024_0_0)) x1⟩,
    ⟨Rect.unit (s := S1024x2560) ![0, 1024] S512x256.size inb_S1024x2560_S512x256_0_1024, k0_pay9 (F := F)⟩,
    ⟨Rect.unit (s := S1024x2560) ![0, 0] S512x1024.size inb_S1024x2560_S512x1024_0_0, k0_pay8 (View.ld x0 (Rect.unit (s := S1024x1024) ![0, 0] S512x1024.size inb_S1024x1024_S512x1024_0_0)) x1⟩]
/-- What an item of three blocks leaves: the products' two halves on its first 768 rows, zeros elsewhere. -/
def pieces3 (x0 : Vec F S1024x1024 .bf16) (x1 : Vec F S1x1024x2048 .f32) : List (View.Piece (Elt F) S1024x2560 .bf16) :=
  [⟨Rect.unit (s := S1024x2560) ![768, 0] S256x2560.size inb_S1024x2560_S256x2560_768_0, k0_pay18 (F := F)⟩,
    ⟨Rect.unit (s := S1024x2560) ![0, 2304] S768x256.size inb_S1024x2560_S768x256_0_2304, k0_pay17 (F := F)⟩,
    ⟨Rect.unit (s := S1024x2560) ![0, 1280] S768x1024.size inb_S1024x2560_S768x1024_0_1280, k0_pay16 (View.ld x0 (Rect.unit (s := S1024x1024) ![0, 0] S768x1024.size inb_S1024x1024_S768x1024_0_0)) x1⟩,
    ⟨Rect.unit (s := S1024x2560) ![0, 1024] S768x256.size inb_S1024x2560_S768x256_0_1024, k0_pay15 (F := F)⟩,
    ⟨Rect.unit (s := S1024x2560) ![0, 0] S768x1024.size inb_S1024x2560_S768x1024_0_0, k0_pay14 (View.ld x0 (Rect.unit (s := S1024x1024) ![0, 0] S768x1024.size inb_S1024x1024_S768x1024_0_0)) x1⟩]
/-- What an item of four blocks leaves: the products' two halves on its first 1024 rows, zeros elsewhere. -/
def pieces4 (x0 : Vec F S1024x1024 .bf16) (x1 : Vec F S1x1024x2048 .f32) : List (View.Piece (Elt F) S1024x2560 .bf16) :=
  [⟨Rect.unit (s := S1024x2560) ![0, 2304] S1024x256.size inb_S1024x2560_S1024x256_0_2304, k0_pay23 (F := F)⟩,
    ⟨Rect.unit (s := S1024x2560) ![0, 1280] S1024x1024.size inb_S1024x2560_S1024x1024_0_1280, k0_pay22 x0 x1⟩,
    ⟨Rect.unit (s := S1024x2560) ![0, 1024] S1024x256.size inb_S1024x2560_S1024x256_0_1024, k0_pay21 (F := F)⟩,
    ⟨Rect.unit (s := S1024x2560) ![0, 0] S1024x1024.size inb_S1024x2560_S1024x1024_0_0, k0_pay20 x0 x1⟩]

theorem cover1 (x0 : Vec F S1024x1024 .bf16) (x1 : Vec F S1x1024x2048 .f32) (y : S1024x2560.Idx) : ∃ p ∈ pieces1 x0 x1, y ∈ p.1.set := by
  have h0 : (y 0).val < 1024 := (y 0).isLt
  have h1 : (y 1).val < 2560 := (y 1).isLt
  unfold pieces1
  by_cases h : 256 ≤ (y 0).val
  · refine ⟨_, (List.mem_cons_self), ?_⟩
    rw [Rect.mem_set_unit]
    intro a
    match a with
    | 0 => exact ⟨by show 256 ≤ _; omega, by show _ < 256 + 768; omega⟩
    | 1 => exact ⟨by show 0 ≤ _; omega, by show _ < 0 + 2560; omega⟩
  by_cases h2304 : 2304 ≤ (y 1).val
  · refine ⟨_, (List.mem_cons_of_mem _ (List.mem_cons_self)), ?_⟩
    rw [Rect.mem_set_unit]
    intro a
    match a with
    | 0 => exact ⟨by show 0 ≤ _; omega, by show _ < 0 + 256; omega⟩
    | 1 => exact ⟨by show 2304 ≤ _; omega, by show _ < 2304 + 256; omega⟩
  by_cases h1280 : 1280 ≤ (y 1).val
  · refine ⟨_, (List.mem_cons_of_mem _ (List.mem_cons_of_mem _ (List.mem_cons_self))), ?_⟩
    rw [Rect.mem_set_unit]
    intro a
    match a with
    | 0 => exact ⟨by show 0 ≤ _; omega, by show _ < 0 + 256; omega⟩
    | 1 => exact ⟨by show 1280 ≤ _; omega, by show _ < 1280 + 1024; omega⟩
  by_cases h1024 : 1024 ≤ (y 1).val
  · refine ⟨_, (List.mem_cons_of_mem _ (List.mem_cons_of_mem _ (List.mem_cons_of_mem _ (List.mem_cons_self)))), ?_⟩
    rw [Rect.mem_set_unit]
    intro a
    match a with
    | 0 => exact ⟨by show 0 ≤ _; omega, by show _ < 0 + 256; omega⟩
    | 1 => exact ⟨by show 1024 ≤ _; omega, by show _ < 1024 + 256; omega⟩
  · refine ⟨_, (List.mem_cons_of_mem _ (List.mem_cons_of_mem _ (List.mem_cons_of_mem _ (List.mem_cons_of_mem _ (List.mem_cons_self))))), ?_⟩
    rw [Rect.mem_set_unit]
    intro a
    match a with
    | 0 => exact ⟨by show 0 ≤ _; omega, by show _ < 0 + 256; omega⟩
    | 1 => exact ⟨by show 0 ≤ _; omega, by show _ < 0 + 1024; omega⟩

theorem cover2 (x0 : Vec F S1024x1024 .bf16) (x1 : Vec F S1x1024x2048 .f32) (y : S1024x2560.Idx) : ∃ p ∈ pieces2 x0 x1, y ∈ p.1.set := by
  have h0 : (y 0).val < 1024 := (y 0).isLt
  have h1 : (y 1).val < 2560 := (y 1).isLt
  unfold pieces2
  by_cases h : 512 ≤ (y 0).val
  · refine ⟨_, (List.mem_cons_self), ?_⟩
    rw [Rect.mem_set_unit]
    intro a
    match a with
    | 0 => exact ⟨by show 512 ≤ _; omega, by show _ < 512 + 512; omega⟩
    | 1 => exact ⟨by show 0 ≤ _; omega, by show _ < 0 + 2560; omega⟩
  by_cases h2304 : 2304 ≤ (y 1).val
  · refine ⟨_, (List.mem_cons_of_mem _ (List.mem_cons_self)), ?_⟩
    rw [Rect.mem_set_unit]
    intro a
    match a with
    | 0 => exact ⟨by show 0 ≤ _; omega, by show _ < 0 + 512; omega⟩
    | 1 => exact ⟨by show 2304 ≤ _; omega, by show _ < 2304 + 256; omega⟩
  by_cases h1280 : 1280 ≤ (y 1).val
  · refine ⟨_, (List.mem_cons_of_mem _ (List.mem_cons_of_mem _ (List.mem_cons_self))), ?_⟩
    rw [Rect.mem_set_unit]
    intro a
    match a with
    | 0 => exact ⟨by show 0 ≤ _; omega, by show _ < 0 + 512; omega⟩
    | 1 => exact ⟨by show 1280 ≤ _; omega, by show _ < 1280 + 1024; omega⟩
  by_cases h1024 : 1024 ≤ (y 1).val
  · refine ⟨_, (List.mem_cons_of_mem _ (List.mem_cons_of_mem _ (List.mem_cons_of_mem _ (List.mem_cons_self)))), ?_⟩
    rw [Rect.mem_set_unit]
    intro a
    match a with
    | 0 => exact ⟨by show 0 ≤ _; omega, by show _ < 0 + 512; omega⟩
    | 1 => exact ⟨by show 1024 ≤ _; omega, by show _ < 1024 + 256; omega⟩
  · refine ⟨_, (List.mem_cons_of_mem _ (List.mem_cons_of_mem _ (List.mem_cons_of_mem _ (List.mem_cons_of_mem _ (List.mem_cons_self))))), ?_⟩
    rw [Rect.mem_set_unit]
    intro a
    match a with
    | 0 => exact ⟨by show 0 ≤ _; omega, by show _ < 0 + 512; omega⟩
    | 1 => exact ⟨by show 0 ≤ _; omega, by show _ < 0 + 1024; omega⟩

theorem cover3 (x0 : Vec F S1024x1024 .bf16) (x1 : Vec F S1x1024x2048 .f32) (y : S1024x2560.Idx) : ∃ p ∈ pieces3 x0 x1, y ∈ p.1.set := by
  have h0 : (y 0).val < 1024 := (y 0).isLt
  have h1 : (y 1).val < 2560 := (y 1).isLt
  unfold pieces3
  by_cases h : 768 ≤ (y 0).val
  · refine ⟨_, (List.mem_cons_self), ?_⟩
    rw [Rect.mem_set_unit]
    intro a
    match a with
    | 0 => exact ⟨by show 768 ≤ _; omega, by show _ < 768 + 256; omega⟩
    | 1 => exact ⟨by show 0 ≤ _; omega, by show _ < 0 + 2560; omega⟩
  by_cases h2304 : 2304 ≤ (y 1).val
  · refine ⟨_, (List.mem_cons_of_mem _ (List.mem_cons_self)), ?_⟩
    rw [Rect.mem_set_unit]
    intro a
    match a with
    | 0 => exact ⟨by show 0 ≤ _; omega, by show _ < 0 + 768; omega⟩
    | 1 => exact ⟨by show 2304 ≤ _; omega, by show _ < 2304 + 256; omega⟩
  by_cases h1280 : 1280 ≤ (y 1).val
  · refine ⟨_, (List.mem_cons_of_mem _ (List.mem_cons_of_mem _ (List.mem_cons_self))), ?_⟩
    rw [Rect.mem_set_unit]
    intro a
    match a with
    | 0 => exact ⟨by show 0 ≤ _; omega, by show _ < 0 + 768; omega⟩
    | 1 => exact ⟨by show 1280 ≤ _; omega, by show _ < 1280 + 1024; omega⟩
  by_cases h1024 : 1024 ≤ (y 1).val
  · refine ⟨_, (List.mem_cons_of_mem _ (List.mem_cons_of_mem _ (List.mem_cons_of_mem _ (List.mem_cons_self)))), ?_⟩
    rw [Rect.mem_set_unit]
    intro a
    match a with
    | 0 => exact ⟨by show 0 ≤ _; omega, by show _ < 0 + 768; omega⟩
    | 1 => exact ⟨by show 1024 ≤ _; omega, by show _ < 1024 + 256; omega⟩
  · refine ⟨_, (List.mem_cons_of_mem _ (List.mem_cons_of_mem _ (List.mem_cons_of_mem _ (List.mem_cons_of_mem _ (List.mem_cons_self))))), ?_⟩
    rw [Rect.mem_set_unit]
    intro a
    match a with
    | 0 => exact ⟨by show 0 ≤ _; omega, by show _ < 0 + 768; omega⟩
    | 1 => exact ⟨by show 0 ≤ _; omega, by show _ < 0 + 1024; omega⟩

theorem cover4 (x0 : Vec F S1024x1024 .bf16) (x1 : Vec F S1x1024x2048 .f32) (y : S1024x2560.Idx) : ∃ p ∈ pieces4 x0 x1, y ∈ p.1.set := by
  have h0 : (y 0).val < 1024 := (y 0).isLt
  have h1 : (y 1).val < 2560 := (y 1).isLt
  unfold pieces4
  by_cases h2304 : 2304 ≤ (y 1).val
  · refine ⟨_, (List.mem_cons_self), ?_⟩
    rw [Rect.mem_set_unit]
    intro a
    match a with
    | 0 => exact ⟨by show 0 ≤ _; omega, by show _ < 0 + 1024; omega⟩
    | 1 => exact ⟨by show 2304 ≤ _; omega, by show _ < 2304 + 256; omega⟩
  by_cases h1280 : 1280 ≤ (y 1).val
  · refine ⟨_, (List.mem_cons_of_mem _ (List.mem_cons_self)), ?_⟩
    rw [Rect.mem_set_unit]
    intro a
    match a with
    | 0 => exact ⟨by show 0 ≤ _; omega, by show _ < 0 + 1024; omega⟩
    | 1 => exact ⟨by show 1280 ≤ _; omega, by show _ < 1280 + 1024; omega⟩
  by_cases h1024 : 1024 ≤ (y 1).val
  · refine ⟨_, (List.mem_cons_of_mem _ (List.mem_cons_of_mem _ (List.mem_cons_self))), ?_⟩
    rw [Rect.mem_set_unit]
    intro a
    match a with
    | 0 => exact ⟨by show 0 ≤ _; omega, by show _ < 0 + 1024; omega⟩
    | 1 => exact ⟨by show 1024 ≤ _; omega, by show _ < 1024 + 256; omega⟩
  · refine ⟨_, (List.mem_cons_of_mem _ (List.mem_cons_of_mem _ (List.mem_cons_of_mem _ (List.mem_cons_self)))), ?_⟩
    rw [Rect.mem_set_unit]
    intro a
    match a with
    | 0 => exact ⟨by show 0 ≤ _; omega, by show _ < 0 + 1024; omega⟩
    | 1 => exact ⟨by show 0 ≤ _; omega, by show _ < 0 + 1024; omega⟩

/-- What the body leaves in the output's buffer for an item of `k` blocks, at a point that has rows. -/
def outN (k : ℕ) (x0 : Vec F S1024x1024 .bf16) (x1 : Vec F S1x1024x2048 .f32) : Vec F S1024x2560 .bf16 :=
  if k = 1 then View.canon (pieces1 x0 x1) else if k = 2 then View.canon (pieces2 x0 x1)
  else if k = 3 then View.canon (pieces3 x0 x1) else View.canon (pieces4 x0 x1)

theorem outN_one (x0 : Vec F S1024x1024 .bf16) (x1 : Vec F S1x1024x2048 .f32) : outN 1 x0 x1 = View.canon (pieces1 x0 x1) := if_pos rfl
theorem outN_two (x0 : Vec F S1024x1024 .bf16) (x1 : Vec F S1x1024x2048 .f32) : outN 2 x0 x1 = View.canon (pieces2 x0 x1) :=
  (if_neg (by decide)).trans (if_pos rfl)
theorem outN_three (x0 : Vec F S1024x1024 .bf16) (x1 : Vec F S1x1024x2048 .f32) : outN 3 x0 x1 = View.canon (pieces3 x0 x1) :=
  (if_neg (by decide)).trans ((if_neg (by decide)).trans (if_pos rfl))
theorem outN_four (x0 : Vec F S1024x1024 .bf16) (x1 : Vec F S1x1024x2048 .f32) : outN 4 x0 x1 = View.canon (pieces4 x0 x1) :=
  (if_neg (by decide)).trans ((if_neg (by decide)).trans (if_neg (by decide)))

theorem run1_pieces (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : k0_cond1 (word c i xt2) = 1#1) (hc2 : ¬k0_cond2 (word c i xt2) = 1#1) (hc3 : ¬k0_cond3 (word c i xt2) = 1#1) (hc4 : ¬k0_cond4 (word c i xt2) = 1#1) :
    (run1 c i arg6 harg6 arg7 harg7 arg8 harg8 x0 x1 xt0 xt1 xt2 xt3 hc1 hc2 hc3 hc4).1 = pieces1 x0 x1 := by
  unfold run1
  dsimp only
  sl_unfold_words
  simp only [View.readAt_eq_ld, harg6.read_unread, harg7.read_unread, View.ld_unit_zero (S := S1x1024x2048) z3]
  rfl
theorem run1_read (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : k0_cond1 (word c i xt2) = 1#1) (hc2 : ¬k0_cond2 (word c i xt2) = 1#1) (hc3 : ¬k0_cond3 (word c i xt2) = 1#1) (hc4 : ¬k0_cond4 (word c i xt2) = 1#1) (f) :
    arg8.view.read (Elt F) (arg8.view.writes (Elt F) f (run1 c i arg6 harg6 arg7 harg7 arg8 harg8 x0 x1 xt0 xt1 xt2 xt3 hc1 hc2 hc3 hc4).1)
      = View.canon (pieces1 x0 x1) := by
  rw [run1_pieces, View.read_writes_eq_canon _ _ _ (cover1 _ _)]
theorem run2_pieces (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : k0_cond2 (word c i xt2) = 1#1) (hc3 : ¬k0_cond3 (word c i xt2) = 1#1) (hc4 : ¬k0_cond4 (word c i xt2) = 1#1) :
    (run2 c i arg6 harg6 arg7 harg7 arg8 harg8 x0 x1 xt0 xt1 xt2 xt3 hc1 hc2 hc3 hc4).1 = pieces2 x0 x1 := by
  unfold run2
  dsimp only
  sl_unfold_words
  simp only [View.readAt_eq_ld, harg6.read_unread, harg7.read_unread, View.ld_unit_zero (S := S1x1024x2048) z3]
  rfl
theorem run2_read (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : k0_cond2 (word c i xt2) = 1#1) (hc3 : ¬k0_cond3 (word c i xt2) = 1#1) (hc4 : ¬k0_cond4 (word c i xt2) = 1#1) (f) :
    arg8.view.read (Elt F) (arg8.view.writes (Elt F) f (run2 c i arg6 harg6 arg7 harg7 arg8 harg8 x0 x1 xt0 xt1 xt2 xt3 hc1 hc2 hc3 hc4).1)
      = View.canon (pieces2 x0 x1) := by
  rw [run2_pieces, View.read_writes_eq_canon _ _ _ (cover2 _ _)]
theorem run3_pieces (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : k0_cond3 (word c i xt2) = 1#1) (hc4 : ¬k0_cond4 (word c i xt2) = 1#1) :
    (run3 c i arg6 harg6 arg7 harg7 arg8 harg8 x0 x1 xt0 xt1 xt2 xt3 hc1 hc2 hc3 hc4).1 = pieces3 x0 x1 := by
  unfold run3
  dsimp only
  sl_unfold_words
  simp only [View.readAt_eq_ld, harg6.read_unread, harg7.read_unread, View.ld_unit_zero (S := S1x1024x2048) z3]
  rfl
theorem run3_read (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : k0_cond3 (word c i xt2) = 1#1) (hc4 : ¬k0_cond4 (word c i xt2) = 1#1) (f) :
    arg8.view.read (Elt F) (arg8.view.writes (Elt F) f (run3 c i arg6 harg6 arg7 harg7 arg8 harg8 x0 x1 xt0 xt1 xt2 xt3 hc1 hc2 hc3 hc4).1)
      = View.canon (pieces3 x0 x1) := by
  rw [run3_pieces, View.read_writes_eq_canon _ _ _ (cover3 _ _)]
theorem run4_pieces (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : ¬k0_cond3 (word c i xt2) = 1#1) (hc4 : k0_cond4 (word c i xt2) = 1#1) :
    (run4 c i arg6 harg6 arg7 harg7 arg8 harg8 x0 x1 xt0 xt1 xt2 xt3 hc1 hc2 hc3 hc4).1 = pieces4 x0 x1 := by
  unfold run4
  dsimp only
  sl_unfold_words
  simp only [View.readAt_eq_ld, harg6.read_unread, harg7.read_unread, View.ld_unit_zero (S := S1x1024x2048) z3, View.ld_unit_zero (S := S1024x1024) z2]
  rfl
theorem run4_read (c : Dev nD) (i : grid0.Coords) (arg6 : Memref sig .tc .vmem S1024x1024 .bf16) (harg6 : arg6.IsWhole) (arg7 : Memref sig .tc .vmem S1x1024x2048 .f32) (harg7 : arg7.IsWhole) (arg8 : Memref sig .tc .vmem S1024x2560 .bf16) (harg8 : arg8.IsWhole)
    (x0 : Vec F S1024x1024 .bf16) (x1 : Vec F S1x1024x2048 .f32) (xt0 : TbBuf0 (F := F) c tbM0_0) (xt1 : TbBuf0 (F := F) c tbM0_1) (xt2 : TbBuf0 (F := F) c tbM0_2) (xt3 : TbBuf0 (F := F) c tbM0_3)
    (hc1 : ¬k0_cond1 (word c i xt2) = 1#1) (hc2 : ¬k0_cond2 (word c i xt2) = 1#1) (hc3 : ¬k0_cond3 (word c i xt2) = 1#1) (hc4 : k0_cond4 (word c i xt2) = 1#1) (f) :
    arg8.view.read (Elt F) (arg8.view.writes (Elt F) f (run4 c i arg6 harg6 arg7 harg7 arg8 harg8 x0 x1 xt0 xt1 xt2 xt3 hc1 hc2 hc3 hc4).1)
      = View.canon (pieces4 x0 x1) := by
  rw [run4_pieces, View.read_writes_eq_canon _ _ _ (cover4 _ _)]

end Cert.Kernel7Ideal.Gen

end
-- ==== Proof.DownFrame.lean ====
/-
  The experts' second call at every point, and its run: what its arrays hold at the end.
-/
module

public import proofs.«01_k».proof.Proof.DownOut
public import Idealize.ShloMosaic.Lib.Pipeline.TableIdle
public import Idealize.ShloMosaic.Lib.Claim

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {e n : ℕ → ℕ} {L : ℕ} (hI : Items e n L (tbl m))

/-- The tables' side condition. -/
abbrev hok : Ok m := ok_of_items hI

theorem points : (cfgM m (hok m hI)).N = 256 := N_0

/-- What a point's body leaves in the output's buffer, at a point whose item has rows. -/
def outAt (c : Dev nD) (t : Fin (cfgM m (hok m hI)).N) : Vec F S1024x2560 .bf16 :=
  outN (n (item (grid0.coords t))) (iblk m (hok m hI) c 0 t) (iblk m (hok m hI) c 1 t)

/-- The last point up to `t`, in the same half of the columns, whose item has rows. -/
def back (t : Fin (cfgM m (hok m hI)).N) : Fin (cfgM m (hok m hI)).N := ⟨t.val / 128 * 128 + min (t.val % 128) L, by have := t.isLt; omega⟩

/-- The call's proof data: after a point each input's buffer holds its block, and the output's what the last point with rows left. -/
def dats (_ : Fin 1) (c : Dev nD) : Dat τ (Elt F) Unit ℕ (UR sig nD τ) ℕ (cfgM m (hok m hI)) c where
  A w := V m c (Pipeline.arrRef spec0 w)
  after w t := match w with
    | ⟨0, _⟩ => iblk m (hok m hI) c 0 t
    | ⟨1, _⟩ => iblk m (hok m hI) c 1 t
    | ⟨2, _⟩ => outAt m hI c (back m hI t)
  Φ _ := iprop(Pipeline.ΦA spec0 c ∗ Pipeline.ΦT pre0 (tbl m) c)
  q _ := fullShare
  owed _ := 0

theorem A_eq (c : Dev nD) (w : Fin (cfgM m (hok m hI)).W) : (dats m hI 0 c).A w = V m c (Pipeline.arrRef spec0 w) := by
  dsimp only [dats]

theorem after0_0 (c : Dev nD) (t : Fin (cfgM m (hok m hI)).N) : (dats m hI 0 c).after 0 t = iblk m (hok m hI) c 0 t := by dsimp only [dats]; try rfl
theorem after0_1 (c : Dev nD) (t : Fin (cfgM m (hok m hI)).N) : (dats m hI 0 c).after 1 t = iblk m (hok m hI) c 1 t := by dsimp only [dats]; try rfl
theorem after0_2 (c : Dev nD) (t : Fin (cfgM m (hok m hI)).N) : (dats m hI 0 c).after 2 t = outAt m hI c (back m hI t) := by dsimp only [dats]; try rfl

theorem before0_0 (c : Dev nD) (t : Fin (cfgM m (hok m hI)).N) (d) : (dats m hI 0 c).before 0 t d = iblk m (hok m hI) c 0 t :=
  before0_0_of m (hok m hI) (dats m hI 0 c) (A_eq m hI c 0) (after0_0 m hI c) t d
theorem before0_1 (c : Dev nD) (t : Fin (cfgM m (hok m hI)).N) (d) : (dats m hI 0 c).before 1 t d = iblk m (hok m hI) c 1 t :=
  before0_1_of m (hok m hI) (dats m hI 0 c) (A_eq m hI c 1) (after0_1 m hI c) t d

/-! ### Where the output is idle, and where it is written back -/

theorem coords_eq : ∀ t : Fin grid0.N, (grid0.coords t 0).val = t.val / 128 ∧ (grid0.coords t 1).val = t.val % 128 := by decide +kernel

theorem idle_iff' (t : Fin (cfgM m (hok m hI)).N) : (cfgM m (hok m hI)).idle 2 ((cfgM m (hok m hI)).grid.coords t) = true ↔ L < t.val % 128 := by
  refine (idle_iff hI (grid0.coords t)).trans ?_
  have h0 := (coords_eq t).2
  constructor
  · intro h
    by_contra hc
    have := hI.live (item (grid0.coords t)) (by show (grid0.coords t 1).val ≤ L; omega)
    omega
  · intro h
    exact hI.dead (item (grid0.coords t)) (by show L < (grid0.coords t 1).val; omega)

theorem index2 (t : Fin (cfgM m (hok m hI)).N) : ((cfgM m (hok m hI)).win 2).index t = ![min (t.val % 128) L, t.val / 128] := by
  obtain ⟨h0, h1⟩ := coords_eq t
  rw [← h0, ← h1]
  exact where2 hI (grid0.coords t)

theorem flush_dead (t : Fin (cfgM m (hok m hI)).N) (h : L ≤ t.val % 128) (h' : t.val % 128 < 127) : ((cfgM m (hok m hI)).win 2).flush t = false := by
  have hN := points m hI
  have ht := t.isLt
  unfold Pipeline.Window.flush
  have h1 : decide (t.val + 1 = (cfgM m (hok m hI)).N) = false := decide_eq_false (by omega)
  have h2 : decide (∃ h : t.val + 1 < (cfgM m (hok m hI)).N, ((cfgM m (hok m hI)).win 2).index ⟨t.val + 1, h⟩ ≠ ((cfgM m (hok m hI)).win 2).index t) = false := by
    refine decide_eq_false ?_
    rintro ⟨h3, h4⟩
    apply h4
    rw [index2 m hI, index2 m hI]
    have e1 : min ((t.val + 1) % 128) L = min (t.val % 128) L := by omega
    have e2 : (t.val + 1) / 128 = t.val / 128 := by omega
    show ![min ((t.val + 1) % 128) L, (t.val + 1) / 128] = _
    rw [e1, e2]
  exact (congrArg _ (by rw [h1, h2]; rfl)).trans (Bool.and_false _)

theorem flush_live (t : Fin (cfgM m (hok m hI)).N) (h : t.val % 128 < L ∨ t.val % 128 = 127) : ((cfgM m (hok m hI)).win 2).flush t = true := by
  have hN := points m hI
  have hl := hI.hl
  have ht := t.isLt
  unfold Pipeline.Window.flush
  by_cases h1 : t.val + 1 = (cfgM m (hok m hI)).N
  · exact (congrArg _ (by rw [decide_eq_true h1]; exact Bool.true_or _)).trans (Bool.and_true _)
  have h2 : decide (∃ h : t.val + 1 < (cfgM m (hok m hI)).N, ((cfgM m (hok m hI)).win 2).index ⟨t.val + 1, h⟩ ≠ ((cfgM m (hok m hI)).win 2).index t) = true := by
    refine decide_eq_true ⟨by omega, fun h4 => ?_⟩
    rw [index2 m hI, index2 m hI] at h4
    have a0 : min ((t.val + 1) % 128) L = min (t.val % 128) L := congrFun h4 0
    have a1 : (t.val + 1) / 128 = t.val / 128 := congrFun h4 1
    omega
  exact (congrArg _ (by rw [h2]; exact Bool.or_true _)).trans (Bool.and_true _)

theorem fresh_dead : ∀ k, L < k % 128 → k < 256 → (cfgM m (hok m hI)).fresh 2 k = false := by
  have hN := points m hI
  intro k
  induction k with
  | zero => intro h; omega
  | succ k ih =>
    intro h h'
    have hk : k < (cfgM m (hok m hI)).N := by omega
    rw [Pipeline.Cfg.fresh_succ _ _ k hk, flush_dead m hI ⟨k, hk⟩ (by show L ≤ k % 128; omega) (by show k % 128 < 127; omega), Bool.false_or]
    by_cases hc : L < k % 128
    · rw [ih hc (by omega), Bool.and_false]
    · have : (cfgM m (hok m hI)).idle 2 ((cfgM m (hok m hI)).grid.coords ⟨k, hk⟩) = false := by
        rw [Bool.eq_false_iff]
        intro hh
        exact hc ((idle_iff' m hI ⟨k, hk⟩).mp hh)
      rw [this, Bool.false_and]

theorem back_dead (t : Fin (cfgM m (hok m hI)).N) (h : L < t.val % 128) :
    back m hI t = back m hI ⟨t.val - 1, by omega⟩ := by
  apply Fin.ext
  show t.val / 128 * 128 + min (t.val % 128) L = (t.val - 1) / 128 * 128 + min ((t.val - 1) % 128) L
  omega

/-- At a point without rows the output's buffer still holds what the last point with rows left. -/
theorem before0_2 (c : Dev nD) (t : Fin (cfgM m (hok m hI)).N) (h : L < t.val % 128) (d) :
    (dats m hI 0 c).before 2 t d = (dats m hI 0 c).after 2 t := by
  have hN := points m hI
  have ht := t.isLt
  refine ((dats m hI 0 c).before_out_traj 2 rfl (fun _ _ => rfl) (fun t _ hi _ => ?_) t.val t rfl d).trans ?_
  · rw [after0_2 m hI, after0_2 m hI, back_dead m hI t ((idle_iff' m hI t).mp hi)]
  · rw [fresh_dead m hI t.val h (by omega), if_neg Bool.false_ne_true, after0_2 m hI, after0_2 m hI, back_dead m hI t h]

/-! ### The body at a point -/

/-- The body at a point, on the buffers of its windows. -/
abbrev bodyAt0 (a : (pcfg0 (F := F)).Adm) (t : Fin (cfg0 a).N) : Prog (TpuEff nD τ sig (Elt F) Λ₀ .tc) PUnit :=
  cc0_expert_down (grid0.coords t) tbM0_0 htbM0_0 tbM0_1 htbM0_1 tbM0_2 htbM0_2 tbM0_3 htbM0_3 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-- What the body is called with. -/
def bodyPre (c : Dev nD) (t : Fin (cfgM m (hok m hI)).N) : sProp 𝕄 :=
  iprop((dats m hI 0 c).Φ t.castSucc ∗ (dats m hI 0 c).owesAt () t.castSucc
    ∗ (∃ d, owns (c : Thread nD τ) (ms0_0 m (hok m hI) t) fullShare ((dats m hI 0 c).before 0 t d))
    ∗ (∃ d, owns (c : Thread nD τ) (ms0_1 m (hok m hI) t) fullShare ((dats m hI 0 c).before 1 t d))
    ∗ (∃ d, owns (c : Thread nD τ) (ms0_2 m (hok m hI) t) fullShare ((dats m hI 0 c).before 2 t d)))

/-- What it returns. -/
def bodyPost (c : Dev nD) (t : Fin (cfgM m (hok m hI)).N) : sProp 𝕄 :=
  iprop((dats m hI 0 c).Φ t.succ ∗ (dats m hI 0 c).owesAt () t.succ
    ∗ owns (c : Thread nD τ) (ms0_0 m (hok m hI) t) fullShare ((dats m hI 0 c).after 0 t)
    ∗ owns (c : Thread nD τ) (ms0_1 m (hok m hI) t) fullShare ((dats m hI 0 c).after 1 t)
    ∗ (dats m hI 0 c).leavesExact 2 t)

theorem leaves_live (c : Dev nD) (t : Fin (cfgM m (hok m hI)).N) (h : ¬L < t.val % 128) :
    (dats m hI 0 c).leavesExact 2 t = owns (c : Thread nD τ) (ms0_2 m (hok m hI) t) fullShare (outAt m hI c t) := by
  have hi : (cfgM m (hok m hI)).idle 2 ((cfgM m (hok m hI)).grid.coords t) = false := by
    rw [Bool.eq_false_iff]; exact fun hh => h ((idle_iff' m hI t).mp hh)
  have hb : back m hI t = t := Fin.ext (by show t.val / 128 * 128 + min (t.val % 128) L = t.val; omega)
  unfold Dat.leavesExact
  rw [hi]
  show owns (c : Thread nD τ) (ms0_2 m (hok m hI) t) fullShare ((dats m hI 0 c).after 2 t) = _
  rw [after0_2 m hI, hb]

theorem leaves_dead (c : Dev nD) (t : Fin (cfgM m (hok m hI)).N) (h : L < t.val % 128) (d) :
    owns (c : Thread nD τ) (ms0_2 m (hok m hI) t) fullShare ((dats m hI 0 c).before 2 t d) ⊢ ((dats m hI 0 c).leavesExact 2 t : sProp 𝕄) := by
  have hi := (idle_iff' m hI t).mpr h
  unfold Dat.leavesExact
  rw [hi]
  cases hf : ((cfgM m (hok m hI)).win 2).flush t
  · show _ ⊢ (iprop(∃ d, owns (c : Thread nD τ) (ms0_2 m (hok m hI) t) fullShare ((dats m hI 0 c).before 2 t d)) : sProp 𝕄)
    iintro H; iexists d; iexact H
  · show _ ⊢ (owns (c : Thread nD τ) (ms0_2 m (hok m hI) t) fullShare ((dats m hI 0 c).after 2 t) : sProp 𝕄)
    rw [before0_2 m hI c t h d]

set_option maxHeartbeats 1600000 in
theorem sound0 (c : Dev nD) (t : Fin (cfgM m (hok m hI)).N) (hn : n (item (grid0.coords t)) = 0) :
    bodyPre m hI c t ⊢ wp frame (wpE (defs₀ (F := F)) Variants.none c none) Set.univ (bodyAt0 (adm m (hok m hI)) t) (fun _ => bodyPost m hI c t) := by
  have h0 := (coords_eq t).2
  have ht : L < t.val % 128 := by
    by_contra h
    have := hI.live (item (grid0.coords t)) (by show (grid0.coords t 1).val ≤ L; omega)
    omega
  have hc1 : ¬k0_cond1 (word c (grid0.coords t) (tbl m 2)) = 1#1 := by rw [word_eq hI, hn]; decide
  have hc2 : ¬k0_cond2 (word c (grid0.coords t) (tbl m 2)) = 1#1 := by rw [word_eq hI, hn]; decide
  have hc3 : ¬k0_cond3 (word c (grid0.coords t) (tbl m 2)) = 1#1 := by rw [word_eq hI, hn]; decide
  have hc4 : ¬k0_cond4 (word c (grid0.coords t) (tbl m 2)) = 1#1 := by rw [word_eq hI, hn]; decide
  unfold bodyPre bodyPost bodyAt0
  simp only [before0_0 m hI, before0_1 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI]
  rw [show (dats m hI 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩⟩
  iapply (run0 c (grid0.coords t) _ _ _ _ _ _ (iblk m (hok m hI) c 0 t) (iblk m (hok m hI) c 1 t) _ (tbl m 0) (tbl m 1) (tbl m 2) (tbl m 3) hc1 hc2 hc3 hc4 Set.univ _)
  isplitl [H0]; · iexact H0
  isplitl [H1]; · iexact H1
  isplitl [H2]; · iexact H2
  isplitl [HT0]; · iexact HT0
  isplitl [HT1]; · iexact HT1
  isplitl [HT2]; · iexact HT2
  isplitl [HT3]; · iexact HT3
  iintro ⟨H0, H1, H2, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  iapply (leaves_dead m hI c t ht d2)
  iexact H2

set_option maxHeartbeats 1600000 in
theorem sound1 (c : Dev nD) (t : Fin (cfgM m (hok m hI)).N) (hn : n (item (grid0.coords t)) = 1) :
    bodyPre m hI c t ⊢ wp frame (wpE (defs₀ (F := F)) Variants.none c none) Set.univ (bodyAt0 (adm m (hok m hI)) t) (fun _ => bodyPost m hI c t) := by
  have h0 := (coords_eq t).2
  have ht : ¬L < t.val % 128 := fun h => by
    have := hI.dead (item (grid0.coords t)) (by show L < (grid0.coords t 1).val; omega)
    omega
  have hc1 : k0_cond1 (word c (grid0.coords t) (tbl m 2)) = 1#1 := by rw [word_eq hI, hn]; decide
  have hc2 : ¬k0_cond2 (word c (grid0.coords t) (tbl m 2)) = 1#1 := by rw [word_eq hI, hn]; decide
  have hc3 : ¬k0_cond3 (word c (grid0.coords t) (tbl m 2)) = 1#1 := by rw [word_eq hI, hn]; decide
  have hc4 : ¬k0_cond4 (word c (grid0.coords t) (tbl m 2)) = 1#1 := by rw [word_eq hI, hn]; decide
  unfold bodyPre bodyPost bodyAt0
  simp only [before0_0 m hI, before0_1 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI]
  rw [show (dats m hI 0 c).Φ t.castSucc = iprop(Pipeline.ΦA spec0 c ∗ Pipeline.ΦT pre0 (tbl m) c) from rfl, PhiT0_eq]
  rw [leaves_live m hI c t ht]
  iintro ⟨⟨HΦ, ⟨HT0, HT1, HT2, HT3⟩⟩, Ho, ⟨%d0, H0⟩, ⟨%d1, H1⟩, ⟨%d2, H2⟩⟩
  iapply ((run1 c (grid0.coords t) _ _ _ _ _ _ (iblk m (hok m hI) c 0 t) (iblk m (hok m hI) c 1 t) (tbl m 0) (tbl m 1) (tbl m 2) (tbl m 3) hc1 hc2 hc3 hc4).2 Set.univ _)
  isplitl [H0]; · iexact H0
  isplitl [H1]; · iexact H1
  isplitl [H2]; · iexists _; iexact H2
  isplitl [HT0]; · iexact HT0
  isplitl [HT1]; · iexact HT1
  isplitl [HT2]; · iexact HT2
  isplitl [HT3]; · iexact HT3
  iintro ⟨H0, H1, ⟨%e2, H2⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  unfold owns; iexists _; isplitr
  swap; · iexact H2
  ipureintro
  refine (run1_read c _ _ _ _ _ _ _ _ _ _ _ _ _ _ _ _ _ _).trans ?_
  unfold outAt
  rw [hn]; exact (outN_one _ _).symm

set_option maxHeartbeats 1600000 in
theorem sound2 (c : Dev nD) (t : Fin (cfgM m (hok m hI)).N) (hn : n (item (grid0.coords t)) = 2) :
    bodyPre m hI c t ⊢ wp frame (wpE (defs₀ (F := F)) Variants.none c none) Set.univ (bodyAt0 (adm m (hok m hI)) t) (fun _ => bodyPost m hI c t) := by
  have h0 := (coords_eq t).2
  have ht : ¬L < t.val % 128 := fun h => by
    have := hI.dead (item (grid0.coords t)) (by show L < (grid0.coords t 1).val; omega)
    omega
  have hc1 : ¬k0_cond1 (word c (grid0.coords t) (tbl m 2)) = 1#1 := by rw [word_eq hI, hn]; decide
  have hc2 : k0_cond2 (word c (grid0.coords t) (tbl m 2)) = 1#1 := by rw [word_eq hI, hn]; decide
  have hc3 : ¬k0_cond3 (word c (grid0.coords t) (tbl m 2)) = 1#1 := by rw [word_eq hI, hn]; decide
  have hc4 : ¬k0_cond4 (word c (grid0.coords t) (tbl m 2)) = 1#1 := by rw [word_eq hI, hn]; decide
  unfold bodyPre bodyPost bodyAt0
  simp only [before0_0 m hI, before0_1 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI]
  rw [show (dats m hI 0 c).Φ t.castSucc = iprop(Pipeline.ΦA spec0 c ∗ Pipeline.ΦT pre0 (tbl m) c) from rfl, PhiT0_eq]
  rw [leaves_live m hI c t ht]
  iintro ⟨⟨HΦ, ⟨HT0, HT1, HT2, HT3⟩⟩, Ho, ⟨%d0, H0⟩, ⟨%d1, H1⟩, ⟨%d2, H2⟩⟩
  iapply ((run2 c (grid0.coords t) _ _ _ _ _ _ (iblk m (hok m hI) c 0 t) (iblk m (hok m hI) c 1 t) (tbl m 0) (tbl m 1) (tbl m 2) (tbl m 3) hc1 hc2 hc3 hc4).2 Set.univ _)
  isplitl [H0]; · iexact H0
  isplitl [H1]; · iexact H1
  isplitl [H2]; · iexists _; iexact H2
  isplitl [HT0]; · iexact HT0
  isplitl [HT1]; · iexact HT1
  isplitl [HT2]; · iexact HT2
  isplitl [HT3]; · iexact HT3
  iintro ⟨H0, H1, ⟨%e2, H2⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  unfold owns; iexists _; isplitr
  swap; · iexact H2
  ipureintro
  refine (run2_read c _ _ _ _ _ _ _ _ _ _ _ _ _ _ _ _ _ _).trans ?_
  unfold outAt
  rw [hn]; exact (outN_two _ _).symm

set_option maxHeartbeats 1600000 in
theorem sound3 (c : Dev nD) (t : Fin (cfgM m (hok m hI)).N) (hn : n (item (grid0.coords t)) = 3) :
    bodyPre m hI c t ⊢ wp frame (wpE (defs₀ (F := F)) Variants.none c none) Set.univ (bodyAt0 (adm m (hok m hI)) t) (fun _ => bodyPost m hI c t) := by
  have h0 := (coords_eq t).2
  have ht : ¬L < t.val % 128 := fun h => by
    have := hI.dead (item (grid0.coords t)) (by show L < (grid0.coords t 1).val; omega)
    omega
  have hc1 : ¬k0_cond1 (word c (grid0.coords t) (tbl m 2)) = 1#1 := by rw [word_eq hI, hn]; decide
  have hc2 : ¬k0_cond2 (word c (grid0.coords t) (tbl m 2)) = 1#1 := by rw [word_eq hI, hn]; decide
  have hc3 : k0_cond3 (word c (grid0.coords t) (tbl m 2)) = 1#1 := by rw [word_eq hI, hn]; decide
  have hc4 : ¬k0_cond4 (word c (grid0.coords t) (tbl m 2)) = 1#1 := by rw [word_eq hI, hn]; decide
  unfold bodyPre bodyPost bodyAt0
  simp only [before0_0 m hI, before0_1 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI]
  rw [show (dats m hI 0 c).Φ t.castSucc = iprop(Pipeline.ΦA spec0 c ∗ Pipeline.ΦT pre0 (tbl m) c) from rfl, PhiT0_eq]
  rw [leaves_live m hI c t ht]
  iintro ⟨⟨HΦ, ⟨HT0, HT1, HT2, HT3⟩⟩, Ho, ⟨%d0, H0⟩, ⟨%d1, H1⟩, ⟨%d2, H2⟩⟩
  iapply ((run3 c (grid0.coords t) _ _ _ _ _ _ (iblk m (hok m hI) c 0 t) (iblk m (hok m hI) c 1 t) (tbl m 0) (tbl m 1) (tbl m 2) (tbl m 3) hc1 hc2 hc3 hc4).2 Set.univ _)
  isplitl [H0]; · iexact H0
  isplitl [H1]; · iexact H1
  isplitl [H2]; · iexists _; iexact H2
  isplitl [HT0]; · iexact HT0
  isplitl [HT1]; · iexact HT1
  isplitl [HT2]; · iexact HT2
  isplitl [HT3]; · iexact HT3
  iintro ⟨H0, H1, ⟨%e2, H2⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  unfold owns; iexists _; isplitr
  swap; · iexact H2
  ipureintro
  refine (run3_read c _ _ _ _ _ _ _ _ _ _ _ _ _ _ _ _ _ _).trans ?_
  unfold outAt
  rw [hn]; exact (outN_three _ _).symm

set_option maxHeartbeats 1600000 in
theorem sound4 (c : Dev nD) (t : Fin (cfgM m (hok m hI)).N) (hn : n (item (grid0.coords t)) = 4) :
    bodyPre m hI c t ⊢ wp frame (wpE (defs₀ (F := F)) Variants.none c none) Set.univ (bodyAt0 (adm m (hok m hI)) t) (fun _ => bodyPost m hI c t) := by
  have h0 := (coords_eq t).2
  have ht : ¬L < t.val % 128 := fun h => by
    have := hI.dead (item (grid0.coords t)) (by show L < (grid0.coords t 1).val; omega)
    omega
  have hc1 : ¬k0_cond1 (word c (grid0.coords t) (tbl m 2)) = 1#1 := by rw [word_eq hI, hn]; decide
  have hc2 : ¬k0_cond2 (word c (grid0.coords t) (tbl m 2)) = 1#1 := by rw [word_eq hI, hn]; decide
  have hc3 : ¬k0_cond3 (word c (grid0.coords t) (tbl m 2)) = 1#1 := by rw [word_eq hI, hn]; decide
  have hc4 : k0_cond4 (word c (grid0.coords t) (tbl m 2)) = 1#1 := by rw [word_eq hI, hn]; decide
  unfold bodyPre bodyPost bodyAt0
  simp only [before0_0 m hI, before0_1 m hI]
  rw [show (dats m hI 0 c).Φ t.succ = (dats m hI 0 c).Φ t.castSucc from rfl,
    show (dats m hI 0 c).owesAt () t.succ = (dats m hI 0 c).owesAt () t.castSucc from rfl,
    after0_0 m hI, after0_1 m hI]
  rw [show (dats m hI 0 c).Φ t.castSucc = iprop(Pipeline.ΦA spec0 c ∗ Pipeline.ΦT pre0 (tbl m) c) from rfl, PhiT0_eq]
  rw [leaves_live m hI c t ht]
  iintro ⟨⟨HΦ, ⟨HT0, HT1, HT2, HT3⟩⟩, Ho, ⟨%d0, H0⟩, ⟨%d1, H1⟩, ⟨%d2, H2⟩⟩
  iapply ((run4 c (grid0.coords t) _ _ _ _ _ _ (iblk m (hok m hI) c 0 t) (iblk m (hok m hI) c 1 t) (tbl m 0) (tbl m 1) (tbl m 2) (tbl m 3) hc1 hc2 hc3 hc4).2 Set.univ _)
  isplitl [H0]; · iexact H0
  isplitl [H1]; · iexact H1
  isplitl [H2]; · iexists _; iexact H2
  isplitl [HT0]; · iexact HT0
  isplitl [HT1]; · iexact HT1
  isplitl [HT2]; · iexact HT2
  isplitl [HT3]; · iexact HT3
  iintro ⟨H0, H1, ⟨%e2, H2⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  unfold owns; iexists _; isplitr
  swap; · iexact H2
  ipureintro
  refine (run4_read c _ _ _ _ _ _ _ _ _ _ _ _ _ _ _ _ _ _).trans ?_
  unfold outAt
  rw [hn]; exact (outN_four _ _).symm

theorem sound_body (c : Dev nD) (t : Fin (cfgM m (hok m hI)).N) :
    bodyPre m hI c t ⊢ wp frame (wpE (defs₀ (F := F)) Variants.none c none) Set.univ (bodyAt0 (adm m (hok m hI)) t) (fun _ => bodyPost m hI c t) := by
  have h := hI.hn (item (grid0.coords t))
  obtain h | h | h | h | h : n (item (grid0.coords t)) = 0 ∨ n (item (grid0.coords t)) = 1 ∨ n (item (grid0.coords t)) = 2
    ∨ n (item (grid0.coords t)) = 3 ∨ n (item (grid0.coords t)) = 4 := by omega
  · exact sound0 m hI c t h
  · exact sound1 m hI c t h
  · exact sound2 m hI c t h
  · exact sound3 m hI c t h
  · exact sound4 m hI c t h

theorem defs₀_row (t : Fin (cfgM m (hok m hI)).N) :
    defs₀ (F := F) .tc (cfgM m (hok m hI)).body ((cfgM m (hok m hI)).bodyArgs t ((cfgM m (hok m hI)).slots t)) = bodyAt0 (adm m (hok m hI)) t := by
  unfold defs₀; rw [Defs.onTc_tc]

theorem body_obligation (c : Dev nD) : BodyObligation (dats (F := F) m hI 0 c) (defs₀ (F := F)) Variants.none () Set.univ := fun t => by
  rw [bigSep_W0, bigSep_W0, defs₀_row m hI]
  exact triple_restated (sound_body m hI c t) rfl .rfl fun _ => .rfl

/-! ### The run -/

theorem tail_sub : ∀ ops ∈ [(hostOps1 : List (HloOp τ sig (Elt F)))], ∀ op ∈ ops, op.bufs ⊆ Pipeline.tailRefs sig pre0 spec0 := by
  intro ops ho op h
  obtain rfl := List.mem_singleton.mp ho
  refine Pipeline.sub_tailRefs pre0 spec0 op ((List.forall_iff_forall_mem.mp hostOps1_sub) op h) ?_
  simp only [hostOps1, List.mem_cons, List.mem_nil_iff, or_false] at h
  rcases h with rfl | rfl | rfl <;> intro k <;> fin_cases k
    <;> simp only [StableHlo.unary_bufs, StableHlo.reshape_bufs, Finset.mem_insert, Finset.mem_singleton, not_or]
    <;> and_intros <;> exact StableHlo.devRef_ne_of_ne (by decide)

theorem tail_fresh : ∀ ops ∈ [(hostOps1 : List (HloOp τ sig (Elt F)))], ∀ op ∈ ops, op.fresh = ∅ := by
  intro ops ho op h
  obtain rfl := List.mem_singleton.mp ho
  exact (List.forall_iff_forall_mem.mp hostOps1_fresh) op h

theorem tail_keep : ∀ ops ∈ [(hostOps1 : List (HloOp τ sig (Elt F)))], ∀ op ∈ ops, ∀ w, Proc.devRef .tc (Pipeline.arrRef spec0 w) ∉ op.writes := by
  intro ops ho
  obtain rfl := List.mem_singleton.mp ho
  simp only [List.forall_mem_cons, StableHlo.unary_writes, StableHlo.reshape_writes, Finset.mem_singleton]
  refine ⟨fun w => ?_, fun w => ?_, fun w => ?_, fun _ h => absurd h List.not_mem_nil⟩ <;> fin_cases w <;> exact StableHlo.devRef_ne_of_ne (by decide)

/-- What every buffer holds once the lines after the call have run. -/
abbrev after (c : Dev nD) (b : Ref sig .tc) : Buf (Elt F) ((c.tc : Thread nD τ).loc b) :=
  Pipeline.afterTail pcfgs (fun _ => adm m (hok m hI)) (dats m hI) 0 (V₀ m) [hostOps1] c b

set_option backward.isDefEq.respectTransparency.types false in
/-- Every run of the program ends, its semaphores at zero, every array and every other buffer as the proof data say. -/
theorem run_quiescent : θ_run defs (onTc (τ := τ) (main (F := F))) (s₀ m ρ)
    (fun r => (Pipeline.FramePost (Pipeline.pin pcfgs fun _ => adm m (hok m hI)) (dats m hI) 0 (after m hI)) r ∧ r.2.sem = fun _ => 0) :=
  Pipeline.θ_run_frameP_around (Q' := _) (hQ' := fun _ h => h) pcfgs (fun _ => adm m (hok m hI)) (dats m hI) (0 : Fin 1) launch0 defs₀ Variants.none m ρ main
    (hbody := fun c => (body_obligation m hI c).loose) (hshare := fun c w => (dats m hI 0 c).share_full (fun _ => rfl) w)
    (howed := fun _ _ => rfl) (V₀ := V₀ m) (opss := [hostOps1]) (hsub := tail_sub) (hfresh := tail_fresh) (hkeep := tail_keep)
    (hmain := hmain m Variants.none) (hA := A_eq m hI) (hpf := V_pre m) (hΦ := fun _ _ => rfl)

theorem rest0 : main_arg0 ∈ Pipeline.restRefs sig spec0 := Pipeline.mem_restRefs_of main_arg0 (by decide) (by decide)
theorem rest1 : main_arg1 ∈ Pipeline.restRefs sig spec0 := Pipeline.mem_restRefs_of main_arg1 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)
theorem rest4 : main_arg4 ∈ Pipeline.restRefs sig spec0 := Pipeline.mem_restRefs_of main_arg4 (by decide) (by decide)
theorem rest5 : main_arg5 ∈ Pipeline.restRefs sig spec0 := Pipeline.mem_restRefs_of main_arg5 (by decide) (by decide)
theorem rest_v5 : main_v5 ∈ Pipeline.restRefs sig spec0 := Pipeline.mem_restRefs_of main_v5 (by decide) (by decide)

theorem after_arg0 (c : Dev nD) : after m hI c main_arg0 = m ((c.tc : Thread nD τ).loc main_arg0) := by
  refine (StableHlo.after_of_forall_not_mem (b := Proc.devRef .tc main_arg0) _ _ (List.forall_iff_forall_mem.mp (by
    simp only [hostOps1, List.flatten_cons, List.flatten_nil, List.append_nil, List.Forall, StableHlo.unary_writes, StableHlo.reshape_writes, Finset.mem_singleton]
    repeat' apply And.intro
    all_goals exact StableHlo.devRef_ne_of_ne (by decide)))).trans ?_
  exact (Pipeline.withArrays_of_ne spec0 c _ _ main_arg0 (by decide)).trans (V_main_arg0 m c)
theorem after_arg1 (c : Dev nD) : after m hI c main_arg1 = m ((c.tc : Thread nD τ).loc main_arg1) := by
  refine (StableHlo.after_of_forall_not_mem (b := Proc.devRef .tc main_arg1) _ _ (List.forall_iff_forall_mem.mp (by
    simp only [hostOps1, List.flatten_cons, List.flatten_nil, List.append_nil, List.Forall, StableHlo.unary_writes, StableHlo.reshape_writes, Finset.mem_singleton]
    repeat' apply And.intro
    all_goals exact StableHlo.devRef_ne_of_ne (by decide)))).trans ?_
  exact (Pipeline.withArrays_of_ne spec0 c _ _ main_arg1 (by decide)).trans (V_main_arg1 m c)
theorem after_arg2 (c : Dev nD) : after m hI c main_arg2 = m ((c.tc : Thread nD τ).loc main_arg2) := by
  refine (StableHlo.after_of_forall_not_mem (b := Proc.devRef .tc main_arg2) _ _ (List.forall_iff_forall_mem.mp (by
    simp only [hostOps1, List.flatten_cons, List.flatten_nil, List.append_nil, List.Forall, StableHlo.unary_writes, StableHlo.reshape_writes, Finset.mem_singleton]
    repeat' apply And.intro
    all_goals exact StableHlo.devRef_ne_of_ne (by decide)))).trans ?_
  exact (Pipeline.withArrays_of_ne spec0 c _ _ main_arg2 (by decide)).trans (V_main_arg2 m c)
theorem after_arg3 (c : Dev nD) : after m hI c main_arg3 = m ((c.tc : Thread nD τ).loc main_arg3) := by
  refine (StableHlo.after_of_forall_not_mem (b := Proc.devRef .tc main_arg3) _ _ (List.forall_iff_forall_mem.mp (by
    simp only [hostOps1, List.flatten_cons, List.flatten_nil, List.append_nil, List.Forall, StableHlo.unary_writes, StableHlo.reshape_writes, Finset.mem_singleton]
    repeat' apply And.intro
    all_goals exact StableHlo.devRef_ne_of_ne (by decide)))).trans ?_
  exact (Pipeline.withArrays_of_ne spec0 c _ _ main_arg3 (by decide)).trans (V_main_arg3 m c)
theorem after_arg4 (c : Dev nD) : after m hI c main_arg4 = m ((c.tc : Thread nD τ).loc main_arg4) := by
  refine (StableHlo.after_of_forall_not_mem (b := Proc.devRef .tc main_arg4) _ _ (List.forall_iff_forall_mem.mp (by
    simp only [hostOps1, List.flatten_cons, List.flatten_nil, List.append_nil, List.Forall, StableHlo.unary_writes, StableHlo.reshape_writes, Finset.mem_singleton]
    repeat' apply And.intro
    all_goals exact StableHlo.devRef_ne_of_ne (by decide)))).trans ?_
  exact (Pipeline.withArrays_of_ne spec0 c _ _ main_arg4 (by decide)).trans (V_main_arg4 m c)
theorem after_arg5 (c : Dev nD) : after m hI c main_arg5 = m ((c.tc : Thread nD τ).loc main_arg5) := by
  refine (StableHlo.after_of_forall_not_mem (b := Proc.devRef .tc main_arg5) _ _ (List.forall_iff_forall_mem.mp (by
    simp only [hostOps1, List.flatten_cons, List.flatten_nil, List.append_nil, List.Forall, StableHlo.unary_writes, StableHlo.reshape_writes, Finset.mem_singleton]
    repeat' apply And.intro
    all_goals exact StableHlo.devRef_ne_of_ne (by decide)))).trans ?_
  exact (Pipeline.withArrays_of_ne spec0 c _ _ main_arg5 (by decide)).trans (V_main_arg5 m c)

/-- The arguments after a run are as before it. -/
theorem args_kept (r : PUnit × MemSt nD τ sig (Elt F))
    (h : Pipeline.FramePost (Pipeline.pin pcfgs fun _ => adm m (hok m hI)) (dats m hI) 0 (after m hI) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 rest0).trans (after_arg0 m hI c),
    ((h c).2 main_arg1 rest1).trans (after_arg1 m hI c),
    ((h c).2 main_arg2 rest2).trans (after_arg2 m hI c),
    ((h c).2 main_arg3 rest3).trans (after_arg3 m hI c),
    ((h c).2 main_arg4 rest4).trans (after_arg4 m hI c),
    ((h c).2 main_arg5 rest5).trans (after_arg5 m hI c)⟩

include hI in
/-- Every run of the program ends, its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_kept m hI r h.1, h.2⟩) (run_quiescent m ρ hI)

end Cert.Kernel7Ideal.Gen

end
-- ==== Proof.DownPay.lean ====
/-
  The payloads of the second call, read at an index: a row of the block against a column of the weights.
-/
module

public import proofs.«01_k».proof.Proof.DownOut
public import proofs.«01_k».proof.Proof.Product
public import proofs.«01_k».proof.Proof.ExpertsRef

@[expose] public section

set_option maxRecDepth 16384

noncomputable section

namespace Cert.Kernel7Ideal.Gen

open Idealize.ShloMosaic Cert.Attn Cert.Mm

theorem pay2_at (x0 : Vec Ideal S256x1024 .bf16) (w : Vec Ideal S1x1024x2048 .f32) (r : Fin 256) (j : Fin 1024) (f g : Fin 1024 → EReal)
    (h0 : ∀ k, x0 (ix2 r k) = f k) (hw : ∀ c : Fin 2048, c.val = j.val → ∀ k, w (ix3 0 k c) = g k) :
    k0_pay2 x0 w (ix2 r j) = ∑ k : Fin 1024, f k * g k := by
  pointwise [k0_pay2, k0_pay1]
  have hx : ∀ k : Fin 1024, w (ix3 0 k (⟨j.val, by omega⟩ : Fin 2048)) = g k := hw _ rfl
  simp only [h0, hx]

theorem pay4_at (x0 : Vec Ideal S256x1024 .bf16) (w : Vec Ideal S1x1024x2048 .f32) (r : Fin 256) (j : Fin 1024) (f g : Fin 1024 → EReal)
    (h0 : ∀ k, x0 (ix2 r k) = f k) (hw : ∀ c : Fin 2048, c.val = 1024 + j.val → ∀ k, w (ix3 0 k c) = g k) :
    k0_pay4 x0 w (ix2 r j) = ∑ k : Fin 1024, f k * g k := by
  pointwise [k0_pay4, k0_pay1]
  have hx : ∀ k : Fin 1024, w (ix3 0 k (⟨1024 + j.val, by omega⟩ : Fin 2048)) = g k := hw _ rfl
  simp only [h0, hx]

theorem pay8_at (x0 : Vec Ideal S512x1024 .bf16) (w : Vec Ideal S1x1024x2048 .f32) (r : Fin 512) (j : Fin 1024) (f g : Fin 1024 → EReal)
    (h0 : ∀ k, x0 (ix2 r k) = f k) (hw : ∀ c : Fin 2048, c.val = j.val → ∀ k, w (ix3 0 k c) = g k) :
    k0_pay8 x0 w (ix2 r j) = ∑ k : Fin 1024, f k * g k := by
  pointwise [k0_pay8, k0_pay7]
  have hx : ∀ k : Fin 1024, w (ix3 0 k (⟨j.val, by omega⟩ : Fin 2048)) = g k := hw _ rfl
  simp only [h0, hx]

theorem pay10_at (x0 : Vec Ideal S512x1024 .bf16) (w : Vec Ideal S1x1024x2048 .f32) (r : Fin 512) (j : Fin 1024) (f g : Fin 1024 → EReal)
    (h0 : ∀ k, x0 (ix2 r k) = f k) (hw : ∀ c : Fin 2048, c.val = 1024 + j.val → ∀ k, w (ix3 0 k c) = g k) :
    k0_pay10 x0 w (ix2 r j) = ∑ k : Fin 1024, f k * g k := by
  pointwise [k0_pay10, k0_pay7]
  have hx : ∀ k : Fin 1024, w (ix3 0 k (⟨1024 + j.val, by omega⟩ : Fin 2048)) = g k := hw _ rfl
  simp only [h0, hx]

theorem pay14_at (x0 : Vec Ideal S768x1024 .bf16) (w : Vec Ideal S1x1024x2048 .f32) (r : Fin 768) (j : Fin 1024) (f g : Fin 1024 → EReal)
    (h0 : ∀ k, x0 (ix2 r k) = f k) (hw : ∀ c : Fin 2048, c.val = j.val → ∀ k, w (ix3 0 k c) = g k) :
    k0_pay14 x0 w (ix2 r j) = ∑ k : Fin 1024, f k * g k := by
  pointwise [k0_pay14, k0_pay13]
  have hx : ∀ k : Fin 1024, w (ix3 0 k (⟨j.val, by omega⟩ : Fin 2048)) = g k := hw _ rfl
  simp only [h0, hx]

theorem pay16_at (x0 : Vec Ideal S768x1024 .bf16) (w : Vec Ideal S1x1024x2048 .f32) (r : Fin 768) (j : Fin 1024) (f g : Fin 1024 → EReal)
    (h0 : ∀ k, x0 (ix2 r k) = f k) (hw : ∀ c : Fin 2048, c.val = 1024 + j.val → ∀ k, w (ix3 0 k c) = g k) :
    k0_pay16 x0 w (ix2 r j) = ∑ k : Fin 1024, f k * g k := by
  pointwise [k0_pay16, k0_pay13]
  have hx : ∀ k : Fin 1024, w (ix3 0 k (⟨1024 + j.val, by omega⟩ : Fin 2048)) = g k := hw _ rfl
  simp only [h0, hx]

theorem pay20_at (x0 : Vec Ideal S1024x1024 .bf16) (w : Vec Ideal S1x1024x2048 .f32) (r : Fin 1024) (j : Fin 1024) (f g : Fin 1024 → EReal)
    (h0 : ∀ k, x0 (ix2 r k) = f k) (hw : ∀ c : Fin 2048, c.val = j.val → ∀ k, w (ix3 0 k c) = g k) :
    k0_pay20 x0 w (ix2 r j) = ∑ k : Fin 1024, f k * g k := by
  pointwise [k0_pay20, k0_pay19]
  have hx : ∀ k : Fin 1024, w (ix3 0 k (⟨j.val, by omega⟩ : Fin 2048)) = g k := hw _ rfl
  simp only [h0, hx]

theorem pay22_at (x0 : Vec Ideal S1024x1024 .bf16) (w : Vec Ideal S1x1024x2048 .f32) (r : Fin 1024) (j : Fin 1024) (f g : Fin 1024 → EReal)
    (h0 : ∀ k, x0 (ix2 r k) = f k) (hw : ∀ c : Fin 2048, c.val = 1024 + j.val → ∀ k, w (ix3 0 k c) = g k) :
    k0_pay22 x0 w (ix2 r j) = ∑ k : Fin 1024, f k * g k := by
  pointwise [k0_pay22, k0_pay19]
  have hx : ∀ k : Fin 1024, w (ix3 0 k (⟨1024 + j.val, by omega⟩ : Fin 2048)) = g k := hw _ rfl
  simp only [h0, hx]

theorem out1_at (x0 : Vec Ideal S1024x1024 .bf16) (x1 : Vec Ideal S1x1024x2048 .f32) (r : Fin 1024) (j : Fin 2560) (h : r.val < 256)
    (hj : j.val % 1280 < 1024) (f g : Fin 1024 → EReal) (hf : ∀ k, x0 (ix2 r k) = f k)
    (hg : ∀ c : Fin 2048, c.val = j.val / 1280 * 1024 + j.val % 1280 → ∀ k, x1 (ix3 0 k c) = g k) :
    View.canon (pieces1 x0 x1) (ix2 r j) = ∑ k : Fin 1024, f k * g k := by
  have hj' := j.isLt
  unfold pieces1
  rw [View.canon_cons_of_not_mem _ _ (by
    rw [Rect.mem_set_unit]
    intro hh
    have : 256 ≤ r.val := (hh 0).1
    omega)]
  rw [View.canon_cons_of_not_mem _ _ (by
    rw [Rect.mem_set_unit]
    intro hh
    have : 2304 ≤ j.val := (hh 1).1
    omega)]
  by_cases hc : j.val < 1280
  · rw [View.canon_cons_of_not_mem _ _ (by
      rw [Rect.mem_set_unit]
      intro hh
      have : 1280 ≤ j.val := (hh 1).1
      omega)]
    rw [View.canon_cons_of_not_mem _ _ (by
      rw [Rect.mem_set_unit]
      intro hh
      have : 1024 ≤ j.val := (hh 1).1
      omega)]
    have e : (ix2 r j : S1024x2560.Idx) = (Rect.unit (s := S1024x2560) ![0, 0] S256x1024.size inb_S1024x2560_S256x1024_0_0).emb
        (ix2 (⟨r.val, h⟩ : Fin 256) (⟨j.val - 0, by omega⟩ : Fin 1024)) := by
      funext a
      refine Fin.ext ?_
      match a with
      | ⟨0, _⟩ => show r.val = 0 + 1 * r.val; omega
      | ⟨1, _⟩ => show j.val = 0 + 1 * (j.val - 0); omega
    rw [e, View.canon_cons_emb]
    refine pay2_at _ _ _ _ f g (fun k => (congrArg x0 (funext fun a => Fin.ext (by
        match a with
        | ⟨0, _⟩ => show 0 + 1 * r.val = r.val; omega
        | ⟨1, _⟩ => show 0 + 1 * k.val = k.val; omega))).trans (hf k)) (fun c hc' => hg c ?_)
    rw [hc']; show j.val - 0 = _; omega
  · have e : (ix2 r j : S1024x2560.Idx) = (Rect.unit (s := S1024x2560) ![0, 1280] S256x1024.size inb_S1024x2560_S256x1024_0_1280).emb
        (ix2 (⟨r.val, h⟩ : Fin 256) (⟨j.val - 1280, by omega⟩ : Fin 1024)) := by
      funext a
      refine Fin.ext ?_
      match a with
      | ⟨0, _⟩ => show r.val = 0 + 1 * r.val; omega
      | ⟨1, _⟩ => show j.val = 1280 + 1 * (j.val - 1280); omega
    rw [e, View.canon_cons_emb]
    refine pay4_at _ _ _ _ f g (fun k => (congrArg x0 (funext fun a => Fin.ext (by
        match a with
        | ⟨0, _⟩ => show 0 + 1 * r.val = r.val; omega
        | ⟨1, _⟩ => show 0 + 1 * k.val = k.val; omega))).trans (hf k)) (fun c hc' => hg c ?_)
    rw [hc']; show 1024 + (j.val - 1280) = _; omega

theorem out2_at (x0 : Vec Ideal S1024x1024 .bf16) (x1 : Vec Ideal S1x1024x2048 .f32) (r : Fin 1024) (j : Fin 2560) (h : r.val < 512)
    (hj : j.val % 1280 < 1024) (f g : Fin 1024 → EReal) (hf : ∀ k, x0 (ix2 r k) = f k)
    (hg : ∀ c : Fin 2048, c.val = j.val / 1280 * 1024 + j.val % 1280 → ∀ k, x1 (ix3 0 k c) = g k) :
    View.canon (pieces2 x0 x1) (ix2 r j) = ∑ k : Fin 1024, f k * g k := by
  have hj' := j.isLt
  unfold pieces2
  rw [View.canon_cons_of_not_mem _ _ (by
    rw [Rect.mem_set_unit]
    intro hh
    have : 512 ≤ r.val := (hh 0).1
    omega)]
  rw [View.canon_cons_of_not_mem _ _ (by
    rw [Rect.mem_set_unit]
    intro hh
    have : 2304 ≤ j.val := (hh 1).1
    omega)]
  by_cases hc : j.val < 1280
  · rw [View.canon_cons_of_not_mem _ _ (by
      rw [Rect.mem_set_unit]
      intro hh
      have : 1280 ≤ j.val := (hh 1).1
      omega)]
    rw [View.canon_cons_of_not_mem _ _ (by
      rw [Rect.mem_set_unit]
      intro hh
      have : 1024 ≤ j.val := (hh 1).1
      omega)]
    have e : (ix2 r j : S1024x2560.Idx) = (Rect.unit (s := S1024x2560) ![0, 0] S512x1024.size inb_S1024x2560_S512x1024_0_0).emb
        (ix2 (⟨r.val, h⟩ : Fin 512) (⟨j.val - 0, by omega⟩ : Fin 1024)) := by
      funext a
      refine Fin.ext ?_
      match a with
      | ⟨0, _⟩ => show r.val = 0 + 1 * r.val; omega
      | ⟨1, _⟩ => show j.val = 0 + 1 * (j.val - 0); omega
    rw [e, View.canon_cons_emb]
    refine pay8_at _ _ _ _ f g (fun k => (congrArg x0 (funext fun a => Fin.ext (by
        match a with
        | ⟨0, _⟩ => show 0 + 1 * r.val = r.val; omega
        | ⟨1, _⟩ => show 0 + 1 * k.val = k.val; omega))).trans (hf k)) (fun c hc' => hg c ?_)
    rw [hc']; show j.val - 0 = _; omega
  · have e : (ix2 r j : S1024x2560.Idx) = (Rect.unit (s := S1024x2560) ![0, 1280] S512x1024.size inb_S1024x2560_S512x1024_0_1280).emb
        (ix2 (⟨r.val, h⟩ : Fin 512) (⟨j.val - 1280, by omega⟩ : Fin 1024)) := by
      funext a
      refine Fin.ext ?_
      match a with
      | ⟨0, _⟩ => show r.val = 0 + 1 * r.val; omega
      | ⟨1, _⟩ => show j.val = 1280 + 1 * (j.val - 1280); omega
    rw [e, View.canon_cons_emb]
    refine pay10_at _ _ _ _ f g (fun k => (congrArg x0 (funext fun a => Fin.ext (by
        match a with
        | ⟨0, _⟩ => show 0 + 1 * r.val = r.val; omega
        | ⟨1, _⟩ => show 0 + 1 * k.val = k.val; omega))).trans (hf k)) (fun c hc' => hg c ?_)
    rw [hc']; show 1024 + (j.val - 1280) = _; omega

theorem out3_at (x0 : Vec Ideal S1024x1024 .bf16) (x1 : Vec Ideal S1x1024x2048 .f32) (r : Fin 1024) (j : Fin 2560) (h : r.val < 768)
    (hj : j.val % 1280 < 1024) (f g : Fin 1024 → EReal) (hf : ∀ k, x0 (ix2 r k) = f k)
    (hg : ∀ c : Fin 2048, c.val = j.val / 1280 * 1024 + j.val % 1280 → ∀ k, x1 (ix3 0 k c) = g k) :
    View.canon (pieces3 x0 x1) (ix2 r j) = ∑ k : Fin 1024, f k * g k := by
  have hj' := j.isLt
  unfold pieces3
  rw [View.canon_cons_of_not_mem _ _ (by
    rw [Rect.mem_set_unit]
    intro hh
    have : 768 ≤ r.val := (hh 0).1
    omega)]
  rw [View.canon_cons_of_not_mem _ _ (by
    rw [Rect.mem_set_unit]
    intro hh
    have : 2304 ≤ j.val := (hh 1).1
    omega)]
  by_cases hc : j.val < 1280
  · rw [View.canon_cons_of_not_mem _ _ (by
      rw [Rect.mem_set_unit]
      intro hh
      have : 1280 ≤ j.val := (hh 1).1
      omega)]
    rw [View.canon_cons_of_not_mem _ _ (by
      rw [Rect.mem_set_unit]
      intro hh
      have : 1024 ≤ j.val := (hh 1).1
      omega)]
    have e : (ix2 r j : S1024x2560.Idx) = (Rect.unit (s := S1024x2560) ![0, 0] S768x1024.size inb_S1024x2560_S768x1024_0_0).emb
        (ix2 (⟨r.val, h⟩ : Fin 768) (⟨j.val - 0, by omega⟩ : Fin 1024)) := by
      funext a
      refine Fin.ext ?_
      match a with
      | ⟨0, _⟩ => show r.val = 0 + 1 * r.val; omega
      | ⟨1, _⟩ => show j.val = 0 + 1 * (j.val - 0); omega
    rw [e, View.canon_cons_emb]
    refine pay14_at _ _ _ _ f g (fun k => (congrArg x0 (funext fun a => Fin.ext (by
        match a with
        | ⟨0, _⟩ => show 0 + 1 * r.val = r.val; omega
        | ⟨1, _⟩ => show 0 + 1 * k.val = k.val; omega))).trans (hf k)) (fun c hc' => hg c ?_)
    rw [hc']; show j.val - 0 = _; omega
  · have e : (ix2 r j : S1024x2560.Idx) = (Rect.unit (s := S1024x2560) ![0, 1280] S768x1024.size inb_S1024x2560_S768x1024_0_1280).emb
        (ix2 (⟨r.val, h⟩ : Fin 768) (⟨j.val - 1280, by omega⟩ : Fin 1024)) := by
      funext a
      refine Fin.ext ?_
      match a with
      | ⟨0, _⟩ => show r.val = 0 + 1 * r.val; omega
      | ⟨1, _⟩ => show j.val = 1280 + 1 * (j.val - 1280); omega
    rw [e, View.canon_cons_emb]
    refine pay16_at _ _ _ _ f g (fun k => (congrArg x0 (funext fun a => Fin.ext (by
        match a with
        | ⟨0, _⟩ => show 0 + 1 * r.val = r.val; omega
        | ⟨1, _⟩ => show 0 + 1 * k.val = k.val; omega))).trans (hf k)) (fun c hc' => hg c ?_)
    rw [hc']; show 1024 + (j.val - 1280) = _; omega

theorem out4_at (x0 : Vec Ideal S1024x1024 .bf16) (x1 : Vec Ideal S1x1024x2048 .f32) (r : Fin 1024) (j : Fin 2560) (h : r.val < 1024)
    (hj : j.val % 1280 < 1024) (f g : Fin 1024 → EReal) (hf : ∀ k, x0 (ix2 r k) = f k)
    (hg : ∀ c : Fin 2048, c.val = j.val / 1280 * 1024 + j.val % 1280 → ∀ k, x1 (ix3 0 k c) = g k) :
    View.canon (pieces4 x0 x1) (ix2 r j) = ∑ k : Fin 1024, f k * g k := by
  have hj' := j.isLt
  unfold pieces4
  rw [View.canon_cons_of_not_mem _ _ (by
    rw [Rect.mem_set_unit]
    intro hh
    have : 2304 ≤ j.val := (hh 1).1
    omega)]
  by_cases hc : j.val < 1280
  · rw [View.canon_cons_of_not_mem _ _ (by
      rw [Rect.mem_set_unit]
      intro hh
      have : 1280 ≤ j.val := (hh 1).1
      omega)]
    rw [View.canon_cons_of_not_mem _ _ (by
      rw [Rect.mem_set_unit]
      intro hh
      have : 1024 ≤ j.val := (hh 1).1
      omega)]
    have e : (ix2 r j : S1024x2560.Idx) = (Rect.unit (s := S1024x2560) ![0, 0] S1024x1024.size inb_S1024x2560_S1024x1024_0_0).emb
        (ix2 (⟨r.val, h⟩ : Fin 1024) (⟨j.val - 0, by omega⟩ : Fin 1024)) := by
      funext a
      refine Fin.ext ?_
      match a with
      | ⟨0, _⟩ => show r.val = 0 + 1 * r.val; omega
      | ⟨1, _⟩ => show j.val = 0 + 1 * (j.val - 0); omega
    rw [e, View.canon_cons_emb]
    refine pay20_at _ _ _ _ f g hf (fun c hc' => hg c ?_)
    rw [hc']; show j.val - 0 = _; omega
  · have e : (ix2 r j : S1024x2560.Idx) = (Rect.unit (s := S1024x2560) ![0, 1280] S1024x1024.size inb_S1024x2560_S1024x1024_0_1280).emb
        (ix2 (⟨r.val, h⟩ : Fin 1024) (⟨j.val - 1280, by omega⟩ : Fin 1024)) := by
      funext a
      refine Fin.ext ?_
      match a with
      | ⟨0, _⟩ => show r.val = 0 + 1 * r.val; omega
      | ⟨1, _⟩ => show j.val = 1280 + 1 * (j.val - 1280); omega
    rw [e, View.canon_cons_emb]
    refine pay22_at _ _ _ _ f g hf (fun c hc' => hg c ?_)
    rw [hc']; show 1024 + (j.val - 1280) = _; omega

theorem outN_at (k : ℕ) (hk : 1 ≤ k) (hk' : k ≤ 4) (x0 : Vec Ideal S1024x1024 .bf16) (x1 : Vec Ideal S1x1024x2048 .f32)
    (r : Fin 1024) (j : Fin 2560) (h : r.val < 256 * k) (hj : j.val % 1280 < 1024) (f g : Fin 1024 → EReal) (hf : ∀ k, x0 (ix2 r k) = f k)
    (hg : ∀ c : Fin 2048, c.val = j.val / 1280 * 1024 + j.val % 1280 → ∀ k, x1 (ix3 0 k c) = g k) :
    outN k x0 x1 (ix2 r j) = ∑ k : Fin 1024, f k * g k := by
  obtain rfl | rfl | rfl | rfl : k = 1 ∨ k = 2 ∨ k = 3 ∨ k = 4 := by omega
  · exact (congrFun (outN_one x0 x1) _).trans (out1_at x0 x1 r j h hj f g hf hg)
  · exact (congrFun (outN_two x0 x1) _).trans (out2_at x0 x1 r j h hj f g hf hg)
  · exact (congrFun (outN_three x0 x1) _).trans (out3_at x0 x1 r j h hj f g hf hg)
  · exact (congrFun (outN_four x0 x1) _).trans (out4_at x0 x1 r j h hj f g hf hg)

end Cert.Kernel7Ideal.Gen

end
-- ==== Proof.DownRef.lean ====
/-
  The experts' second product read at natural coordinates, and the reference's array.
-/
module

public import proofs.«01_k».proof.Proof.Gen.Reference7Ideal.Run
public import proofs.«01_k».proof.Proof.Gen.Reference7Ideal.Read
public import proofs.«01_k».proof.Proof.ExpertsRef

@[expose] public section

set_option maxRecDepth 16384

noncomputable section

namespace Cert.Down

open Idealize.ShloMosaic Cert.Attn Cert.Mm Cert.Rows Cert.Experts

/-- Row `r` against column `j` of the weights of expert `e` in layer 1. -/
def dprod (X : (⟨2, ![131072, 1024]⟩ : Shape).Idx → EReal) (W : (⟨4, ![2, 64, 1024, 4096]⟩ : Shape).Idx → EReal) (r e j : ℕ) : EReal :=
  ∑ k : Fin 1024, rd X r k.val * rd4 W 1 e k.val j

open Cert.Reference7Ideal Cert.Reference7Ideal.Read

theorem weight_at (x1 : S2x64x1024x4096.Idx → EReal) (x2 : S128.Idx → BitVec 32) (p : Fin 128) (k : Fin 1024) (j : Fin 4096) {e : ℕ}
    (he : x2 (ix1 p) = BitVec.ofNat 32 e) (hl : e < 64) :
    val_main_v3 (F := Ideal) x1 x2 (ix3 p k j) = rd4 x1 1 e k.val j.val := by
  have h := rows3_apply (R := 64) (C := 1024) (D := 4096) (B := 128) (by decide) gather_S64x1024x4096_S128x1_S128x1024x4096_12_0_n_n_0_1_110244096.wf
    (val_main_v2 (F := Ideal) x1) (val_main_call0_v0 (F := Ideal) x2) p k j
  refine Eq.trans h ?_
  have hk : k.val < 1024 := k.isLt
  have hj : j.val < 4096 := j.isLt
  have hc : clip 64 (val_main_call0_v0 (F := Ideal) x2 (ix2 p 0)) = e := by
    rw [val_main_call0_v0_apply]
    have e2 : x2 (idx_main_call0_v0 (ix2 p 0)) = BitVec.ofNat 32 e :=
      (congrArg x2 (funext fun a => by obtain rfl : a = 0 := Subsingleton.elim _ _; rfl)).trans he
    rw [e2]
    unfold clip
    rw [StableHlo.Predicate.toInt_ofNat_small _ (by omega)]
    omega
  rw [val_main_v2_apply, val_main_v1_apply]
  refine rd4_of x1 _ rfl ?_ ?_ ?_
  · show ((clip 64 (val_main_call0_v0 (F := Ideal) x2 (ix2 p 0)) * 1024 + k.val) * 4096 + j.val) / 4194304 % 64 = e
    rw [hc]; omega
  · show ((clip 64 (val_main_call0_v0 (F := Ideal) x2 (ix2 p 0)) * 1024 + k.val) * 4096 + j.val) / 4096 % 1024 = k.val
    rw [hc]; omega
  · show ((clip 64 (val_main_call0_v0 (F := Ideal) x2 (ix2 p 0)) * 1024 + k.val) * 4096 + j.val) % 4096 = j.val
    rw [hc]; omega

theorem ref_at (x0 : S131072x1024.Idx → EReal) (x1 : S2x64x1024x4096.Idx → EReal) (x2 : S128.Idx → BitVec 32)
    (r : Fin 131072) (j : Fin 4096) {e : ℕ} (he : x2 (ix1 ⟨r.val / 1024, by omega⟩) = BitVec.ofNat 32 e) (hl : e < 64) :
    val_main_v6 (F := Ideal) x0 x1 x2 (ix2 r j) = dprod x0 x1 r.val e j.val := by
  have hj : j.val < 4096 := j.isLt
  have hi : idx_main_v5 (ix2 r j) = ix3 ⟨r.val / 1024, by omega⟩ ⟨r.val % 1024, by omega⟩ j := by
    funext a
    refine Fin.ext ?_
    match a with
    | ⟨0, _⟩ => show (r.val * 4096 + j.val) / 4194304 = r.val / 1024; omega
    | ⟨1, _⟩ => show (r.val * 4096 + j.val) / 4096 % 1024 = r.val % 1024; omega
    | ⟨2, _⟩ => show (r.val * 4096 + j.val) % 4096 = j.val; omega
  rw [val_main_v6_apply, val_main_v5_apply, hi, val_main_v4_apply]
  unfold dprod
  refine Finset.sum_congr rfl fun k _ => congrArg₂ (· * ·) ?_ ?_
  · rw [val_main_v0_apply]
    have hk : k.val < 1024 := k.isLt
    refine rd_of x0 _ ?_ ?_
    · show ((r.val / 1024 * 1024 + r.val % 1024) * 1024 + k.val) / 1024 = r.val; omega
    · show ((r.val / 1024 * 1024 + r.val % 1024) * 1024 + k.val) % 1024 = k.val; omega
  · refine Eq.trans (congrArg _ ?_) (weight_at x1 x2 ⟨r.val / 1024, by omega⟩ k j he hl)
    funext a
    match a with
    | ⟨0, _⟩ => rfl
    | ⟨1, _⟩ => rfl
    | ⟨2, _⟩ => rfl

end Cert.Down

end
-- ==== Proof.DownIn.lean ====
/-
  What the second call reads at a point: its item's rows and the columns of its expert's weights.
-/
module

public import proofs.«01_k».proof.Proof.DownFrame
public import proofs.«01_k».proof.Proof.DownPay
public import proofs.«01_k».proof.Proof.DownRef

@[expose] public section

set_option maxRecDepth 16384

noncomputable section

namespace Cert.Kernel7Ideal.Gen

open Idealize.ShloMosaic Idealize.ShloMosaic.TcCoe Idealize.ShloMosaic.Tactic
open Idealize.ShloMosaic.Pipeline (Dat Cfg Window)
open Cert.Attn Cert.Mm Cert.Rows Cert.Experts Cert.Down

variable [Cert.Kernel7Ideal.Facts]
variable (m : (ℓ : Loc nD τ sig) → Buf (Elt Ideal) ℓ) {e n : ℕ → ℕ} {L : ℕ} (hI : Items e n L (tbl m))

theorem V_v0 (c : Dev nD) : V m c main_v0 = (m ((c : Thread nD τ).loc main_arg0) : S131072x1024.Idx → EReal) := by
  suffices h : ∀ y, (m ((c : Thread nD τ).loc main_arg0) : S131072x1024.Idx → EReal) = y → V m c main_v0 = y from h _ rfl
  intro y hy
  unfold V V₀
  simp only [List.flatten_cons, List.flatten_nil, List.append_nil]
  after_results
  exact hy

theorem V_v1 (c : Dev nD) : V m c main_v1 = shapeCast S128x1024x4096 (m ((c : Thread nD τ).loc main_arg1) : S2x64x1024x4096.Idx → EReal)
    shapeCasts_S2x64x1024x4096_S128x1024x4096 := by
  suffices h : ∀ y, shapeCast S128x1024x4096 (m ((c : Thread nD τ).loc main_arg1) : S2x64x1024x4096.Idx → EReal)
      shapeCasts_S2x64x1024x4096_S128x1024x4096 = y → V m c main_v1 = y from h _ rfl
  intro y hy
  unfold V V₀
  simp only [List.flatten_cons, List.flatten_nil, List.append_nil]
  after_results
  exact hy

/-- Expert `x` of layer 1 among the layers' experts side by side. -/
theorem side_at (W : S2x64x1024x4096.Idx → EReal) (i : S128x1024x4096.Idx) {x k j : ℕ} (hx : x < 64) (h0 : (i 0).val = 64 + x)
    (h1 : (i 1).val = k) (h2 : (i 2).val = j) :
    shapeCast S128x1024x4096 W shapeCasts_S2x64x1024x4096_S128x1024x4096 i = rd4 W 1 x k j := by
  subst h1 h2
  refine (shapeCast_apply W _ i (ix4 1 ⟨x, hx⟩ (i 1) (i 2)) ?_).trans (rd4_of _ _ rfl rfl rfl rfl)
  rw [Shape.rowMajor_val_four, Shape.rowMajor_val_three]
  show (((1 * 64 + x) * 1024 + (i 1).val) * 4096 + (i 2).val) = ((i 0).val * 1024 + (i 1).val) * 4096 + (i 2).val
  rw [h0, Nat.one_mul]

theorem in0 (c : Dev nD) (t : Fin (cfgM m (hok m hI)).N) (ht : t.val % 128 ≤ L) (r k : Fin 1024) :
    iblk m (hok m hI) c 0 t (ix2 r k) = rd (m ((c : Thread nD τ).loc main_arg0)) (t.val % 128 * 1024 + r.val) k.val := by
  have h := where0 hI (grid0.coords t)
  have e1 : (grid0.coords t 1).val = t.val % 128 := (coords_eq t).2
  show V m c main_v0 ((((cfgM m (hok m hI)).win 0).rect t).emb (ix2 r k)) = _
  rw [V_v0]
  refine rd_of _ _ ?_ ?_
  · refine (((cfgM m (hok m hI)).win 0).rect_emb_val t (ix2 r k) (0 : Fin 2)).trans ?_
    refine (congrArg (fun z => z * 1024 + r.val) (congrFun h (0 : Fin 2))).trans ?_
    show min (grid0.coords t 1).val L * 1024 + r.val = _
    rw [e1, Nat.min_eq_left ht]
  · refine (((cfgM m (hok m hI)).win 0).rect_emb_val t (ix2 r k) (1 : Fin 2)).trans ?_
    refine (congrArg (fun z => z * 1024 + k.val) (congrFun h (1 : Fin 2))).trans ?_
    show 0 * 1024 + k.val = _
    omega

theorem in1 (c : Dev nD) (t : Fin (cfgM m (hok m hI)).N) (k : Fin 1024) (j : Fin 2048) :
    iblk m (hok m hI) c 1 t (ix3 0 k j) = rd4 (m ((c : Thread nD τ).loc main_arg1)) 1 (e (t.val % 128)) k.val (t.val / 128 * 2048 + j.val) := by
  have h := where1 hI (grid0.coords t)
  obtain ⟨e0, e1⟩ := coords_eq t
  show V m c main_v1 ((((cfgM m (hok m hI)).win 1).rect t).emb (ix3 0 k j)) = _
  rw [V_v1]
  refine side_at _ _ (hI.he ⟨t.val % 128, by omega⟩) ?_ ?_ ?_
  · refine (((cfgM m (hok m hI)).win 1).rect_emb_val t (ix3 0 k j) (0 : Fin 3)).trans ?_
    refine (congrArg (fun z => z * 1 + 0) (congrFun h (0 : Fin 3))).trans ?_
    show (64 + e (grid0.coords t 1).val) * 1 + 0 = 64 + e (t.val % 128)
    rw [e1]; omega
  · refine (((cfgM m (hok m hI)).win 1).rect_emb_val t (ix3 0 k j) (1 : Fin 3)).trans ?_
    refine (congrArg (fun z => z * 1024 + k.val) (congrFun h (1 : Fin 3))).trans ?_
    show 0 * 1024 + k.val = _
    omega
  · refine (((cfgM m (hok m hI)).win 1).rect_emb_val t (ix3 0 k j) (2 : Fin 3)).trans ?_
    refine (congrArg (fun z => z * 2048 + j.val) (congrFun h (2 : Fin 3))).trans ?_
    show (grid0.coords t 0).val * 2048 + j.val = _
    rw [e0]

/-- A point leaves the products of its item's rows and its half of the columns. -/
theorem outAt_live (c : Dev nD) (t : Fin (cfgM m (hok m hI)).N) (ht : t.val % 128 ≤ L) (r : Fin 1024) (j : Fin 2560)
    (hr : r.val < 256 * n (t.val % 128)) (hj : j.val % 1280 < 1024) :
    outAt m hI c t (ix2 r j) = dprod (m ((c : Thread nD τ).loc main_arg0)) (m ((c : Thread nD τ).loc main_arg1))
      (t.val % 128 * 1024 + r.val) (e (t.val % 128)) (t.val / 128 * 2048 + (j.val / 1280 * 1024 + j.val % 1280)) := by
  have e1 : (grid0.coords t 1).val = t.val % 128 := (coords_eq t).2
  have hn4 : n (t.val % 128) ≤ 4 := hI.hn ⟨t.val % 128, by omega⟩
  show outN (n (grid0.coords t 1).val) _ _ (ix2 r j) = _
  rw [e1]
  refine outN_at (n (t.val % 128)) (by omega) hn4 _ _ r j hr hj _ _ (fun k => in0 m hI c t ht r k) (fun q hq k => ?_)
  rw [← hq]
  exact in1 m hI c t k q

end Cert.Kernel7Ideal.Gen

end
-- ==== Proof.DownVal.lean ====
/-
  The array of the second call at the rows that the items fill.
-/
module

public import proofs.«01_k».proof.Proof.DownIn

@[expose] public section

set_option maxRecDepth 16384

noncomputable section

namespace Cert.Kernel7Ideal.Gen

open Idealize.ShloMosaic Idealize.ShloMosaic.TcCoe Idealize.ShloMosaic.Tactic
open Idealize.ShloMosaic.Pipeline (Dat Cfg Window)
open Cert.Attn Cert.Mm Cert.Rows Cert.Experts Cert.Down

variable [Cert.Kernel7Ideal.Facts]
variable (m : (ℓ : Loc nD τ sig) → Buf (Elt Ideal) ℓ) {e n : ℕ → ℕ} {L : ℕ} (hI : Items e n L (tbl m))

/-- A point that writes back does so at the block of the last point, in its half of the columns, whose item has rows. -/
theorem index_back (t : Fin (cfgM m (hok m hI)).N) :
    ((cfgM m (hok m hI)).win 2).index t = ![(back m hI t).val % 128, (back m hI t).val / 128] := by
  have hl := hI.hl
  rw [index2 m hI]
  have e0 : min (t.val % 128) L = (t.val / 128 * 128 + min (t.val % 128) L) % 128 := by omega
  have e1 : t.val / 128 = (t.val / 128 * 128 + min (t.val % 128) L) / 128 := by omega
  show ![min (t.val % 128) L, t.val / 128] = ![(t.val / 128 * 128 + min (t.val % 128) L) % 128, (t.val / 128 * 128 + min (t.val % 128) L) / 128]
  rw [← e0, ← e1]

/-- What the array holds at a row that an item fills, in a column that is not padding. -/
abbrev Filled (c : Dev nD) (i : S131072x5120.Idx) (v : EReal) : Prop :=
  (i 0).val % 1024 < 256 * n ((i 0).val / 1024) → (i 1).val % 1280 < 1024 →
    v = dprod (m ((c : Thread nD τ).loc main_arg0)) (m ((c : Thread nD τ).loc main_arg1))
      (i 0).val (e ((i 0).val / 1024)) ((i 1).val / 1280 * 1024 + (i 1).val % 1280)

theorem filled_at (c : Dev nD) (t : Fin (cfgM m (hok m hI)).N) (r : Fin 1024) (j : Fin 2560) :
    Filled (e := e) (n := n) m c ((((cfgM m (hok m hI)).win 2).rect t).emb (ix2 r j)) (outAt m hI c (back m hI t) (ix2 r j)) := by
  have hi := index_back m hI t
  have hl := hI.hl
  have h0 : ((((cfgM m (hok m hI)).win 2).rect t).emb (ix2 r j) (0 : Fin 2) : ℕ) = (back m hI t).val % 128 * 1024 + r.val :=
    (((cfgM m (hok m hI)).win 2).rect_emb_val t (ix2 r j) (0 : Fin 2)).trans (congrArg (fun z => z * 1024 + r.val) (congrFun hi (0 : Fin 2)))
  have h1 : ((((cfgM m (hok m hI)).win 2).rect t).emb (ix2 r j) (1 : Fin 2) : ℕ) = (back m hI t).val / 128 * 2560 + j.val :=
    (((cfgM m (hok m hI)).win 2).rect_emb_val t (ix2 r j) (1 : Fin 2)).trans (congrArg (fun z => z * 2560 + j.val) (congrFun hi (1 : Fin 2)))
  have hr := r.isLt
  have hj := j.isLt
  have hb : (back m hI t).val % 128 ≤ L := by
    show (t.val / 128 * 128 + min (t.val % 128) L) % 128 ≤ L
    omega
  intro hlive hcol
  have d0 : ((back m hI t).val % 128 * 1024 + r.val) / 1024 = (back m hI t).val % 128 := by omega
  have m0 : ((back m hI t).val % 128 * 1024 + r.val) % 1024 = r.val := by omega
  rw [h0, d0, m0] at hlive
  rw [h1] at hcol
  rw [h0, h1, d0]
  refine (outAt_live m hI c (back m hI t) hb r j hlive (by omega)).trans ?_
  refine congrArg (dprod _ _ _ _) ?_
  omega

theorem mem2 (t : Fin (cfgM m (hok m hI)).N) (i : S131072x5120.Idx)
    (h0 : (i 0).val / 1024 = (back m hI t).val % 128) (h1 : (i 1).val / 2560 = (back m hI t).val / 128) :
    i ∈ (((cfgM m (hok m hI)).win 2).blk t).view.set := by
  have hi := index_back m hI t
  have i0 : ((cfgM m (hok m hI)).win 2).index t (0 : Fin 2) = (back m hI t).val % 128 := congrFun hi (0 : Fin 2)
  have i1 : ((cfgM m (hok m hI)).win 2).index t (1 : Fin 2) = (back m hI t).val / 128 := congrFun hi (1 : Fin 2)
  refine (congrArg (fun S => i ∈ S) (View.set_slice_whole main_v2 (((cfgM m (hok m hI)).win 2).rect t))).mpr ?_
  refine Rect.mem_set_unit.mpr ?_
  intro (a : Fin 2)
  match a with
  | ⟨0, _⟩ =>
    show ((cfgM m (hok m hI)).win 2).index t (0 : Fin 2) * 1024 ≤ (i 0).val ∧ (i 0).val < ((cfgM m (hok m hI)).win 2).index t (0 : Fin 2) * 1024 + 1024
    rw [i0]; omega
  | ⟨1, _⟩ =>
    show ((cfgM m (hok m hI)).win 2).index t (1 : Fin 2) * 2560 ≤ (i 1).val ∧ (i 1).val < ((cfgM m (hok m hI)).win 2).index t (1 : Fin 2) * 2560 + 2560
    rw [i1]; omega

/-- The array after the run holds the products at every row that an item fills, in the columns that are not padding. -/
theorem filled (c : Dev nD) (i : S131072x5120.Idx) :
    Filled (e := e) (n := n) m c i ((dats m hI 0 c).arrAt 2 (cfgM m (hok m hI)).N i) := by
  intro hlive hcol
  have hN := points m hI
  have hl := hI.hl
  have hr : (i 0).val < 131072 := (i 0).isLt
  have hj : (i 1).val < 5120 := (i 1).isLt
  have hit : (i 0).val / 1024 ≤ L := by
    by_contra hc
    have := hI.dead ⟨(i 0).val / 1024, by omega⟩ (by show L < (i 0).val / 1024; omega)
    have hz : n ((i 0).val / 1024) = 0 := this
    omega
  have hP := (dats m hI 0 c).arrAt_forall_of_flushed 2 (fun i v => Filled (e := e) (n := n) m c i v) (fun t _ (y : S1024x2560.Idx) => by
    obtain ⟨r, j, rfl⟩ : ∃ (r : Fin 1024) (j : Fin 2560), y = ix2 r j := ⟨y 0, y 1, (ix2_eta y).symm⟩
    exact filled_at m hI c t r j)
  by_cases h : (i 0).val / 1024 < L
  · let t : Fin (cfgM m (hok m hI)).N := ⟨(i 1).val / 2560 * 128 + (i 0).val / 1024, by omega⟩
    have e0 : t.val % 128 = (i 0).val / 1024 := by show ((i 1).val / 2560 * 128 + (i 0).val / 1024) % 128 = _; omega
    have e1 : t.val / 128 = (i 1).val / 2560 := by show ((i 1).val / 2560 * 128 + (i 0).val / 1024) / 128 = _; omega
    have hb : (back m hI t).val = (i 1).val / 2560 * 128 + (i 0).val / 1024 := by
      show t.val / 128 * 128 + min (t.val % 128) L = _
      rw [e0, e1]; omega
    exact hP (cfgM m (hok m hI)).N t i t.isLt (flush_live m hI t (Or.inl (by omega))) (mem2 m hI t i (by rw [hb]; omega) (by rw [hb]; omega)) hlive hcol
  · let t : Fin (cfgM m (hok m hI)).N := ⟨(i 1).val / 2560 * 128 + 127, by omega⟩
    have e0 : t.val % 128 = 127 := by show ((i 1).val / 2560 * 128 + 127) % 128 = _; omega
    have e1 : t.val / 128 = (i 1).val / 2560 := by show ((i 1).val / 2560 * 128 + 127) / 128 = _; omega
    have hb : (back m hI t).val = (i 1).val / 2560 * 128 + L := by
      show t.val / 128 * 128 + min (t.val % 128) L = _
      rw [e0, e1]; omega
    exact hP (cfgM m (hok m hI)).N t i t.isLt (flush_live m hI t (Or.inr e0)) (mem2 m hI t i (by rw [hb]; omega) (by rw [hb]; omega)) hlive hcol

end Cert.Kernel7Ideal.Gen

end
-- ==== Proof.DownPre.lean ====
/-
  The precondition of the second call read: the tables hold what the routing makes.
-/
module

public import proofs.«01_k».proof.Defs
public import proofs.«01_k».proof.Proof.ExpertsPre
public import proofs.«01_k».proof.Proof.DownFacts

@[expose] public section

noncomputable section

namespace Cert.Kernel7Ideal.Gen

open Idealize.ShloMosaic
open Cert.Kernel6Ideal.Gen (and_one sle_of sge_of slt_of sle_iff eq_of int_nat)

theorem preItems : Cert.Pre_items_down.Facts := ⟨by decide, by decide⟩

theorem items_word [Cert.Pre_items_down.Facts] {F : FTy → Type} [FloatOps F] (h : FVec F Pre_items_down.S131072x1024 .f32)
    (wd : FVec F Pre_items_down.S2x64x1024x4096 .f32) (ie ib nb : IVec Pre_items_down.S128 32) (la : IVec Pre_items_down.S1 32)
    (hp : Pre_items_down.fn (F := F) h wd ie ib nb la = fun _ => 1#1) (k : Fin 128) :
    (ie (ix1 k)).toNat < 64 ∧ (nb (ix1 k)).toNat ≤ 4
      ∧ (la (ix1 0)).toNat < 128 ∧ (k.val ≤ (la (ix1 0)).toNat → 1 ≤ (nb (ix1 k)).toNat)
      ∧ ((la (ix1 0)).toNat < k.val → (nb (ix1 k)).toNat = 0) := by
  have hp := congrFun hp (ix1 k)
  revert hp
  pointwise [Pre_items_down.fn, Pre_items_down.fn_part1, Pre_items_down.fn_where]
  intro hp
  obtain ⟨hp, h8⟩ := and_one _ _ hp
  obtain ⟨hp, h7⟩ := and_one _ _ hp
  obtain ⟨hp, h6⟩ := and_one _ _ hp
  obtain ⟨hp, h4⟩ := and_one _ _ hp
  obtain ⟨h1, h2⟩ := and_one _ _ hp
  have h1 := sge_of h1
  have h2 := slt_of h2
  have h4 := sle_of h4
  have h7 := sge_of h7
  have h8 := slt_of h8
  generalize ie (ix1 k) = x at *
  generalize nb (ix1 k) = z at *
  generalize la (ix1 0) = w at *
  have z0 : (0#32).toInt = 0 := by decide
  have z1 : (1#32).toInt = 1 := by decide
  have z4 : (4#32).toInt = 4 := by decide
  have z64 : (64#32).toInt = 64 := by decide
  have z128 : (128#32).toInt = 128 := by decide
  rw [z0] at h1 h7
  rw [z4] at h4
  rw [z64] at h2
  rw [z128] at h8
  have e1 := int_nat h1
  have e7 := int_nat h7
  have hk := k.isLt
  have hkt : (BitVec.ofNat 32 k.val).toInt = k.val := by
    rw [BitVec.toInt_eq_toNat_cond, BitVec.toNat_ofNat]; split_ifs <;> omega
  have hz : 0 ≤ z.toInt ∧ (k.val ≤ w.toNat → 1 ≤ z.toInt) ∧ (w.toNat < k.val → z.toInt = 0) := by
    by_cases hc : IntOp.cmpi .sle (BitVec.ofNat 32 k.val) w = 1#1
    · replace h6 := (if_pos hc).symm.trans h6
      have h6 := sge_of h6
      rw [z1] at h6
      have hc := sle_of hc
      rw [hkt] at hc
      refine ⟨by omega, fun _ => h6, fun _ => by omega⟩
    · replace h6 := (if_neg hc).symm.trans h6
      have h6 := eq_of h6
      rw [sle_iff, hkt] at hc
      subst h6
      rw [z0]
      refine ⟨by omega, fun _ => by omega, fun _ => rfl⟩
  obtain ⟨hz, hl, hd⟩ := hz
  have ez := int_nat hz
  refine ⟨by omega, by omega, by omega, fun h => ?_, fun h => ?_⟩
  · have := hl h; omega
  · have := hd h; omega

variable {F : FTy → Type} [FloatOps F] (m : (ℓ : Loc nD τ sig) → Buf (Elt F) ℓ)

/-- The tables in the launch memory satisfy what the items' tables must. -/
theorem items_of [Cert.Pre_items_down.Facts] (hp : Pre_items_down.fn (F := F) (m (((0 : Dev nD).tc : Thread nD τ).loc main_arg0))
      (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4))
      (m (((0 : Dev nD).tc : Thread nD τ).loc main_arg5)) = fun _ => 1#1) :
    Items (fun k => (T0 (tbl m) (ix1 (Fin.ofNat 128 k))).toNat)
      (fun k => (T2 (tbl m) (ix1 (Fin.ofNat 128 k))).toNat) (T3 (tbl m) (ix1 0)).toNat (tbl m) := by
  have e0 : T0 (tbl m) = m (((0 : Dev nD).tc : Thread nD τ).loc main_arg2) := V_main_arg2 m 0
  have e2 : T2 (tbl m) = m (((0 : Dev nD).tc : Thread nD τ).loc main_arg4) := V_main_arg4 m 0
  have e3 : T3 (tbl m) = m (((0 : Dev nD).tc : Thread nD τ).loc main_arg5) := V_main_arg5 m 0
  rw [← e0, ← e2, ← e3] at hp
  have hw := items_word _ _ _ _ _ _ hp
  have hf : ∀ k : Fin 128, Fin.ofNat 128 k.val = k := fun k => Fin.ext (Nat.mod_eq_of_lt k.isLt)
  refine ⟨fun k => ?_, fun k => ?_, ?_, fun k => ?_, fun k => ?_, (hw 0).2.2.1, fun k => ?_, fun k => ?_⟩
  · show _ = BitVec.ofNat 32 (T0 (tbl m) (ix1 (Fin.ofNat 128 k.val))).toNat
    rw [hf, BitVec.ofNat_toNat, BitVec.setWidth_eq]
  · show _ = BitVec.ofNat 32 (T2 (tbl m) (ix1 (Fin.ofNat 128 k.val))).toNat
    rw [hf, BitVec.ofNat_toNat, BitVec.setWidth_eq]
  · rw [BitVec.ofNat_toNat, BitVec.setWidth_eq]
  · show (T0 (tbl m) (ix1 (Fin.ofNat 128 k.val))).toNat < 64
    rw [hf]; exact (hw k).1
  · show (T2 (tbl m) (ix1 (Fin.ofNat 128 k.val))).toNat ≤ 4
    rw [hf]; exact (hw k).2.1
  · show _ → 1 ≤ (T2 (tbl m) (ix1 (Fin.ofNat 128 k.val))).toNat
    rw [hf]; exact (hw k).2.2.2.1
  · show _ → (T2 (tbl m) (ix1 (Fin.ofNat 128 k.val))).toNat = 0
    rw [hf]; exact (hw k).2.2.2.2

end Cert.Kernel7Ideal.Gen

end
-- ==== Proof.DownMask.lean ====
/-
  The mask of the second call read: the rows that the items fill.
-/
module

public import proofs.«01_k».proof.Proof.DownPre
public import proofs.«01_k».proof.Proof.ExpertsMask

@[expose] public section

set_option maxRecDepth 16384

noncomputable section

namespace Cert.Kernel7Ideal.Gen

open Idealize.ShloMosaic
open Cert.Kernel6Ideal.Gen (slt_of words)

theorem onLiveRows : Cert.On_live_rows_down.Facts := ⟨by decide, by decide, by decide, by decide, by decide, by decide, by decide⟩

theorem live_word [Cert.On_live_rows_down.Facts] {F : FTy → Type} [FloatOps F] (h : FVec F On_live_rows_down.S131072x1024 .f32)
    (wd : FVec F On_live_rows_down.S2x64x1024x4096 .f32) (ie ib nb : IVec On_live_rows_down.S128 32) (la : IVec On_live_rows_down.S1 32)
    (r : Fin 131072) (j : Fin 4096) (hp : On_live_rows_down.fn (F := F) h wd ie ib nb la (ix2 r j) = 1#1)
    (hn : (nb (ix1 ⟨r.val / 1024, by omega⟩)).toNat ≤ 4) : r.val % 1024 < 256 * (nb (ix1 ⟨r.val / 1024, by omega⟩)).toNat := by
  revert hp
  pointwise [On_live_rows_down.fn]
  intro hp
  have h1 := slt_of hp
  generalize nb (ix1 ⟨r.val / 1024, _⟩) = x at *
  have e1 : (BitVec.ofNat 32 (r.val % 1024)).toInt = (r.val % 1024 : ℕ) := by
    rw [BitVec.toInt_eq_toNat_cond, BitVec.toNat_ofNat]
    split_ifs <;> omega
  have e2 := words ⟨x.toNat, by omega⟩
  have ex : BitVec.ofNat 32 x.toNat = x := BitVec.eq_of_toNat_eq (by rw [BitVec.toNat_ofNat]; exact Nat.mod_eq_of_lt x.isLt)
  have e3 : (IntOp.muli x 256#32).toInt = (256 * x.toNat : ℕ) := by rw [← e2]; exact congrArg (fun y => (IntOp.muli y 256#32).toInt) ex.symm
  rw [e1, e3] at h1
  omega

end Cert.Kernel7Ideal.Gen

end
-- ==== Proof.DownEnd.lean ====
/-
  The second call and its reference hold the same values at every row that an item fills.
-/
module

public import proofs.«01_k».proof.Proof.DownVal
public import proofs.«01_k».proof.Proof.DownMask

@[expose] public section

set_option maxRecDepth 16384

noncomputable section

namespace Cert.Kernel7Ideal.Gen

open Idealize.ShloMosaic Idealize.ShloMosaic.TcCoe Idealize.ShloMosaic.Tactic Idealize.SL.Sem
open Cert.Attn Cert.Mm Cert.Experts Cert.Down

variable [Cert.Kernel7Ideal.Facts] [Cert.Pre_items_down.Facts]
variable (m : (ℓ : Loc nD τ sig) → Buf (Elt Ideal) ℓ)

/-- The experts of the items. -/
abbrev itE (k : ℕ) : ℕ := (T0 (tbl m) (ix1 (Fin.ofNat 128 k))).toNat
/-- How many row blocks the items hold. -/
abbrev itN (k : ℕ) : ℕ := (T2 (tbl m) (ix1 (Fin.ofNat 128 k))).toNat
/-- The last item that has rows. -/
abbrev itL : ℕ := (T3 (tbl m) (ix1 0)).toNat

/-- The padded columns taken out of an array of the call. -/
def strip (A : S131072x5120.Idx → EReal) : S131072x4096.Idx → EReal :=
  shapeCast S131072x4096 (extractStridedSlice S131072x4x1024 ![0, 0, 0] (shapeCast S131072x4x1280 A shapeCasts_S131072x5120_S131072x4x1280)
    slices_S131072x4x1280_S131072x4x1024_0_0_0) shapeCasts_S131072x4x1024_S131072x4096

theorem strip_at (A : S131072x5120.Idx → EReal) (r : Fin 131072) (j : Fin 4096) :
    strip A (ix2 r j) = A (ix2 r ⟨j.val / 1024 * 1280 + j.val % 1024, by omega⟩) := by
  unfold strip
  rw [shapeCast_apply _ _ _ (ix3 r ⟨j.val / 1024, by omega⟩ ⟨j.val % 1024, by omega⟩) (by
    rw [Shape.rowMajor_val_three, Shape.rowMajor_val_two]
    show (r.val * 4 + j.val / 1024) * 1024 + j.val % 1024 = r.val * 4096 + j.val
    omega)]
  rw [extractStridedSlice_apply _ _ _ _ (ix3 r ⟨j.val / 1024, by omega⟩ ⟨j.val % 1024, by omega⟩) (fun a => by
    match a with
    | ⟨0, _⟩ => show r.val = 0 + r.val; omega
    | ⟨1, _⟩ => show j.val / 1024 = 0 + j.val / 1024; omega
    | ⟨2, _⟩ => show j.val % 1024 = 0 + j.val % 1024; omega)]
  exact shapeCast_apply _ _ _ _ (by
    rw [Shape.rowMajor_val_two, Shape.rowMajor_val_three]
    show r.val * 5120 + (j.val / 1024 * 1280 + j.val % 1024) = (r.val * 4 + j.val / 1024) * 1280 + j.val % 1024
    omega)

/-- The kernel's result after the run. -/
def outArr (hI : Items (itE m) (itN m) (itL m) (tbl m)) (c : Dev nD) : S131072x4096.Idx → EReal :=
  strip ((dats m hI 0 c).arrAt 2 (cfgM m (hok m hI)).N)

/-- The lines after the call, from any contents of the buffers. -/
theorem tail_at (W : Valuation τ sig (Elt Ideal)) :
    StableHlo.after (List.flatten [(hostOps1 : List (HloOp τ sig (Elt Ideal)))]) W (Proc.devRef .tc main_v5) = strip (W (Proc.devRef .tc main_v2)) := by
  suffices h : ∀ y, strip (W (Proc.devRef .tc main_v2)) = y →
      StableHlo.after (List.flatten [(hostOps1 : List (HloOp τ sig (Elt Ideal)))]) W (Proc.devRef .tc main_v5) = y from h _ rfl
  intro y hy
  simp only [List.flatten_cons, List.flatten_nil, List.append_nil]
  after_results
  exact hy

theorem after_v5 (hI : Items (itE m) (itN m) (itL m) (tbl m)) (c : Dev nD) : after m hI c main_v5 = outArr m hI c :=
  (tail_at _).trans (congrArg strip (Pipeline.withArrays_arr spec0 (launch0 (F := Ideal)).win.arr_inj c (V₀ m c) (fun w => (dats m hI 0 c).arrAt w (cfgM m (hok m hI)).N) 2))

theorem run7 (ρ : Dev nD → PrngReg) (hI : Items (itE m) (itN m) (itL m) (tbl m)) :
    θ_run (Cert.Kernel7Ideal.defs (F := Ideal)) (onTc (τ := τ) (Cert.Kernel7Ideal.main (F := Ideal))) ⟨m, fun _ => 0, ρ⟩
      (fun r => ∀ c : Dev nD, r.2.mem ((c.tc : Thread nD τ).loc main_v5) = outArr m hI c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun r h c => ⟨((h.1 c).2 main_v5 rest_v5).trans (after_v5 m hI c), args_kept m hI r h.1 c⟩) (run_quiescent m ρ hI)

theorem res_eq [Cert.On_live_rows_down.Facts] (hI : Items (itE m) (itN m) (itL m) (tbl m)) (c : Dev nD) (i : S131072x4096.Idx)
    (hp : On_live_rows_down.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) i = 1#1) :
    Cert.Reference7Ideal.Read.val_main_v6 (F := Ideal) (m ((c.tc : Thread nD τ).loc main_arg0))
      (m ((c.tc : Thread nD τ).loc main_arg1)) (m ((c.tc : Thread nD τ).loc main_arg2)) i = outArr m hI c i := by
  obtain rfl : c = 0 := Subsingleton.elim _ _
  obtain ⟨r, j, rfl⟩ : ∃ (r : Fin 131072) (j : Fin 4096), i = ix2 r j := ⟨i 0, i 1, (ix2_eta i).symm⟩
  have e0 : T0 (tbl m) = m (((0 : Dev nD).tc : Thread nD τ).loc main_arg2) := V_main_arg2 m 0
  have e2 : T2 (tbl m) = m (((0 : Dev nD).tc : Thread nD τ).loc main_arg4) := V_main_arg4 m 0
  rw [← e0, ← e2] at hp
  rw [← e0]
  have hr := r.isLt
  have hj := j.isLt
  let k : Fin 128 := ⟨r.val / 1024, by omega⟩
  have hn : itN m k.val ≤ 4 := hI.hn k
  have hf : Fin.ofNat 128 k.val = k := Fin.ext (Nat.mod_eq_of_lt k.isLt)
  have hnk : (T2 (tbl m) (ix1 k)).toNat = itN m k.val := by show _ = (T2 (tbl m) (ix1 (Fin.ofNat 128 k.val))).toNat; rw [hf]
  have hlive : r.val % 1024 < 256 * itN m k.val := by
    rw [← hnk]
    exact live_word _ _ _ _ _ _ r j hp (by show (T2 (tbl m) (ix1 k)).toNat ≤ 4; rw [hnk]; exact hn)
  refine (ref_at _ _ _ r j (e := itE m k.val) (hI.we k) (hI.he k)).trans ?_
  refine Eq.trans ?_ (strip_at ((dats m hI 0 0).arrAt 2 (cfgM m (hok m hI)).N) r j).symm
  refine Eq.trans ?_ (filled m hI 0 (ix2 r ⟨j.val / 1024 * 1280 + j.val % 1024, by omega⟩) hlive
    (by show (j.val / 1024 * 1280 + j.val % 1024) % 1280 < 1024; omega)).symm
  refine congrArg (dprod _ _ _ _) ?_
  show j.val = (j.val / 1024 * 1280 + j.val % 1024) / 1280 * 1024 + (j.val / 1024 * 1280 + j.val % 1024) % 1280
  omega

end Cert.Kernel7Ideal.Gen

end
-- ==== Proof.Down.lean ====
module
public import proofs.«01_k».proof.Proof.Gen.Kernel7Ideal.Skeleton
public import proofs.«01_k».proof.Proof.Gen.Kernel7Ideal.Launch
public import proofs.«01_k».proof.Proof.Gen.Kernel7.Skeleton
public import proofs.«01_k».proof.Proof.Gen.Kernel7.Launch
public import proofs.«01_k».proof.Proof.Gen.Reference7Ideal.Run
public import proofs.«01_k».proof.Proof.Gen.Reference7Ideal.Read
public import proofs.«01_k».proof.Proof.DownEnd
-- ==== Proof.CombineHost.lean ====
/-
  What the combination's call reads at a point.
-/
module

public import proofs.«01_k».proof.Proof.Gen.Kernel8Ideal.Value
public import proofs.«01_k».proof.Proof.Rows
public import proofs.«01_k».proof.Proof.Product

@[expose] public section

noncomputable section

namespace Cert.Combine

open Idealize.ShloMosaic Idealize.ShloMosaic.TcCoe Idealize.SL Idealize.SL.Sem
open Cert.Kernel8Ideal Cert.Kernel8Ideal.Gen Cert.Attn Cert.Mm Cert.Rows

variable (m : (ℓ : Loc nD τ sig) → Buf (Elt Ideal) ℓ)

theorem V_v8 (c : Dev nD) : V m c main_v8 = (m ((c : Thread nD τ).loc main_arg0) : S6144x1024.Idx → EReal) := by
  suffices h : ∀ y, (m ((c : Thread nD τ).loc main_arg0) : S6144x1024.Idx → EReal) = y → V m c main_v8 = y from h _ rfl
  intro y hy
  unfold V
  simp only [List.flatten_cons, List.flatten_nil, List.append_nil, List.cons_append, List.nil_append]
  after_results
  exact hy

/-- The experts' rows, each tile of 1024 columns followed by 256 columns of zeros. -/
def padded (Y : S131072x4096.Idx → EReal) : S131072x5120.Idx → EReal :=
  shapeCast S131072x5120 (concatenate S131072x4x1280 2 [⟨S131072x4x1024, shapeCast S131072x4x1024 Y shapeCasts_S131072x4096_S131072x4x1024⟩,
    ⟨S131072x4x256, broadcastInDim S131072x4x256 ![] bcast_S_S131072x4x256 (constant (F := Ideal) S_ .bf16 0x0000#16)⟩]
    concatenates_S131072x4x1024_S131072x4x256_S131072x4x1280_d2) shapeCasts_S131072x4x1280_S131072x5120

/-- The rows' numbers, the first of every token, then the second, and so on. -/
def numbers (O : S6144x8.Idx → BitVec 32) : S49152x1.Idx → BitVec 32 :=
  broadcastInDim S49152x1 ![0] bcast_S49152_S49152x1_0 (shapeCast S49152 (transpose S8x6144 [1, 0] O transposes_S6144x8_S8x6144_1_0) shapeCasts_S8x6144_S49152)

/-- The experts' rows that the blocks are cut from. -/
def gathered (Y : S131072x4096.Idx → EReal) (O : S6144x8.Idx → BitVec 32) : S49152x5120.Idx → EReal :=
  Host.gather gather_S131072x5120_S49152x1_S49152x5120_1_0_n_n_0_1_15120 (padded Y) (numbers O)

theorem V_v7 (c : Dev nD) : V m c main_v7 = gathered (m ((c : Thread nD τ).loc main_arg2)) (m ((c : Thread nD τ).loc main_arg3)) := by
  suffices h : ∀ y, gathered (m ((c : Thread nD τ).loc main_arg2)) (m ((c : Thread nD τ).loc main_arg3)) = y → V m c main_v7 = y from h _ rfl
  intro y hy
  unfold V
  simp only [List.flatten_cons, List.flatten_nil, List.append_nil, List.cons_append, List.nil_append]
  after_results
  exact hy

/-- The row of the experts' that token `r` takes `k`-th. -/
def slot (O : S6144x8.Idx → BitVec 32) (r k : ℕ) : ℕ := clip 131072 (rd O r k)

theorem padded_at (Y : S131072x4096.Idx → EReal) (s : Fin 131072) (j : Fin 5120) {c : ℕ} (h : j.val % 1280 < 1024)
    (hc : j.val / 1280 * 1024 + j.val % 1280 = c) : padded Y (ix2 s j) = rd Y s.val c := by
  have hj := j.isLt
  have hs := s.isLt
  unfold padded
  rw [shapeCast_apply _ shapeCasts_S131072x4x1280_S131072x5120 (ix2 s j) (ix3 s ⟨j.val / 1280, by omega⟩ ⟨j.val % 1280, by omega⟩) (by
    rewrite [Shape.rowMajor_val_three, Shape.rowMajor_val_two]
    show (s.val * 4 + j.val / 1280) * 1280 + j.val % 1280 = s.val * 5120 + j.val
    omega)]
  rw [concatenate_pair_apply_left (t := S131072x4x1280) (s₁ := S131072x4x1024) (s₂ := S131072x4x256) 2 _ _ _ _ rfl
    (ix3 s ⟨j.val / 1280, by omega⟩ ⟨j.val % 1280, h⟩) (fun b => match b with
      | ⟨0, _⟩ => rfl
      | ⟨1, _⟩ => rfl
      | ⟨2, _⟩ => rfl)]
  rw [shapeCast_apply _ shapeCasts_S131072x4096_S131072x4x1024 _ (ix2 s ⟨c, by omega⟩) (by
    rewrite [Shape.rowMajor_val_three, Shape.rowMajor_val_two]
    show s.val * 4096 + c = (s.val * 4 + j.val / 1280) * 1024 + j.val % 1280
    omega)]
  exact rd_of _ _ rfl rfl

theorem numbers_at (O : S6144x8.Idx → BitVec 32) (p : Fin 49152) {r k : ℕ} (h : p.val = k * 6144 + r) (hr : r < 6144) :
    numbers O (ix2 p 0) = rd O r k := by
  have hp := p.isLt
  unfold numbers
  rw [broadcastInDim_apply _ bcast_S49152_S49152x1_0 _ (ix2 p 0) (ix1 p) (fun a => match a with
    | ⟨0, _⟩ => by show p.val = if (49152 : Nat) = 1 then 0 else p.val; rw [if_neg (by decide)])]
  rw [shapeCast_apply _ shapeCasts_S8x6144_S49152 (ix1 p) (ix2 (⟨k, by omega⟩ : Fin 8) (⟨r, hr⟩ : Fin 6144)) (by
    rewrite [Shape.rowMajor_val_two, Shape.rowMajor_val_one]
    show k * 6144 + r = p.val
    omega)]
  rw [transpose_apply _ _ _ (ix2 (⟨k, by omega⟩ : Fin 8) (⟨r, hr⟩ : Fin 6144)) (ix2 (⟨r, hr⟩ : Fin 6144) (⟨k, by omega⟩ : Fin 8)) (fun a => match a with
    | ⟨0, _⟩ => rfl
    | ⟨1, _⟩ => rfl)]
  exact rd_of _ _ rfl rfl

theorem row_at (c : Dev nD) (i : S49152x5120.Idx) {r k j : ℕ} (h0 : (i 0).val = k * 6144 + r) (hr : r < 6144)
    (h1 : (i 1).val % 1280 < 1024) (hj : (i 1).val / 1280 * 1024 + (i 1).val % 1280 = j) :
    V m c main_v7 i = rd (m ((c : Thread nD τ).loc main_arg2)) (slot (m ((c : Thread nD τ).loc main_arg3)) r k) j := by
  rw [V_v7]
  have e : i = ix2 (i 0) (i 1) := (ix2_eta i).symm
  refine (congrArg _ e).trans ((rows_apply (by decide) gather_S131072x5120_S49152x1_S49152x5120_1_0_n_n_0_1_15120_wf _ _ (i 0) (i 1)).trans ?_)
  refine (padded_at _ _ (i 1) h1 hj).trans ?_
  show rd _ (clip 131072 _) j = rd _ (clip 131072 _) j
  rw [numbers_at _ (i 0) h0 hr]

end Cert.Combine

end
-- ==== Proof.CombinePay.lean ====
/-
  What the combination's call computes at one entry of a block, in each half of its columns.
-/
module

public import proofs.«01_k».proof.Proof.Gen.Kernel8Ideal.Frame
public import proofs.«01_k».proof.Proof.Product

@[expose] public section

noncomputable section

namespace Cert.Combine

open Idealize.ShloMosaic Idealize.ShloMosaic.TcCoe
open Cert.Kernel8Ideal Cert.Kernel8Ideal.Gen Cert.Attn Cert.Mm

theorem lo_at (p : Vec Ideal S256x1024 .f32) (w : Vec Ideal S256x8 .f32) (a0 a1 a2 a3 a4 a5 a6 a7 : Vec Ideal S256x512 .bf16)
    (R : Vec Ideal S256x1024 .f32) (G : Vec Ideal S1x1x1024 .f32) (r : Fin 256) (j : Fin 512) (c : Fin 1024) (hc : c.val = j.val) :
    k0_pay1 (k0_pay12 R) (k0_pay13 G) (k0_pay14 p w (k0_pay7 w (k0_pay5 w a0 a1) a2 a3 a4) (k0_pay9 a5) a6 a7) (ix2 r j)
      = R (ix2 r c) + G (ix3 0 0 c) * (p (ix2 r c) + (w (ix2 r 0) * a0 (ix2 r j) + w (ix2 r 1) * a1 (ix2 r j) + w (ix2 r 2) * a2 (ix2 r j)
        + w (ix2 r 3) * a3 (ix2 r j) + w (ix2 r 4) * a4 (ix2 r j) + w (ix2 r 5) * a5 (ix2 r j) + w (ix2 r 6) * a6 (ix2 r j) + w (ix2 r 7) * a7 (ix2 r j))) := by
  have e : (⟨j.val, by omega⟩ : Fin 1024) = c := Fin.ext hc.symm
  rw [← e]
  pointwise [k0_pay1, k0_pay12, k0_pay13, k0_pay11, k0_pay14, k0_pay7, k0_pay5, k0_pay9]

theorem hi_at (p : Vec Ideal S256x1024 .f32) (w : Vec Ideal S256x8 .f32) (a0 a1 a2 a3 a4 a5 a6 a7 : Vec Ideal S256x512 .bf16)
    (R : Vec Ideal S256x1024 .f32) (G : Vec Ideal S1x1x1024 .f32) (r : Fin 256) (j : Fin 512) (c : Fin 1024) (hc : c.val = 512 + j.val) :
    k0_pay2 p (k0_pay10 w (k0_pay8 w (k0_pay6 w a0 a1) a2 a3 a4) a5 a6 a7) R (k0_pay11 G) (ix2 r j)
      = R (ix2 r c) + G (ix3 0 0 c) * (p (ix2 r c) + (w (ix2 r 0) * a0 (ix2 r j) + w (ix2 r 1) * a1 (ix2 r j) + w (ix2 r 2) * a2 (ix2 r j)
        + w (ix2 r 3) * a3 (ix2 r j) + w (ix2 r 4) * a4 (ix2 r j) + w (ix2 r 5) * a5 (ix2 r j) + w (ix2 r 6) * a6 (ix2 r j) + w (ix2 r 7) * a7 (ix2 r j))) := by
  have e : (⟨512 + j.val, by omega⟩ : Fin 1024) = c := Fin.ext hc.symm
  rw [← e]
  pointwise [k0_pay2, k0_pay10, k0_pay8, k0_pay6, k0_pay11]

theorem mul_at (a : Vec Ideal S256x1024 .bf16) (w : Vec Ideal S1024x1024 .bf16) (r : Fin 256) (j : Fin 1024) :
    k0_pay4 a w (ix2 r j) = ∑ k : Fin 1024, a (ix2 r k) * w (ix2 k j) := by
  pointwise [k0_pay4]

theorem cast_at (x1 : Vec Ideal S1x1024x1024 .f32) (k j : Fin 1024) : k0_pay3 x1 (ix2 k j) = rd3 x1 0 k.val j.val := by
  pointwise [k0_pay3]
  exact rd3_of _ _ rfl rfl rfl

end Cert.Combine

end
-- ==== Proof.CombineRef.lean ====
/-
  The combination of the experts' rows with the shared expert's product, and the reference's array.
-/
module

public import proofs.«01_k».proof.Proof.Gen.Reference8Ideal.Read
public import proofs.«01_k».proof.Proof.Rows
public import proofs.«01_k».proof.Proof.Product

@[expose] public section

noncomputable section

namespace Cert.Combine.Ref

open Idealize.ShloMosaic Cert.Attn Cert.Mm Cert.Rows
open Cert.Reference8Ideal Cert.Reference8Ideal.Read

/-- The group a row belongs to: the prompt's rows are the first, each sample has its own. -/
def group (r : ℕ) : ℕ := r / 1024 - 3

/-- A token's experts' rows, weighted and added, with the shared expert's product. -/
def mix (X : S6144x1024.Idx → EReal) (W : S2x1024x4096.Idx → EReal) (Y : S131072x4096.Idx → EReal) (O : S6144x8.Idx → BitVec 32)
    (Q : S6144x8.Idx → EReal) (r c : ℕ) : EReal :=
  prod X W 1 r c + ∑ k : Fin 8, rd Q r k.val * rd Y (clip 131072 (rd O r k.val)) c

/-- The residual row and the gated sum. -/
def out (X : S6144x1024.Idx → EReal) (W : S2x1024x4096.Idx → EReal) (Y : S131072x4096.Idx → EReal) (O : S6144x8.Idx → BitVec 32)
    (Q : S6144x8.Idx → EReal) (R : S6144x4096.Idx → EReal) (G : S3x1x4096.Idx → EReal) (i : S6144x4096.Idx) : EReal :=
  rd R (i 0).val (i 1).val + rd3 G (group (i 0).val) 0 (i 1).val * mix X W Y O Q (i 0).val (i 1).val

theorem row_at (Y : S131072x4096.Idx → EReal) (O : S6144x8.Idx → BitVec 32) (p : Fin 49152) (c : Fin 4096) :
    val_main_v1 (F := Ideal) Y O (ix2 p c) = rd Y (clip 131072 (rd O (p.val / 8) (p.val % 8))) c.val := by
  refine (rows_apply (by decide) gather_S131072x4096_S49152x1_S49152x4096_1_0_n_n_0_1_14096.wf Y (val_main_call0_v0 (F := Ideal) O) p c).trans ?_
  refine rd_of _ _ ?_ rfl
  show clip 131072 _ = _
  refine congrArg (clip 131072) ?_
  rw [val_main_call0_v0_apply, val_main_v0_apply]
  exact rd_of O _ rfl rfl

theorem mix_at (X : S6144x1024.Idx → EReal) (W : S2x1024x4096.Idx → EReal) (Y : S131072x4096.Idx → EReal) (O : S6144x8.Idx → BitVec 32)
    (Q : S6144x8.Idx → EReal) (i : S6144x4096.Idx) {r c : ℕ} (h0 : (i 0).val = r) (h1 : (i 1).val = c) :
    val_main_v10 (F := Ideal) X W Y O Q i = mix X W Y O Q r c := by
  subst h0 h1
  have hr : (i 0).val < 6144 := (i 0).isLt
  have hc : (i 1).val < 4096 := (i 1).isLt
  rw [val_main_v10_apply, val_main_v6_apply, val_main_v9_apply, val_main_cst_apply]
  show (Ideal.ofBits .f32 0x00000000#32 + _ : EReal) + _ = _
  rw [Ideal.ofBits_zero_f32, zero_add, add_comm]
  unfold mix prod
  refine congrArg₂ (· + ·) (Finset.sum_congr rfl fun k _ => congrArg₂ (· * ·) (rd_of X _ rfl rfl) ?_) (Finset.sum_congr rfl fun k _ => ?_)
  · rw [val_main_v8_apply, val_main_v7_apply]
    have hk : k.val < 1024 := k.isLt
    refine rd3_of W _ rfl ?_ ?_
    · show (k.val * 4096 + (i 1).val) / 4096 % 1024 = k.val
      omega
    · show (k.val * 4096 + (i 1).val) % 4096 = (i 1).val
      omega
  · have hk : k.val < 8 := k.isLt
    rw [val_main_v5_apply]
    show (_ * _ : EReal) = _
    rw [mul_comm, val_main_v4_apply, val_main_v3_apply, val_main_v2_apply]
    refine congrArg₂ (· * ·) (rd_of Q _ rfl rfl) ?_
    have e : idx_main_v2 (idx_main_v6 i k) = ix2 (⟨(i 0).val * 8 + k.val, by omega⟩ : Fin 49152) (⟨(i 1).val, hc⟩ : Fin 4096) := by
      funext a
      refine Fin.ext ?_
      match a with
      | ⟨0, _⟩ => show (((i 0).val * 8 + k.val) * 4096 + (i 1).val) / 4096 = (i 0).val * 8 + k.val; omega
      | ⟨1, _⟩ => show (((i 0).val * 8 + k.val) * 4096 + (i 1).val) % 4096 = (i 1).val; omega
    rw [e, row_at]
    show rd Y (clip 131072 (rd O (((i 0).val * 8 + k.val) / 8) (((i 0).val * 8 + k.val) % 8))) _ = _
    rw [show ((i 0).val * 8 + k.val) / 8 = (i 0).val by omega, show ((i 0).val * 8 + k.val) % 8 = k.val by omega]

theorem prompt_gate (G : S3x1x4096.Idx → EReal) (i : S4096x4096.Idx) :
    val_main_v14 (F := Ideal) G i = rd3 G 0 0 (i 1).val := by
  rw [val_main_v14_apply, val_main_v13_apply, val_main_v12_apply]
  have hc : (i 1).val < 4096 := (i 1).isLt
  refine rd3_of G _ rfl rfl ?_
  show (0 * 4096 + (i 1).val) % 4096 = _
  omega

theorem sample_row (X : S6144x1024.Idx → EReal) (W : S2x1024x4096.Idx → EReal) (Y : S131072x4096.Idx → EReal) (O : S6144x8.Idx → BitVec 32)
    (Q : S6144x8.Idx → EReal) (G : S3x1x4096.Idx → EReal) (i : S2048x4096.Idx) :
    val_main_v21 (F := Ideal) X W Y O Q G i = mix X W Y O Q (4096 + (i 0).val) (i 1).val * rd3 G (1 + (i 0).val / 1024) 0 (i 1).val := by
  have hr : (i 0).val < 2048 := (i 0).isLt
  have hc : (i 1).val < 4096 := (i 1).isLt
  rw [val_main_v21_apply, val_main_v20_apply, val_main_v17_apply, val_main_v16_apply, val_main_v19_apply, val_main_v18_apply]
  refine congrArg₂ (· * ·) (mix_at X W Y O Q _ ?_ ?_) (rd3_of G _ ?_ rfl ?_)
  · show 4096 + (((((i 0).val * 4096 + (i 1).val) / 4194304) * 1024 + ((i 0).val * 4096 + (i 1).val) / 4096 % 1024) * 4096 + ((i 0).val * 4096 + (i 1).val) % 4096) / 4096 = _
    omega
  · show (((((i 0).val * 4096 + (i 1).val) / 4194304) * 1024 + ((i 0).val * 4096 + (i 1).val) / 4096 % 1024) * 4096 + ((i 0).val * 4096 + (i 1).val) % 4096) % 4096 = _
    omega
  · show 1 + ((i 0).val * 4096 + (i 1).val) / 4194304 = _
    omega
  · show ((i 0).val * 4096 + (i 1).val) % 4096 = _
    omega

theorem ref_eq (X : S6144x1024.Idx → EReal) (W : S2x1024x4096.Idx → EReal) (Y : S131072x4096.Idx → EReal) (O : S6144x8.Idx → BitVec 32)
    (Q : S6144x8.Idx → EReal) (R : S6144x4096.Idx → EReal) (G : S3x1x4096.Idx → EReal) (i : S6144x4096.Idx) :
    val_main_v23 (F := Ideal) X W Y O Q R G i = out X W Y O Q R G i := by
  rw [val_main_v23_apply]
  have hc : (i 1).val < 4096 := (i 1).isLt
  have hr : (i 0).val < 6144 := (i 0).isLt
  refine congrArg₂ (· + ·) (rd_of R i rfl rfl) ?_
  rw [mul_comm]
  unfold val_main_v22
  by_cases h : (i 0).val < 4096
  · rw [concatenate_pair_apply_left (t := S6144x4096) (s₁ := S4096x4096)
      (s₂ := S2048x4096) 0 _ _ _ i rfl (ix2 ⟨(i 0).val, h⟩ (i 1)) (fun b => match b with
        | ⟨0, _⟩ => rfl
        | ⟨1, _⟩ => rfl)]
    rw [val_main_v15_apply, val_main_v11_apply, prompt_gate]
    refine congrArg₂ (· * ·) (mix_at X W Y O Q _ rfl rfl) ?_
    rw [show group (i 0).val = 0 by unfold group; omega]
    rfl
  · rw [concatenate_pair_apply_right (t := S6144x4096) (s₁ := S4096x4096)
      (s₂ := S2048x4096) 0 _ _ _ i rfl rfl (ix2 ⟨(i 0).val - 4096, by omega⟩ (i 1)) (fun b => match b with
        | ⟨0, _⟩ => fun hb => absurd rfl hb
        | ⟨1, _⟩ => fun _ => rfl) (by show (i 0).val - 4096 + 4096 = (i 0).val; omega)]
    rw [sample_row]
    show mix X W Y O Q (4096 + ((i 0).val - 4096)) (i 1).val * rd3 G (1 + ((i 0).val - 4096) / 1024) 0 (i 1).val = _
    rw [show 4096 + ((i 0).val - 4096) = (i 0).val by omega,
      show 1 + ((i 0).val - 4096) / 1024 = group (i 0).val by unfold group; omega]

end Cert.Combine.Ref

end
-- ==== Proof.Combine.lean ====
/-
  The combination of the experts' rows with the shared expert's product, gated onto the residual stream: what the call leaves in
  its array.
-/
module

public import proofs.«01_k».proof.Proof.Gen.Kernel8.Frame
public import proofs.«01_k».proof.Proof.CombineHost
public import proofs.«01_k».proof.Proof.CombinePay
public import proofs.«01_k».proof.Proof.CombineRef

@[expose] public section

noncomputable section

namespace Cert.Combine

open Idealize.ShloMosaic Idealize.ShloMosaic.TcCoe Idealize.SL Idealize.SL.Sem
open Idealize.ShloMosaic.Pipeline (Dat)
open Cert.Kernel8Ideal Cert.Kernel8Ideal.Gen Cert.Attn Cert.Mm Cert.Rows
open Cert.Combine.Ref (group mix out)

variable (m : (ℓ : Loc nD τ sig) → Buf (Elt Ideal) ℓ)

/-! ### Where the windows' blocks sit, and what they hold -/

theorem where0 : ∀ t : Fin cfg0.N, win0_0.index t 0 = t.val % 24 ∧ win0_0.index t 1 = 0 :=
  (by decide +kernel : ∀ t : Fin grid0.N, win0_0.index t 0 = t.val % 24 ∧ win0_0.index t 1 = 0)
theorem where1 : ∀ t : Fin cfg0.N, win0_1.index t 0 = 1 ∧ win0_1.index t 1 = 0 ∧ win0_1.index t 2 = t.val / 24 :=
  (by decide +kernel : ∀ t : Fin grid0.N, win0_1.index t 0 = 1 ∧ win0_1.index t 1 = 0 ∧ win0_1.index t 2 = t.val / 24)
theorem where2 : ∀ t : Fin cfg0.N, win0_2.index t 0 = 0 * 24 + t.val % 24 ∧ win0_2.index t 1 = t.val / 24 :=
  (by decide +kernel : ∀ t : Fin grid0.N, win0_2.index t 0 = 0 * 24 + t.val % 24 ∧ win0_2.index t 1 = t.val / 24)
theorem where3 : ∀ t : Fin cfg0.N, win0_3.index t 0 = 1 * 24 + t.val % 24 ∧ win0_3.index t 1 = t.val / 24 :=
  (by decide +kernel : ∀ t : Fin grid0.N, win0_3.index t 0 = 1 * 24 + t.val % 24 ∧ win0_3.index t 1 = t.val / 24)
theorem where4 : ∀ t : Fin cfg0.N, win0_4.index t 0 = 2 * 24 + t.val % 24 ∧ win0_4.index t 1 = t.val / 24 :=
  (by decide +kernel : ∀ t : Fin grid0.N, win0_4.index t 0 = 2 * 24 + t.val % 24 ∧ win0_4.index t 1 = t.val / 24)
theorem where5 : ∀ t : Fin cfg0.N, win0_5.index t 0 = 3 * 24 + t.val % 24 ∧ win0_5.index t 1 = t.val / 24 :=
  (by decide +kernel : ∀ t : Fin grid0.N, win0_5.index t 0 = 3 * 24 + t.val % 24 ∧ win0_5.index t 1 = t.val / 24)
theorem where6 : ∀ t : Fin cfg0.N, win0_6.index t 0 = 4 * 24 + t.val % 24 ∧ win0_6.index t 1 = t.val / 24 :=
  (by decide +kernel : ∀ t : Fin grid0.N, win0_6.index t 0 = 4 * 24 + t.val % 24 ∧ win0_6.index t 1 = t.val / 24)
theorem where7 : ∀ t : Fin cfg0.N, win0_7.index t 0 = 5 * 24 + t.val % 24 ∧ win0_7.index t 1 = t.val / 24 :=
  (by decide +kernel : ∀ t : Fin grid0.N, win0_7.index t 0 = 5 * 24 + t.val % 24 ∧ win0_7.index t 1 = t.val / 24)
theorem where8 : ∀ t : Fin cfg0.N, win0_8.index t 0 = 6 * 24 + t.val % 24 ∧ win0_8.index t 1 = t.val / 24 :=
  (by decide +kernel : ∀ t : Fin grid0.N, win0_8.index t 0 = 6 * 24 + t.val % 24 ∧ win0_8.index t 1 = t.val / 24)
theorem where9 : ∀ t : Fin cfg0.N, win0_9.index t 0 = 7 * 24 + t.val % 24 ∧ win0_9.index t 1 = t.val / 24 :=
  (by decide +kernel : ∀ t : Fin grid0.N, win0_9.index t 0 = 7 * 24 + t.val % 24 ∧ win0_9.index t 1 = t.val / 24)
theorem where10 : ∀ t : Fin cfg0.N, win0_10.index t 0 = t.val % 24 ∧ win0_10.index t 1 = 0 :=
  (by decide +kernel : ∀ t : Fin grid0.N, win0_10.index t 0 = t.val % 24 ∧ win0_10.index t 1 = 0)
theorem where11 : ∀ t : Fin cfg0.N, win0_11.index t 0 = t.val % 24 ∧ win0_11.index t 1 = t.val / 24 :=
  (by decide +kernel : ∀ t : Fin grid0.N, win0_11.index t 0 = t.val % 24 ∧ win0_11.index t 1 = t.val / 24)
theorem where12 : ∀ t : Fin cfg0.N, win0_12.index t 0 = t.val % 24 / 4 - 3 ∧ win0_12.index t 1 = 0 ∧ win0_12.index t 2 = t.val / 24 :=
  (by decide +kernel : ∀ t : Fin grid0.N, win0_12.index t 0 = t.val % 24 / 4 - 3 ∧ win0_12.index t 1 = 0 ∧ win0_12.index t 2 = t.val / 24)
theorem where13 : ∀ t : Fin cfg0.N, win0_13.index t 0 = t.val % 24 ∧ win0_13.index t 1 = t.val / 24 :=
  (by decide +kernel : ∀ t : Fin grid0.N, win0_13.index t 0 = t.val % 24 ∧ win0_13.index t 1 = t.val / 24)

theorem in0 (c : Dev nD) (t : Fin cfg0.N) (y : S256x1024.Idx) :
    iblk m c 0 t y = rd (m ((c : Thread nD τ).loc main_arg0)) (t.val % 24 * 256 + (y 0).val) (y 1).val := by
  show V m c main_v8 ((win0_0.rect t).emb y) = _
  rw [V_v8]
  exact rd_of _ _ ((win0_0.rect_emb_val t y 0).trans (by rw [(where0 t).1]; rfl))
    (win0_0.rect_emb_val_of_index_zero t 1 (where0 t).2 y)

theorem in1 (c : Dev nD) (t : Fin cfg0.N) (y : S1x1024x1024.Idx) :
    iblk m c 1 t y = rd3 (m ((c : Thread nD τ).loc main_arg1)) 1 (y 1).val (t.val / 24 * 1024 + (y 2).val) := by
  show V m c main_arg1 ((win0_1.rect t).emb y) = _
  rw [V_main_arg1]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 1 * 1 + (y 0).val = 1
  omega

theorem tile (c : Dev nD) (t : Fin cfg0.N) (y : S256x1280.Idx) (h : (y 1).val < 1024) (i : S49152x5120.Idx) {k : ℕ}
    (h0 : (i 0).val = (k * 24 + t.val % 24) * 256 + (y 0).val) (h1 : (i 1).val = t.val / 24 * 1280 + (y 1).val) :
    V m c main_v7 i = rd (m ((c : Thread nD τ).loc main_arg2))
      (slot (m ((c : Thread nD τ).loc main_arg3)) (t.val % 24 * 256 + (y 0).val) k) (t.val / 24 * 1024 + (y 1).val) := by
  have hy : (y 0).val < 256 := (y 0).isLt
  exact row_at m c i (by omega) (by omega) (by omega) (by omega)

theorem in2 (c : Dev nD) (t : Fin cfg0.N) (y : S256x1280.Idx) (h : (y 1).val < 1024) : iblk m c 2 t y = rd (m ((c : Thread nD τ).loc main_arg2))
    (slot (m ((c : Thread nD τ).loc main_arg3)) (t.val % 24 * 256 + (y 0).val) 0) (t.val / 24 * 1024 + (y 1).val) :=
  tile m c t y h ((win0_2.rect t).emb y) ((win0_2.rect_emb_val t y 0).trans (by rw [(where2 t).1]; rfl)) ((win0_2.rect_emb_val t y 1).trans (by rw [(where2 t).2]; rfl))
theorem in3 (c : Dev nD) (t : Fin cfg0.N) (y : S256x1280.Idx) (h : (y 1).val < 1024) : iblk m c 3 t y = rd (m ((c : Thread nD τ).loc main_arg2))
    (slot (m ((c : Thread nD τ).loc main_arg3)) (t.val % 24 * 256 + (y 0).val) 1) (t.val / 24 * 1024 + (y 1).val) :=
  tile m c t y h ((win0_3.rect t).emb y) ((win0_3.rect_emb_val t y 0).trans (by rw [(where3 t).1]; rfl)) ((win0_3.rect_emb_val t y 1).trans (by rw [(where3 t).2]; rfl))
theorem in4 (c : Dev nD) (t : Fin cfg0.N) (y : S256x1280.Idx) (h : (y 1).val < 1024) : iblk m c 4 t y = rd (m ((c : Thread nD τ).loc main_arg2))
    (slot (m ((c : Thread nD τ).loc main_arg3)) (t.val % 24 * 256 + (y 0).val) 2) (t.val / 24 * 1024 + (y 1).val) :=
  tile m c t y h ((win0_4.rect t).emb y) ((win0_4.rect_emb_val t y 0).trans (by rw [(where4 t).1]; rfl)) ((win0_4.rect_emb_val t y 1).trans (by rw [(where4 t).2]; rfl))
theorem in5 (c : Dev nD) (t : Fin cfg0.N) (y : S256x1280.Idx) (h : (y 1).val < 1024) : iblk m c 5 t y = rd (m ((c : Thread nD τ).loc main_arg2))
    (slot (m ((c : Thread nD τ).loc main_arg3)) (t.val % 24 * 256 + (y 0).val) 3) (t.val / 24 * 1024 + (y 1).val) :=
  tile m c t y h ((win0_5.rect t).emb y) ((win0_5.rect_emb_val t y 0).trans (by rw [(where5 t).1]; rfl)) ((win0_5.rect_emb_val t y 1).trans (by rw [(where5 t).2]; rfl))
theorem in6 (c : Dev nD) (t : Fin cfg0.N) (y : S256x1280.Idx) (h : (y 1).val < 1024) : iblk m c 6 t y = rd (m ((c : Thread nD τ).loc main_arg2))
    (slot (m ((c : Thread nD τ).loc main_arg3)) (t.val % 24 * 256 + (y 0).val) 4) (t.val / 24 * 1024 + (y 1).val) :=
  tile m c t y h ((win0_6.rect t).emb y) ((win0_6.rect_emb_val t y 0).trans (by rw [(where6 t).1]; rfl)) ((win0_6.rect_emb_val t y 1).trans (by rw [(where6 t).2]; rfl))
theorem in7 (c : Dev nD) (t : Fin cfg0.N) (y : S256x1280.Idx) (h : (y 1).val < 1024) : iblk m c 7 t y = rd (m ((c : Thread nD τ).loc main_arg2))
    (slot (m ((c : Thread nD τ).loc main_arg3)) (t.val % 24 * 256 + (y 0).val) 5) (t.val / 24 * 1024 + (y 1).val) :=
  tile m c t y h ((win0_7.rect t).emb y) ((win0_7.rect_emb_val t y 0).trans (by rw [(where7 t).1]; rfl)) ((win0_7.rect_emb_val t y 1).trans (by rw [(where7 t).2]; rfl))
theorem in8 (c : Dev nD) (t : Fin cfg0.N) (y : S256x1280.Idx) (h : (y 1).val < 1024) : iblk m c 8 t y = rd (m ((c : Thread nD τ).loc main_arg2))
    (slot (m ((c : Thread nD τ).loc main_arg3)) (t.val % 24 * 256 + (y 0).val) 6) (t.val / 24 * 1024 + (y 1).val) :=
  tile m c t y h ((win0_8.rect t).emb y) ((win0_8.rect_emb_val t y 0).trans (by rw [(where8 t).1]; rfl)) ((win0_8.rect_emb_val t y 1).trans (by rw [(where8 t).2]; rfl))
theorem in9 (c : Dev nD) (t : Fin cfg0.N) (y : S256x1280.Idx) (h : (y 1).val < 1024) : iblk m c 9 t y = rd (m ((c : Thread nD τ).loc main_arg2))
    (slot (m ((c : Thread nD τ).loc main_arg3)) (t.val % 24 * 256 + (y 0).val) 7) (t.val / 24 * 1024 + (y 1).val) :=
  tile m c t y h ((win0_9.rect t).emb y) ((win0_9.rect_emb_val t y 0).trans (by rw [(where9 t).1]; rfl)) ((win0_9.rect_emb_val t y 1).trans (by rw [(where9 t).2]; rfl))

theorem in10 (c : Dev nD) (t : Fin cfg0.N) (y : S256x8.Idx) :
    iblk m c 10 t y = rd (m ((c : Thread nD τ).loc main_arg4)) (t.val % 24 * 256 + (y 0).val) (y 1).val := by
  show V m c main_arg4 ((win0_10.rect t).emb y) = _
  rw [V_main_arg4]
  exact rd_of _ _ ((win0_10.rect_emb_val t y 0).trans (by rw [(where10 t).1]; rfl))
    (win0_10.rect_emb_val_of_index_zero t 1 (where10 t).2 y)

theorem in11 (c : Dev nD) (t : Fin cfg0.N) (y : S256x1024.Idx) :
    iblk m c 11 t y = rd (m ((c : Thread nD τ).loc main_arg5)) (t.val % 24 * 256 + (y 0).val) (t.val / 24 * 1024 + (y 1).val) := by
  show V m c main_arg5 ((win0_11.rect t).emb y) = _
  rw [V_main_arg5]
  exact rd_of _ _ ((win0_11.rect_emb_val t y 0).trans (by rw [(where11 t).1]; rfl))
    ((win0_11.rect_emb_val t y 1).trans (by rw [(where11 t).2]; rfl))

theorem in12 (c : Dev nD) (t : Fin cfg0.N) (y : S1x1x1024.Idx) :
    iblk m c 12 t y = rd3 (m ((c : Thread nD τ).loc main_arg6)) (t.val % 24 / 4 - 3) 0 (t.val / 24 * 1024 + (y 2).val) := by
  show V m c main_arg6 ((win0_12.rect t).emb y) = _
  rw [V_main_arg6]
  refine rd3_of _ _ ((win0_12.rect_emb_val t y 0).trans ?_) ((win0_12.rect_emb_val_of_index_zero t 1 (where12 t).2.1 y).trans ?_)
    ((win0_12.rect_emb_val t y 2).trans (by rw [(where12 t).2.2]; rfl))
  · rw [(where12 t).1]
    have : (y 0).val < 1 := (y 0).isLt
    show (t.val % 24 / 4 - 3) * 1 + (y 0).val = _
    omega
  · have : (y 1).val < 1 := (y 1).isLt
    omega

/-! ### The two halves of a block -/

/-- The left half of a tile's columns. -/
def left (x : Vec Ideal S256x1280 .bf16) : Vec Ideal S256x512 .bf16 :=
  View.ld x (Rect.unit (s := S256x1280) ![0, 0] S256x512.size inb_S256x1280_S256x512_0_0)

/-- The right half of a tile's columns. -/
def right (x : Vec Ideal S256x1280 .bf16) : Vec Ideal S256x512 .bf16 :=
  View.ld x (Rect.unit (s := S256x1280) ![0, 512] S256x512.size inb_S256x1280_S256x512_0_512)

/-- What a block's two stores write, the later first. -/
def pieces (p : Vec Ideal S256x1024 .f32) (x2 x3 x4 x5 x6 x7 x8 x9 : Vec Ideal S256x1280 .bf16) (w : Vec Ideal S256x8 .f32) (R : Vec Ideal S256x1024 .f32)
    (G : Vec Ideal S1x1x1024 .f32) : List (View.Piece (Elt Ideal) S256x1024 .f32) :=
  [⟨Rect.unit (s := S256x1024) ![0, 512] S256x512.size inb_S256x1024_S256x512_0_512,
    k0_pay2 p (k0_pay10 w (k0_pay8 w (k0_pay6 w (right x2) (right x3)) (right x4) (right x5) (right x6)) (right x7) (right x8) (right x9)) R (k0_pay11 G)⟩,
   ⟨Rect.unit (s := S256x1024) ![0, 0] S256x512.size inb_S256x1024_S256x512_0_0,
    k0_pay1 (k0_pay12 R) (k0_pay13 G) (k0_pay14 p w (k0_pay7 w (k0_pay5 w (left x2) (left x3)) (left x4) (left x5) (left x6)) (k0_pay9 (left x7)) (left x8) (left x9))⟩]

theorem pieces_at (p : Vec Ideal S256x1024 .f32) (x2 x3 x4 x5 x6 x7 x8 x9 : Vec Ideal S256x1280 .bf16) (w : Vec Ideal S256x8 .f32) (R : Vec Ideal S256x1024 .f32)
    (G : Vec Ideal S1x1x1024 .f32) (r : Fin 256) (j : Fin 1024) (v : Fin 1280) (hv : v.val = j.val) : View.canon (pieces p x2 x3 x4 x5 x6 x7 x8 x9 w R G) (ix2 r j)
      = R (ix2 r j) + G (ix3 0 0 j) * (p (ix2 r j) + (w (ix2 r 0) * x2 (ix2 r v) + w (ix2 r 1) * x3 (ix2 r v) + w (ix2 r 2) * x4 (ix2 r v) + w (ix2 r 3) * x5 (ix2 r v) + w (ix2 r 4) * x6 (ix2 r v) + w (ix2 r 5) * x7 (ix2 r v) + w (ix2 r 6) * x8 (ix2 r v) + w (ix2 r 7) * x9 (ix2 r v))) := by
  unfold pieces
  have hld : ∀ (o : ℕ) (h : ∀ a, (![0, o] : Fin 2 → ℕ) a + S256x512.size a ≤ S256x1280.size a) (x : Vec Ideal S256x1280 .bf16) (u : Fin 512), v.val = o + u.val →
      View.ld x (Rect.unit (s := S256x1280) ![0, o] S256x512.size h) (ix2 r u) = x (ix2 r v) := fun o h x u e =>
    congrArg x (funext fun a => Fin.ext (match a with
      | ⟨0, _⟩ => by show 0 + 1 * r.val = r.val; omega
      | ⟨1, _⟩ => by show o + 1 * u.val = v.val; omega))
  have hj := j.isLt
  by_cases h : j.val < 512
  · rw [View.canon_cons_of_not_mem _ _ (by
      rw [Rect.mem_set_unit]
      intro hh
      have : 512 ≤ j.val := (hh 1).1
      omega)]
    have e : (ix2 r j : S256x1024.Idx) = (Rect.unit (s := S256x1024) ![0, 0] S256x512.size inb_S256x1024_S256x512_0_0).emb
        (ix2 r (⟨j.val, h⟩ : Fin 512)) := by
      funext a
      refine Fin.ext ?_
      match a with
      | ⟨0, _⟩ => show r.val = 0 + 1 * r.val; omega
      | ⟨1, _⟩ => show j.val = 0 + 1 * j.val; omega
    refine (congrArg _ e).trans ?_
    rw [View.canon_cons_emb]
    refine (lo_at _ _ _ _ _ _ _ _ _ _ _ _ r ⟨j.val, h⟩ j rfl).trans ?_
    have l : ∀ x, left x (ix2 r (⟨j.val, h⟩ : Fin 512)) = x (ix2 r v) := fun x => hld 0 _ x _ (by show v.val = 0 + j.val; omega)
    simp only [l]
  · have e : (ix2 r j : S256x1024.Idx) = (Rect.unit (s := S256x1024) ![0, 512] S256x512.size inb_S256x1024_S256x512_0_512).emb
        (ix2 r (⟨j.val - 512, by omega⟩ : Fin 512)) := by
      funext a
      refine Fin.ext ?_
      match a with
      | ⟨0, _⟩ => show r.val = 0 + 1 * r.val; omega
      | ⟨1, _⟩ => show j.val = 512 + 1 * (j.val - 512); omega
    refine (congrArg _ e).trans ?_
    rw [View.canon_cons_emb]
    refine (hi_at _ _ _ _ _ _ _ _ _ _ _ _ r ⟨j.val - 512, by omega⟩ j (by show j.val = 512 + (j.val - 512); omega)).trans ?_
    have l : ∀ x, right x (ix2 r (⟨j.val - 512, by omega⟩ : Fin 512)) = x (ix2 r v) := fun x => hld 512 _ x _ (by show v.val = 512 + (j.val - 512); omega)
    simp only [l]

/-! ### The weights kept in the scratch, and the block written back -/

/-- The weights of the column block of point `n`. -/
def cols (W : S2x1024x4096.Idx → EReal) (n : ℕ) : S1024x1024.Idx → EReal := fun i => rd3 W 1 (i 0).val (n / 24 * 1024 + (i 1).val)

theorem cast_eq (c : Dev nD) (t : Fin cfg0.N) :
    k0_pay3 (iblk m c 1 t) = cols (m ((c : Thread nD τ).loc main_arg1)) t.val := by
  funext i
  obtain ⟨k, j, rfl⟩ : ∃ (k : Fin 1024) (j : Fin 1024), i = ix2 k j := ⟨i 0, i 1, (ix2_eta i).symm⟩
  refine (cast_at _ k j).trans ?_
  refine (in1 m c t (ix3 _ _ _)).trans ?_
  show rd3 _ 1 (k.val % 1024) (_ + j.val % 1024) = rd3 _ 1 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 24 = 0) :
    (outsAt0 m c t.val t.isLt).2 = cols (m ((c : Thread nD τ).loc main_arg1)) t.val := by
  rw [outsAt0_A m c t h0, ← cast_eq]
  unfold sout0_A_0
  rw [View.read_writes_eq_canon _ _ _ (scover0_A_0 c _ _ _ _ _ _ _ _ _ _ _ _ _ _ _ _ _ _ _ _ _ _ _ _ _ _ _ _ _ _ _ _ _ _ _ _ _ _ _ _ _ _ _ _ _ )]
  unfold kernelRun0_A
  dsimp only
  sl_unfold_words
  rw [View.canon_unit_zero hz2]
  simp only [View.readAt_eq_ld, (hs0_1 t).read_unread, View.ld_unit_zero (S := S1x1024x1024) hz3]

/-- What a point's two stores write, with the weights `W`. -/
def block (c : Dev nD) (t : Fin cfg0.N) (W : S1024x1024.Idx → EReal) : List (View.Piece (Elt Ideal) S256x1024 .f32) :=
  pieces (k0_pay4 (iblk m c 0 t) W) (iblk m c 2 t) (iblk m c 3 t) (iblk m c 4 t) (iblk m c 5 t) (iblk m c 6 t) (iblk m c 7 t) (iblk m c 8 t) (iblk m c 9 t) (iblk m c 10 t) (iblk m c 11 t) (iblk m c 12 t)

theorem out_reset (c : Dev nD) (t : Fin cfg0.N) (h0 : t.val % 24 = 0) :
    (outsAt0 m c t.val t.isLt).1 = View.canon (block m c t (cols (m ((c : Thread nD τ).loc main_arg1)) t.val)) := by
  rw [outsAt0_A m c t h0, ← cast_eq]
  unfold out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _ _ )]
  unfold kernelRun0_A
  dsimp only
  sl_unfold_words
  rw [View.readCov_unit_zero (S := S1024x1024) _ hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S1x1024x1024) hz3,
    View.ld_unit_zero (S := S256x1024) hz2, View.ld_unit_zero (S := S256x8) hz2, View.ld_unit_zero (S := S1x1x1024) hz3]
  rfl

theorem out_carry (c : Dev nD) (t : Fin cfg0.N) (h0 : ¬ t.val % 24 = 0) :
    (outsAt0 m c t.val t.isLt).1 = View.canon (block m c t (outsAt0 m c (t.val - 1) (Nat.lt_of_le_of_lt (Nat.sub_le _ _) t.isLt)).2) := by
  rw [outsAt0_B m c t h0]
  unfold out0_B_13
  rw [View.read_writes_eq_canon _ _ _ (cover0_B_13 c _ _ _ _ _ _ _ _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread,
    View.ld_unit_zero (S := S256x1024) hz2, View.ld_unit_zero (S := S256x8) hz2, View.ld_unit_zero (S := S1x1x1024) hz3, View.ld_unit_zero (S := S1024x1024) hz2]
  rfl

/-- The scratch holds the weights of the point's column block. -/
theorem scratch_at (c : Dev nD) : ∀ (n : ℕ) (h : n < cfg0.N),
    (outsAt0 m c n h).2 = cols (m ((c : Thread nD τ).loc main_arg1)) n := by
  intro n
  induction n with
  | zero => intro h; exact scratch_reset m c ⟨0, h⟩ rfl
  | succ n ih =>
    intro h
    by_cases h0 : (n + 1) % 24 = 0
    · exact scratch_reset m c ⟨n + 1, h⟩ h0
    · rw [outsAt0_B m c ⟨n + 1, h⟩ h0]
      refine (ih (Nat.lt_of_succ_lt h)).trans ?_
      unfold cols
      rw [show (n + 1) / 24 = n / 24 by omega]

theorem out_at (c : Dev nD) (t : Fin cfg0.N) :
    (outsAt0 m c t.val t.isLt).1 = View.canon (block m c t (cols (m ((c : Thread nD τ).loc main_arg1)) t.val)) := by
  by_cases h0 : t.val % 24 = 0
  · exact out_reset m c t h0
  · rw [out_carry m c t h0, scratch_at]
    unfold cols
    rw [show (t.val - 1) / 24 = t.val / 24 by omega]

/-! ### The array -/

theorem mem13 (t : Fin cfg0.N) (i : S6144x4096.Idx) (h0 : (i 0).val / 256 = t.val % 24) (h1 : (i 1).val / 1024 = t.val / 24) :
    i ∈ ((cfg0.win 13).blk t).view.set := by
  show i ∈ ((View.whole main_v9).slice (win0_13.rect t)).set
  rw [View.set_slice_whole, Rect.mem_set_unit]
  intro a
  match a with
  | ⟨0, _⟩ =>
    show win0_13.index t 0 * 256 ≤ (i 0).val ∧ (i 0).val < win0_13.index t 0 * 256 + 256
    rw [(where13 t).1]; omega
  | ⟨1, _⟩ =>
    show win0_13.index t 1 * 1024 ≤ (i 1).val ∧ (i 1).val < win0_13.index t 1 * 1024 + 1024
    rw [(where13 t).2]; omega

theorem arr (c : Dev nD) : (dats m 0 c).arrAt 13 cfg0.N = (fun i : S6144x4096.Idx =>
    out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) i) := by
  refine (dats m 0 c).arrAt_eq_of_cover 13 _ (fun t _ => ?_) fun i => ?_
  · rw [Value.flushed13]
    funext y
    show (outsAt0 m c t.val t.isLt).1 y = out _ _ _ _ _ _ _ ((win0_13.rect t).emb y)
    rw [out_at]
    obtain ⟨r, j, rfl⟩ : ∃ (r : Fin 256) (j : Fin 1024), y = ix2 r j := ⟨y 0, y 1, (ix2_eta y).symm⟩
    have hr := r.isLt
    have hj := j.isLt
    have hg : group (t.val % 24 * 256 + r.val) = t.val % 24 / 4 - 3 := by unfold group; omega
    refine (pieces_at _ _ _ _ _ _ _ _ _ _ _ _ r j ⟨j.val, by omega⟩ rfl).trans ?_
    unfold out mix prod
    rw [(win0_13.rect_emb_val t (ix2 r j) 0).trans (by rw [(where13 t).1]; rfl : _ = t.val % 24 * 256 + r.val),
      (win0_13.rect_emb_val t (ix2 r j) 1).trans (by rw [(where13 t).2]; rfl : _ = t.val / 24 * 1024 + j.val), hg, Fin.sum_univ_eight]
    refine congrArg₂ (· + ·) (in11 m c t (ix2 r j)) (congrArg₂ (· * ·) (in12 m c t _) (congrArg₂ (· + ·) ?_ ?_))
    · exact (mul_at _ _ r j).trans (Finset.sum_congr rfl fun k _ => congrArg₂ (· * ·) (in0 m c t (ix2 r k)) rfl)
    · have hq : ∀ k : Fin 8, iblk m c 10 t (ix2 r k) = rd (m ((c : Thread nD τ).loc main_arg4)) (t.val % 24 * 256 + r.val) k.val :=
        fun k => in10 m c t (ix2 r k)
      exact congrArg₂ (· + ·) (congrArg₂ (· + ·) (congrArg₂ (· + ·) (congrArg₂ (· + ·) (congrArg₂ (· + ·) (congrArg₂ (· + ·) (congrArg₂ (· + ·) (congrArg₂ (· * ·) (hq 0) (in2 m c t _ hj)) (congrArg₂ (· * ·) (hq 1) (in3 m c t _ hj))) (congrArg₂ (· * ·) (hq 2) (in4 m c t _ hj))) (congrArg₂ (· * ·) (hq 3) (in5 m c t _ hj))) (congrArg₂ (· * ·) (hq 4) (in6 m c t _ hj))) (congrArg₂ (· * ·) (hq 5) (in7 m c t _ hj))) (congrArg₂ (· * ·) (hq 6) (in8 m c t _ hj))) (congrArg₂ (· * ·) (hq 7) (in9 m c t _ hj))
  · have h0 : (i 0).val < 6144 := (i 0).isLt
    have h1 : (i 1).val < 4096 := (i 1).isLt
    exact ⟨⟨(i 1).val / 1024 * 24 + (i 0).val / 256, by show _ < 96; omega⟩, flush0_13 _,
      mem13 _ i (by show _ = ((i 1).val / 1024 * 24 + (i 0).val / 256) % 24; omega) (by show _ = ((i 1).val / 1024 * 24 + (i 0).val / 256) / 24; omega)⟩

end Cert.Combine

end
-- ==== Proof.Low13.lean ====
/-
  The product that narrows the rate to its low rank, both directions side by side: what the call leaves in its array, and the reference.
-/
module

public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.ExpertsRef

@[expose] public section

noncomputable section

namespace Cert.Low13

open Idealize.ShloMosaic Idealize.ShloMosaic.TcCoe Idealize.SL Idealize.SL.Sem
open Idealize.ShloMosaic.Pipeline (Dat)
open Cert.Kernel13Ideal Cert.Kernel13Ideal.Gen Cert.Attn Cert.Mm
open Cert.Experts (rd4 rd4_of)

variable (m : (ℓ : Loc nD τ sig) → Buf (Elt Ideal) ℓ)

/-! ### The arrays the call is given -/

theorem V_v0 (c : Dev nD) : V m c main_v0 = (m ((c : Thread nD τ).loc main_arg0) : S6144x4096.Idx → EReal) := by
  suffices h : ∀ y, (m ((c : Thread nD τ).loc main_arg0) : S6144x4096.Idx → EReal) = y → V m c main_v0 = y from h _ rfl
  intro y hy
  unfold V
  after_results
  exact hy

theorem half0_at (W : S1x2x4096x128.Idx → EReal) (k : Fin 4096) (e : Fin 128) :
    shapeCast S4096x128 (extractStridedSlice S1x1x4096x128 ![0, 0, 0, 0] W slices_S1x2x4096x128_S1x1x4096x128_0_0_0_0)
      shapeCasts_S1x1x4096x128_S4096x128 (ix2 k e) = rd4 W 0 0 k.val e.val := by
  refine (shapeCast_apply _ _ _ (ix4 0 0 k e) ?_).trans ?_
  · rewrite [Shape.rowMajor_val_four, Shape.rowMajor_val_two]
    show ((0 * 1 + 0) * 4096 + k.val) * 128 + e.val = k.val * 128 + e.val
    omega
  refine (extractStridedSlice_apply _ _ _ _ (ix4 0 0 k e) fun a => ?_).trans (rd4_of _ _ rfl rfl rfl rfl)
  match a with
  | ⟨0, _⟩ => rfl
  | ⟨1, _⟩ => rfl
  | ⟨2, _⟩ => exact (Nat.zero_add _).symm
  | ⟨3, _⟩ => exact (Nat.zero_add _).symm

theorem half1_at (W : S1x2x4096x128.Idx → EReal) (k : Fin 4096) (e : Fin 128) :
    shapeCast S4096x128 (extractStridedSlice S1x1x4096x128 ![0, 1, 0, 0] W slices_S1x2x4096x128_S1x1x4096x128_0_1_0_0)
      shapeCasts_S1x1x4096x128_S4096x128 (ix2 k e) = rd4 W 0 1 k.val e.val := by
  refine (shapeCast_apply _ _ _ (ix4 0 0 k e) ?_).trans ?_
  · rewrite [Shape.rowMajor_val_four, Shape.rowMajor_val_two]
    show ((0 * 1 + 0) * 4096 + k.val) * 128 + e.val = k.val * 128 + e.val
    omega
  refine (extractStridedSlice_apply _ _ _ _ (ix4 0 1 k e) fun a => ?_).trans (rd4_of _ _ rfl rfl rfl rfl)
  match a with
  | ⟨0, _⟩ => rfl
  | ⟨1, _⟩ => rfl
  | ⟨2, _⟩ => exact (Nat.zero_add _).symm
  | ⟨3, _⟩ => exact (Nat.zero_add _).symm

/-- The weights of the two directions side by side. -/
def weights (W : S1x2x4096x128.Idx → EReal) : S1x4096x256.Idx → EReal :=
  broadcastInDim S1x4096x256 ![1, 2] bcast_S4096x256_S1x4096x256_1_2 (concatenate S4096x256 1
    [⟨S4096x128, shapeCast S4096x128 (extractStridedSlice S1x1x4096x128 ![0, 0, 0, 0] W slices_S1x2x4096x128_S1x1x4096x128_0_0_0_0) shapeCasts_S1x1x4096x128_S4096x128⟩,
     ⟨S4096x128, shapeCast S4096x128 (extractStridedSlice S1x1x4096x128 ![0, 1, 0, 0] W slices_S1x2x4096x128_S1x1x4096x128_0_1_0_0) shapeCasts_S1x1x4096x128_S4096x128⟩]
    concatenates_S4096x128_S4096x128_S4096x256_d1)

theorem weights_left (W : S1x2x4096x128.Idx → EReal) (k : Fin 4096) (c : Fin 256) (h : c.val < 128) :
    rd3 (weights W) 0 k.val c.val = rd4 W 0 0 k.val c.val := by
  refine (rd3_of (weights W) (ix3 0 k c) rfl rfl rfl).symm.trans ?_
  unfold weights
  rw [broadcastInDim_apply _ bcast_S4096x256_S1x4096x256_1_2 _ (ix3 0 k c) (ix2 k c) (fun a => match a with
    | ⟨0, _⟩ => by show k.val = if (4096 : Nat) = 1 then 0 else k.val; rw [if_neg (by decide)]
    | ⟨1, _⟩ => by show c.val = if (256 : Nat) = 1 then 0 else c.val; rw [if_neg (by decide)])]
  rw [concatenate_pair_apply_left (t := S4096x256) (s₁ := S4096x128) (s₂ := S4096x128) 1 _ _ _ _ rfl
    (ix2 k ⟨c.val, h⟩) (fun b => match b with
      | ⟨0, _⟩ => rfl
      | ⟨1, _⟩ => rfl)]
  exact half0_at W k ⟨c.val, h⟩

theorem weights_right (W : S1x2x4096x128.Idx → EReal) (k : Fin 4096) (c : Fin 256) (h : ¬ c.val < 128) :
    rd3 (weights W) 0 k.val c.val = rd4 W 0 1 k.val (c.val - 128) := by
  have hc := c.isLt
  refine (rd3_of (weights W) (ix3 0 k c) rfl rfl rfl).symm.trans ?_
  unfold weights
  rw [broadcastInDim_apply _ bcast_S4096x256_S1x4096x256_1_2 _ (ix3 0 k c) (ix2 k c) (fun a => match a with
    | ⟨0, _⟩ => by show k.val = if (4096 : Nat) = 1 then 0 else k.val; rw [if_neg (by decide)]
    | ⟨1, _⟩ => by show c.val = if (256 : Nat) = 1 then 0 else c.val; rw [if_neg (by decide)])]
  rw [concatenate_pair_apply_right (t := S4096x256) (s₁ := S4096x128) (s₂ := S4096x128) 1 _ _ _ _ rfl rfl
    (ix2 k ⟨c.val - 128, by omega⟩) (fun b hb => match b with
      | ⟨0, _⟩ => rfl
      | ⟨1, _⟩ => absurd rfl hb) (by show c.val - 128 + 128 = c.val; omega)]
  exact half1_at W k ⟨c.val - 128, by omega⟩

theorem V_v6 (c : Dev nD) : V m c main_v6 = weights (m ((c : Thread nD τ).loc main_arg1)) := by
  suffices h : ∀ y, weights (m ((c : Thread nD τ).loc main_arg1)) = y → V m c main_v6 = y from h _ rfl
  intro y hy
  unfold V
  after_results
  exact hy

/-! ### The payloads -/

theorem cast_at (x1 : Vec Ideal S1x4096x256 .f32) (k : Fin 4096) (j : Fin 256) :
    k0_pay1 x1 (ix2 k j) = rd3 x1 0 k.val j.val := by
  pointwise [k0_pay1]
  exact rd3_of _ _ rfl rfl rfl

theorem mul_at (a : Vec Ideal S1024x4096 .bf16) (w : Vec Ideal S4096x256 .bf16) (r : Fin 1024) (j : Fin 256) :
    k0_pay2 a w (ix2 r j) = ∑ k : Fin 4096, a (ix2 r k) * w (ix2 k j) := by
  pointwise [k0_pay2]

/-! ### Where the windows' blocks sit -/

theorem where0 : ∀ t : Fin cfg0.N, win0_0.index t 0 = t.val % 6 ∧ win0_0.index t 1 = 0 :=
  (by decide +kernel : ∀ t : Fin grid0.N, win0_0.index t 0 = t.val % 6 ∧ win0_0.index t 1 = 0)
theorem where1 : ∀ t : Fin cfg0.N, win0_1.index t 0 = 0 ∧ win0_1.index t 1 = 0 ∧ win0_1.index t 2 = t.val / 6 :=
  (by decide +kernel : ∀ t : Fin grid0.N, win0_1.index t 0 = 0 ∧ win0_1.index t 1 = 0 ∧ win0_1.index t 2 = t.val / 6)
theorem where2 : ∀ t : Fin cfg0.N, win0_2.index t 0 = t.val % 6 ∧ win0_2.index t 1 = t.val / 6 :=
  (by decide +kernel : ∀ t : Fin grid0.N, win0_2.index t 0 = t.val % 6 ∧ win0_2.index t 1 = t.val / 6)

theorem in0 (c : Dev nD) (t : Fin cfg0.N) (y : S1024x4096.Idx) :
    iblk m c 0 t y = rd (m ((c : Thread nD τ).loc main_arg0)) (t.val % 6 * 1024 + (y 0).val) (y 1).val := by
  show V m c main_v0 ((win0_0.rect t).emb y) = _
  rw [V_v0]
  exact rd_of _ _ ((win0_0.rect_emb_val t y 0).trans (by rw [(where0 t).1]; rfl))
    (win0_0.rect_emb_val_of_index_zero t 1 (where0 t).2 y)

theorem in1 (c : Dev nD) (t : Fin cfg0.N) (y : S1x4096x256.Idx) :
    iblk m c 1 t y = rd3 (weights (m ((c : Thread nD τ).loc main_arg1))) 0 (y 1).val (t.val / 6 * 256 + (y 2).val) := by
  show V m c main_v6 ((win0_1.rect t).emb y) = _
  rw [V_v6]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 0 * 1 + (y 0).val = 0
  omega

/-! ### The weights kept in the scratch, and the block written back -/

/-- The weights of the column block of point `n`. -/
def cols (W : S1x4096x256.Idx → EReal) (n : ℕ) : S4096x256.Idx → EReal := fun i => rd3 W 0 (i 0).val (n / 6 * 256 + (i 1).val)

theorem cast_eq (c : Dev nD) (t : Fin cfg0.N) :
    k0_pay1 (iblk m c 1 t) = cols (weights (m ((c : Thread nD τ).loc main_arg1))) t.val := by
  funext i
  obtain ⟨k, j, rfl⟩ : ∃ (k : Fin 4096) (j : Fin 256), i = ix2 k j := ⟨i 0, i 1, (ix2_eta i).symm⟩
  refine (cast_at _ k j).trans ?_
  refine (in1 m c t (ix3 _ _ _)).trans ?_
  show rd3 _ 0 (k.val % 4096) (_ + j.val % 256) = rd3 _ 0 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 6 = 0) :
    (outsAt0 m c t.val t.isLt).2 = cols (weights (m ((c : Thread nD τ).loc main_arg1))) t.val := by
  rw [outsAt0_A m c t h0, ← cast_eq]
  unfold sout0_A_0
  rw [View.read_writes_eq_canon _ _ _ (scover0_A_0 c _ _ _ _ _ _ _ _ _ _ _ _)]
  unfold kernelRun0_A
  dsimp only
  sl_unfold_words
  rw [View.canon_unit_zero hz2]
  simp only [View.readAt_eq_ld, (hs0_1 t).read_unread, View.ld_unit_zero (S := S1x4096x256) hz3]

theorem out_reset (c : Dev nD) (t : Fin cfg0.N) (h0 : t.val % 6 = 0) :
    (outsAt0 m c t.val t.isLt).1 = k0_pay2 (iblk m c 0 t) (cols (weights (m ((c : Thread nD τ).loc main_arg1))) t.val) := by
  rw [outsAt0_A m c t h0, ← cast_eq]
  unfold out0_A_2
  rw [View.read_writes_eq_canon _ _ _ (cover0_A_2 c _ _ _ _ _ _ _ _ _ _ _ _)]
  unfold kernelRun0_A
  dsimp only
  sl_unfold_words
  rw [View.canon_unit_zero hz2, View.readCov_unit_zero (S := S4096x256) _ hz2]
  simp only [View.readAt_eq_ld, (hs0_0 t).read_unread, (hs0_1 t).read_unread, View.ld_unit_zero (S := S1x4096x256) hz3,
    View.ld_unit_zero (S := S1024x4096) hz2]

theorem out_carry (c : Dev nD) (t : Fin cfg0.N) (h0 : ¬ t.val % 6 = 0) :
    (outsAt0 m c t.val t.isLt).1 = k0_pay2 (iblk m c 0 t) (outsAt0 m c (t.val - 1) (Nat.lt_of_le_of_lt (Nat.sub_le _ _) t.isLt)).2 := by
  rw [outsAt0_B m c t h0]
  unfold out0_B_2
  rw [View.read_writes_eq_canon _ _ _ (cover0_B_2 c _ _ _ _ _ _ _ _ _ _ _ _ _)]
  unfold kernelRun0_B
  dsimp only
  sl_unfold_words
  rw [View.canon_unit_zero hz2]
  simp only [View.readAt_eq_ld, (hs0_0 t).read_unread, (Memref.isWhole_whole cc0_scratch0).read_unread,
    View.ld_unit_zero (S := S1024x4096) hz2, View.ld_unit_zero (S := S4096x256) hz2]

/-- The scratch holds the weights of the point's column block. -/
theorem scratch_at (c : Dev nD) : ∀ (n : ℕ) (h : n < cfg0.N),
    (outsAt0 m c n h).2 = cols (weights (m ((c : Thread nD τ).loc main_arg1))) n := by
  intro n
  induction n with
  | zero => intro h; exact scratch_reset m c ⟨0, h⟩ rfl
  | succ n ih =>
    intro h
    by_cases h0 : (n + 1) % 6 = 0
    · exact scratch_reset m c ⟨n + 1, h⟩ h0
    · rw [outsAt0_B m c ⟨n + 1, h⟩ h0]
      refine (ih (Nat.lt_of_succ_lt h)).trans ?_
      unfold cols
      rw [show (n + 1) / 6 = n / 6 by omega]

theorem out_at (c : Dev nD) (t : Fin cfg0.N) :
    (outsAt0 m c t.val t.isLt).1 = k0_pay2 (iblk m c 0 t) (cols (weights (m ((c : Thread nD τ).loc main_arg1))) t.val) := by
  by_cases h0 : t.val % 6 = 0
  · exact out_reset m c t h0
  · rw [out_carry m c t h0, scratch_at]
    unfold cols
    rw [show (t.val - 1) / 6 = t.val / 6 by omega]

/-! ### The array -/

/-- The call's array. -/
def out (X : S6144x4096.Idx → EReal) (W : S1x2x4096x128.Idx → EReal) (i : S6144x256.Idx) : EReal :=
  prod X (weights W) 0 (i 0).val (i 1).val

theorem mem2 (t : Fin cfg0.N) (i : S6144x256.Idx) (h0 : (i 0).val / 1024 = t.val % 6) (h1 : (i 1).val / 256 = t.val / 6) :
    i ∈ ((cfg0.win 2).blk t).view.set := by
  show i ∈ ((View.whole main_v7).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(where2 t).1]; omega
  | ⟨1, _⟩ =>
    show win0_2.index t 1 * 256 ≤ (i 1).val ∧ (i 1).val < win0_2.index t 1 * 256 + 256
    rw [(where2 t).2]; omega

theorem arr (c : Dev nD) : (dats m 0 c).arrAt 2 cfg0.N = (fun i : S6144x256.Idx =>
    out (m ((c : Thread nD τ).loc main_arg0)) (m ((c : Thread nD τ).loc main_arg1)) i) := by
  refine (dats m 0 c).arrAt_eq_of_cover 2 _ (fun t _ => ?_) fun i => ?_
  · rw [Value.flushed2]
    funext y
    show (outsAt0 m c t.val t.isLt).1 y = out _ _ ((win0_2.rect t).emb y)
    rw [out_at]
    obtain ⟨r, j, rfl⟩ : ∃ (r : Fin 1024) (j : Fin 256), y = ix2 r j := ⟨y 0, y 1, (ix2_eta y).symm⟩
    refine (mul_at _ _ r j).trans ?_
    unfold out prod
    rw [(win0_2.rect_emb_val t (ix2 r j) 0).trans (by rw [(where2 t).1]; rfl : _ = t.val % 6 * 1024 + r.val),
      (win0_2.rect_emb_val t (ix2 r j) 1).trans (by rw [(where2 t).2]; rfl : _ = t.val / 6 * 256 + j.val)]
    exact Finset.sum_congr rfl fun k _ => congrArg₂ (· * ·) (in0 m c t (ix2 r k)) rfl
  · have h0 : (i 0).val < 6144 := (i 0).isLt
    have h1 : (i 1).val < 256 := (i 1).isLt
    exact ⟨⟨(i 1).val / 256 * 6 + (i 0).val / 1024, by show _ < 6; omega⟩, flush0_2 _,
      mem2 _ i (by show _ = ((i 1).val / 256 * 6 + (i 0).val / 1024) % 6; omega) (by show _ = ((i 1).val / 256 * 6 + (i 0).val / 1024) / 6; omega)⟩

/-! ### The reference -/

open Cert.Reference13Ideal.Read

theorem first_at (X : S6144x4096.Idx → EReal) (W : S1x2x4096x128.Idx → EReal) (r : Fin 6144) (e : Fin 128) :
    val_main_v2 (F := Ideal) X W (ix2 r e) = ∑ k : Fin 4096, rd X r.val k.val * rd4 W 0 0 k.val e.val := by
  rw [val_main_v2_apply]
  refine Finset.sum_congr rfl fun k _ => congrArg₂ (· * ·) (rd_of X _ rfl rfl) ?_
  rw [val_main_v1_apply, val_main_v0_apply]
  have hk : k.val < 4096 := k.isLt
  have he : e.val < 128 := e.isLt
  refine rd4_of W _ rfl rfl ?_ ?_
  · show (k.val * 128 + e.val) / 128 % 4096 = k.val
    omega
  · show (k.val * 128 + e.val) % 128 = e.val
    omega

theorem second_at (X : S6144x4096.Idx → EReal) (W : S1x2x4096x128.Idx → EReal) (r : Fin 6144) (e : Fin 128) :
    val_main_v5 (F := Ideal) X W (ix2 r e) = ∑ k : Fin 4096, rd X r.val k.val * rd4 W 0 1 k.val e.val := by
  rw [val_main_v5_apply]
  refine Finset.sum_congr rfl fun k _ => congrArg₂ (· * ·) (rd_of X _ rfl rfl) ?_
  rw [val_main_v4_apply, val_main_v3_apply]
  have hk : k.val < 4096 := k.isLt
  have he : e.val < 128 := e.isLt
  refine rd4_of W _ rfl rfl ?_ ?_
  · show (k.val * 128 + e.val) / 128 % 4096 = k.val
    omega
  · show (k.val * 128 + e.val) % 128 = e.val
    omega

theorem ref_eq (X : S6144x4096.Idx → EReal) (W : S1x2x4096x128.Idx → EReal) (i : S6144x256.Idx) :
    val_main_v7 (F := Ideal) X W i = out X W i := by
  have hc : (i 1).val < 256 := (i 1).isLt
  show val_main_v6 (F := Ideal) X W i = _
  unfold val_main_v6 out prod
  by_cases h : (i 1).val < 128
  · rw [concatenate_pair_apply_left (t := S6144x256) (s₁ := Cert.Reference13Ideal.S6144x128) (s₂ := Cert.Reference13Ideal.S6144x128) 1 _ _ _ _ rfl
      (ix2 (i 0) ⟨(i 1).val, h⟩) (fun b => match b with
        | ⟨0, _⟩ => rfl
        | ⟨1, _⟩ => rfl)]
    refine (first_at X W (i 0) ⟨(i 1).val, h⟩).trans ?_
    exact Finset.sum_congr rfl fun k _ => congrArg (_ * ·) (weights_left W k (i 1) h).symm
  · rw [concatenate_pair_apply_right (t := S6144x256) (s₁ := Cert.Reference13Ideal.S6144x128) (s₂ := Cert.Reference13Ideal.S6144x128) 1 _ _ _ _ rfl rfl
      (ix2 (i 0) ⟨(i 1).val - 128, by omega⟩) (fun b hb => match b with
        | ⟨0, _⟩ => rfl
        | ⟨1, _⟩ => absurd rfl hb) (by show (i 1).val - 128 + 128 = (i 1).val; omega)]
    refine (second_at X W (i 0) ⟨(i 1).val - 128, by omega⟩).trans ?_
    exact Finset.sum_congr rfl fun k _ => congrArg (_ * ·) (weights_right W k (i 1) h).symm

end Cert.Low13

end
-- ==== Proof.Low12.lean ====
/-
  The product that narrows the decay to its low rank, both directions side by side, and its tanh: what the call leaves in its array, and the reference.
-/
module

public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.ExpertsRef

@[expose] public section

noncomputable section

namespace Cert.Low12

open Idealize.ShloMosaic Idealize.ShloMosaic.TcCoe Idealize.SL Idealize.SL.Sem
open Idealize.ShloMosaic.Pipeline (Dat)
open Cert.Kernel12Ideal Cert.Kernel12Ideal.Gen Cert.Attn Cert.Mm
open Cert.Experts (rd4 rd4_of)

variable (m : (ℓ : Loc nD τ sig) → Buf (Elt Ideal) ℓ)

/-! ### The arrays the call is given -/

theorem V_v0 (c : Dev nD) : V m c main_v0 = (m ((c : Thread nD τ).loc main_arg0) : S6144x4096.Idx → EReal) := by
  suffices h : ∀ y, (m ((c : Thread nD τ).loc main_arg0) : S6144x4096.Idx → EReal) = y → V m c main_v0 = y from h _ rfl
  intro y hy
  unfold V
  after_results
  exact hy

theorem half0_at (W : S1x2x4096x128.Idx → EReal) (k : Fin 4096) (e : Fin 128) :
    shapeCast S4096x128 (extractStridedSlice S1x1x4096x128 ![0, 0, 0, 0] W slices_S1x2x4096x128_S1x1x4096x128_0_0_0_0)
      shapeCasts_S1x1x4096x128_S4096x128 (ix2 k e) = rd4 W 0 0 k.val e.val := by
  refine (shapeCast_apply _ _ _ (ix4 0 0 k e) ?_).trans ?_
  · rewrite [Shape.rowMajor_val_four, Shape.rowMajor_val_two]
    show ((0 * 1 + 0) * 4096 + k.val) * 128 + e.val = k.val * 128 + e.val
    omega
  refine (extractStridedSlice_apply _ _ _ _ (ix4 0 0 k e) fun a => ?_).trans (rd4_of _ _ rfl rfl rfl rfl)
  match a with
  | ⟨0, _⟩ => rfl
  | ⟨1, _⟩ => rfl
  | ⟨2, _⟩ => exact (Nat.zero_add _).symm
  | ⟨3, _⟩ => exact (Nat.zero_add _).symm

theorem half1_at (W : S1x2x4096x128.Idx → EReal) (k : Fin 4096) (e : Fin 128) :
    shapeCast S4096x128 (extractStridedSlice S1x1x4096x128 ![0, 1, 0, 0] W slices_S1x2x4096x128_S1x1x4096x128_0_1_0_0)
      shapeCasts_S1x1x4096x128_S4096x128 (ix2 k e) = rd4 W 0 1 k.val e.val := by
  refine (shapeCast_apply _ _ _ (ix4 0 0 k e) ?_).trans ?_
  · rewrite [Shape.rowMajor_val_four, Shape.rowMajor_val_two]
    show ((0 * 1 + 0) * 4096 + k.val) * 128 + e.val = k.val * 128 + e.val
    omega
  refine (extractStridedSlice_apply _ _ _ _ (ix4 0 1 k e) fun a => ?_).trans (rd4_of _ _ rfl rfl rfl rfl)
  match a with
  | ⟨0, _⟩ => rfl
  | ⟨1, _⟩ => rfl
  | ⟨2, _⟩ => exact (Nat.zero_add _).symm
  | ⟨3, _⟩ => exact (Nat.zero_add _).symm

/-- The weights of the two directions side by side. -/
def weights (W : S1x2x4096x128.Idx → EReal) : S1x4096x256.Idx → EReal :=
  broadcastInDim S1x4096x256 ![1, 2] bcast_S4096x256_S1x4096x256_1_2 (concatenate S4096x256 1
    [⟨S4096x128, shapeCast S4096x128 (extractStridedSlice S1x1x4096x128 ![0, 0, 0, 0] W slices_S1x2x4096x128_S1x1x4096x128_0_0_0_0) shapeCasts_S1x1x4096x128_S4096x128⟩,
     ⟨S4096x128, shapeCast S4096x128 (extractStridedSlice S1x1x4096x128 ![0, 1, 0, 0] W slices_S1x2x4096x128_S1x1x4096x128_0_1_0_0) shapeCasts_S1x1x4096x128_S4096x128⟩]
    concatenates_S4096x128_S4096x128_S4096x256_d1)

theorem weights_left (W : S1x2x4096x128.Idx → EReal) (k : Fin 4096) (c : Fin 256) (h : c.val < 128) :
    rd3 (weights W) 0 k.val c.val = rd4 W 0 0 k.val c.val := by
  refine (rd3_of (weights W) (ix3 0 k c) rfl rfl rfl).symm.trans ?_
  unfold weights
  rw [broadcastInDim_apply _ bcast_S4096x256_S1x4096x256_1_2 _ (ix3 0 k c) (ix2 k c) (fun a => match a with
    | ⟨0, _⟩ => by show k.val = if (4096 : Nat) = 1 then 0 else k.val; rw [if_neg (by decide)]
    | ⟨1, _⟩ => by show c.val = if (256 : Nat) = 1 then 0 else c.val; rw [if_neg (by decide)])]
  rw [concatenate_pair_apply_left (t := S4096x256) (s₁ := S4096x128) (s₂ := S4096x128) 1 _ _ _ _ rfl
    (ix2 k ⟨c.val, h⟩) (fun b => match b with
      | ⟨0, _⟩ => rfl
      | ⟨1, _⟩ => rfl)]
  exact half0_at W k ⟨c.val, h⟩

theorem weights_right (W : S1x2x4096x128.Idx → EReal) (k : Fin 4096) (c : Fin 256) (h : ¬ c.val < 128) :
    rd3 (weights W) 0 k.val c.val = rd4 W 0 1 k.val (c.val - 128) := by
  have hc := c.isLt
  refine (rd3_of (weights W) (ix3 0 k c) rfl rfl rfl).symm.trans ?_
  unfold weights
  rw [broadcastInDim_apply _ bcast_S4096x256_S1x4096x256_1_2 _ (ix3 0 k c) (ix2 k c) (fun a => match a with
    | ⟨0, _⟩ => by show k.val = if (4096 : Nat) = 1 then 0 else k.val; rw [if_neg (by decide)]
    | ⟨1, _⟩ => by show c.val = if (256 : Nat) = 1 then 0 else c.val; rw [if_neg (by decide)])]
  rw [concatenate_pair_apply_right (t := S4096x256) (s₁ := S4096x128) (s₂ := S4096x128) 1 _ _ _ _ rfl rfl
    (ix2 k ⟨c.val - 128, by omega⟩) (fun b hb => match b with
      | ⟨0, _⟩ => rfl
      | ⟨1, _⟩ => absurd rfl hb) (by show c.val - 128 + 128 = c.val; omega)]
  exact half1_at W k ⟨c.val - 128, by omega⟩

theorem V_v6 (c : Dev nD) : V m c main_v6 = weights (m ((c : Thread nD τ).loc main_arg1)) := by
  suffices h : ∀ y, weights (m ((c : Thread nD τ).loc main_arg1)) = y → V m c main_v6 = y from h _ rfl
  intro y hy
  unfold V
  after_results
  exact hy

/-! ### The payloads -/

theorem cast_at (x1 : Vec Ideal S1x4096x256 .f32) (k : Fin 4096) (j : Fin 256) :
    k0_pay1 x1 (ix2 k j) = rd3 x1 0 k.val j.val := by
  pointwise [k0_pay1]
  exact rd3_of _ _ rfl rfl rfl

theorem mul_at (a : Vec Ideal S1024x4096 .bf16) (w : Vec Ideal S4096x256 .bf16) (r : Fin 1024) (j : Fin 256) :
    k0_pay2 a w (ix2 r j) = Ideal.tanh (∑ k : Fin 4096, a (ix2 r k) * w (ix2 k j)) := by
  pointwise [k0_pay2]
  all_goals rfl

/-! ### Where the windows' blocks sit -/

theorem where0 : ∀ t : Fin cfg0.N, win0_0.index t 0 = t.val % 6 ∧ win0_0.index t 1 = 0 :=
  (by decide +kernel : ∀ t : Fin grid0.N, win0_0.index t 0 = t.val % 6 ∧ win0_0.index t 1 = 0)
theorem where1 : ∀ t : Fin cfg0.N, win0_1.index t 0 = 0 ∧ win0_1.index t 1 = 0 ∧ win0_1.index t 2 = t.val / 6 :=
  (by decide +kernel : ∀ t : Fin grid0.N, win0_1.index t 0 = 0 ∧ win0_1.index t 1 = 0 ∧ win0_1.index t 2 = t.val / 6)
theorem where2 : ∀ t : Fin cfg0.N, win0_2.index t 0 = t.val % 6 ∧ win0_2.index t 1 = t.val / 6 :=
  (by decide +kernel : ∀ t : Fin grid0.N, win0_2.index t 0 = t.val % 6 ∧ win0_2.index t 1 = t.val / 6)

theorem in0 (c : Dev nD) (t : Fin cfg0.N) (y : S1024x4096.Idx) :
    iblk m c 0 t y = rd (m ((c : Thread nD τ).loc main_arg0)) (t.val % 6 * 1024 + (y 0).val) (y 1).val := by
  show V m c main_v0 ((win0_0.rect t).emb y) = _
  rw [V_v0]
  exact rd_of _ _ ((win0_0.rect_emb_val t y 0).trans (by rw [(where0 t).1]; rfl))
    (win0_0.rect_emb_val_of_index_zero t 1 (where0 t).2 y)

theorem in1 (c : Dev nD) (t : Fin cfg0.N) (y : S1x4096x256.Idx) :
    iblk m c 1 t y = rd3 (weights (m ((c : Thread nD τ).loc main_arg1))) 0 (y 1).val (t.val / 6 * 256 + (y 2).val) := by
  show V m c main_v6 ((win0_1.rect t).emb y) = _
  rw [V_v6]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 0 * 1 + (y 0).val = 0
  omega

/-! ### The weights kept in the scratch, and the block written back -/

/-- The weights of the column block of point `n`. -/
def cols (W : S1x4096x256.Idx → EReal) (n : ℕ) : S4096x256.Idx → EReal := fun i => rd3 W 0 (i 0).val (n / 6 * 256 + (i 1).val)

theorem cast_eq (c : Dev nD) (t : Fin cfg0.N) :
    k0_pay1 (iblk m c 1 t) = cols (weights (m ((c : Thread nD τ).loc main_arg1))) t.val := by
  funext i
  obtain ⟨k, j, rfl⟩ : ∃ (k : Fin 4096) (j : Fin 256), i = ix2 k j := ⟨i 0, i 1, (ix2_eta i).symm⟩
  refine (cast_at _ k j).trans ?_
  refine (in1 m c t (ix3 _ _ _)).trans ?_
  show rd3 _ 0 (k.val % 4096) (_ + j.val % 256) = rd3 _ 0 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 6 = 0) :
    (outsAt0 m c t.val t.isLt).2 = cols (weights (m ((c : Thread nD τ).loc main_arg1))) t.val := by
  rw [outsAt0_A m c t h0, ← cast_eq]
  unfold sout0_A_0
  rw [View.read_writes_eq_canon _ _ _ (scover0_A_0 c _ _ _ _ _ _ _ _ _ _ _ _)]
  unfold kernelRun0_A
  dsimp only
  sl_unfold_words
  rw [View.canon_unit_zero hz2]
  simp only [View.readAt_eq_ld, (hs0_1 t).read_unread, View.ld_unit_zero (S := S1x4096x256) hz3]

theorem out_reset (c : Dev nD) (t : Fin cfg0.N) (h0 : t.val % 6 = 0) :
    (outsAt0 m c t.val t.isLt).1 = k0_pay2 (iblk m c 0 t) (cols (weights (m ((c : Thread nD τ).loc main_arg1))) t.val) := by
  rw [outsAt0_A m c t h0, ← cast_eq]
  unfold out0_A_2
  rw [View.read_writes_eq_canon _ _ _ (cover0_A_2 c _ _ _ _ _ _ _ _ _ _ _ _)]
  unfold kernelRun0_A
  dsimp only
  sl_unfold_words
  rw [View.canon_unit_zero hz2, View.readCov_unit_zero (S := S4096x256) _ hz2]
  simp only [View.readAt_eq_ld, (hs0_0 t).read_unread, (hs0_1 t).read_unread, View.ld_unit_zero (S := S1x4096x256) hz3,
    View.ld_unit_zero (S := S1024x4096) hz2]

theorem out_carry (c : Dev nD) (t : Fin cfg0.N) (h0 : ¬ t.val % 6 = 0) :
    (outsAt0 m c t.val t.isLt).1 = k0_pay2 (iblk m c 0 t) (outsAt0 m c (t.val - 1) (Nat.lt_of_le_of_lt (Nat.sub_le _ _) t.isLt)).2 := by
  rw [outsAt0_B m c t h0]
  unfold out0_B_2
  rw [View.read_writes_eq_canon _ _ _ (cover0_B_2 c _ _ _ _ _ _ _ _ _ _ _ _ _)]
  unfold kernelRun0_B
  dsimp only
  sl_unfold_words
  rw [View.canon_unit_zero hz2]
  simp only [View.readAt_eq_ld, (hs0_0 t).read_unread, (Memref.isWhole_whole cc0_scratch0).read_unread,
    View.ld_unit_zero (S := S1024x4096) hz2, View.ld_unit_zero (S := S4096x256) hz2]

/-- The scratch holds the weights of the point's column block. -/
theorem scratch_at (c : Dev nD) : ∀ (n : ℕ) (h : n < cfg0.N),
    (outsAt0 m c n h).2 = cols (weights (m ((c : Thread nD τ).loc main_arg1))) n := by
  intro n
  induction n with
  | zero => intro h; exact scratch_reset m c ⟨0, h⟩ rfl
  | succ n ih =>
    intro h
    by_cases h0 : (n + 1) % 6 = 0
    · exact scratch_reset m c ⟨n + 1, h⟩ h0
    · rw [outsAt0_B m c ⟨n + 1, h⟩ h0]
      refine (ih (Nat.lt_of_succ_lt h)).trans ?_
      unfold cols
      rw [show (n + 1) / 6 = n / 6 by omega]

theorem out_at (c : Dev nD) (t : Fin cfg0.N) :
    (outsAt0 m c t.val t.isLt).1 = k0_pay2 (iblk m c 0 t) (cols (weights (m ((c : Thread nD τ).loc main_arg1))) t.val) := by
  by_cases h0 : t.val % 6 = 0
  · exact out_reset m c t h0
  · rw [out_carry m c t h0, scratch_at]
    unfold cols
    rw [show (t.val - 1) / 6 = t.val / 6 by omega]

/-! ### The array -/

/-- The call's array. -/
def out (X : S6144x4096.Idx → EReal) (W : S1x2x4096x128.Idx → EReal) (i : S6144x256.Idx) : EReal :=
  Ideal.tanh (prod X (weights W) 0 (i 0).val (i 1).val)

theorem mem2 (t : Fin cfg0.N) (i : S6144x256.Idx) (h0 : (i 0).val / 1024 = t.val % 6) (h1 : (i 1).val / 256 = t.val / 6) :
    i ∈ ((cfg0.win 2).blk t).view.set := by
  show i ∈ ((View.whole main_v7).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(where2 t).1]; omega
  | ⟨1, _⟩ =>
    show win0_2.index t 1 * 256 ≤ (i 1).val ∧ (i 1).val < win0_2.index t 1 * 256 + 256
    rw [(where2 t).2]; omega

theorem arr (c : Dev nD) : (dats m 0 c).arrAt 2 cfg0.N = (fun i : S6144x256.Idx =>
    out (m ((c : Thread nD τ).loc main_arg0)) (m ((c : Thread nD τ).loc main_arg1)) i) := by
  refine (dats m 0 c).arrAt_eq_of_cover 2 _ (fun t _ => ?_) fun i => ?_
  · rw [Value.flushed2]
    funext y
    show (outsAt0 m c t.val t.isLt).1 y = out _ _ ((win0_2.rect t).emb y)
    rw [out_at]
    obtain ⟨r, j, rfl⟩ : ∃ (r : Fin 1024) (j : Fin 256), y = ix2 r j := ⟨y 0, y 1, (ix2_eta y).symm⟩
    refine (mul_at _ _ r j).trans ?_
    unfold out prod
    rw [(win0_2.rect_emb_val t (ix2 r j) 0).trans (by rw [(where2 t).1]; rfl : _ = t.val % 6 * 1024 + r.val),
      (win0_2.rect_emb_val t (ix2 r j) 1).trans (by rw [(where2 t).2]; rfl : _ = t.val / 6 * 256 + j.val)]
    exact congrArg Ideal.tanh (Finset.sum_congr rfl fun k _ => congrArg₂ (· * ·) (in0 m c t (ix2 r k)) rfl)
  · have h0 : (i 0).val < 6144 := (i 0).isLt
    have h1 : (i 1).val < 256 := (i 1).isLt
    exact ⟨⟨(i 1).val / 256 * 6 + (i 0).val / 1024, by show _ < 6; omega⟩, flush0_2 _,
      mem2 _ i (by show _ = ((i 1).val / 256 * 6 + (i 0).val / 1024) % 6; omega) (by show _ = ((i 1).val / 256 * 6 + (i 0).val / 1024) / 6; omega)⟩

/-! ### The reference -/

open Cert.Reference12Ideal.Read

theorem first_at (X : S6144x4096.Idx → EReal) (W : S1x2x4096x128.Idx → EReal) (r : Fin 6144) (e : Fin 128) :
    val_main_v2 (F := Ideal) X W (ix2 r e) = ∑ k : Fin 4096, rd X r.val k.val * rd4 W 0 0 k.val e.val := by
  rw [val_main_v2_apply]
  refine Finset.sum_congr rfl fun k _ => congrArg₂ (· * ·) (rd_of X _ rfl rfl) ?_
  rw [val_main_v1_apply, val_main_v0_apply]
  have hk : k.val < 4096 := k.isLt
  have he : e.val < 128 := e.isLt
  refine rd4_of W _ rfl rfl ?_ ?_
  · show (k.val * 128 + e.val) / 128 % 4096 = k.val
    omega
  · show (k.val * 128 + e.val) % 128 = e.val
    omega

theorem second_at (X : S6144x4096.Idx → EReal) (W : S1x2x4096x128.Idx → EReal) (r : Fin 6144) (e : Fin 128) :
    val_main_v6 (F := Ideal) X W (ix2 r e) = ∑ k : Fin 4096, rd X r.val k.val * rd4 W 0 1 k.val e.val := by
  rw [val_main_v6_apply]
  refine Finset.sum_congr rfl fun k _ => congrArg₂ (· * ·) (rd_of X _ rfl rfl) ?_
  rw [val_main_v5_apply, val_main_v4_apply]
  have hk : k.val < 4096 := k.isLt
  have he : e.val < 128 := e.isLt
  refine rd4_of W _ rfl rfl ?_ ?_
  · show (k.val * 128 + e.val) / 128 % 4096 = k.val
    omega
  · show (k.val * 128 + e.val) % 128 = e.val
    omega

theorem ref_eq (X : S6144x4096.Idx → EReal) (W : S1x2x4096x128.Idx → EReal) (i : S6144x256.Idx) :
    val_main_v9 (F := Ideal) X W i = out X W i := by
  have hc : (i 1).val < 256 := (i 1).isLt
  show val_main_v8 (F := Ideal) X W i = _
  unfold val_main_v8 out prod
  by_cases h : (i 1).val < 128
  · rw [concatenate_pair_apply_left (t := S6144x256) (s₁ := Cert.Reference12Ideal.S6144x128) (s₂ := Cert.Reference12Ideal.S6144x128) 1 _ _ _ _ rfl
      (ix2 (i 0) ⟨(i 1).val, h⟩) (fun b => match b with
        | ⟨0, _⟩ => rfl
        | ⟨1, _⟩ => rfl)]
    refine (congrArg Ideal.tanh (first_at X W (i 0) ⟨(i 1).val, h⟩)).trans ?_
    refine congrArg Ideal.tanh ?_
    exact Finset.sum_congr rfl fun k _ => congrArg (_ * ·) (weights_left W k (i 1) h).symm
  · rw [concatenate_pair_apply_right (t := S6144x256) (s₁ := Cert.Reference12Ideal.S6144x128) (s₂ := Cert.Reference12Ideal.S6144x128) 1 _ _ _ _ rfl rfl
      (ix2 (i 0) ⟨(i 1).val - 128, by omega⟩) (fun b hb => match b with
        | ⟨0, _⟩ => rfl
        | ⟨1, _⟩ => absurd rfl hb) (by show (i 1).val - 128 + 128 = (i 1).val; omega)]
    refine (congrArg Ideal.tanh (second_at X W (i 0) ⟨(i 1).val - 128, by omega⟩)).trans ?_
    refine congrArg Ideal.tanh ?_
    exact Finset.sum_congr rfl fun k _ => congrArg (_ * ·) (weights_right W k (i 1) h).symm

end Cert.Low12

end
-- ==== Proof.Low11.lean ====
/-
  The product that widens the decay from its low rank, with the added row: what the call leaves in its array, and the reference.
-/
module

public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.ExpertsRef

@[expose] public section

noncomputable section

namespace Cert.Low11

open Idealize.ShloMosaic Idealize.ShloMosaic.TcCoe Idealize.SL Idealize.SL.Sem
open Idealize.ShloMosaic.Pipeline (Dat)
open Cert.Kernel11Ideal Cert.Kernel11Ideal.Gen Cert.Attn Cert.Mm
open Cert.Experts (rd4 rd4_of)

variable (m : (ℓ : Loc nD τ sig) → Buf (Elt Ideal) ℓ)

/-! ### The arrays the call is given -/

theorem V_v0 (c : Dev nD) : V m c main_v0 = (m ((c : Thread nD τ).loc main_arg0) : S6144x128.Idx → EReal) := by
  suffices h : ∀ y, (m ((c : Thread nD τ).loc main_arg0) : S6144x128.Idx → EReal) = y → V m c main_v0 = y from h _ rfl
  intro y hy
  unfold V
  after_results
  exact hy

/-- The weights, the layer's axis dropped. -/
def weights (W : S1x2x128x4096.Idx → EReal) : S2x128x4096.Idx → EReal := shapeCast S2x128x4096 W shapeCasts_S1x2x128x4096_S2x128x4096

theorem weights_at (W : S1x2x128x4096.Idx → EReal) (k : Fin 128) (c : Fin 4096) :
    rd3 (weights W) 1 k.val c.val = rd4 W 0 1 k.val c.val := by
  refine (rd3_of (weights W) (ix3 1 k c) rfl rfl rfl).symm.trans ?_
  unfold weights
  refine (shapeCast_apply _ _ _ (ix4 0 1 k c) ?_).trans (rd4_of _ _ rfl rfl rfl rfl)
  rewrite [Shape.rowMajor_val_four, Shape.rowMajor_val_three]
  show ((0 * 2 + 1) * 128 + k.val) * 4096 + c.val = (1 * 128 + k.val) * 4096 + c.val
  omega

/-- The added row of the second direction. -/
def row (B : S1x2x4096.Idx → EReal) : S1x4096.Idx → EReal :=
  shapeCast S1x4096 (shapeCast S4096 (extractStridedSlice S1x1x4096 ![0, 1, 0] B slices_S1x2x4096_S1x1x4096_0_1_0) shapeCasts_S1x1x4096_S4096)
    shapeCasts_S4096_S1x4096

theorem row_at (B : S1x2x4096.Idx → EReal) (c : Fin 4096) : rd (row B) 0 c.val = rd3 B 0 1 c.val := by
  refine (rd_of (row B) (ix2 0 c) rfl rfl).symm.trans ?_
  unfold row
  refine (shapeCast_apply _ _ _ (ix1 c) ?_).trans ?_
  · rewrite [Shape.rowMajor_val_one, Shape.rowMajor_val_two]
    show c.val = 0 * 4096 + c.val
    omega
  refine (shapeCast_apply _ _ _ (ix3 0 0 c) ?_).trans ?_
  · rewrite [Shape.rowMajor_val_three, Shape.rowMajor_val_one]
    show (0 * 1 + 0) * 4096 + c.val = c.val
    omega
  refine (extractStridedSlice_apply _ _ _ _ (ix3 0 1 c) fun a => ?_).trans (rd3_of _ _ rfl rfl rfl)
  match a with
  | ⟨0, _⟩ => rfl
  | ⟨1, _⟩ => rfl
  | ⟨2, _⟩ => exact (Nat.zero_add _).symm

theorem V_v1 (c : Dev nD) : V m c main_v1 = weights (m ((c : Thread nD τ).loc main_arg1)) := by
  suffices h : ∀ y, weights (m ((c : Thread nD τ).loc main_arg1)) = y → V m c main_v1 = y from h _ rfl
  intro y hy
  unfold V
  after_results
  exact hy

theorem V_v4 (c : Dev nD) : V m c main_v4 = row (m ((c : Thread nD τ).loc main_arg2)) := by
  suffices h : ∀ y, row (m ((c : Thread nD τ).loc main_arg2)) = y → V m c main_v4 = y from h _ rfl
  intro y hy
  unfold V
  after_results
  exact hy

/-! ### The payloads -/

theorem cast_at (x1 : Vec Ideal S1x128x512 .f32) (k : Fin 128) (j : Fin 512) :
    k0_pay1 x1 (ix2 k j) = rd3 x1 0 k.val j.val := by
  pointwise [k0_pay1]
  exact rd3_of _ _ rfl rfl rfl

theorem mul_at (a : Vec Ideal S1024x128 .bf16) (w : Vec Ideal S128x512 .bf16) (b : Vec Ideal S1x512 .f32) (r : Fin 1024) (j : Fin 512) :
    k0_pay2 a w b (ix2 r j) = (∑ k : Fin 128, a (ix2 r k) * w (ix2 k j)) + rd b 0 j.val := by
  pointwise [k0_pay2]
  exact congrArg (_ + ·) (rd_of b _ rfl rfl)

/-! ### Where the windows' blocks sit -/

theorem where0 : ∀ t : Fin cfg0.N, win0_0.index t 0 = t.val % 6 ∧ win0_0.index t 1 = 0 :=
  (by decide +kernel : ∀ t : Fin grid0.N, win0_0.index t 0 = t.val % 6 ∧ win0_0.index t 1 = 0)
theorem where1 : ∀ t : Fin cfg0.N, win0_1.index t 0 = 1 ∧ win0_1.index t 1 = 0 ∧ win0_1.index t 2 = t.val / 6 :=
  (by decide +kernel : ∀ t : Fin grid0.N, win0_1.index t 0 = 1 ∧ win0_1.index t 1 = 0 ∧ win0_1.index t 2 = t.val / 6)
theorem where3 : ∀ t : Fin cfg0.N, win0_3.index t 0 = t.val % 6 ∧ win0_3.index t 1 = t.val / 6 :=
  (by decide +kernel : ∀ t : Fin grid0.N, win0_3.index t 0 = t.val % 6 ∧ win0_3.index t 1 = t.val / 6)
theorem where2 : ∀ t : Fin cfg0.N, win0_2.index t 0 = 0 ∧ win0_2.index t 1 = t.val / 6 :=
  (by decide +kernel : ∀ t : Fin grid0.N, win0_2.index t 0 = 0 ∧ win0_2.index t 1 = t.val / 6)

theorem in0 (c : Dev nD) (t : Fin cfg0.N) (y : S1024x128.Idx) :
    iblk m c 0 t y = rd (m ((c : Thread nD τ).loc main_arg0)) (t.val % 6 * 1024 + (y 0).val) (y 1).val := by
  show V m c main_v0 ((win0_0.rect t).emb y) = _
  rw [V_v0]
  exact rd_of _ _ ((win0_0.rect_emb_val t y 0).trans (by rw [(where0 t).1]; rfl))
    (win0_0.rect_emb_val_of_index_zero t 1 (where0 t).2 y)

theorem in1 (c : Dev nD) (t : Fin cfg0.N) (y : S1x128x512.Idx) :
    iblk m c 1 t y = rd3 (weights (m ((c : Thread nD τ).loc main_arg1))) 1 (y 1).val (t.val / 6 * 512 + (y 2).val) := by
  show V m c main_v1 ((win0_1.rect t).emb y) = _
  rw [V_v1]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 1 * 1 + (y 0).val = 1
  omega

theorem in2 (c : Dev nD) (t : Fin cfg0.N) (y : S1x512.Idx) :
    iblk m c 2 t y = rd (row (m ((c : Thread nD τ).loc main_arg2))) 0 (t.val / 6 * 512 + (y 1).val) := by
  show V m c main_v4 ((win0_2.rect t).emb y) = _
  rw [V_v4]
  refine rd_of _ _ ?_ ((win0_2.rect_emb_val t y 1).trans (by rw [(where2 t).2]; rfl))
  refine (win0_2.rect_emb_val t y 0).trans ?_
  rw [(where2 t).1]
  have : (y 0).val < 1 := (y 0).isLt
  show 0 * 1 + (y 0).val = 0
  omega

/-! ### The weights kept in the scratch, and the block written back -/

/-- The weights of the column block of point `n`. -/
def cols (W : S2x128x4096.Idx → EReal) (n : ℕ) : S128x512.Idx → EReal := fun i => rd3 W 1 (i 0).val (n / 6 * 512 + (i 1).val)

theorem cast_eq (c : Dev nD) (t : Fin cfg0.N) :
    k0_pay1 (iblk m c 1 t) = cols (weights (m ((c : Thread nD τ).loc main_arg1))) t.val := by
  funext i
  obtain ⟨k, j, rfl⟩ : ∃ (k : Fin 128) (j : Fin 512), i = ix2 k j := ⟨i 0, i 1, (ix2_eta i).symm⟩
  refine (cast_at _ k j).trans ?_
  refine (in1 m c t (ix3 _ _ _)).trans ?_
  show rd3 _ 1 (k.val % 128) (_ + j.val % 512) = rd3 _ 1 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 6 = 0) :
    (outsAt0 m c t.val t.isLt).2 = cols (weights (m ((c : Thread nD τ).loc main_arg1))) t.val := by
  rw [outsAt0_A m c t h0, ← cast_eq]
  unfold sout0_A_0
  rw [View.read_writes_eq_canon _ _ _ (scover0_A_0 c _ _ _ _ _ _ _ _ _ _ _ _ _ _ _)]
  unfold kernelRun0_A
  dsimp only
  sl_unfold_words
  rw [View.canon_unit_zero hz2]
  simp only [View.readAt_eq_ld, (hs0_1 t).read_unread, View.ld_unit_zero (S := S1x128x512) hz3]

theorem out_reset (c : Dev nD) (t : Fin cfg0.N) (h0 : t.val % 6 = 0) :
    (outsAt0 m c t.val t.isLt).1 = k0_pay2 (iblk m c 0 t) (cols (weights (m ((c : Thread nD τ).loc main_arg1))) t.val) (iblk m c 2 t) := by
  rw [outsAt0_A m c t h0, ← cast_eq]
  unfold out0_A_3
  rw [View.read_writes_eq_canon _ _ _ (cover0_A_3 c _ _ _ _ _ _ _ _ _ _ _ _ _ _ _)]
  unfold kernelRun0_A
  dsimp only
  sl_unfold_words
  rw [View.canon_unit_zero hz2, View.readCov_unit_zero (S := S128x512) _ hz2]
  simp only [View.readAt_eq_ld, (hs0_0 t).read_unread, (hs0_1 t).read_unread, (hs0_2 t).read_unread, View.ld_unit_zero (S := S1x128x512) hz3,
    View.ld_unit_zero (S := S1024x128) hz2,
    View.ld_unit_zero (S := S1x512) hz2]

theorem out_carry (c : Dev nD) (t : Fin cfg0.N) (h0 : ¬ t.val % 6 = 0) :
    (outsAt0 m c t.val t.isLt).1 = k0_pay2 (iblk m c 0 t) (outsAt0 m c (t.val - 1) (Nat.lt_of_le_of_lt (Nat.sub_le _ _) t.isLt)).2 (iblk m c 2 t) := by
  rw [outsAt0_B m c t h0]
  unfold out0_B_3
  rw [View.read_writes_eq_canon _ _ _ (cover0_B_3 c _ _ _ _ _ _ _ _ _ _ _ _ _ _ _ _)]
  unfold kernelRun0_B
  dsimp only
  sl_unfold_words
  rw [View.canon_unit_zero hz2]
  simp only [View.readAt_eq_ld, (hs0_0 t).read_unread, (hs0_2 t).read_unread, (Memref.isWhole_whole cc0_scratch0).read_unread,
    View.ld_unit_zero (S := S1024x128) hz2, View.ld_unit_zero (S := S128x512) hz2,
    View.ld_unit_zero (S := S1x512) hz2]

/-- The scratch holds the weights of the point's column block. -/
theorem scratch_at (c : Dev nD) : ∀ (n : ℕ) (h : n < cfg0.N),
    (outsAt0 m c n h).2 = cols (weights (m ((c : Thread nD τ).loc main_arg1))) n := by
  intro n
  induction n with
  | zero => intro h; exact scratch_reset m c ⟨0, h⟩ rfl
  | succ n ih =>
    intro h
    by_cases h0 : (n + 1) % 6 = 0
    · exact scratch_reset m c ⟨n + 1, h⟩ h0
    · rw [outsAt0_B m c ⟨n + 1, h⟩ h0]
      refine (ih (Nat.lt_of_succ_lt h)).trans ?_
      unfold cols
      rw [show (n + 1) / 6 = n / 6 by omega]

theorem out_at (c : Dev nD) (t : Fin cfg0.N) :
    (outsAt0 m c t.val t.isLt).1 = k0_pay2 (iblk m c 0 t) (cols (weights (m ((c : Thread nD τ).loc main_arg1))) t.val) (iblk m c 2 t) := by
  by_cases h0 : t.val % 6 = 0
  · exact out_reset m c t h0
  · rw [out_carry m c t h0, scratch_at]
    unfold cols
    rw [show (t.val - 1) / 6 = t.val / 6 by omega]

/-! ### The array -/

/-- The product and the added row. -/
def out (X : S6144x128.Idx → EReal) (W : S1x2x128x4096.Idx → EReal) (B : S1x2x4096.Idx → EReal) (i : S6144x4096.Idx) : EReal :=
  prod X (weights W) 1 (i 0).val (i 1).val + rd (row B) 0 (i 1).val

theorem mem3 (t : Fin cfg0.N) (i : S6144x4096.Idx) (h0 : (i 0).val / 1024 = t.val % 6) (h1 : (i 1).val / 512 = t.val / 6) :
    i ∈ ((cfg0.win 3).blk t).view.set := by
  show i ∈ ((View.whole main_v5).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(where3 t).1]; omega
  | ⟨1, _⟩ =>
    show win0_3.index t 1 * 512 ≤ (i 1).val ∧ (i 1).val < win0_3.index t 1 * 512 + 512
    rw [(where3 t).2]; omega

theorem arr (c : Dev nD) : (dats m 0 c).arrAt 3 cfg0.N = (fun i : S6144x4096.Idx =>
    out (m ((c : Thread nD τ).loc main_arg0)) (m ((c : Thread nD τ).loc main_arg1)) (m ((c : Thread nD τ).loc main_arg2)) i) := by
  refine (dats m 0 c).arrAt_eq_of_cover 3 _ (fun t _ => ?_) fun i => ?_
  · rw [Value.flushed3]
    funext y
    show (outsAt0 m c t.val t.isLt).1 y = out _ _ _ ((win0_3.rect t).emb y)
    rw [out_at]
    obtain ⟨r, j, rfl⟩ : ∃ (r : Fin 1024) (j : Fin 512), y = ix2 r j := ⟨y 0, y 1, (ix2_eta y).symm⟩
    refine (mul_at _ _ _ r j).trans ?_
    unfold out prod
    rw [(win0_3.rect_emb_val t (ix2 r j) 0).trans (by rw [(where3 t).1]; rfl : _ = t.val % 6 * 1024 + r.val),
      (win0_3.rect_emb_val t (ix2 r j) 1).trans (by rw [(where3 t).2]; rfl : _ = t.val / 6 * 512 + j.val)]
    refine congrArg₂ (· + ·) (Finset.sum_congr rfl fun k _ => congrArg₂ (· * ·) (in0 m c t (ix2 r k)) rfl) ?_
    refine (congrFun (rfl : rd (iblk m c 2 t : S1x512.Idx → EReal) 0 = rd (iblk m c 2 t : S1x512.Idx → EReal) 0) j.val).trans ?_
    exact (rd_of (iblk m c 2 t : S1x512.Idx → EReal) (ix2 0 j) rfl rfl).symm.trans (in2 m c t (ix2 0 j))
  · have h0 : (i 0).val < 6144 := (i 0).isLt
    have h1 : (i 1).val < 4096 := (i 1).isLt
    exact ⟨⟨(i 1).val / 512 * 6 + (i 0).val / 1024, by show _ < 48; omega⟩, flush0_3 _,
      mem3 _ i (by show _ = ((i 1).val / 512 * 6 + (i 0).val / 1024) % 6; omega) (by show _ = ((i 1).val / 512 * 6 + (i 0).val / 1024) / 6; omega)⟩

/-! ### The reference -/

open Cert.Reference11Ideal.Read in
theorem ref_eq (X : S6144x128.Idx → EReal) (W : S1x2x128x4096.Idx → EReal) (B : S1x2x4096.Idx → EReal) (i : S6144x4096.Idx) :
    val_main_v7 (F := Ideal) X W B i = out X W B i := by
  rw [val_main_v7_apply, val_main_v6_apply, val_main_v5_apply, val_main_v1_apply, val_main_v0_apply, val_main_v4_apply]
  have hc : (i 1).val < 4096 := (i 1).isLt
  refine (add_comm (_ : EReal) _).trans ?_
  unfold out prod
  refine congrArg₂ (· + ·) (Finset.sum_congr rfl fun k _ => congrArg₂ (· * ·) (rd_of X (lidx_main_v4 i k) rfl rfl) ?_) ?_
  · rw [val_main_v3_apply, val_main_v2_apply]
    have hk : k.val < 128 := k.isLt
    refine (rd4_of W _ (a := 0) (b := 1) (r := k.val) (c := (i 1).val) rfl rfl ?_ ?_).trans (weights_at W k (i 1)).symm
    · show (k.val * 4096 + (i 1).val) / 4096 % 128 = k.val
      omega
    · show (k.val * 4096 + (i 1).val) % 4096 = (i 1).val
      omega
  · refine (rd3_of B _ (a := 0) (r := 1) (c := (i 1).val) rfl rfl ?_).trans (row_at B (i 1)).symm
    show (i 1).val % 4096 = (i 1).val
    omega

end Cert.Low11

end
-- ==== Proof.Low10.lean ====
/-
  The product that widens the gate from its low rank: what the call leaves in its array, and the reference.
-/
module

public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.ExpertsRef
public import Idealize.ShloMosaic.Lib.KernelVsHost

@[expose] public section

noncomputable section

namespace Cert.Low10

open Idealize.ShloMosaic Idealize.ShloMosaic.TcCoe Idealize.SL Idealize.SL.Sem
open Idealize.ShloMosaic.Pipeline (Dat)
open Cert.Kernel10Ideal Cert.Kernel10Ideal.Gen Cert.Attn Cert.Mm
open Cert.Experts (rd4 rd4_of)

variable (m : (ℓ : Loc nD τ sig) → Buf (Elt Ideal) ℓ)

/-! ### The arrays the call is given -/

theorem V_v2 (c : Dev nD) : V m c main_v2 = (m ((c : Thread nD τ).loc main_arg0) : S6144x512.Idx → EReal) := by
  suffices h : ∀ y, (m ((c : Thread nD τ).loc main_arg0) : S6144x512.Idx → EReal) = y → V m c main_v2 = y from h _ rfl
  intro y hy
  unfold V
  simp only [List.flatten_cons, List.flatten_nil, List.append_nil, List.cons_append, List.nil_append]
  after_results
  exact hy

/-- The weights, each direction's 480 rows followed by 32 rows of zeros. -/
def weights (W : S1x2x480x4096.Idx → EReal) : S2x512x4096.Idx → EReal :=
  pad S2x512x4096 ![0, 0, 0] ![0, 32, 0] ![0, 0, 0] (shapeCast S2x480x4096 W shapeCasts_S1x2x480x4096_S2x480x4096)
    (sitofp (F := Ideal) .f32 (constantI S_ 32 0#32)) pads_S2x480x4096_S2x512x4096_000_0320_000 h_S_

theorem weights_in (W : S1x2x480x4096.Idx → EReal) (k : Fin 480) (c : Fin 4096) :
    rd3 (weights W) 1 k.val c.val = rd4 W 0 1 k.val c.val := by
  have hk := k.isLt
  refine (rd3_of (weights W) (ix3 1 (⟨k.val, by omega⟩ : Fin 512) c) rfl rfl rfl).symm.trans ?_
  unfold weights
  refine (pad_apply_of_inside _ _ _ _ _ _ _ _ (ix3 1 k c) fun a => ?_).trans ?_
  · match a with
    | ⟨0, _⟩ => rfl
    | ⟨1, _⟩ => show k.val = 0 + k.val * (0 + 1); omega
    | ⟨2, _⟩ => show c.val = 0 + c.val * (0 + 1); omega
  refine (shapeCast_apply _ _ _ (ix4 0 1 k c) ?_).trans (rd4_of _ _ rfl rfl rfl rfl)
  rewrite [Shape.rowMajor_val_four, Shape.rowMajor_val_three]
  show ((0 * 2 + 1) * 480 + k.val) * 4096 + c.val = (1 * 480 + k.val) * 4096 + c.val
  omega

theorem weights_out (W : S1x2x480x4096.Idx → EReal) (k : Fin 512) (h : 480 ≤ k.val) (c : Fin 4096) :
    rd3 (weights W) 1 k.val c.val = 0 := by
  refine (rd3_of (weights W) (ix3 1 k c) rfl rfl rfl).symm.trans ?_
  unfold weights
  refine (pad_apply_of_not_inside _ _ _ _ _ _ _ _ 1 fun hin => ?_).trans ?_
  · have : (k.val - 0) / (0 + 1) < 480 := hin.2.2
    omega
  show (((0#32 : BitVec 32).toInt : ℝ) : EReal) = 0
  simp

theorem V_v1 (c : Dev nD) : V m c main_v1 = weights (m ((c : Thread nD τ).loc main_arg1)) := by
  suffices h : ∀ y, weights (m ((c : Thread nD τ).loc main_arg1)) = y → V m c main_v1 = y from h _ rfl
  intro y hy
  unfold V
  simp only [List.flatten_cons, List.flatten_nil, List.append_nil, List.cons_append, List.nil_append]
  after_results
  exact hy

/-! ### The payloads -/

theorem cast_at (x1 : Vec Ideal S1x512x512 .f32) (k : Fin 512) (j : Fin 512) :
    k0_pay1 x1 (ix2 k j) = rd3 x1 0 k.val j.val := by
  pointwise [k0_pay1]
  exact rd3_of _ _ rfl rfl rfl

theorem mul_at (a : Vec Ideal S1024x512 .bf16) (w : Vec Ideal S512x512 .bf16) (r : Fin 1024) (j : Fin 512) :
    k0_pay2 a w (ix2 r j) = ∑ k : Fin 512, a (ix2 r k) * w (ix2 k j) := by
  pointwise [k0_pay2]

/-! ### Where the windows' blocks sit -/

theorem where0 : ∀ t : Fin cfg0.N, win0_0.index t 0 = t.val % 6 ∧ win0_0.index t 1 = 0 :=
  (by decide +kernel : ∀ t : Fin grid0.N, win0_0.index t 0 = t.val % 6 ∧ win0_0.index t 1 = 0)
theorem where1 : ∀ t : Fin cfg0.N, win0_1.index t 0 = 1 ∧ win0_1.index t 1 = 0 ∧ win0_1.index t 2 = t.val / 6 :=
  (by decide +kernel : ∀ t : Fin grid0.N, win0_1.index t 0 = 1 ∧ win0_1.index t 1 = 0 ∧ win0_1.index t 2 = t.val / 6)
theorem where2 : ∀ t : Fin cfg0.N, win0_2.index t 0 = t.val % 6 ∧ win0_2.index t 1 = t.val / 6 :=
  (by decide +kernel : ∀ t : Fin grid0.N, win0_2.index t 0 = t.val % 6 ∧ win0_2.index t 1 = t.val / 6)

theorem in0 (c : Dev nD) (t : Fin cfg0.N) (y : S1024x512.Idx) :
    iblk m c 0 t y = rd (m ((c : Thread nD τ).loc main_arg0)) (t.val % 6 * 1024 + (y 0).val) (y 1).val := by
  show V m c main_v2 ((win0_0.rect t).emb y) = _
  rw [V_v2]
  exact rd_of _ _ ((win0_0.rect_emb_val t y 0).trans (by rw [(where0 t).1]; rfl))
    (win0_0.rect_emb_val_of_index_zero t 1 (where0 t).2 y)

theorem in1 (c : Dev nD) (t : Fin cfg0.N) (y : S1x512x512.Idx) :
    iblk m c 1 t y = rd3 (weights (m ((c : Thread nD τ).loc main_arg1))) 1 (y 1).val (t.val / 6 * 512 + (y 2).val) := by
  show V m c main_v1 ((win0_1.rect t).emb y) = _
  rw [V_v1]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 1 * 1 + (y 0).val = 1
  omega

/-! ### The weights kept in the scratch, and the block written back -/

/-- The weights of the column block of point `n`. -/
def cols (W : S2x512x4096.Idx → EReal) (n : ℕ) : S512x512.Idx → EReal := fun i => rd3 W 1 (i 0).val (n / 6 * 512 + (i 1).val)

theorem cast_eq (c : Dev nD) (t : Fin cfg0.N) :
    k0_pay1 (iblk m c 1 t) = cols (weights (m ((c : Thread nD τ).loc main_arg1))) t.val := by
  funext i
  obtain ⟨k, j, rfl⟩ : ∃ (k : Fin 512) (j : Fin 512), i = ix2 k j := ⟨i 0, i 1, (ix2_eta i).symm⟩
  refine (cast_at _ k j).trans ?_
  refine (in1 m c t (ix3 _ _ _)).trans ?_
  show rd3 _ 1 (k.val % 512) (_ + j.val % 512) = rd3 _ 1 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 6 = 0) :
    (outsAt0 m c t.val t.isLt).2 = cols (weights (m ((c : Thread nD τ).loc main_arg1))) t.val := by
  rw [outsAt0_A m c t h0, ← cast_eq]
  unfold sout0_A_0
  rw [View.read_writes_eq_canon _ _ _ (scover0_A_0 c _ _ _ _ _ _ _ _ _ _ _ _)]
  unfold kernelRun0_A
  dsimp only
  sl_unfold_words
  rw [View.canon_unit_zero hz2]
  simp only [View.readAt_eq_ld, (hs0_1 t).read_unread, View.ld_unit_zero (S := S1x512x512) hz3]

theorem out_reset (c : Dev nD) (t : Fin cfg0.N) (h0 : t.val % 6 = 0) :
    (outsAt0 m c t.val t.isLt).1 = k0_pay2 (iblk m c 0 t) (cols (weights (m ((c : Thread nD τ).loc main_arg1))) t.val) := by
  rw [outsAt0_A m c t h0, ← cast_eq]
  unfold out0_A_2
  rw [View.read_writes_eq_canon _ _ _ (cover0_A_2 c _ _ _ _ _ _ _ _ _ _ _ _)]
  unfold kernelRun0_A
  dsimp only
  sl_unfold_words
  rw [View.canon_unit_zero hz2, View.readCov_unit_zero (S := S512x512) _ hz2]
  simp only [View.readAt_eq_ld, (hs0_0 t).read_unread, (hs0_1 t).read_unread, View.ld_unit_zero (S := S1x512x512) hz3,
    View.ld_unit_zero (S := S1024x512) hz2]

theorem out_carry (c : Dev nD) (t : Fin cfg0.N) (h0 : ¬ t.val % 6 = 0) :
    (outsAt0 m c t.val t.isLt).1 = k0_pay2 (iblk m c 0 t) (outsAt0 m c (t.val - 1) (Nat.lt_of_le_of_lt (Nat.sub_le _ _) t.isLt)).2 := by
  rw [outsAt0_B m c t h0]
  unfold out0_B_2
  rw [View.read_writes_eq_canon _ _ _ (cover0_B_2 c _ _ _ _ _ _ _ _ _ _ _ _ _)]
  unfold kernelRun0_B
  dsimp only
  sl_unfold_words
  rw [View.canon_unit_zero hz2]
  simp only [View.readAt_eq_ld, (hs0_0 t).read_unread, (Memref.isWhole_whole cc0_scratch0).read_unread,
    View.ld_unit_zero (S := S1024x512) hz2, View.ld_unit_zero (S := S512x512) hz2]

/-- The scratch holds the weights of the point's column block. -/
theorem scratch_at (c : Dev nD) : ∀ (n : ℕ) (h : n < cfg0.N),
    (outsAt0 m c n h).2 = cols (weights (m ((c : Thread nD τ).loc main_arg1))) n := by
  intro n
  induction n with
  | zero => intro h; exact scratch_reset m c ⟨0, h⟩ rfl
  | succ n ih =>
    intro h
    by_cases h0 : (n + 1) % 6 = 0
    · exact scratch_reset m c ⟨n + 1, h⟩ h0
    · rw [outsAt0_B m c ⟨n + 1, h⟩ h0]
      refine (ih (Nat.lt_of_succ_lt h)).trans ?_
      unfold cols
      rw [show (n + 1) / 6 = n / 6 by omega]

theorem out_at (c : Dev nD) (t : Fin cfg0.N) :
    (outsAt0 m c t.val t.isLt).1 = k0_pay2 (iblk m c 0 t) (cols (weights (m ((c : Thread nD τ).loc main_arg1))) t.val) := by
  by_cases h0 : t.val % 6 = 0
  · exact out_reset m c t h0
  · rw [out_carry m c t h0, scratch_at]
    unfold cols
    rw [show (t.val - 1) / 6 = t.val / 6 by omega]

/-! ### The array -/

/-- The call's array. -/
def out (X : S6144x512.Idx → EReal) (W : S1x2x480x4096.Idx → EReal) (i : S6144x4096.Idx) : EReal :=
  prod X (weights W) 1 (i 0).val (i 1).val

theorem mem2 (t : Fin cfg0.N) (i : S6144x4096.Idx) (h0 : (i 0).val / 1024 = t.val % 6) (h1 : (i 1).val / 512 = t.val / 6) :
    i ∈ ((cfg0.win 2).blk t).view.set := by
  show i ∈ ((View.whole main_v3).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(where2 t).1]; omega
  | ⟨1, _⟩ =>
    show win0_2.index t 1 * 512 ≤ (i 1).val ∧ (i 1).val < win0_2.index t 1 * 512 + 512
    rw [(where2 t).2]; omega

theorem arr (c : Dev nD) : (dats m 0 c).arrAt 2 cfg0.N = (fun i : S6144x4096.Idx =>
    out (m ((c : Thread nD τ).loc main_arg0)) (m ((c : Thread nD τ).loc main_arg1)) i) := by
  refine (dats m 0 c).arrAt_eq_of_cover 2 _ (fun t _ => ?_) fun i => ?_
  · rw [Value.flushed2]
    funext y
    show (outsAt0 m c t.val t.isLt).1 y = out _ _ ((win0_2.rect t).emb y)
    rw [out_at]
    obtain ⟨r, j, rfl⟩ : ∃ (r : Fin 1024) (j : Fin 512), y = ix2 r j := ⟨y 0, y 1, (ix2_eta y).symm⟩
    refine (mul_at _ _ r j).trans ?_
    unfold out prod
    rw [(win0_2.rect_emb_val t (ix2 r j) 0).trans (by rw [(where2 t).1]; rfl : _ = t.val % 6 * 1024 + r.val),
      (win0_2.rect_emb_val t (ix2 r j) 1).trans (by rw [(where2 t).2]; rfl : _ = t.val / 6 * 512 + j.val)]
    exact Finset.sum_congr rfl fun k _ => congrArg₂ (· * ·) (in0 m c t (ix2 r k)) rfl
  · have h0 : (i 0).val < 6144 := (i 0).isLt
    have h1 : (i 1).val < 4096 := (i 1).isLt
    exact ⟨⟨(i 1).val / 512 * 6 + (i 0).val / 1024, by show _ < 48; omega⟩, flush0_2 _,
      mem2 _ i (by show _ = ((i 1).val / 512 * 6 + (i 0).val / 1024) % 6; omega) (by show _ = ((i 1).val / 512 * 6 + (i 0).val / 1024) / 6; omega)⟩

/-! ### The reference -/

open Cert.Reference10Ideal.Read in
theorem ref_eq (X : S6144x512.Idx → EReal) (W : S1x2x480x4096.Idx → EReal) (i : S6144x4096.Idx) :
    val_main_v3 (F := Ideal) X W i = out X W i := by
  rw [val_main_v3_apply]
  have hc : (i 1).val < 4096 := (i 1).isLt
  unfold out prod
  refine Eq.symm ((Fin.sum_univ_add (a := 480) (b := 32) (fun k : Fin (480 + 32) =>
    rd X (i 0).val k.val * rd3 (weights W) 1 k.val (i 1).val)).trans ?_)
  rw [Finset.sum_eq_zero (s := (Finset.univ : Finset (Fin 32))) (fun k _ => by
    rw [weights_out W (Fin.natAdd 480 k) (by show 480 ≤ 480 + k.val; omega) (i 1), mul_zero]), add_zero]
  refine Finset.sum_congr rfl fun k _ => ?_
  have hk : k.val < 480 := k.isLt
  rw [val_main_v0_apply, val_main_v2_apply, val_main_v1_apply]
  refine congrArg₂ (· * ·) (rd_of X (idx_main_v0 (lidx_main_v3 i k)) (r := (i 0).val) (c := k.val) ?_ ?_).symm ((weights_in W k (i 1)).trans
    (rd4_of W (idx_main_v1 (idx_main_v2 (ridx_main_v3 i k))) (a := 0) (b := 1) (r := k.val) (c := (i 1).val) rfl rfl ?_ ?_).symm)
  · rfl
  · rfl
  · show (k.val * 4096 + (i 1).val) / 4096 % 480 = k.val
    omega
  · show (k.val * 4096 + (i 1).val) % 4096 = (i 1).val
    omega

end Cert.Low10

end
-- ==== Proof.Low9.lean ====
/-
  The product that narrows the gate to its low rank, both directions side by side, and its sigmoid: what the call leaves in its array, and the reference.
-/
module

public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.ExpertsRef
public import Idealize.ShloMosaic.Lib.KernelVsHost

@[expose] public section

noncomputable section

namespace Cert.Low9

open Idealize.ShloMosaic Idealize.ShloMosaic.TcCoe Idealize.SL Idealize.SL.Sem
open Idealize.ShloMosaic.Pipeline (Dat)
open Cert.Kernel9Ideal Cert.Kernel9Ideal.Gen Cert.Attn Cert.Mm
open Cert.Experts (rd4 rd4_of)

variable (m : (ℓ : Loc nD τ sig) → Buf (Elt Ideal) ℓ)

/-! ### The arrays the call is given -/

theorem V_v2 (c : Dev nD) : V m c main_v2 = (m ((c : Thread nD τ).loc main_arg0) : S6144x4096.Idx → EReal) := by
  suffices h : ∀ y, (m ((c : Thread nD τ).loc main_arg0) : S6144x4096.Idx → EReal) = y → V m c main_v2 = y from h _ rfl
  intro y hy
  unfold V
  simp only [List.flatten_cons, List.flatten_nil, List.append_nil, List.cons_append, List.nil_append]
  after_results
  exact hy

/-- The weights, each direction's 480 columns followed by 32 columns of zeros. -/
def padded (W : S1x2x4096x480.Idx → EReal) : S2x4096x512.Idx → EReal :=
  pad S2x4096x512 ![0, 0, 0] ![0, 0, 32] ![0, 0, 0] (shapeCast S2x4096x480 W shapeCasts_S1x2x4096x480_S2x4096x480)
    (sitofp (F := Ideal) .f32 (constantI S_ 32 0#32)) pads_S2x4096x480_S2x4096x512_000_000_0320 h_S_

theorem padded_in (W : S1x2x4096x480.Idx → EReal) (d : Fin 2) (k : Fin 4096) (e : Fin 512) (h : e.val < 480) :
    padded W (ix3 d k e) = rd4 W 0 d.val k.val e.val := by
  unfold padded
  refine (pad_apply_of_inside _ _ _ _ _ _ _ _ (ix3 d k (⟨e.val, h⟩ : Fin 480)) fun a => ?_).trans ?_
  · match a with
    | ⟨0, _⟩ => show d.val = 0 + d.val * (0 + 1); omega
    | ⟨1, _⟩ => show k.val = 0 + k.val * (0 + 1); omega
    | ⟨2, _⟩ => show e.val = 0 + e.val * (0 + 1); omega
  refine (shapeCast_apply _ _ _ (ix4 0 d k (⟨e.val, h⟩ : Fin 480)) ?_).trans (rd4_of _ _ rfl rfl rfl rfl)
  rewrite [Shape.rowMajor_val_four, Shape.rowMajor_val_three]
  show ((0 * 2 + d.val) * 4096 + k.val) * 480 + e.val = (d.val * 4096 + k.val) * 480 + e.val
  omega

theorem padded_out (W : S1x2x4096x480.Idx → EReal) (d : Fin 2) (k : Fin 4096) (e : Fin 512) (h : ¬ e.val < 480) :
    padded W (ix3 d k e) = 0 := by
  unfold padded
  refine (pad_apply_of_not_inside _ _ _ _ _ _ _ _ 2 fun hin => ?_).trans ?_
  · have : (e.val - 0) / (0 + 1) < 480 := hin.2.2
    omega
  show (((0#32 : BitVec 32).toInt : ℝ) : EReal) = 0
  simp

theorem half0_at (P : S2x4096x512.Idx → EReal) (k : Fin 4096) (e : Fin 512) :
    shapeCast S4096x512 (extractStridedSlice S1x4096x512 ![0, 0, 0] P slices_S2x4096x512_S1x4096x512_0_0_0)
      shapeCasts_S1x4096x512_S4096x512 (ix2 k e) = P (ix3 0 k e) := by
  refine (shapeCast_apply _ _ _ (ix3 0 k e) ?_).trans ?_
  · rewrite [Shape.rowMajor_val_three, Shape.rowMajor_val_two]
    show (0 * 4096 + k.val) * 512 + e.val = k.val * 512 + e.val
    omega
  refine extractStridedSlice_apply _ _ _ _ (ix3 0 k e) fun a => ?_
  match a with
  | ⟨0, _⟩ => rfl
  | ⟨1, _⟩ => exact (Nat.zero_add _).symm
  | ⟨2, _⟩ => exact (Nat.zero_add _).symm

theorem half1_at (P : S2x4096x512.Idx → EReal) (k : Fin 4096) (e : Fin 512) :
    shapeCast S4096x512 (extractStridedSlice S1x4096x512 ![1, 0, 0] P slices_S2x4096x512_S1x4096x512_1_0_0)
      shapeCasts_S1x4096x512_S4096x512 (ix2 k e) = P (ix3 1 k e) := by
  refine (shapeCast_apply _ _ _ (ix3 0 k e) ?_).trans ?_
  · rewrite [Shape.rowMajor_val_three, Shape.rowMajor_val_two]
    show (0 * 4096 + k.val) * 512 + e.val = k.val * 512 + e.val
    omega
  refine extractStridedSlice_apply _ _ _ _ (ix3 1 k e) fun a => ?_
  match a with
  | ⟨0, _⟩ => rfl
  | ⟨1, _⟩ => exact (Nat.zero_add _).symm
  | ⟨2, _⟩ => exact (Nat.zero_add _).symm

/-- The weights of the two directions side by side. -/
def weights (W : S1x2x4096x480.Idx → EReal) : S1x4096x1024.Idx → EReal :=
  broadcastInDim S1x4096x1024 ![1, 2] bcast_S4096x1024_S1x4096x1024_1_2 (concatenate S4096x1024 1
    [⟨S4096x512, shapeCast S4096x512 (extractStridedSlice S1x4096x512 ![0, 0, 0] (padded W) slices_S2x4096x512_S1x4096x512_0_0_0) shapeCasts_S1x4096x512_S4096x512⟩,
     ⟨S4096x512, shapeCast S4096x512 (extractStridedSlice S1x4096x512 ![1, 0, 0] (padded W) slices_S2x4096x512_S1x4096x512_1_0_0) shapeCasts_S1x4096x512_S4096x512⟩]
    concatenates_S4096x512_S4096x512_S4096x1024_d1)

theorem weights_left (W : S1x2x4096x480.Idx → EReal) (k : Fin 4096) (c : Fin 1024) (h : c.val < 512) :
    rd3 (weights W) 0 k.val c.val = padded W (ix3 0 k ⟨c.val, h⟩) := by
  refine (rd3_of (weights W) (ix3 0 k c) rfl rfl rfl).symm.trans ?_
  unfold weights
  rw [broadcastInDim_apply _ bcast_S4096x1024_S1x4096x1024_1_2 _ (ix3 0 k c) (ix2 k c) (fun a => match a with
    | ⟨0, _⟩ => by show k.val = if (4096 : Nat) = 1 then 0 else k.val; rw [if_neg (by decide)]
    | ⟨1, _⟩ => by show c.val = if (1024 : Nat) = 1 then 0 else c.val; rw [if_neg (by decide)])]
  rw [concatenate_pair_apply_left (t := S4096x1024) (s₁ := S4096x512) (s₂ := S4096x512) 1 _ _ _ _ rfl
    (ix2 k ⟨c.val, h⟩) (fun b => match b with
      | ⟨0, _⟩ => rfl
      | ⟨1, _⟩ => rfl)]
  exact half0_at _ k ⟨c.val, h⟩

theorem weights_right (W : S1x2x4096x480.Idx → EReal) (k : Fin 4096) (c : Fin 1024) (h : c.val - 512 < 512) (h' : ¬ c.val < 512) :
    rd3 (weights W) 0 k.val c.val = padded W (ix3 1 k ⟨c.val - 512, h⟩) := by
  refine (rd3_of (weights W) (ix3 0 k c) rfl rfl rfl).symm.trans ?_
  unfold weights
  rw [broadcastInDim_apply _ bcast_S4096x1024_S1x4096x1024_1_2 _ (ix3 0 k c) (ix2 k c) (fun a => match a with
    | ⟨0, _⟩ => by show k.val = if (4096 : Nat) = 1 then 0 else k.val; rw [if_neg (by decide)]
    | ⟨1, _⟩ => by show c.val = if (1024 : Nat) = 1 then 0 else c.val; rw [if_neg (by decide)])]
  rw [concatenate_pair_apply_right (t := S4096x1024) (s₁ := S4096x512) (s₂ := S4096x512) 1 _ _ _ _ rfl rfl
    (ix2 k ⟨c.val - 512, h⟩) (fun b hb => match b with
      | ⟨0, _⟩ => rfl
      | ⟨1, _⟩ => absurd rfl hb) (by show c.val - 512 + 512 = c.val; omega)]
  exact half1_at _ k ⟨c.val - 512, h⟩

theorem V_v8 (c : Dev nD) : V m c main_v8 = weights (m ((c : Thread nD τ).loc main_arg1)) := by
  suffices h : ∀ y, weights (m ((c : Thread nD τ).loc main_arg1)) = y → V m c main_v8 = y from h _ rfl
  intro y hy
  unfold V
  simp only [List.flatten_cons, List.flatten_nil, List.append_nil, List.cons_append, List.nil_append]
  after_results
  exact hy

/-! ### The payloads -/

theorem cast_at (x1 : Vec Ideal S1x4096x512 .f32) (k : Fin 4096) (j : Fin 512) :
    k0_pay1 x1 (ix2 k j) = rd3 x1 0 k.val j.val := by
  pointwise [k0_pay1]
  exact rd3_of _ _ rfl rfl rfl

theorem mul_at (a : Vec Ideal S1024x4096 .bf16) (w : Vec Ideal S4096x512 .bf16) (r : Fin 1024) (j : Fin 512) :
    k0_pay2 a w (ix2 r j) = Ideal.logistic (∑ k : Fin 4096, a (ix2 r k) * w (ix2 k j)) := by
  pointwise [k0_pay2]
  all_goals rfl

/-! ### Where the windows' blocks sit -/

theorem where0 : ∀ t : Fin cfg0.N, win0_0.index t 0 = t.val % 6 ∧ win0_0.index t 1 = 0 :=
  (by decide +kernel : ∀ t : Fin grid0.N, win0_0.index t 0 = t.val % 6 ∧ win0_0.index t 1 = 0)
theorem where1 : ∀ t : Fin cfg0.N, win0_1.index t 0 = 0 ∧ win0_1.index t 1 = 0 ∧ win0_1.index t 2 = t.val / 6 :=
  (by decide +kernel : ∀ t : Fin grid0.N, win0_1.index t 0 = 0 ∧ win0_1.index t 1 = 0 ∧ win0_1.index t 2 = t.val / 6)
theorem where2 : ∀ t : Fin cfg0.N, win0_2.index t 0 = t.val % 6 ∧ win0_2.index t 1 = t.val / 6 :=
  (by decide +kernel : ∀ t : Fin grid0.N, win0_2.index t 0 = t.val % 6 ∧ win0_2.index t 1 = t.val / 6)

theorem in0 (c : Dev nD) (t : Fin cfg0.N) (y : S1024x4096.Idx) :
    iblk m c 0 t y = rd (m ((c : Thread nD τ).loc main_arg0)) (t.val % 6 * 1024 + (y 0).val) (y 1).val := by
  show V m c main_v2 ((win0_0.rect t).emb y) = _
  rw [V_v2]
  exact rd_of _ _ ((win0_0.rect_emb_val t y 0).trans (by rw [(where0 t).1]; rfl))
    (win0_0.rect_emb_val_of_index_zero t 1 (where0 t).2 y)

theorem in1 (c : Dev nD) (t : Fin cfg0.N) (y : S1x4096x512.Idx) :
    iblk m c 1 t y = rd3 (weights (m ((c : Thread nD τ).loc main_arg1))) 0 (y 1).val (t.val / 6 * 512 + (y 2).val) := by
  show V m c main_v8 ((win0_1.rect t).emb y) = _
  rw [V_v8]
  refine rd3_of _ _ ?_ (win0_1.rect_emb_val_of_index_zero t 1 (where1 t).2.1 y)
    ((win0_1.rect_emb_val t y 2).trans (by rw [(where1 t).2.2]; rfl))
  refine (win0_1.rect_emb_val t y 0).trans ?_
  rw [(where1 t).1]
  have : (y 0).val < 1 := (y 0).isLt
  show 0 * 1 + (y 0).val = 0
  omega

/-! ### The weights kept in the scratch, and the block written back -/

/-- The weights of the column block of point `n`. -/
def cols (W : S1x4096x1024.Idx → EReal) (n : ℕ) : S4096x512.Idx → EReal := fun i => rd3 W 0 (i 0).val (n / 6 * 512 + (i 1).val)

theorem cast_eq (c : Dev nD) (t : Fin cfg0.N) :
    k0_pay1 (iblk m c 1 t) = cols (weights (m ((c : Thread nD τ).loc main_arg1))) t.val := by
  funext i
  obtain ⟨k, j, rfl⟩ : ∃ (k : Fin 4096) (j : Fin 512), i = ix2 k j := ⟨i 0, i 1, (ix2_eta i).symm⟩
  refine (cast_at _ k j).trans ?_
  refine (in1 m c t (ix3 _ _ _)).trans ?_
  show rd3 _ 0 (k.val % 4096) (_ + j.val % 512) = rd3 _ 0 k.val (_ + j.val)
  rw [Nat.mod_eq_of_lt k.isLt, Nat.mod_eq_of_lt j.isLt]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_reset (c : Dev nD) (t : Fin cfg0.N) (h0 : t.val % 6 = 0) :
    (outsAt0 m c t.val t.isLt).2 = cols (weights (m ((c : Thread nD τ).loc main_arg1))) t.val := by
  rw [outsAt0_A m c t h0, ← cast_eq]
  unfold sout0_A_0
  rw [View.read_writes_eq_canon _ _ _ (scover0_A_0 c _ _ _ _ _ _ _ _ _ _ _ _)]
  unfold kernelRun0_A
  dsimp only
  sl_unfold_words
  rw [View.canon_unit_zero hz2]
  simp only [View.readAt_eq_ld, (hs0_1 t).read_unread, View.ld_unit_zero (S := S1x4096x512) hz3]

theorem out_reset (c : Dev nD) (t : Fin cfg0.N) (h0 : t.val % 6 = 0) :
    (outsAt0 m c t.val t.isLt).1 = k0_pay2 (iblk m c 0 t) (cols (weights (m ((c : Thread nD τ).loc main_arg1))) t.val) := by
  rw [outsAt0_A m c t h0, ← cast_eq]
  unfold out0_A_2
  rw [View.read_writes_eq_canon _ _ _ (cover0_A_2 c _ _ _ _ _ _ _ _ _ _ _ _)]
  unfold kernelRun0_A
  dsimp only
  sl_unfold_words
  rw [View.canon_unit_zero hz2, View.readCov_unit_zero (S := S4096x512) _ hz2]
  simp only [View.readAt_eq_ld, (hs0_0 t).read_unread, (hs0_1 t).read_unread, View.ld_unit_zero (S := S1x4096x512) hz3,
    View.ld_unit_zero (S := S1024x4096) hz2]

theorem out_carry (c : Dev nD) (t : Fin cfg0.N) (h0 : ¬ t.val % 6 = 0) :
    (outsAt0 m c t.val t.isLt).1 = k0_pay2 (iblk m c 0 t) (outsAt0 m c (t.val - 1) (Nat.lt_of_le_of_lt (Nat.sub_le _ _) t.isLt)).2 := by
  rw [outsAt0_B m c t h0]
  unfold out0_B_2
  rw [View.read_writes_eq_canon _ _ _ (cover0_B_2 c _ _ _ _ _ _ _ _ _ _ _ _ _)]
  unfold kernelRun0_B
  dsimp only
  sl_unfold_words
  rw [View.canon_unit_zero hz2]
  simp only [View.readAt_eq_ld, (hs0_0 t).read_unread, (Memref.isWhole_whole cc0_scratch0).read_unread,
    View.ld_unit_zero (S := S1024x4096) hz2, View.ld_unit_zero (S := S4096x512) hz2]

/-- The scratch holds the weights of the point's column block. -/
theorem scratch_at (c : Dev nD) : ∀ (n : ℕ) (h : n < cfg0.N),
    (outsAt0 m c n h).2 = cols (weights (m ((c : Thread nD τ).loc main_arg1))) n := by
  intro n
  induction n with
  | zero => intro h; exact scratch_reset m c ⟨0, h⟩ rfl
  | succ n ih =>
    intro h
    by_cases h0 : (n + 1) % 6 = 0
    · exact scratch_reset m c ⟨n + 1, h⟩ h0
    · rw [outsAt0_B m c ⟨n + 1, h⟩ h0]
      refine (ih (Nat.lt_of_succ_lt h)).trans ?_
      unfold cols
      rw [show (n + 1) / 6 = n / 6 by omega]

theorem out_at (c : Dev nD) (t : Fin cfg0.N) :
    (outsAt0 m c t.val t.isLt).1 = k0_pay2 (iblk m c 0 t) (cols (weights (m ((c : Thread nD τ).loc main_arg1))) t.val) := by
  by_cases h0 : t.val % 6 = 0
  · exact out_reset m c t h0
  · rw [out_carry m c t h0, scratch_at]
    unfold cols
    rw [show (t.val - 1) / 6 = t.val / 6 by omega]

/-! ### The array -/

/-- The call's array. -/
def out (X : S6144x4096.Idx → EReal) (W : S1x2x4096x480.Idx → EReal) (i : S6144x1024.Idx) : EReal :=
  Ideal.logistic (prod X (weights W) 0 (i 0).val (i 1).val)

theorem mem2 (t : Fin cfg0.N) (i : S6144x1024.Idx) (h0 : (i 0).val / 1024 = t.val % 6) (h1 : (i 1).val / 512 = t.val / 6) :
    i ∈ ((cfg0.win 2).blk t).view.set := by
  show i ∈ ((View.whole main_v9).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(where2 t).1]; omega
  | ⟨1, _⟩ =>
    show win0_2.index t 1 * 512 ≤ (i 1).val ∧ (i 1).val < win0_2.index t 1 * 512 + 512
    rw [(where2 t).2]; omega

theorem arr (c : Dev nD) : (dats m 0 c).arrAt 2 cfg0.N = (fun i : S6144x1024.Idx =>
    out (m ((c : Thread nD τ).loc main_arg0)) (m ((c : Thread nD τ).loc main_arg1)) i) := by
  refine (dats m 0 c).arrAt_eq_of_cover 2 _ (fun t _ => ?_) fun i => ?_
  · rw [Value.flushed2]
    funext y
    show (outsAt0 m c t.val t.isLt).1 y = out _ _ ((win0_2.rect t).emb y)
    rw [out_at]
    obtain ⟨r, j, rfl⟩ : ∃ (r : Fin 1024) (j : Fin 512), y = ix2 r j := ⟨y 0, y 1, (ix2_eta y).symm⟩
    refine (mul_at _ _ r j).trans ?_
    unfold out prod
    rw [(win0_2.rect_emb_val t (ix2 r j) 0).trans (by rw [(where2 t).1]; rfl : _ = t.val % 6 * 1024 + r.val),
      (win0_2.rect_emb_val t (ix2 r j) 1).trans (by rw [(where2 t).2]; rfl : _ = t.val / 6 * 512 + j.val)]
    exact congrArg Ideal.logistic (Finset.sum_congr rfl fun k _ => congrArg₂ (· * ·) (in0 m c t (ix2 r k)) rfl)
  · have h0 : (i 0).val < 6144 := (i 0).isLt
    have h1 : (i 1).val < 1024 := (i 1).isLt
    exact ⟨⟨(i 1).val / 512 * 6 + (i 0).val / 1024, by show _ < 12; omega⟩, flush0_2 _,
      mem2 _ i (by show _ = ((i 1).val / 512 * 6 + (i 0).val / 1024) % 6; omega) (by show _ = ((i 1).val / 512 * 6 + (i 0).val / 1024) / 6; omega)⟩

/-! ### The reference -/

open Cert.Reference9Ideal.Read

theorem first_at (X : S6144x4096.Idx → EReal) (W : S1x2x4096x480.Idx → EReal) (r : Fin 6144) (e : Fin 480) :
    val_main_v3 (F := Ideal) X W (ix2 r e) = ∑ k : Fin 4096, rd X r.val k.val * rd4 W 0 0 k.val e.val := by
  rw [val_main_v3_apply]
  refine Finset.sum_congr rfl fun k _ => congrArg₂ (· * ·) (rd_of X _ rfl rfl) ?_
  rw [val_main_v2_apply, val_main_v1_apply]
  have hk : k.val < 4096 := k.isLt
  have he : e.val < 480 := e.isLt
  refine rd4_of W _ rfl rfl ?_ ?_
  · show (k.val * 480 + e.val) / 480 % 4096 = k.val
    omega
  · show (k.val * 480 + e.val) % 480 = e.val
    omega

theorem second_at (X : S6144x4096.Idx → EReal) (W : S1x2x4096x480.Idx → EReal) (r : Fin 6144) (e : Fin 480) :
    val_main_v7 (F := Ideal) X W (ix2 r e) = ∑ k : Fin 4096, rd X r.val k.val * rd4 W 0 1 k.val e.val := by
  rw [val_main_v7_apply]
  refine Finset.sum_congr rfl fun k _ => congrArg₂ (· * ·) (rd_of X _ rfl rfl) ?_
  rw [val_main_v6_apply, val_main_v5_apply]
  have hk : k.val < 4096 := k.isLt
  have he : e.val < 480 := e.isLt
  refine rd4_of W _ rfl rfl ?_ ?_
  · show (k.val * 480 + e.val) / 480 % 4096 = k.val
    omega
  · show (k.val * 480 + e.val) % 480 = e.val
    omega

theorem first_wide (X : S6144x4096.Idx → EReal) (W : S1x2x4096x480.Idx → EReal) (r : Fin 6144) (e : Fin 512) :
    val_main_v4 (F := Ideal) X W (ix2 r e) = ∑ k : Fin 4096, rd X r.val k.val * padded W (ix3 0 k e) := by
  have he := e.isLt
  unfold val_main_v4
  by_cases h : e.val < 480
  · rw [concatenate_pair_apply_left (t := Cert.Reference9Ideal.S6144x512) (s₁ := Cert.Reference9Ideal.S6144x480) (s₂ := Cert.Reference9Ideal.S6144x32) 1 _ _ _ _ rfl
      (ix2 r ⟨e.val, h⟩) (fun b => match b with
        | ⟨0, _⟩ => rfl
        | ⟨1, _⟩ => rfl)]
    refine (first_at X W r ⟨e.val, h⟩).trans ?_
    exact Finset.sum_congr rfl fun k _ => congrArg (_ * ·) (padded_in W 0 k e h).symm
  · rw [concatenate_pair_apply_right (t := Cert.Reference9Ideal.S6144x512) (s₁ := Cert.Reference9Ideal.S6144x480) (s₂ := Cert.Reference9Ideal.S6144x32) 1 _ _ _ _ rfl rfl
      (ix2 r ⟨e.val - 480, by omega⟩) (fun b hb => match b with
        | ⟨0, _⟩ => rfl
        | ⟨1, _⟩ => absurd rfl hb) (by show e.val - 480 + 480 = e.val; omega)]
    rw [val_main_v0_apply]
    refine Ideal.ofBits_zero_f32.trans (Finset.sum_eq_zero fun k _ => ?_).symm
    rw [padded_out W 0 k e h, mul_zero]

theorem second_wide (X : S6144x4096.Idx → EReal) (W : S1x2x4096x480.Idx → EReal) (r : Fin 6144) (e : Fin 512) :
    val_main_v8 (F := Ideal) X W (ix2 r e) = ∑ k : Fin 4096, rd X r.val k.val * padded W (ix3 1 k e) := by
  have he := e.isLt
  unfold val_main_v8
  by_cases h : e.val < 480
  · rw [concatenate_pair_apply_left (t := Cert.Reference9Ideal.S6144x512) (s₁ := Cert.Reference9Ideal.S6144x480) (s₂ := Cert.Reference9Ideal.S6144x32) 1 _ _ _ _ rfl
      (ix2 r ⟨e.val, h⟩) (fun b => match b with
        | ⟨0, _⟩ => rfl
        | ⟨1, _⟩ => rfl)]
    refine (second_at X W r ⟨e.val, h⟩).trans ?_
    exact Finset.sum_congr rfl fun k _ => congrArg (_ * ·) (padded_in W 1 k e h).symm
  · rw [concatenate_pair_apply_right (t := Cert.Reference9Ideal.S6144x512) (s₁ := Cert.Reference9Ideal.S6144x480) (s₂ := Cert.Reference9Ideal.S6144x32) 1 _ _ _ _ rfl rfl
      (ix2 r ⟨e.val - 480, by omega⟩) (fun b hb => match b with
        | ⟨0, _⟩ => rfl
        | ⟨1, _⟩ => absurd rfl hb) (by show e.val - 480 + 480 = e.val; omega)]
    rw [val_main_v0_apply]
    refine Ideal.ofBits_zero_f32.trans (Finset.sum_eq_zero fun k _ => ?_).symm
    rw [padded_out W 1 k e h, mul_zero]

theorem mid_at (X : S6144x4096.Idx → EReal) (W : S1x2x4096x480.Idx → EReal) (i : S6144x1024.Idx) :
    val_main_v9 (F := Ideal) X W i = prod X (weights W) 0 (i 0).val (i 1).val := by
  have hc : (i 1).val < 1024 := (i 1).isLt
  unfold val_main_v9 prod
  by_cases h : (i 1).val < 512
  · rw [concatenate_pair_apply_left (t := S6144x1024) (s₁ := Cert.Reference9Ideal.S6144x512) (s₂ := Cert.Reference9Ideal.S6144x512) 1 _ _ _ _ rfl
      (ix2 (i 0) ⟨(i 1).val, h⟩) (fun b => match b with
        | ⟨0, _⟩ => rfl
        | ⟨1, _⟩ => rfl)]
    refine (first_wide X W (i 0) ⟨(i 1).val, h⟩).trans ?_
    exact Finset.sum_congr rfl fun k _ => congrArg (_ * ·) (weights_left W k (i 1) h).symm
  · have h' : (i 1).val - 512 < 512 := by omega
    rw [concatenate_pair_apply_right (t := S6144x1024) (s₁ := Cert.Reference9Ideal.S6144x512) (s₂ := Cert.Reference9Ideal.S6144x512) 1 _ _ _ _ rfl rfl
      (ix2 (i 0) ⟨(i 1).val - 512, h'⟩) (fun b hb => match b with
        | ⟨0, _⟩ => rfl
        | ⟨1, _⟩ => absurd rfl hb) (by show (i 1).val - 512 + 512 = (i 1).val; omega)]
    refine (second_wide X W (i 0) ⟨(i 1).val - 512, h'⟩).trans ?_
    exact Finset.sum_congr rfl fun k _ => congrArg (_ * ·) (weights_right W k (i 1) h' h).symm

theorem ref_eq (X : S6144x4096.Idx → EReal) (W : S1x2x4096x480.Idx → EReal) (i : S6144x1024.Idx) :
    val_main_v16 (F := Ideal) X W i = out X W i := by
  rw [val_main_v16_apply, val_main_v15_apply, val_main_v14_apply, val_main_v13_apply, val_main_v12_apply, val_main_v11_apply,
    val_main_v10_apply, mid_at]
  unfold out
  generalize prod X (weights W) 0 (i 0).val (i 1).val = g
  show Ideal.div one (one + Ideal.exp (-g)) = _
  rw [one_eq]
  rfl

end Cert.Low9

end
-- ==== Proof.lean ====
/-
  The claims about the calls, put together from the modules that prove them.
-/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Array
public import proofs.«01_k».proof.Proof.Reference
public import proofs.«01_k».proof.Proof.Gains
public import proofs.«01_k».proof.Proof.Proj2
public import proofs.«01_k».proof.Proof.Proj3
public import proofs.«01_k».proof.Proof.MixOut
public import proofs.«01_k».proof.Proof.SharedUp
public import proofs.«01_k».proof.Proof.Experts
public import proofs.«01_k».proof.Proof.Down
public import proofs.«01_k».proof.Proof.Combine
public import proofs.«01_k».proof.Proof.Low13
public import proofs.«01_k».proof.Proof.Low12
public import proofs.«01_k».proof.Proof.Low11
public import proofs.«01_k».proof.Proof.Low10
public import proofs.«01_k».proof.Proof.Low9
public import Idealize.ShloMosaic.Adequacy
public import Idealize.ShloMosaic.Init

@[expose] public section

noncomputable section

namespace Cert.Proof

open Idealize.ShloMosaic Idealize.SL.Sem

theorem frame_ref : Cert.quiescent_ReferenceIdeal (hReferenceIdeal := Cert.ReferenceIdeal.Gen.facts) := by
  intro m g _
  exact (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- The attention call: the kernel's arrays and the reference's are one function of the arguments. -/
theorem attention : Cert.algebraic_KernelIdeal_ReferenceIdeal_pre_finite_gains (hKernelIdeal := Cert.KernelIdeal.Gen.facts)
    (hReferenceIdeal := Cert.ReferenceIdeal.Gen.facts) (hPre_finite_gains := Cert.Attn.preFacts) := by
  intro m g m' g' hpre hargs
  letI := Cert.Attn.preFacts
  refine ⟨_, _, _, Cert.KernelIdeal.Value.run_blocks m g, ?_⟩
  refine (θ_run (Cert.ReferenceIdeal.defs (F := Ideal)) _ _).mono (fun r h c => ?_) (Cert.ReferenceIdeal.Value.run (F := Ideal) m' g')
  obtain ⟨h0, h1, h2, hk⟩ := h c
  obtain ⟨e0, e1, e2⟩ := hargs c
  have hg := fun d => Cert.Attn.gains_real _ _ _ (hpre c) d
  refine ⟨h0.trans ?_, h1.trans ?_, h2.trans ?_, hk⟩
  · rw [Cert.Attn.arr5, Cert.ReferenceIdeal.Read.val_main_v56_eq, e0, e1, e2]
    funext i
    exact Cert.AttnRef.attn_eq _ _ _ (fun d => (hg d).1) (fun d => (hg d).2) i
  · rw [Cert.Attn.arr6, e0, e2]
    funext i
    exact Cert.AttnRef.key_eq _ _ i
  · rw [Cert.Attn.arr7, e0]
    funext i
    exact Cert.AttnRef.value_eq _ i

theorem frame_ref2 : Cert.quiescent_Reference2Ideal (hReference2Ideal := Cert.Reference2Ideal.Gen.facts) := by
  intro m g _
  exact (θ_run Cert.Reference2Ideal.defs _ _).mono
    (fun r h => ⟨fun c => (h c).2, Idealize.ShloMosaic.sem_eq_zero_of_no_sems (by decide) r.2⟩)
    (Cert.Reference2Ideal.Value.run (F := Ideal) m g)

/-- The projection to queries, keys and values: kernel and reference are one product. -/
theorem product2 : Cert.algebraic_Kernel2Ideal_Reference2Ideal (hKernel2Ideal := Cert.Kernel2Ideal.Gen.facts)
    (hReference2Ideal := Cert.Reference2Ideal.Gen.facts) := by
  intro m g m' g' _ hargs
  refine ⟨_, Cert.Kernel2Ideal.Value.run_blocks m g, ?_⟩
  refine (θ_run (Cert.Reference2Ideal.defs (F := Ideal)) _ _).mono (fun r h c => ?_) (Cert.Reference2Ideal.Value.run (F := Ideal) m' g')
  obtain ⟨h0, hk⟩ := h c
  obtain ⟨e0, e1⟩ := hargs c
  refine ⟨h0.trans ?_, hk⟩
  rw [Cert.Proj2.arr, Cert.Reference2Ideal.Read.val_main_v1_eq, e0, e1]
  funext i
  exact Cert.Proj2.ref_eq _ _ i

theorem frame_ref3 : Cert.quiescent_Reference3Ideal (hReference3Ideal := Cert.Reference3Ideal.Gen.facts) := by
  intro m g _
  exact (θ_run Cert.Reference3Ideal.defs _ _).mono
    (fun r h => ⟨fun c => (h c).2, Idealize.ShloMosaic.sem_eq_zero_of_no_sems (by decide) r.2⟩)
    (Cert.Reference3Ideal.Value.run (F := Ideal) m g)

/-- The square projection of the recurrent mixer. -/
theorem product3 : Cert.algebraic_Kernel3Ideal_Reference3Ideal (hKernel3Ideal := Cert.Kernel3Ideal.Gen.facts)
    (hReference3Ideal := Cert.Reference3Ideal.Gen.facts) := by
  intro m g m' g' _ hargs
  refine ⟨_, Cert.Kernel3Ideal.Value.run_blocks m g, ?_⟩
  refine (θ_run (Cert.Reference3Ideal.defs (F := Ideal)) _ _).mono (fun r h c => ?_) (Cert.Reference3Ideal.Value.run (F := Ideal) m' g')
  obtain ⟨h0, hk⟩ := h c
  obtain ⟨e0, e1⟩ := hargs c
  refine ⟨h0.trans ?_, hk⟩
  rw [Cert.Proj3.arr, Cert.Reference3Ideal.Read.val_main_v1_eq, e0, e1]
  funext i
  exact Cert.Proj3.ref_eq _ _ i

theorem frame_ref4 : Cert.quiescent_Reference4Ideal (hReference4Ideal := Cert.Reference4Ideal.Gen.facts) := by
  intro m g _
  exact (θ_run Cert.Reference4Ideal.defs _ _).mono
    (fun r h => ⟨fun c => (h c).2, Idealize.ShloMosaic.sem_eq_zero_of_no_sems (by decide) r.2⟩)
    (Cert.Reference4Ideal.Value.run (F := Ideal) m g)

/-- The mixer's output projection with its gated residual. -/
theorem product4 : Cert.algebraic_Kernel4Ideal_Reference4Ideal (hKernel4Ideal := Cert.Kernel4Ideal.Gen.facts)
    (hReference4Ideal := Cert.Reference4Ideal.Gen.facts) := by
  intro m g m' g' _ hargs
  refine ⟨_, Cert.Kernel4Ideal.Value.run_blocks m g, ?_⟩
  refine (θ_run (Cert.Reference4Ideal.defs (F := Ideal)) _ _).mono (fun r h c => ?_) (Cert.Reference4Ideal.Value.run (F := Ideal) m' g')
  obtain ⟨h0, hk⟩ := h c
  obtain ⟨e0, e1, e2, e3⟩ := hargs c
  refine ⟨h0.trans ?_, hk⟩
  rw [Cert.MixOut.arr, Cert.Reference4Ideal.Read.val_main_v14_eq, e0, e1, e2, e3]
  funext i
  exact Cert.MixOut.ref_eq _ _ _ _ i

theorem frame_ref5 : Cert.quiescent_Reference5Ideal (hReference5Ideal := Cert.Reference5Ideal.Gen.facts) := by
  intro m g _
  exact (θ_run Cert.Reference5Ideal.defs _ _).mono
    (fun r h => ⟨fun c => (h c).2, Idealize.ShloMosaic.sem_eq_zero_of_no_sems (by decide) r.2⟩)
    (Cert.Reference5Ideal.Value.run (F := Ideal) m g)

/-- The shared expert's gate and up products with the swish between them. -/
theorem product5 : Cert.algebraic_Kernel5Ideal_Reference5Ideal (hKernel5Ideal := Cert.Kernel5Ideal.Gen.facts)
    (hReference5Ideal := Cert.Reference5Ideal.Gen.facts) := by
  intro m g m' g' _ hargs
  refine ⟨_, Cert.Kernel5Ideal.Value.run_blocks m g, ?_⟩
  refine (θ_run (Cert.Reference5Ideal.defs (F := Ideal)) _ _).mono (fun r h c => ?_) (Cert.Reference5Ideal.Value.run (F := Ideal) m' g')
  obtain ⟨h0, hk⟩ := h c
  obtain ⟨e0, e1, e2⟩ := hargs c
  refine ⟨h0.trans ?_, hk⟩
  rw [Cert.SharedUp.arr, Cert.Reference5Ideal.Read.val_main_v8_eq, e0, e1, e2]
  funext i
  exact Cert.SharedUp.ref_eq _ _ _ i

section

variable {F : FTy → Type} [FloatOps F]

/-- The two programs of the call have the same text, so one run serves both. -/
theorem defs6 : @Cert.Kernel6.defs F _ Cert.Kernel6.Gen.facts = @Cert.Kernel6Ideal.defs F _ Cert.Kernel6Ideal.Gen.facts := by sl_kernel_rfl
theorem main6 : @Cert.Kernel6.main F _ Cert.Kernel6.Gen.facts = @Cert.Kernel6Ideal.main F _ Cert.Kernel6Ideal.Gen.facts := by rfl

end

theorem frame6 : Cert.quiescent_Kernel6 (hKernel6 := Cert.Kernel6.Gen.facts) (hPre_items := Cert.Kernel6Ideal.Gen.preItems) := by
  intro m g hpre
  letI := Cert.Kernel6Ideal.Gen.preItems
  rw [defs6, main6]
  exact Cert.Kernel6Ideal.Gen.frame (F := Bits) m g (Cert.Kernel6Ideal.Gen.items_of m (hpre 0))

theorem frame6_ideal : Cert.quiescent_Kernel6Ideal (hKernel6Ideal := Cert.Kernel6Ideal.Gen.facts) (hPre_items := Cert.Kernel6Ideal.Gen.preItems) := by
  intro m g hpre
  letI := Cert.Kernel6Ideal.Gen.preItems
  exact Cert.Kernel6Ideal.Gen.frame m g (Cert.Kernel6Ideal.Gen.items_of m (hpre 0))

theorem frame_ref6 : Cert.quiescent_Reference6Ideal (hReference6Ideal := Cert.Reference6Ideal.Gen.facts) := by
  intro m g _
  exact (θ_run Cert.Reference6Ideal.defs _ _).mono
    (fun r h => ⟨fun c => (h c).2, Idealize.ShloMosaic.sem_eq_zero_of_no_sems (by decide) r.2⟩)
    (Cert.Reference6Ideal.Value.run (F := Ideal) m g)

/-- The experts' gate and up products with the swish between them, at the rows that the items fill. -/
theorem product6 : Cert.algebraic_Kernel6Ideal_Reference6Ideal_on_live_rows (hKernel6Ideal := Cert.Kernel6Ideal.Gen.facts)
    (hReference6Ideal := Cert.Reference6Ideal.Gen.facts) (hPre_items := Cert.Kernel6Ideal.Gen.preItems)
    (hOn_live_rows := Cert.Kernel6Ideal.Gen.onLiveRows) := by
  intro m g m' g' hpre hargs
  letI := Cert.Kernel6Ideal.Gen.preItems
  letI := Cert.Kernel6Ideal.Gen.onLiveRows
  have hI := Cert.Kernel6Ideal.Gen.items_of m (hpre 0)
  refine ⟨Cert.Kernel6Ideal.Gen.outArr m hI, ?_, ?_⟩
  · exact (θ_run (Cert.Kernel6Ideal.defs (F := Ideal)) _ _).mono (fun r h c => ⟨fun i _ => congrFun (h c).1 i, (h c).2⟩)
      (Cert.Kernel6Ideal.Gen.run6 m g hI)
  · refine (θ_run (Cert.Reference6Ideal.defs (F := Ideal)) _ _).mono (fun r h c => ?_) (Cert.Reference6Ideal.Value.run (F := Ideal) m' g')
    obtain ⟨h0, hk⟩ := h c
    obtain ⟨e0, e1, e2, e3, e4, e5, e6, e7⟩ := hargs c
    refine ⟨fun i hp => (congrFun h0 i).trans ?_, hk⟩
    rw [Cert.Reference6Ideal.Read.val_main_v23_eq, e0, e1, e2, e3, e4, e5]
    exact Cert.Kernel6Ideal.Gen.res_eq m hI c i hp

section

variable {F : FTy → Type} [FloatOps F]

/-- The two programs of the call have the same text, so one run serves both. -/
theorem defs7 : @Cert.Kernel7.defs F _ Cert.Kernel7.Gen.facts = @Cert.Kernel7Ideal.defs F _ Cert.Kernel7Ideal.Gen.facts := by sl_kernel_rfl
theorem main7 : @Cert.Kernel7.main F _ Cert.Kernel7.Gen.facts = @Cert.Kernel7Ideal.main F _ Cert.Kernel7Ideal.Gen.facts := by rfl

end

theorem frame7 : Cert.quiescent_Kernel7 (hKernel7 := Cert.Kernel7.Gen.facts) (hPre_items_down := Cert.Kernel7Ideal.Gen.preItems) := by
  intro m g hpre
  letI := Cert.Kernel7Ideal.Gen.preItems
  rw [defs7, main7]
  exact Cert.Kernel7Ideal.Gen.frame (F := Bits) m g (Cert.Kernel7Ideal.Gen.items_of m (hpre 0))

theorem frame7_ideal : Cert.quiescent_Kernel7Ideal (hKernel7Ideal := Cert.Kernel7Ideal.Gen.facts) (hPre_items_down := Cert.Kernel7Ideal.Gen.preItems) := by
  intro m g hpre
  letI := Cert.Kernel7Ideal.Gen.preItems
  exact Cert.Kernel7Ideal.Gen.frame m g (Cert.Kernel7Ideal.Gen.items_of m (hpre 0))

theorem frame_ref7 : Cert.quiescent_Reference7Ideal (hReference7Ideal := Cert.Reference7Ideal.Gen.facts) := by
  intro m g _
  exact (θ_run Cert.Reference7Ideal.defs _ _).mono
    (fun r h => ⟨fun c => (h c).2, Idealize.ShloMosaic.sem_eq_zero_of_no_sems (by decide) r.2⟩)
    (Cert.Reference7Ideal.Value.run (F := Ideal) m g)

/-- The experts' down products, at the rows that the items fill. -/
theorem product7 : Cert.algebraic_Kernel7Ideal_Reference7Ideal_on_live_rows_down (hKernel7Ideal := Cert.Kernel7Ideal.Gen.facts)
    (hReference7Ideal := Cert.Reference7Ideal.Gen.facts) (hPre_items_down := Cert.Kernel7Ideal.Gen.preItems)
    (hOn_live_rows_down := Cert.Kernel7Ideal.Gen.onLiveRows) := by
  intro m g m' g' hpre hargs
  letI := Cert.Kernel7Ideal.Gen.preItems
  letI := Cert.Kernel7Ideal.Gen.onLiveRows
  have hI := Cert.Kernel7Ideal.Gen.items_of m (hpre 0)
  refine ⟨Cert.Kernel7Ideal.Gen.outArr m hI, ?_, ?_⟩
  · exact (θ_run (Cert.Kernel7Ideal.defs (F := Ideal)) _ _).mono (fun r h c => ⟨fun i _ => congrFun (h c).1 i, (h c).2⟩)
      (Cert.Kernel7Ideal.Gen.run7 m g hI)
  · refine (θ_run (Cert.Reference7Ideal.defs (F := Ideal)) _ _).mono (fun r h c => ?_) (Cert.Reference7Ideal.Value.run (F := Ideal) m' g')
    obtain ⟨h0, hk⟩ := h c
    obtain ⟨e0, e1, e2, e3, e4, e5⟩ := hargs c
    refine ⟨fun i hp => (congrFun h0 i).trans ?_, hk⟩
    rw [Cert.Reference7Ideal.Read.val_main_v6_eq, e0, e1, e2]
    exact Cert.Kernel7Ideal.Gen.res_eq m hI c i hp

theorem frame_ref8 : Cert.quiescent_Reference8Ideal (hReference8Ideal := Cert.Reference8Ideal.Gen.facts) := by
  intro m g _
  exact (θ_run Cert.Reference8Ideal.defs _ _).mono
    (fun r h => ⟨fun c => (h c).2, Idealize.ShloMosaic.sem_eq_zero_of_no_sems (by decide) r.2⟩)
    (Cert.Reference8Ideal.Value.run (F := Ideal) m g)

/-- The experts' rows combined with the shared expert's down product, gated onto the residual stream. -/
theorem product8 : Cert.algebraic_Kernel8Ideal_Reference8Ideal (hKernel8Ideal := Cert.Kernel8Ideal.Gen.facts)
    (hReference8Ideal := Cert.Reference8Ideal.Gen.facts) := by
  intro m g m' g' _ hargs
  refine ⟨_, Cert.Kernel8Ideal.Value.run_blocks m g, ?_⟩
  refine (θ_run (Cert.Reference8Ideal.defs (F := Ideal)) _ _).mono (fun r h c => ?_) (Cert.Reference8Ideal.Value.run (F := Ideal) m' g')
  obtain ⟨h0, hk⟩ := h c
  obtain ⟨e0, e1, e2, e3, e4, e5, e6⟩ := hargs c
  refine ⟨h0.trans ?_, hk⟩
  rw [Cert.Combine.arr, Cert.Reference8Ideal.Read.val_main_v23_eq, e0, e1, e2, e3, e4, e5, e6]
  funext i
  exact Cert.Combine.Ref.ref_eq _ _ _ _ _ _ _ i

theorem frame_ref9 : Cert.quiescent_Reference9Ideal (hReference9Ideal := Cert.Reference9Ideal.Gen.facts) := by
  intro m g _
  exact (θ_run Cert.Reference9Ideal.defs _ _).mono
    (fun r h => ⟨fun c => (h c).2, Idealize.ShloMosaic.sem_eq_zero_of_no_sems (by decide) r.2⟩)
    (Cert.Reference9Ideal.Value.run (F := Ideal) m g)

/-- The gate's product into its low rank and its sigmoid, both directions. -/
theorem product9 : Cert.algebraic_Kernel9Ideal_Reference9Ideal (hKernel9Ideal := Cert.Kernel9Ideal.Gen.facts)
    (hReference9Ideal := Cert.Reference9Ideal.Gen.facts) := by
  intro m g m' g' _ hargs
  refine ⟨_, Cert.Kernel9Ideal.Value.run_blocks m g, ?_⟩
  refine (θ_run (Cert.Reference9Ideal.defs (F := Ideal)) _ _).mono (fun r h c => ?_) (Cert.Reference9Ideal.Value.run (F := Ideal) m' g')
  obtain ⟨h0, hk⟩ := h c
  obtain ⟨e0, e1⟩ := hargs c
  refine ⟨h0.trans ?_, hk⟩
  rw [Cert.Low9.arr, Cert.Reference9Ideal.Read.val_main_v16_eq, e0, e1]
  funext i
  exact Cert.Low9.ref_eq _ _ i

theorem frame_ref10 : Cert.quiescent_Reference10Ideal (hReference10Ideal := Cert.Reference10Ideal.Gen.facts) := by
  intro m g _
  exact (θ_run Cert.Reference10Ideal.defs _ _).mono
    (fun r h => ⟨fun c => (h c).2, Idealize.ShloMosaic.sem_eq_zero_of_no_sems (by decide) r.2⟩)
    (Cert.Reference10Ideal.Value.run (F := Ideal) m g)

/-- The gate's product out of its low rank. -/
theorem product10 : Cert.algebraic_Kernel10Ideal_Reference10Ideal (hKernel10Ideal := Cert.Kernel10Ideal.Gen.facts)
    (hReference10Ideal := Cert.Reference10Ideal.Gen.facts) := by
  intro m g m' g' _ hargs
  refine ⟨_, Cert.Kernel10Ideal.Value.run_blocks m g, ?_⟩
  refine (θ_run (Cert.Reference10Ideal.defs (F := Ideal)) _ _).mono (fun r h c => ?_) (Cert.Reference10Ideal.Value.run (F := Ideal) m' g')
  obtain ⟨h0, hk⟩ := h c
  obtain ⟨e0, e1⟩ := hargs c
  refine ⟨h0.trans ?_, hk⟩
  rw [Cert.Low10.arr, Cert.Reference10Ideal.Read.val_main_v3_eq, e0, e1]
  funext i
  exact Cert.Low10.ref_eq _ _ i

theorem frame_ref11 : Cert.quiescent_Reference11Ideal (hReference11Ideal := Cert.Reference11Ideal.Gen.facts) := by
  intro m g _
  exact (θ_run Cert.Reference11Ideal.defs _ _).mono
    (fun r h => ⟨fun c => (h c).2, Idealize.ShloMosaic.sem_eq_zero_of_no_sems (by decide) r.2⟩)
    (Cert.Reference11Ideal.Value.run (F := Ideal) m g)

/-- The decay's product out of its low rank, with the added row. -/
theorem product11 : Cert.algebraic_Kernel11Ideal_Reference11Ideal (hKernel11Ideal := Cert.Kernel11Ideal.Gen.facts)
    (hReference11Ideal := Cert.Reference11Ideal.Gen.facts) := by
  intro m g m' g' _ hargs
  refine ⟨_, Cert.Kernel11Ideal.Value.run_blocks m g, ?_⟩
  refine (θ_run (Cert.Reference11Ideal.defs (F := Ideal)) _ _).mono (fun r h c => ?_) (Cert.Reference11Ideal.Value.run (F := Ideal) m' g')
  obtain ⟨h0, hk⟩ := h c
  obtain ⟨e0, e1, e2⟩ := hargs c
  refine ⟨h0.trans ?_, hk⟩
  rw [Cert.Low11.arr, Cert.Reference11Ideal.Read.val_main_v7_eq, e0, e1, e2]
  funext i
  exact Cert.Low11.ref_eq _ _ _ i

theorem frame_ref12 : Cert.quiescent_Reference12Ideal (hReference12Ideal := Cert.Reference12Ideal.Gen.facts) := by
  intro m g _
  exact (θ_run Cert.Reference12Ideal.defs _ _).mono
    (fun r h => ⟨fun c => (h c).2, Idealize.ShloMosaic.sem_eq_zero_of_no_sems (by decide) r.2⟩)
    (Cert.Reference12Ideal.Value.run (F := Ideal) m g)

/-- The decay's product into its low rank and its tanh, both directions. -/
theorem product12 : Cert.algebraic_Kernel12Ideal_Reference12Ideal (hKernel12Ideal := Cert.Kernel12Ideal.Gen.facts)
    (hReference12Ideal := Cert.Reference12Ideal.Gen.facts) := by
  intro m g m' g' _ hargs
  refine ⟨_, Cert.Kernel12Ideal.Value.run_blocks m g, ?_⟩
  refine (θ_run (Cert.Reference12Ideal.defs (F := Ideal)) _ _).mono (fun r h c => ?_) (Cert.Reference12Ideal.Value.run (F := Ideal) m' g')
  obtain ⟨h0, hk⟩ := h c
  obtain ⟨e0, e1⟩ := hargs c
  refine ⟨h0.trans ?_, hk⟩
  rw [Cert.Low12.arr, Cert.Reference12Ideal.Read.val_main_v9_eq, e0, e1]
  funext i
  exact Cert.Low12.ref_eq _ _ i

theorem frame_ref13 : Cert.quiescent_Reference13Ideal (hReference13Ideal := Cert.Reference13Ideal.Gen.facts) := by
  intro m g _
  exact (θ_run Cert.Reference13Ideal.defs _ _).mono
    (fun r h => ⟨fun c => (h c).2, Idealize.ShloMosaic.sem_eq_zero_of_no_sems (by decide) r.2⟩)
    (Cert.Reference13Ideal.Value.run (F := Ideal) m g)

/-- The rate's product into its low rank, both directions. -/
theorem product13 : Cert.algebraic_Kernel13Ideal_Reference13Ideal (hKernel13Ideal := Cert.Kernel13Ideal.Gen.facts)
    (hReference13Ideal := Cert.Reference13Ideal.Gen.facts) := by
  intro m g m' g' _ hargs
  refine ⟨_, Cert.Kernel13Ideal.Value.run_blocks m g, ?_⟩
  refine (θ_run (Cert.Reference13Ideal.defs (F := Ideal)) _ _).mono (fun r h c => ?_) (Cert.Reference13Ideal.Value.run (F := Ideal) m' g')
  obtain ⟨h0, hk⟩ := h c
  obtain ⟨e0, e1⟩ := hargs c
  refine ⟨h0.trans ?_, hk⟩
  rw [Cert.Low13.arr, Cert.Reference13Ideal.Read.val_main_v7_eq, e0, e1]
  funext i
  exact Cert.Low13.ref_eq _ _ i

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Attn.preFacts, Cert.Kernel6Ideal.Gen.preItems, Cert.Kernel7Ideal.Gen.preItems, Cert.Kernel6Ideal.Gen.onLiveRows, Cert.Kernel7Ideal.Gen.onLiveRows,
    fun m g _ => Cert.Kernel.Gen.frame m g, fun m g _ => Cert.KernelIdeal.Gen.frame m g, fun m g _ => Cert.KernelIdeal.Gen.frame m g,
    frame_ref, fun m g _ => frame_ref m g trivial,
    fun m g _ => Cert.Kernel2.Gen.frame m g, fun m g _ => Cert.Kernel2Ideal.Gen.frame m g, frame_ref2,
    fun m g _ => Cert.Kernel3.Gen.frame m g, fun m g _ => Cert.Kernel3Ideal.Gen.frame m g, frame_ref3,
    fun m g _ => Cert.Kernel4.Gen.frame m g, fun m g _ => Cert.Kernel4Ideal.Gen.frame m g, frame_ref4,
    fun m g _ => Cert.Kernel5.Gen.frame m g, fun m g _ => Cert.Kernel5Ideal.Gen.frame m g, frame_ref5,
    frame6, frame6_ideal, frame_ref6, fun m g _ => frame_ref6 m g trivial,
    frame7, frame7_ideal, frame_ref7, fun m g _ => frame_ref7 m g trivial,
    fun m g _ => Cert.Kernel8.Gen.frame m g, fun m g _ => Cert.Kernel8Ideal.Gen.frame m g, frame_ref8,
    fun m g _ => Cert.Kernel9.Gen.frame m g, fun m g _ => Cert.Kernel9Ideal.Gen.frame m g, frame_ref9,
    fun m g _ => Cert.Kernel10.Gen.frame m g, fun m g _ => Cert.Kernel10Ideal.Gen.frame m g, frame_ref10,
    fun m g _ => Cert.Kernel11.Gen.frame m g, fun m g _ => Cert.Kernel11Ideal.Gen.frame m g, frame_ref11,
    fun m g _ => Cert.Kernel12.Gen.frame m g, fun m g _ => Cert.Kernel12Ideal.Gen.frame m g, frame_ref12,
    fun m g _ => Cert.Kernel13.Gen.frame m g, fun m g _ => Cert.Kernel13Ideal.Gen.frame m g, frame_ref13,
    trivial, attention,
    trivial, product2,
    trivial, product3,
    trivial, product4,
    trivial, product5,
    trivial, product6,
    trivial, product7,
    trivial, product8,
    trivial, product9,
    trivial, product10,
    trivial, product11,
    trivial, product12,
    trivial, product13⟩

end Cert.Proof

end
